-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v16_1)) (v1 : (c : Dev Cert.Kernel2Ideal.nD) → Buf (Elt Ideal) ((c.tc : Thread Cert.Kernel2Ideal.nD Cert.Kernel2Ideal.τ).loc Cert.Kernel2Ideal.main_v16_2)) (v2 : (c : Dev Cert.Kernel2Ideal.nD) → Buf (Elt Ideal) ((c.tc : Thread Cert.Kernel2Ideal.nD Cert.Kernel2Ideal.τ).loc Cert.Kernel2Ideal.main_v16_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_1) = v0 c
          ∧ r.2.mem ((c.tc : Thread Cert.Kernel2Ideal.nD Cert.Kernel2Ideal.τ).loc Cert.Kernel2Ideal.main_v16_2) = v1 c
          ∧ r.2.mem ((c.tc : Thread Cert.Kernel2Ideal.nD Cert.Kernel2Ideal.τ).loc Cert.Kernel2Ideal.main_v16_0) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v308) = v0 c
          ∧ r.2.mem ((c.tc : Thread Cert.Reference2Ideal.nD Cert.Reference2Ideal.τ).loc Cert.Reference2Ideal.main_v310) = v1 c
          ∧ r.2.mem ((c.tc : Thread Cert.Reference2Ideal.nD Cert.Reference2Ideal.τ).loc Cert.Reference2Ideal.main_v413) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S128x512 : Shape := ⟨2, ![128, 512]⟩
abbrev S128x1024 : Shape := ⟨2, ![128, 1024]⟩
abbrev S1x128x4x128x256 : Shape := ⟨5, ![1, 128, 4, 128, 256]⟩
abbrev S128x4x128x256 : Shape := ⟨4, ![128, 4, 128, 256]⟩
abbrev S2x16x512 : Shape := ⟨3, ![2, 16, 512]⟩
abbrev S2 : Shape := ⟨1, ![2]⟩
abbrev S2x16x1024 : Shape := ⟨3, ![2, 16, 1024]⟩
abbrev S3x16x4x128x256 : Shape := ⟨5, ![3, 16, 4, 128, 256]⟩
abbrev S3 : Shape := ⟨1, ![3]⟩
abbrev S2x16x4x128x256 : Shape := ⟨5, ![2, 16, 4, 128, 256]⟩
abbrev S1 : Shape := ⟨1, ![1]⟩
abbrev S_ : Shape := ⟨0, ![]⟩
abbrev S1x16x512 : Shape := ⟨3, ![1, 16, 512]⟩
abbrev S16x512 : Shape := ⟨2, ![16, 512]⟩
abbrev S1x16x1024 : Shape := ⟨3, ![1, 16, 1024]⟩
abbrev S16x1024 : Shape := ⟨2, ![16, 1024]⟩
abbrev S1x16x4x128x256 : Shape := ⟨5, ![1, 16, 4, 128, 256]⟩
abbrev S16x4x128x256 : Shape := ⟨4, ![16, 4, 128, 256]⟩
abbrev S1x128 : Shape := ⟨2, ![1, 128]⟩
abbrev S128x128 : Shape := ⟨2, ![128, 128]⟩
abbrev S1x256 : Shape := ⟨2, ![1, 256]⟩
abbrev S1x1x128x128 : Shape := ⟨4, ![1, 1, 128, 128]⟩
abbrev S128 : Shape := ⟨1, ![128]⟩

abbrev nBuf : Space → Nat
  | .hbm => 8
  | .vmem => 7
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x1024, .f32⟩
  | .hbm, ⟨4, _⟩ => ⟨S1x128x4x128x256, .f32⟩
  | .hbm, ⟨5, _⟩ => ⟨S128x4x128x256, .f32⟩
  | .hbm, ⟨6, _⟩ => ⟨S128x4x128x256, .f32⟩
  | .hbm, ⟨7, _⟩ => ⟨S128x1024, .f32⟩
  | .local _ .vmem, ⟨0, _⟩ => ⟨S2x16x512, .f32⟩
  | .local _ .vmem, ⟨1, _⟩ => ⟨S2x16x512, .f32⟩
  | .local _ .vmem, ⟨2, _⟩ => ⟨S2x16x512, .f32⟩
  | .local _ .vmem, ⟨3, _⟩ => ⟨S2x16x1024, .f32⟩
  | .local _ .vmem, ⟨4, _⟩ => ⟨S3x16x4x128x256, .f32⟩
  | .local _ .vmem, ⟨5, _⟩ => ⟨S2x16x4x128x256, .f32⟩
  | .local _ .vmem, ⟨6, _⟩ => ⟨S2x16x1024, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩
abbrev cc0_scoped8 : Ref sig .tc := ⟨.vmem, 4, rfl⟩
abbrev cc0_scoped10 : Ref sig .tc := ⟨.vmem, 5, rfl⟩
abbrev cc0_scoped12 : Ref sig .tc := ⟨.vmem, 6, rfl⟩

abbrev nD : Nat := 1
abbrev τ : Topo := Topo.v7x

variable {F : FTy → Type} [FloatOps F]

abbrev grid0 : Pipeline.Grid := .none

def k0_off1 : Fin 1 → Nat :=
  let c0_i32_22_r0 : BitVec 32 := 0#32
  let c2_i32_r0 : BitVec 32 := 2#32
  let v25_r0 : BitVec 32 := Scalar.remui c0_i32_22_r0 c2_i32_r0
  ![v25_r0.toNat]
def k0_off2 : Fin 3 → Nat :=
  let c0_i32_22_r0 : BitVec 32 := 0#32
  let c2_i32_r0 : BitVec 32 := 2#32
  let v25_r0 : BitVec 32 := Scalar.remui c0_i32_22_r0 c2_i32_r0
  let c0_i32_23_r0 : BitVec 32 := 0#32
  let c0_i32_24_r0 : BitVec 32 := 0#32
  ![v25_r0.toNat, 0, 0]
def k0_off3 : Fin 3 → Nat :=
  let c0_i32_45_r0 : BitVec 32 := 0#32
  let c2_i32_46_r0 : BitVec 32 := 2#32
  let v46_r0 : BitVec 32 := Scalar.remui c0_i32_45_r0 c2_i32_46_r0
  let c0_i32_47_r0 : BitVec 32 := 0#32
  let c0_i32_48_r0 : BitVec 32 := 0#32
  ![v46_r0.toNat, 0, 0]
def k0_off4 : Fin 1 → Nat :=
  let c0_i32_53_r0 : BitVec 32 := 0#32
  let c3_i32_r0 : BitVec 32 := 3#32
  let v53_r0 : BitVec 32 := Scalar.remui c0_i32_53_r0 c3_i32_r0
  ![v53_r0.toNat]
def k0_off5 : Fin 5 → Nat :=
  let c0_i32_53_r0 : BitVec 32 := 0#32
  let c3_i32_r0 : BitVec 32 := 3#32
  let v53_r0 : BitVec 32 := Scalar.remui c0_i32_53_r0 c3_i32_r0
  let c0_i32_54_r0 : BitVec 32 := 0#32
  let c0_i32_55_r0 : BitVec 32 := 0#32
  let c0_i32_56_r0 : BitVec 32 := 0#32
  let c0_i32_57_r0 : BitVec 32 := 0#32
  ![v53_r0.toNat, 0, 0, 0, 0]
def k0_cond1 : BitVec 1 :=
  let true_65_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c8_i32_r0 : BitVec 32 := 8#32
  let v12_r0 : BitVec 1 := Scalar.cmpi .eq v11_r0 c8_i32_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let c0_i32_64_r0 : BitVec 32 := 0#32
  let v60_r0 : BitVec 1 := Scalar.cmpi .ne v14_r0 c0_i32_64_r0
  let v61_r0 : BitVec 1 := Scalar.andi true_65_r0 v60_r0
  let true_66_r0 : BitVec 1 := 1#1
  let v62_r0 : BitVec 1 := Scalar.andi v61_r0 true_66_r0
  let v63_r0 : BitVec 32 := Scalar.extui v62_r0
  let c0_i32_67_r0 : BitVec 32 := 0#32
  let v64_r0 : BitVec 1 := Scalar.cmpi .ne v63_r0 c0_i32_67_r0
  v64_r0

def k0_off6 : Fin 1 → Nat :=
  let c0_i32_62_r0 : BitVec 32 := 0#32
  let c1_i32_63_r0 : BitVec 32 := 1#32
  let v59_r0 : BitVec 32 := Scalar.addi c0_i32_62_r0 c1_i32_63_r0
  let c3_i32_121_r0 : BitVec 32 := 3#32
  let v108_r0 : BitVec 32 := Scalar.remui v59_r0 c3_i32_121_r0
  ![v108_r0.toNat]
def k0_off7 : Fin 5 → Nat :=
  let c0_i32_62_r0 : BitVec 32 := 0#32
  let c1_i32_63_r0 : BitVec 32 := 1#32
  let v59_r0 : BitVec 32 := Scalar.addi c0_i32_62_r0 c1_i32_63_r0
  let c3_i32_121_r0 : BitVec 32 := 3#32
  let v108_r0 : BitVec 32 := Scalar.remui v59_r0 c3_i32_121_r0
  let c0_i32_123_r0 : BitVec 32 := 0#32
  let c0_i32_124_r0 : BitVec 32 := 0#32
  let c0_i32_125_r0 : BitVec 32 := 0#32
  let c0_i32_126_r0 : BitVec 32 := 0#32
  ![v108_r0.toNat, 0, 0, 0, 0]
def k0_off8 : Fin 4 → Nat :=
  let c16_i32_122_r0 : BitVec 32 := 16#32
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c8_i32_r0 : BitVec 32 := 8#32
  let v12_r0 : BitVec 1 := Scalar.cmpi .eq v11_r0 c8_i32_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let v109_r0 : BitVec 32 := Scalar.muli c16_i32_122_r0 v14_r0
  let c0_i32_127_r0 : BitVec 32 := 0#32
  let c0_i32_128_r0 : BitVec 32 := 0#32
  let c0_i32_129_r0 : BitVec 32 := 0#32
  ![v109_r0.toNat, 0, 0, 0]
@[reducible] def k0_t1_loop : Scf.Loop 32 :=
  let c0_i32_79_r0 : BitVec 32 := 0#32
  let c8_i32_80_r0 : BitVec 32 := 8#32
  let v67_r0 : BitVec 32 := Scalar.addi c0_i32_79_r0 c8_i32_80_r0
  let c1_i32_81_r0 : BitVec 32 := 1#32
  ⟨c0_i32_79_r0, v67_r0, c1_i32_81_r0⟩
def k0_off9 (arg8_r0 : BitVec 32) : Fin 1 → Nat :=
  let c2_i32_3679_r0 : BitVec 32 := 2#32
  let v4123_r0 : BitVec 32 := Scalar.remui arg8_r0 c2_i32_3679_r0
  ![v4123_r0.toNat]
def k0_cond2 (k0_t1 : Fin k0_t1_loop.trips) (arg22_r0 : BitVec 32) : BitVec 1 :=
  let c0_i32_123_r0 : BitVec 32 := 0#32
  let v110_r0 : BitVec 32 := Scalar.addi arg22_r0 c0_i32_123_r0
  let true_130_r0 : BitVec 1 := 1#1
  let c1_i32_129_r0 : BitVec 32 := 1#32
  let v116_r0 : BitVec 32 := Scalar.addi arg22_r0 c1_i32_129_r0
  let v117_r0 : BitVec 32 := Scalar.select true_130_r0 v116_r0 arg22_r0
  let c8_i32_131_r0 : BitVec 32 := 8#32
  let v118_r0 : BitVec 1 := Scalar.cmpi .eq v117_r0 c8_i32_131_r0
  let c0_i32_132_r0 : BitVec 32 := 0#32
  let v119_r0 : BitVec 32 := Scalar.select v118_r0 c0_i32_132_r0 v117_r0
  let c0_i32_133_r0 : BitVec 32 := 0#32
  let v120_r0 : BitVec 32 := Scalar.addi v119_r0 c0_i32_133_r0
  let v131_r0 : BitVec 1 := Scalar.cmpi .ne v110_r0 v120_r0
  let c0_i32_79_r0 : BitVec 32 := 0#32
  let c1_i32_81_r0 : BitVec 32 := 1#32
  let arg7_r0 : BitVec 32 := Scf.iv c0_i32_79_r0 c1_i32_81_r0 k0_t1
  let c7_i32_144_r0 : BitVec 32 := 7#32
  let v132_r0 : BitVec 1 := Scalar.cmpi .sge arg7_r0 c7_i32_144_r0
  let true_145_r0 : BitVec 1 := 1#1
  let v133_r0 : BitVec 1 := Scalar.xori v132_r0 true_145_r0
  let v134_r0 : BitVec 1 := Scalar.andi v131_r0 v133_r0
  let true_146_r0 : BitVec 1 := 1#1
  let v135_r0 : BitVec 1 := Scalar.andi v134_r0 true_146_r0
  let v136_r0 : BitVec 32 := Scalar.extui v135_r0
  let c0_i32_147_r0 : BitVec 32 := 0#32
  let v137_r0 : BitVec 1 := Scalar.cmpi .ne v136_r0 c0_i32_147_r0
  v137_r0

def k0_off10 (arg8_r0 : BitVec 32) : Fin 3 → Nat :=
  let c2_i32_3679_r0 : BitVec 32 := 2#32
  let v4123_r0 : BitVec 32 := Scalar.remui arg8_r0 c2_i32_3679_r0
  let c0_i32_3681_r0 : BitVec 32 := 0#32
  let c0_i32_3682_r0 : BitVec 32 := 0#32
  ![v4123_r0.toNat, 0, 0]
def k0_off11 (arg22_r0 : BitVec 32) : Fin 2 → Nat :=
  let c16_i32_3680_r0 : BitVec 32 := 16#32
  let true_130_r0 : BitVec 1 := 1#1
  let c1_i32_129_r0 : BitVec 32 := 1#32
  let v116_r0 : BitVec 32 := Scalar.addi arg22_r0 c1_i32_129_r0
  let v117_r0 : BitVec 32 := Scalar.select true_130_r0 v116_r0 arg22_r0
  let c8_i32_131_r0 : BitVec 32 := 8#32
  let v118_r0 : BitVec 1 := Scalar.cmpi .eq v117_r0 c8_i32_131_r0
  let c0_i32_132_r0 : BitVec 32 := 0#32
  let v119_r0 : BitVec 32 := Scalar.select v118_r0 c0_i32_132_r0 v117_r0
  let c0_i32_133_r0 : BitVec 32 := 0#32
  let v120_r0 : BitVec 32 := Scalar.addi v119_r0 c0_i32_133_r0
  let v4124_r0 : BitVec 32 := Scalar.muli c16_i32_3680_r0 v120_r0
  let c0_i32_3683_r0 : BitVec 32 := 0#32
  ![v4124_r0.toNat, 0]
def k0_off12 (arg10_r0 : BitVec 32) : Fin 1 → Nat :=
  let c2_i32_3679_r0 : BitVec 32 := 2#32
  let v4123_r0 : BitVec 32 := Scalar.remui arg10_r0 c2_i32_3679_r0
  ![v4123_r0.toNat]
def k0_cond3 (k0_t1 : Fin k0_t1_loop.trips) (arg22_r0 : BitVec 32) : BitVec 1 :=
  let c0_i32_123_r0 : BitVec 32 := 0#32
  let v110_r0 : BitVec 32 := Scalar.addi arg22_r0 c0_i32_123_r0
  let true_130_r0 : BitVec 1 := 1#1
  let c1_i32_129_r0 : BitVec 32 := 1#32
  let v116_r0 : BitVec 32 := Scalar.addi arg22_r0 c1_i32_129_r0
  let v117_r0 : BitVec 32 := Scalar.select true_130_r0 v116_r0 arg22_r0
  let c8_i32_131_r0 : BitVec 32 := 8#32
  let v118_r0 : BitVec 1 := Scalar.cmpi .eq v117_r0 c8_i32_131_r0
  let c0_i32_132_r0 : BitVec 32 := 0#32
  let v119_r0 : BitVec 32 := Scalar.select v118_r0 c0_i32_132_r0 v117_r0
  let c0_i32_133_r0 : BitVec 32 := 0#32
  let v120_r0 : BitVec 32 := Scalar.addi v119_r0 c0_i32_133_r0
  let v141_r0 : BitVec 1 := Scalar.cmpi .ne v110_r0 v120_r0
  let c0_i32_79_r0 : BitVec 32 := 0#32
  let c1_i32_81_r0 : BitVec 32 := 1#32
  let arg7_r0 : BitVec 32 := Scf.iv c0_i32_79_r0 c1_i32_81_r0 k0_t1
  let c7_i32_150_r0 : BitVec 32 := 7#32
  let v142_r0 : BitVec 1 := Scalar.cmpi .sge arg7_r0 c7_i32_150_r0
  let true_151_r0 : BitVec 1 := 1#1
  let v143_r0 : BitVec 1 := Scalar.xori v142_r0 true_151_r0
  let v144_r0 : BitVec 1 := Scalar.andi v141_r0 v143_r0
  let true_152_r0 : BitVec 1 := 1#1
  let v145_r0 : BitVec 1 := Scalar.andi v144_r0 true_152_r0
  let v146_r0 : BitVec 32 := Scalar.extui v145_r0
  let c0_i32_153_r0 : BitVec 32 := 0#32
  let v147_r0 : BitVec 1 := Scalar.cmpi .ne v146_r0 c0_i32_153_r0
  v147_r0

def k0_off13 (arg10_r0 : BitVec 32) : Fin 3 → Nat :=
  let c2_i32_3679_r0 : BitVec 32 := 2#32
  let v4123_r0 : BitVec 32 := Scalar.remui arg10_r0 c2_i32_3679_r0
  let c0_i32_3681_r0 : BitVec 32 := 0#32
  let c0_i32_3682_r0 : BitVec 32 := 0#32
  ![v4123_r0.toNat, 0, 0]
def k0_off14 (arg22_r0 : BitVec 32) : Fin 2 → Nat :=
  let c16_i32_3680_r0 : BitVec 32 := 16#32
  let true_130_r0 : BitVec 1 := 1#1
  let c1_i32_129_r0 : BitVec 32 := 1#32
  let v116_r0 : BitVec 32 := Scalar.addi arg22_r0 c1_i32_129_r0
  let v117_r0 : BitVec 32 := Scalar.select true_130_r0 v116_r0 arg22_r0
  let c8_i32_131_r0 : BitVec 32 := 8#32
  let v118_r0 : BitVec 1 := Scalar.cmpi .eq v117_r0 c8_i32_131_r0
  let c0_i32_132_r0 : BitVec 32 := 0#32
  let v119_r0 : BitVec 32 := Scalar.select v118_r0 c0_i32_132_r0 v117_r0
  let c0_i32_133_r0 : BitVec 32 := 0#32
  let v120_r0 : BitVec 32 := Scalar.addi v119_r0 c0_i32_133_r0
  let v4124_r0 : BitVec 32 := Scalar.muli c16_i32_3680_r0 v120_r0
  let c0_i32_3683_r0 : BitVec 32 := 0#32
  ![v4124_r0.toNat, 0]
def k0_off15 (arg12_r0 : BitVec 32) : Fin 1 → Nat :=
  let c2_i32_3679_r0 : BitVec 32 := 2#32
  let v4123_r0 : BitVec 32 := Scalar.remui arg12_r0 c2_i32_3679_r0
  ![v4123_r0.toNat]
def k0_cond4 (k0_t1 : Fin k0_t1_loop.trips) (arg22_r0 : BitVec 32) : BitVec 1 :=
  let c0_i32_123_r0 : BitVec 32 := 0#32
  let v110_r0 : BitVec 32 := Scalar.addi arg22_r0 c0_i32_123_r0
  let true_130_r0 : BitVec 1 := 1#1
  let c1_i32_129_r0 : BitVec 32 := 1#32
  let v116_r0 : BitVec 32 := Scalar.addi arg22_r0 c1_i32_129_r0
  let v117_r0 : BitVec 32 := Scalar.select true_130_r0 v116_r0 arg22_r0
  let c8_i32_131_r0 : BitVec 32 := 8#32
  let v118_r0 : BitVec 1 := Scalar.cmpi .eq v117_r0 c8_i32_131_r0
  let c0_i32_132_r0 : BitVec 32 := 0#32
  let v119_r0 : BitVec 32 := Scalar.select v118_r0 c0_i32_132_r0 v117_r0
  let c0_i32_133_r0 : BitVec 32 := 0#32
  let v120_r0 : BitVec 32 := Scalar.addi v119_r0 c0_i32_133_r0
  let v151_r0 : BitVec 1 := Scalar.cmpi .ne v110_r0 v120_r0
  let c0_i32_79_r0 : BitVec 32 := 0#32
  let c1_i32_81_r0 : BitVec 32 := 1#32
  let arg7_r0 : BitVec 32 := Scf.iv c0_i32_79_r0 c1_i32_81_r0 k0_t1
  let c7_i32_156_r0 : BitVec 32 := 7#32
  let v152_r0 : BitVec 1 := Scalar.cmpi .sge arg7_r0 c7_i32_156_r0
  let true_157_r0 : BitVec 1 := 1#1
  let v153_r0 : BitVec 1 := Scalar.xori v152_r0 true_157_r0
  let v154_r0 : BitVec 1 := Scalar.andi v151_r0 v153_r0
  let true_158_r0 : BitVec 1 := 1#1
  let v155_r0 : BitVec 1 := Scalar.andi v154_r0 true_158_r0
  let v156_r0 : BitVec 32 := Scalar.extui v155_r0
  let c0_i32_159_r0 : BitVec 32 := 0#32
  let v157_r0 : BitVec 1 := Scalar.cmpi .ne v156_r0 c0_i32_159_r0
  v157_r0

def k0_off16 (arg12_r0 : BitVec 32) : Fin 3 → Nat :=
  let c2_i32_3679_r0 : BitVec 32 := 2#32
  let v4123_r0 : BitVec 32 := Scalar.remui arg12_r0 c2_i32_3679_r0
  let c0_i32_3681_r0 : BitVec 32 := 0#32
  let c0_i32_3682_r0 : BitVec 32 := 0#32
  ![v4123_r0.toNat, 0, 0]
def k0_off17 (arg22_r0 : BitVec 32) : Fin 2 → Nat :=
  let c16_i32_3680_r0 : BitVec 32 := 16#32
  let true_130_r0 : BitVec 1 := 1#1
  let c1_i32_129_r0 : BitVec 32 := 1#32
  let v116_r0 : BitVec 32 := Scalar.addi arg22_r0 c1_i32_129_r0
  let v117_r0 : BitVec 32 := Scalar.select true_130_r0 v116_r0 arg22_r0
  let c8_i32_131_r0 : BitVec 32 := 8#32
  let v118_r0 : BitVec 1 := Scalar.cmpi .eq v117_r0 c8_i32_131_r0
  let c0_i32_132_r0 : BitVec 32 := 0#32
  let v119_r0 : BitVec 32 := Scalar.select v118_r0 c0_i32_132_r0 v117_r0
  let c0_i32_133_r0 : BitVec 32 := 0#32
  let v120_r0 : BitVec 32 := Scalar.addi v119_r0 c0_i32_133_r0
  let v4124_r0 : BitVec 32 := Scalar.muli c16_i32_3680_r0 v120_r0
  let c0_i32_3683_r0 : BitVec 32 := 0#32
  ![v4124_r0.toNat, 0]
def k0_off18 (arg14_r0 : BitVec 32) : Fin 1 → Nat :=
  let c2_i32_3679_r0 : BitVec 32 := 2#32
  let v4123_r0 : BitVec 32 := Scalar.remui arg14_r0 c2_i32_3679_r0
  ![v4123_r0.toNat]
def k0_cond5 (k0_t1 : Fin k0_t1_loop.trips) (arg22_r0 : BitVec 32) : BitVec 1 :=
  let c0_i32_123_r0 : BitVec 32 := 0#32
  let v110_r0 : BitVec 32 := Scalar.addi arg22_r0 c0_i32_123_r0
  let true_130_r0 : BitVec 1 := 1#1
  let c1_i32_129_r0 : BitVec 32 := 1#32
  let v116_r0 : BitVec 32 := Scalar.addi arg22_r0 c1_i32_129_r0
  let v117_r0 : BitVec 32 := Scalar.select true_130_r0 v116_r0 arg22_r0
  let c8_i32_131_r0 : BitVec 32 := 8#32
  let v118_r0 : BitVec 1 := Scalar.cmpi .eq v117_r0 c8_i32_131_r0
  let c0_i32_132_r0 : BitVec 32 := 0#32
  let v119_r0 : BitVec 32 := Scalar.select v118_r0 c0_i32_132_r0 v117_r0
  let c0_i32_133_r0 : BitVec 32 := 0#32
  let v120_r0 : BitVec 32 := Scalar.addi v119_r0 c0_i32_133_r0
  let v161_r0 : BitVec 1 := Scalar.cmpi .ne v110_r0 v120_r0
  let c0_i32_79_r0 : BitVec 32 := 0#32
  let c1_i32_81_r0 : BitVec 32 := 1#32
  let arg7_r0 : BitVec 32 := Scf.iv c0_i32_79_r0 c1_i32_81_r0 k0_t1
  let c7_i32_162_r0 : BitVec 32 := 7#32
  let v162_r0 : BitVec 1 := Scalar.cmpi .sge arg7_r0 c7_i32_162_r0
  let true_163_r0 : BitVec 1 := 1#1
  let v163_r0 : BitVec 1 := Scalar.xori v162_r0 true_163_r0
  let v164_r0 : BitVec 1 := Scalar.andi v161_r0 v163_r0
  let true_164_r0 : BitVec 1 := 1#1
  let v165_r0 : BitVec 1 := Scalar.andi v164_r0 true_164_r0
  let v166_r0 : BitVec 32 := Scalar.extui v165_r0
  let c0_i32_165_r0 : BitVec 32 := 0#32
  let v167_r0 : BitVec 1 := Scalar.cmpi .ne v166_r0 c0_i32_165_r0
  v167_r0

def k0_off19 (arg14_r0 : BitVec 32) : Fin 3 → Nat :=
  let c2_i32_3679_r0 : BitVec 32 := 2#32
  let v4123_r0 : BitVec 32 := Scalar.remui arg14_r0 c2_i32_3679_r0
  let c0_i32_3681_r0 : BitVec 32 := 0#32
  let c0_i32_3682_r0 : BitVec 32 := 0#32
  ![v4123_r0.toNat, 0, 0]
def k0_off20 (arg22_r0 : BitVec 32) : Fin 2 → Nat :=
  let c16_i32_3680_r0 : BitVec 32 := 16#32
  let true_130_r0 : BitVec 1 := 1#1
  let c1_i32_129_r0 : BitVec 32 := 1#32
  let v116_r0 : BitVec 32 := Scalar.addi arg22_r0 c1_i32_129_r0
  let v117_r0 : BitVec 32 := Scalar.select true_130_r0 v116_r0 arg22_r0
  let c8_i32_131_r0 : BitVec 32 := 8#32
  let v118_r0 : BitVec 1 := Scalar.cmpi .eq v117_r0 c8_i32_131_r0
  let c0_i32_132_r0 : BitVec 32 := 0#32
  let v119_r0 : BitVec 32 := Scalar.select v118_r0 c0_i32_132_r0 v117_r0
  let c0_i32_133_r0 : BitVec 32 := 0#32
  let v120_r0 : BitVec 32 := Scalar.addi v119_r0 c0_i32_133_r0
  let v4124_r0 : BitVec 32 := Scalar.muli c16_i32_3680_r0 v120_r0
  let c0_i32_3683_r0 : BitVec 32 := 0#32
  ![v4124_r0.toNat, 0]
def k0_off21 (arg16_r0 : BitVec 32) : Fin 1 → Nat :=
  let c3_i32_3679_r0 : BitVec 32 := 3#32
  let v4123_r0 : BitVec 32 := Scalar.remui arg16_r0 c3_i32_3679_r0
  ![v4123_r0.toNat]
def k0_cond6 (k0_t1 : Fin k0_t1_loop.trips) (arg22_r0 : BitVec 32) : BitVec 1 :=
  let true_130_r0 : BitVec 1 := 1#1
  let c1_i32_129_r0 : BitVec 32 := 1#32
  let v116_r0 : BitVec 32 := Scalar.addi arg22_r0 c1_i32_129_r0
  let v117_r0 : BitVec 32 := Scalar.select true_130_r0 v116_r0 arg22_r0
  let c8_i32_131_r0 : BitVec 32 := 8#32
  let v118_r0 : BitVec 1 := Scalar.cmpi .eq v117_r0 c8_i32_131_r0
  let c0_i32_132_r0 : BitVec 32 := 0#32
  let v119_r0 : BitVec 32 := Scalar.select v118_r0 c0_i32_132_r0 v117_r0
  let c0_i32_133_r0 : BitVec 32 := 0#32
  let v120_r0 : BitVec 32 := Scalar.addi v119_r0 c0_i32_133_r0
  let true_135_r0 : BitVec 1 := 1#1
  let c1_i32_134_r0 : BitVec 32 := 1#32
  let v121_r0 : BitVec 32 := Scalar.addi v119_r0 c1_i32_134_r0
  let v122_r0 : BitVec 32 := Scalar.select true_135_r0 v121_r0 v119_r0
  let c8_i32_136_r0 : BitVec 32 := 8#32
  let v123_r0 : BitVec 1 := Scalar.cmpi .eq v122_r0 c8_i32_136_r0
  let c0_i32_137_r0 : BitVec 32 := 0#32
  let v124_r0 : BitVec 32 := Scalar.select v123_r0 c0_i32_137_r0 v122_r0
  let c0_i32_138_r0 : BitVec 32 := 0#32
  let v125_r0 : BitVec 32 := Scalar.addi v124_r0 c0_i32_138_r0
  let v171_r0 : BitVec 1 := Scalar.cmpi .ne v120_r0 v125_r0
  let c0_i32_79_r0 : BitVec 32 := 0#32
  let c1_i32_81_r0 : BitVec 32 := 1#32
  let arg7_r0 : BitVec 32 := Scf.iv c0_i32_79_r0 c1_i32_81_r0 k0_t1
  let c6_i32_r0 : BitVec 32 := 6#32
  let v172_r0 : BitVec 1 := Scalar.cmpi .sge arg7_r0 c6_i32_r0
  let true_168_r0 : BitVec 1 := 1#1
  let v173_r0 : BitVec 1 := Scalar.xori v172_r0 true_168_r0
  let v174_r0 : BitVec 1 := Scalar.andi v171_r0 v173_r0
  let true_169_r0 : BitVec 1 := 1#1
  let v175_r0 : BitVec 1 := Scalar.andi v174_r0 true_169_r0
  let v176_r0 : BitVec 32 := Scalar.extui v175_r0
  let c0_i32_170_r0 : BitVec 32 := 0#32
  let v177_r0 : BitVec 1 := Scalar.cmpi .ne v176_r0 c0_i32_170_r0
  v177_r0

def k0_off22 (arg16_r0 : BitVec 32) : Fin 5 → Nat :=
  let c3_i32_3679_r0 : BitVec 32 := 3#32
  let v4123_r0 : BitVec 32 := Scalar.remui arg16_r0 c3_i32_3679_r0
  let c0_i32_3681_r0 : BitVec 32 := 0#32
  let c0_i32_3682_r0 : BitVec 32 := 0#32
  let c0_i32_3683_r0 : BitVec 32 := 0#32
  let c0_i32_3684_r0 : BitVec 32 := 0#32
  ![v4123_r0.toNat, 0, 0, 0, 0]
def k0_off23 (arg22_r0 : BitVec 32) : Fin 4 → Nat :=
  let c16_i32_3680_r0 : BitVec 32 := 16#32
  let true_135_r0 : BitVec 1 := 1#1
  let true_130_r0 : BitVec 1 := 1#1
  let c1_i32_129_r0 : BitVec 32 := 1#32
  let v116_r0 : BitVec 32 := Scalar.addi arg22_r0 c1_i32_129_r0
  let v117_r0 : BitVec 32 := Scalar.select true_130_r0 v116_r0 arg22_r0
  let c8_i32_131_r0 : BitVec 32 := 8#32
  let v118_r0 : BitVec 1 := Scalar.cmpi .eq v117_r0 c8_i32_131_r0
  let c0_i32_132_r0 : BitVec 32 := 0#32
  let v119_r0 : BitVec 32 := Scalar.select v118_r0 c0_i32_132_r0 v117_r0
  let c1_i32_134_r0 : BitVec 32 := 1#32
  let v121_r0 : BitVec 32 := Scalar.addi v119_r0 c1_i32_134_r0
  let v122_r0 : BitVec 32 := Scalar.select true_135_r0 v121_r0 v119_r0
  let c8_i32_136_r0 : BitVec 32 := 8#32
  let v123_r0 : BitVec 1 := Scalar.cmpi .eq v122_r0 c8_i32_136_r0
  let c0_i32_137_r0 : BitVec 32 := 0#32
  let v124_r0 : BitVec 32 := Scalar.select v123_r0 c0_i32_137_r0 v122_r0
  let c0_i32_138_r0 : BitVec 32 := 0#32
  let v125_r0 : BitVec 32 := Scalar.addi v124_r0 c0_i32_138_r0
  let v4124_r0 : BitVec 32 := Scalar.muli c16_i32_3680_r0 v125_r0
  let c0_i32_3685_r0 : BitVec 32 := 0#32
  let c0_i32_3686_r0 : BitVec 32 := 0#32
  let c0_i32_3687_r0 : BitVec 32 := 0#32
  ![v4124_r0.toNat, 0, 0, 0]
def k0_off24 (arg9_r0 : BitVec 32) : Fin 1 → Nat :=
  let c2_i32_3680_r0 : BitVec 32 := 2#32
  let v4124_r0 : BitVec 32 := Scalar.remui arg9_r0 c2_i32_3680_r0
  ![v4124_r0.toNat]
def k0_cond7 (k0_t1 : Fin k0_t1_loop.trips) (arg22_r0 : BitVec 32) : BitVec 1 :=
  let c0_i32_123_r0 : BitVec 32 := 0#32
  let v110_r0 : BitVec 32 := Scalar.addi arg22_r0 c0_i32_123_r0
  let true_125_r0 : BitVec 1 := 1#1
  let c1_i32_124_r0 : BitVec 32 := 1#32
  let v111_r0 : BitVec 32 := Scalar.subi arg22_r0 c1_i32_124_r0
  let v112_r0 : BitVec 32 := Scalar.select true_125_r0 v111_r0 arg22_r0
  let c_m1_i32_126_r0 : BitVec 32 := 4294967295#32
  let v113_r0 : BitVec 1 := Scalar.cmpi .eq v112_r0 c_m1_i32_126_r0
  let c7_i32_127_r0 : BitVec 32 := 7#32
  let v114_r0 : BitVec 32 := Scalar.select v113_r0 c7_i32_127_r0 v112_r0
  let c0_i32_128_r0 : BitVec 32 := 0#32
  let v115_r0 : BitVec 32 := Scalar.addi v114_r0 c0_i32_128_r0
  let v189_r0 : BitVec 1 := Scalar.cmpi .ne v110_r0 v115_r0
  let c0_i32_79_r0 : BitVec 32 := 0#32
  let c1_i32_81_r0 : BitVec 32 := 1#32
  let arg7_r0 : BitVec 32 := Scf.iv c0_i32_79_r0 c1_i32_81_r0 k0_t1
  let c0_i32_121_r0 : BitVec 32 := 0#32
  let v108_r0 : BitVec 1 := Scalar.cmpi .eq arg7_r0 c0_i32_121_r0
  let v190_r0 : BitVec 1 := Scalar.ori v189_r0 v108_r0
  let c0_i32_177_r0 : BitVec 32 := 0#32
  let v191_r0 : BitVec 1 := Scalar.cmpi .sge arg7_r0 c0_i32_177_r0
  let v192_r0 : BitVec 1 := Scalar.andi v190_r0 v191_r0
  let v193_r0 : BitVec 32 := Scalar.extui v192_r0
  let c0_i32_178_r0 : BitVec 32 := 0#32
  let v194_r0 : BitVec 1 := Scalar.cmpi .ne v193_r0 c0_i32_178_r0
  v194_r0

def k0_off25 (arg9_r0 : BitVec 32) : Fin 3 → Nat :=
  let c2_i32_3680_r0 : BitVec 32 := 2#32
  let v4124_r0 : BitVec 32 := Scalar.remui arg9_r0 c2_i32_3680_r0
  let c0_i32_3681_r0 : BitVec 32 := 0#32
  let c0_i32_3682_r0 : BitVec 32 := 0#32
  ![v4124_r0.toNat, 0, 0]
def k0_off26 (arg22_r0 : BitVec 32) : Fin 2 → Nat :=
  let c16_i32_3679_r0 : BitVec 32 := 16#32
  let c0_i32_123_r0 : BitVec 32 := 0#32
  let v110_r0 : BitVec 32 := Scalar.addi arg22_r0 c0_i32_123_r0
  let v4123_r0 : BitVec 32 := Scalar.muli c16_i32_3679_r0 v110_r0
  let c0_i32_3683_r0 : BitVec 32 := 0#32
  ![v4123_r0.toNat, 0]
def k0_off27 (arg11_r0 : BitVec 32) : Fin 1 → Nat :=
  let c2_i32_3680_r0 : BitVec 32 := 2#32
  let v4124_r0 : BitVec 32 := Scalar.remui arg11_r0 c2_i32_3680_r0
  ![v4124_r0.toNat]
def k0_cond8 (k0_t1 : Fin k0_t1_loop.trips) (arg22_r0 : BitVec 32) : BitVec 1 :=
  let c0_i32_123_r0 : BitVec 32 := 0#32
  let v110_r0 : BitVec 32 := Scalar.addi arg22_r0 c0_i32_123_r0
  let true_125_r0 : BitVec 1 := 1#1
  let c1_i32_124_r0 : BitVec 32 := 1#32
  let v111_r0 : BitVec 32 := Scalar.subi arg22_r0 c1_i32_124_r0
  let v112_r0 : BitVec 32 := Scalar.select true_125_r0 v111_r0 arg22_r0
  let c_m1_i32_126_r0 : BitVec 32 := 4294967295#32
  let v113_r0 : BitVec 1 := Scalar.cmpi .eq v112_r0 c_m1_i32_126_r0
  let c7_i32_127_r0 : BitVec 32 := 7#32
  let v114_r0 : BitVec 32 := Scalar.select v113_r0 c7_i32_127_r0 v112_r0
  let c0_i32_128_r0 : BitVec 32 := 0#32
  let v115_r0 : BitVec 32 := Scalar.addi v114_r0 c0_i32_128_r0
  let v195_r0 : BitVec 1 := Scalar.cmpi .ne v110_r0 v115_r0
  let c0_i32_79_r0 : BitVec 32 := 0#32
  let c1_i32_81_r0 : BitVec 32 := 1#32
  let arg7_r0 : BitVec 32 := Scf.iv c0_i32_79_r0 c1_i32_81_r0 k0_t1
  let c0_i32_121_r0 : BitVec 32 := 0#32
  let v108_r0 : BitVec 1 := Scalar.cmpi .eq arg7_r0 c0_i32_121_r0
  let v196_r0 : BitVec 1 := Scalar.ori v195_r0 v108_r0
  let c0_i32_179_r0 : BitVec 32 := 0#32
  let v197_r0 : BitVec 1 := Scalar.cmpi .sge arg7_r0 c0_i32_179_r0
  let v198_r0 : BitVec 1 := Scalar.andi v196_r0 v197_r0
  let v199_r0 : BitVec 32 := Scalar.extui v198_r0
  let c0_i32_180_r0 : BitVec 32 := 0#32
  let v200_r0 : BitVec 1 := Scalar.cmpi .ne v199_r0 c0_i32_180_r0
  v200_r0

def k0_off28 (arg11_r0 : BitVec 32) : Fin 3 → Nat :=
  let c2_i32_3680_r0 : BitVec 32 := 2#32
  let v4124_r0 : BitVec 32 := Scalar.remui arg11_r0 c2_i32_3680_r0
  let c0_i32_3681_r0 : BitVec 32 := 0#32
  let c0_i32_3682_r0 : BitVec 32 := 0#32
  ![v4124_r0.toNat, 0, 0]
def k0_off29 (arg22_r0 : BitVec 32) : Fin 2 → Nat :=
  let c16_i32_3679_r0 : BitVec 32 := 16#32
  let c0_i32_123_r0 : BitVec 32 := 0#32
  let v110_r0 : BitVec 32 := Scalar.addi arg22_r0 c0_i32_123_r0
  let v4123_r0 : BitVec 32 := Scalar.muli c16_i32_3679_r0 v110_r0
  let c0_i32_3683_r0 : BitVec 32 := 0#32
  ![v4123_r0.toNat, 0]
def k0_off30 (arg13_r0 : BitVec 32) : Fin 1 → Nat :=
  let c2_i32_3680_r0 : BitVec 32 := 2#32
  let v4124_r0 : BitVec 32 := Scalar.remui arg13_r0 c2_i32_3680_r0
  ![v4124_r0.toNat]
def k0_cond9 (k0_t1 : Fin k0_t1_loop.trips) (arg22_r0 : BitVec 32) : BitVec 1 :=
  let c0_i32_123_r0 : BitVec 32 := 0#32
  let v110_r0 : BitVec 32 := Scalar.addi arg22_r0 c0_i32_123_r0
  let true_125_r0 : BitVec 1 := 1#1
  let c1_i32_124_r0 : BitVec 32 := 1#32
  let v111_r0 : BitVec 32 := Scalar.subi arg22_r0 c1_i32_124_r0
  let v112_r0 : BitVec 32 := Scalar.select true_125_r0 v111_r0 arg22_r0
  let c_m1_i32_126_r0 : BitVec 32 := 4294967295#32
  let v113_r0 : BitVec 1 := Scalar.cmpi .eq v112_r0 c_m1_i32_126_r0
  let c7_i32_127_r0 : BitVec 32 := 7#32
  let v114_r0 : BitVec 32 := Scalar.select v113_r0 c7_i32_127_r0 v112_r0
  let c0_i32_128_r0 : BitVec 32 := 0#32
  let v115_r0 : BitVec 32 := Scalar.addi v114_r0 c0_i32_128_r0
  let v201_r0 : BitVec 1 := Scalar.cmpi .ne v110_r0 v115_r0
  let c0_i32_79_r0 : BitVec 32 := 0#32
  let c1_i32_81_r0 : BitVec 32 := 1#32
  let arg7_r0 : BitVec 32 := Scf.iv c0_i32_79_r0 c1_i32_81_r0 k0_t1
  let c0_i32_121_r0 : BitVec 32 := 0#32
  let v108_r0 : BitVec 1 := Scalar.cmpi .eq arg7_r0 c0_i32_121_r0
  let v202_r0 : BitVec 1 := Scalar.ori v201_r0 v108_r0
  let c0_i32_181_r0 : BitVec 32 := 0#32
  let v203_r0 : BitVec 1 := Scalar.cmpi .sge arg7_r0 c0_i32_181_r0
  let v204_r0 : BitVec 1 := Scalar.andi v202_r0 v203_r0
  let v205_r0 : BitVec 32 := Scalar.extui v204_r0
  let c0_i32_182_r0 : BitVec 32 := 0#32
  let v206_r0 : BitVec 1 := Scalar.cmpi .ne v205_r0 c0_i32_182_r0
  v206_r0

def k0_off31 (arg13_r0 : BitVec 32) : Fin 3 → Nat :=
  let c2_i32_3680_r0 : BitVec 32 := 2#32
  let v4124_r0 : BitVec 32 := Scalar.remui arg13_r0 c2_i32_3680_r0
  let c0_i32_3681_r0 : BitVec 32 := 0#32
  let c0_i32_3682_r0 : BitVec 32 := 0#32
  ![v4124_r0.toNat, 0, 0]
def k0_off32 (arg22_r0 : BitVec 32) : Fin 2 → Nat :=
  let c16_i32_3679_r0 : BitVec 32 := 16#32
  let c0_i32_123_r0 : BitVec 32 := 0#32
  let v110_r0 : BitVec 32 := Scalar.addi arg22_r0 c0_i32_123_r0
  let v4123_r0 : BitVec 32 := Scalar.muli c16_i32_3679_r0 v110_r0
  let c0_i32_3683_r0 : BitVec 32 := 0#32
  ![v4123_r0.toNat, 0]
def k0_off33 (arg15_r0 : BitVec 32) : Fin 1 → Nat :=
  let c2_i32_3680_r0 : BitVec 32 := 2#32
  let v4124_r0 : BitVec 32 := Scalar.remui arg15_r0 c2_i32_3680_r0
  ![v4124_r0.toNat]
def k0_cond10 (k0_t1 : Fin k0_t1_loop.trips) (arg22_r0 : BitVec 32) : BitVec 1 :=
  let c0_i32_123_r0 : BitVec 32 := 0#32
  let v110_r0 : BitVec 32 := Scalar.addi arg22_r0 c0_i32_123_r0
  let true_125_r0 : BitVec 1 := 1#1
  let c1_i32_124_r0 : BitVec 32 := 1#32
  let v111_r0 : BitVec 32 := Scalar.subi arg22_r0 c1_i32_124_r0
  let v112_r0 : BitVec 32 := Scalar.select true_125_r0 v111_r0 arg22_r0
  let c_m1_i32_126_r0 : BitVec 32 := 4294967295#32
  let v113_r0 : BitVec 1 := Scalar.cmpi .eq v112_r0 c_m1_i32_126_r0
  let c7_i32_127_r0 : BitVec 32 := 7#32
  let v114_r0 : BitVec 32 := Scalar.select v113_r0 c7_i32_127_r0 v112_r0
  let c0_i32_128_r0 : BitVec 32 := 0#32
  let v115_r0 : BitVec 32 := Scalar.addi v114_r0 c0_i32_128_r0
  let v207_r0 : BitVec 1 := Scalar.cmpi .ne v110_r0 v115_r0
  let c0_i32_79_r0 : BitVec 32 := 0#32
  let c1_i32_81_r0 : BitVec 32 := 1#32
  let arg7_r0 : BitVec 32 := Scf.iv c0_i32_79_r0 c1_i32_81_r0 k0_t1
  let c0_i32_121_r0 : BitVec 32 := 0#32
  let v108_r0 : BitVec 1 := Scalar.cmpi .eq arg7_r0 c0_i32_121_r0
  let v208_r0 : BitVec 1 := Scalar.ori v207_r0 v108_r0
  let c0_i32_183_r0 : BitVec 32 := 0#32
  let v209_r0 : BitVec 1 := Scalar.cmpi .sge arg7_r0 c0_i32_183_r0
  let v210_r0 : BitVec 1 := Scalar.andi v208_r0 v209_r0
  let v211_r0 : BitVec 32 := Scalar.extui v210_r0
  let c0_i32_184_r0 : BitVec 32 := 0#32
  let v212_r0 : BitVec 1 := Scalar.cmpi .ne v211_r0 c0_i32_184_r0
  v212_r0

def k0_off34 (arg15_r0 : BitVec 32) : Fin 3 → Nat :=
  let c2_i32_3680_r0 : BitVec 32 := 2#32
  let v4124_r0 : BitVec 32 := Scalar.remui arg15_r0 c2_i32_3680_r0
  let c0_i32_3681_r0 : BitVec 32 := 0#32
  let c0_i32_3682_r0 : BitVec 32 := 0#32
  ![v4124_r0.toNat, 0, 0]
def k0_off35 (arg22_r0 : BitVec 32) : Fin 2 → Nat :=
  let c16_i32_3679_r0 : BitVec 32 := 16#32
  let c0_i32_123_r0 : BitVec 32 := 0#32
  let v110_r0 : BitVec 32 := Scalar.addi arg22_r0 c0_i32_123_r0
  let v4123_r0 : BitVec 32 := Scalar.muli c16_i32_3679_r0 v110_r0
  let c0_i32_3683_r0 : BitVec 32 := 0#32
  ![v4123_r0.toNat, 0]
def k0_off36 (arg17_r0 : BitVec 32) : Fin 1 → Nat :=
  let c3_i32_3680_r0 : BitVec 32 := 3#32
  let v4124_r0 : BitVec 32 := Scalar.remui arg17_r0 c3_i32_3680_r0
  ![v4124_r0.toNat]
def k0_cond11 (k0_t1 : Fin k0_t1_loop.trips) (arg22_r0 : BitVec 32) : BitVec 1 :=
  let c0_i32_123_r0 : BitVec 32 := 0#32
  let v110_r0 : BitVec 32 := Scalar.addi arg22_r0 c0_i32_123_r0
  let true_125_r0 : BitVec 1 := 1#1
  let c1_i32_124_r0 : BitVec 32 := 1#32
  let v111_r0 : BitVec 32 := Scalar.subi arg22_r0 c1_i32_124_r0
  let v112_r0 : BitVec 32 := Scalar.select true_125_r0 v111_r0 arg22_r0
  let c_m1_i32_126_r0 : BitVec 32 := 4294967295#32
  let v113_r0 : BitVec 1 := Scalar.cmpi .eq v112_r0 c_m1_i32_126_r0
  let c7_i32_127_r0 : BitVec 32 := 7#32
  let v114_r0 : BitVec 32 := Scalar.select v113_r0 c7_i32_127_r0 v112_r0
  let c0_i32_128_r0 : BitVec 32 := 0#32
  let v115_r0 : BitVec 32 := Scalar.addi v114_r0 c0_i32_128_r0
  let v213_r0 : BitVec 1 := Scalar.cmpi .ne v110_r0 v115_r0
  let c0_i32_79_r0 : BitVec 32 := 0#32
  let c1_i32_81_r0 : BitVec 32 := 1#32
  let arg7_r0 : BitVec 32 := Scf.iv c0_i32_79_r0 c1_i32_81_r0 k0_t1
  let c0_i32_121_r0 : BitVec 32 := 0#32
  let v108_r0 : BitVec 1 := Scalar.cmpi .eq arg7_r0 c0_i32_121_r0
  let v214_r0 : BitVec 1 := Scalar.ori v213_r0 v108_r0
  let c0_i32_185_r0 : BitVec 32 := 0#32
  let v215_r0 : BitVec 1 := Scalar.cmpi .sge arg7_r0 c0_i32_185_r0
  let v216_r0 : BitVec 1 := Scalar.andi v214_r0 v215_r0
  let v217_r0 : BitVec 32 := Scalar.extui v216_r0
  let c0_i32_186_r0 : BitVec 32 := 0#32
  let v218_r0 : BitVec 1 := Scalar.cmpi .ne v217_r0 c0_i32_186_r0
  v218_r0

def k0_off37 (arg17_r0 : BitVec 32) : Fin 5 → Nat :=
  let c3_i32_3680_r0 : BitVec 32 := 3#32
  let v4124_r0 : BitVec 32 := Scalar.remui arg17_r0 c3_i32_3680_r0
  let c0_i32_3681_r0 : BitVec 32 := 0#32
  let c0_i32_3682_r0 : BitVec 32 := 0#32
  let c0_i32_3683_r0 : BitVec 32 := 0#32
  let c0_i32_3684_r0 : BitVec 32 := 0#32
  ![v4124_r0.toNat, 0, 0, 0, 0]
def k0_off38 (arg22_r0 : BitVec 32) : Fin 4 → Nat :=
  let c16_i32_3679_r0 : BitVec 32 := 16#32
  let c0_i32_123_r0 : BitVec 32 := 0#32
  let v110_r0 : BitVec 32 := Scalar.addi arg22_r0 c0_i32_123_r0
  let v4123_r0 : BitVec 32 := Scalar.muli c16_i32_3679_r0 v110_r0
  let c0_i32_3685_r0 : BitVec 32 := 0#32
  let c0_i32_3686_r0 : BitVec 32 := 0#32
  let c0_i32_3687_r0 : BitVec 32 := 0#32
  ![v4123_r0.toNat, 0, 0, 0]
def k0_off39 (arg13_r0 : BitVec 32) : Fin 3 → Nat :=
  let c2_i32_193_r0 : BitVec 32 := 2#32
  let v233_r0 : BitVec 32 := Scalar.remui arg13_r0 c2_i32_193_r0
  let c0_i32_198_r0 : BitVec 32 := 0#32
  let c0_i32_199_r0 : BitVec 32 := 0#32
  ![v233_r0.toNat, 0, 0]

def k0_off40 (arg11_r0 : BitVec 32) : Fin 3 → Nat :=
  let c2_i32_192_r0 : BitVec 32 := 2#32
  let v232_r0 : BitVec 32 := Scalar.remui arg11_r0 c2_i32_192_r0
  let c0_i32_201_r0 : BitVec 32 := 0#32
  let c0_i32_202_r0 : BitVec 32 := 0#32
  ![v232_r0.toNat, 0, 0]

def k0_off41 (arg9_r0 : BitVec 32) : Fin 3 → Nat :=
  let c2_i32_191_r0 : BitVec 32 := 2#32
  let v231_r0 : BitVec 32 := Scalar.remui arg9_r0 c2_i32_191_r0
  let c0_i32_205_r0 : BitVec 32 := 0#32
  let c0_i32_206_r0 : BitVec 32 := 0#32
  ![v231_r0.toNat, 0, 0]

def k0_off42 (arg15_r0 : BitVec 32) : Fin 3 → Nat :=
  let c2_i32_194_r0 : BitVec 32 := 2#32
  let v234_r0 : BitVec 32 := Scalar.remui arg15_r0 c2_i32_194_r0
  let c0_i32_209_r0 : BitVec 32 := 0#32
  let c0_i32_210_r0 : BitVec 32 := 0#32
  ![v234_r0.toNat, 0, 0]

def k0_off43 (arg17_r0 : BitVec 32) : Fin 5 → Nat :=
  let c3_i32_195_r0 : BitVec 32 := 3#32
  let v235_r0 : BitVec 32 := Scalar.remui arg17_r0 c3_i32_195_r0
  let c0_i32_213_r0 : BitVec 32 := 0#32
  let c0_i32_214_r0 : BitVec 32 := 0#32
  let c0_i32_215_r0 : BitVec 32 := 0#32
  let c0_i32_216_r0 : BitVec 32 := 0#32
  ![v235_r0.toNat, 0, 0, 0, 0]

def k0_off44 (arg18_r0 : BitVec 32) : Fin 5 → Nat :=
  let c2_i32_196_r0 : BitVec 32 := 2#32
  let v236_r0 : BitVec 32 := Scalar.remui arg18_r0 c2_i32_196_r0
  let c0_i32_221_r0 : BitVec 32 := 0#32
  let c0_i32_222_r0 : BitVec 32 := 0#32
  let c0_i32_223_r0 : BitVec 32 := 0#32
  let c0_i32_224_r0 : BitVec 32 := 0#32
  ![v236_r0.toNat, 0, 0, 0, 0]

def k0_off45 (arg17_r0 : BitVec 32) : Fin 5 → Nat :=
  let c3_i32_195_r0 : BitVec 32 := 3#32
  let v235_r0 : BitVec 32 := Scalar.remui arg17_r0 c3_i32_195_r0
  let c0_i32_229_r0 : BitVec 32 := 0#32
  let c0_i32_230_r0 : BitVec 32 := 0#32
  let c0_i32_231_r0 : BitVec 32 := 0#32
  let c0_i32_232_r0 : BitVec 32 := 0#32
  ![v235_r0.toNat, 0, 0, 0, 0]
def k0_off46 (arg20_r0 : BitVec 32) : Fin 3 → Nat :=
  let c2_i32_197_r0 : BitVec 32 := 2#32
  let v237_r0 : BitVec 32 := Scalar.remui arg20_r0 c2_i32_197_r0
  let c0_i32_245_r0 : BitVec 32 := 0#32
  let c0_i32_246_r0 : BitVec 32 := 0#32
  ![v237_r0.toNat, 0, 0]

def k0_chk8 (arg20_r0 : BitVec 32) : Prop :=
  (∀ a, (k0_off46 arg20_r0) a + S1x16x1024.size a ≤ S2x16x1024.size a)
theorem k0_off46_inb : ∀ (arg20_r0 : BitVec 32) (k0_hw8 : k0_chk8 arg20_r0), ∀ a, (k0_off46 arg20_r0) a + S1x16x1024.size a ≤ S2x16x1024.size a := fun arg20_r0 k0_hw8 => k0_hw8

def k0_off47 (arg13_r0 : BitVec 32) : Fin 3 → Nat :=
  let c2_i32_193_r0 : BitVec 32 := 2#32
  let v233_r0 : BitVec 32 := Scalar.remui arg13_r0 c2_i32_193_r0
  let c0_i32_249_r0 : BitVec 32 := 0#32
  let c0_i32_250_r0 : BitVec 32 := 0#32
  ![v233_r0.toNat, 0, 0]

def k0_chk2 (arg13_r0 : BitVec 32) : Prop :=
  (∀ a, (k0_off39 arg13_r0) a + S1x16x512.size a ≤ S2x16x512.size a) ∧
  (∀ a, (k0_off47 arg13_r0) a + S1x16x512.size a ≤ S2x16x512.size a)
theorem k0_off39_inb : ∀ (arg13_r0 : BitVec 32) (k0_hw2 : k0_chk2 arg13_r0), ∀ a, (k0_off39 arg13_r0) a + S1x16x512.size a ≤ S2x16x512.size a := fun arg13_r0 k0_hw2 => k0_hw2.1
theorem k0_off47_inb : ∀ (arg13_r0 : BitVec 32) (k0_hw2 : k0_chk2 arg13_r0), ∀ a, (k0_off47 arg13_r0) a + S1x16x512.size a ≤ S2x16x512.size a := fun arg13_r0 k0_hw2 => k0_hw2.2

def k0_off48 (arg11_r0 : BitVec 32) : Fin 3 → Nat :=
  let c2_i32_192_r0 : BitVec 32 := 2#32
  let v232_r0 : BitVec 32 := Scalar.remui arg11_r0 c2_i32_192_r0
  let c0_i32_253_r0 : BitVec 32 := 0#32
  let c0_i32_254_r0 : BitVec 32 := 0#32
  ![v232_r0.toNat, 0, 0]

def k0_chk3 (arg11_r0 : BitVec 32) : Prop :=
  (∀ a, (k0_off40 arg11_r0) a + S1x16x512.size a ≤ S2x16x512.size a) ∧
  (∀ a, (k0_off48 arg11_r0) a + S1x16x512.size a ≤ S2x16x512.size a)
theorem k0_off40_inb : ∀ (arg11_r0 : BitVec 32) (k0_hw3 : k0_chk3 arg11_r0), ∀ a, (k0_off40 arg11_r0) a + S1x16x512.size a ≤ S2x16x512.size a := fun arg11_r0 k0_hw3 => k0_hw3.1
theorem k0_off48_inb : ∀ (arg11_r0 : BitVec 32) (k0_hw3 : k0_chk3 arg11_r0), ∀ a, (k0_off48 arg11_r0) a + S1x16x512.size a ≤ S2x16x512.size a := fun arg11_r0 k0_hw3 => k0_hw3.2

def k0_off49 (arg9_r0 : BitVec 32) : Fin 3 → Nat :=
  let c2_i32_191_r0 : BitVec 32 := 2#32
  let v231_r0 : BitVec 32 := Scalar.remui arg9_r0 c2_i32_191_r0
  let c0_i32_257_r0 : BitVec 32 := 0#32
  let c0_i32_258_r0 : BitVec 32 := 0#32
  ![v231_r0.toNat, 0, 0]

def k0_chk4 (arg9_r0 : BitVec 32) : Prop :=
  (∀ a, (k0_off41 arg9_r0) a + S1x16x512.size a ≤ S2x16x512.size a) ∧
  (∀ a, (k0_off49 arg9_r0) a + S1x16x512.size a ≤ S2x16x512.size a)
theorem k0_off41_inb : ∀ (arg9_r0 : BitVec 32) (k0_hw4 : k0_chk4 arg9_r0), ∀ a, (k0_off41 arg9_r0) a + S1x16x512.size a ≤ S2x16x512.size a := fun arg9_r0 k0_hw4 => k0_hw4.1
theorem k0_off49_inb : ∀ (arg9_r0 : BitVec 32) (k0_hw4 : k0_chk4 arg9_r0), ∀ a, (k0_off49 arg9_r0) a + S1x16x512.size a ≤ S2x16x512.size a := fun arg9_r0 k0_hw4 => k0_hw4.2

def k0_off50 (arg15_r0 : BitVec 32) : Fin 3 → Nat :=
  let c2_i32_194_r0 : BitVec 32 := 2#32
  let v234_r0 : BitVec 32 := Scalar.remui arg15_r0 c2_i32_194_r0
  let c0_i32_261_r0 : BitVec 32 := 0#32
  let c0_i32_262_r0 : BitVec 32 := 0#32
  ![v234_r0.toNat, 0, 0]

def k0_chk5 (arg15_r0 : BitVec 32) : Prop :=
  (∀ a, (k0_off42 arg15_r0) a + S1x16x1024.size a ≤ S2x16x1024.size a) ∧
  (∀ a, (k0_off50 arg15_r0) a + S1x16x1024.size a ≤ S2x16x1024.size a)
theorem k0_off42_inb : ∀ (arg15_r0 : BitVec 32) (k0_hw5 : k0_chk5 arg15_r0), ∀ a, (k0_off42 arg15_r0) a + S1x16x1024.size a ≤ S2x16x1024.size a := fun arg15_r0 k0_hw5 => k0_hw5.1
theorem k0_off50_inb : ∀ (arg15_r0 : BitVec 32) (k0_hw5 : k0_chk5 arg15_r0), ∀ a, (k0_off50 arg15_r0) a + S1x16x1024.size a ≤ S2x16x1024.size a := fun arg15_r0 k0_hw5 => k0_hw5.2

def k0_off51 (arg17_r0 : BitVec 32) : Fin 5 → Nat :=
  let c3_i32_195_r0 : BitVec 32 := 3#32
  let v235_r0 : BitVec 32 := Scalar.remui arg17_r0 c3_i32_195_r0
  let c0_i32_264_r0 : BitVec 32 := 0#32
  let c0_i32_265_r0 : BitVec 32 := 0#32
  let c0_i32_266_r0 : BitVec 32 := 0#32
  let c0_i32_267_r0 : BitVec 32 := 0#32
  ![v235_r0.toNat, 0, 0, 0, 0]

def k0_chk6 (arg17_r0 : BitVec 32) : Prop :=
  (∀ a, (k0_off43 arg17_r0) a + S1x16x4x128x256.size a ≤ S3x16x4x128x256.size a) ∧
  (∀ a, (k0_off45 arg17_r0) a + S1x16x4x128x256.size a ≤ S3x16x4x128x256.size a) ∧
  (∀ a, (k0_off51 arg17_r0) a + S1x16x4x128x256.size a ≤ S3x16x4x128x256.size a)
theorem k0_off43_inb : ∀ (arg17_r0 : BitVec 32) (k0_hw6 : k0_chk6 arg17_r0), ∀ a, (k0_off43 arg17_r0) a + S1x16x4x128x256.size a ≤ S3x16x4x128x256.size a := fun arg17_r0 k0_hw6 => k0_hw6.1
theorem k0_off45_inb : ∀ (arg17_r0 : BitVec 32) (k0_hw6 : k0_chk6 arg17_r0), ∀ a, (k0_off45 arg17_r0) a + S1x16x4x128x256.size a ≤ S3x16x4x128x256.size a := fun arg17_r0 k0_hw6 => k0_hw6.2.1
theorem k0_off51_inb : ∀ (arg17_r0 : BitVec 32) (k0_hw6 : k0_chk6 arg17_r0), ∀ a, (k0_off51 arg17_r0) a + S1x16x4x128x256.size a ≤ S3x16x4x128x256.size a := fun arg17_r0 k0_hw6 => k0_hw6.2.2

def k0_off52 (arg18_r0 : BitVec 32) : Fin 5 → Nat :=
  let c2_i32_196_r0 : BitVec 32 := 2#32
  let v236_r0 : BitVec 32 := Scalar.remui arg18_r0 c2_i32_196_r0
  let c0_i32_271_r0 : BitVec 32 := 0#32
  let c0_i32_272_r0 : BitVec 32 := 0#32
  let c0_i32_273_r0 : BitVec 32 := 0#32
  let c0_i32_274_r0 : BitVec 32 := 0#32
  ![v236_r0.toNat, 0, 0, 0, 0]

def k0_chk7 (arg18_r0 : BitVec 32) : Prop :=
  (∀ a, (k0_off44 arg18_r0) a + S1x16x4x128x256.size a ≤ S2x16x4x128x256.size a) ∧
  (∀ a, (k0_off52 arg18_r0) a + S1x16x4x128x256.size a ≤ S2x16x4x128x256.size a)
theorem k0_off44_inb : ∀ (arg18_r0 : BitVec 32) (k0_hw7 : k0_chk7 arg18_r0), ∀ a, (k0_off44 arg18_r0) a + S1x16x4x128x256.size a ≤ S2x16x4x128x256.size a := fun arg18_r0 k0_hw7 => k0_hw7.1
theorem k0_off52_inb : ∀ (arg18_r0 : BitVec 32) (k0_hw7 : k0_chk7 arg18_r0), ∀ a, (k0_off52 arg18_r0) a + S1x16x4x128x256.size a ≤ S2x16x4x128x256.size a := fun arg18_r0 k0_hw7 => k0_hw7.2

def k0_off53 (arg18_r0 : BitVec 32) : Fin 1 → Nat :=
  let c2_i32_3679_r0 : BitVec 32 := 2#32
  let v4123_r0 : BitVec 32 := Scalar.remui arg18_r0 c2_i32_3679_r0
  ![v4123_r0.toNat]
def k0_cond19 (k0_t1 : Fin k0_t1_loop.trips) (arg22_r0 : BitVec 32) : BitVec 1 :=
  let c0_i32_123_r0 : BitVec 32 := 0#32
  let v110_r0 : BitVec 32 := Scalar.addi arg22_r0 c0_i32_123_r0
  let true_130_r0 : BitVec 1 := 1#1
  let c1_i32_129_r0 : BitVec 32 := 1#32
  let v116_r0 : BitVec 32 := Scalar.addi arg22_r0 c1_i32_129_r0
  let v117_r0 : BitVec 32 := Scalar.select true_130_r0 v116_r0 arg22_r0
  let c8_i32_131_r0 : BitVec 32 := 8#32
  let v118_r0 : BitVec 1 := Scalar.cmpi .eq v117_r0 c8_i32_131_r0
  let c0_i32_132_r0 : BitVec 32 := 0#32
  let v119_r0 : BitVec 32 := Scalar.select v118_r0 c0_i32_132_r0 v117_r0
  let c0_i32_133_r0 : BitVec 32 := 0#32
  let v120_r0 : BitVec 32 := Scalar.addi v119_r0 c0_i32_133_r0
  let v4039_r0 : BitVec 1 := Scalar.cmpi .ne v110_r0 v120_r0
  let c0_i32_79_r0 : BitVec 32 := 0#32
  let c1_i32_81_r0 : BitVec 32 := 1#32
  let arg7_r0 : BitVec 32 := Scf.iv c0_i32_79_r0 c1_i32_81_r0 k0_t1
  let c7_i32_122_r0 : BitVec 32 := 7#32
  let v109_r0 : BitVec 1 := Scalar.cmpi .eq arg7_r0 c7_i32_122_r0
  let v4040_r0 : BitVec 1 := Scalar.ori v4039_r0 v109_r0
  let v4041_r0 : BitVec 32 := Scalar.extui v4040_r0
  let c0_i32_3641_r0 : BitVec 32 := 0#32
  let v4042_r0 : BitVec 1 := Scalar.cmpi .ne v4041_r0 c0_i32_3641_r0
  v4042_r0

def k0_off54 (arg22_r0 : BitVec 32) : Fin 4 → Nat :=
  let c16_i32_3680_r0 : BitVec 32 := 16#32
  let c0_i32_123_r0 : BitVec 32 := 0#32
  let v110_r0 : BitVec 32 := Scalar.addi arg22_r0 c0_i32_123_r0
  let v4124_r0 : BitVec 32 := Scalar.muli c16_i32_3680_r0 v110_r0
  let c0_i32_3681_r0 : BitVec 32 := 0#32
  let c0_i32_3682_r0 : BitVec 32 := 0#32
  let c0_i32_3683_r0 : BitVec 32 := 0#32
  ![v4124_r0.toNat, 0, 0, 0]
def k0_off55 (arg18_r0 : BitVec 32) : Fin 5 → Nat :=
  let c2_i32_3679_r0 : BitVec 32 := 2#32
  let v4123_r0 : BitVec 32 := Scalar.remui arg18_r0 c2_i32_3679_r0
  let c0_i32_3684_r0 : BitVec 32 := 0#32
  let c0_i32_3685_r0 : BitVec 32 := 0#32
  let c0_i32_3686_r0 : BitVec 32 := 0#32
  let c0_i32_3687_r0 : BitVec 32 := 0#32
  ![v4123_r0.toNat, 0, 0, 0, 0]
def k0_off56 (arg20_r0 : BitVec 32) : Fin 1 → Nat :=
  let c2_i32_3679_r0 : BitVec 32 := 2#32
  let v4123_r0 : BitVec 32 := Scalar.remui arg20_r0 c2_i32_3679_r0
  ![v4123_r0.toNat]
def k0_cond20 (k0_t1 : Fin k0_t1_loop.trips) (arg22_r0 : BitVec 32) : BitVec 1 :=
  let c0_i32_123_r0 : BitVec 32 := 0#32
  let v110_r0 : BitVec 32 := Scalar.addi arg22_r0 c0_i32_123_r0
  let true_130_r0 : BitVec 1 := 1#1
  let c1_i32_129_r0 : BitVec 32 := 1#32
  let v116_r0 : BitVec 32 := Scalar.addi arg22_r0 c1_i32_129_r0
  let v117_r0 : BitVec 32 := Scalar.select true_130_r0 v116_r0 arg22_r0
  let c8_i32_131_r0 : BitVec 32 := 8#32
  let v118_r0 : BitVec 1 := Scalar.cmpi .eq v117_r0 c8_i32_131_r0
  let c0_i32_132_r0 : BitVec 32 := 0#32
  let v119_r0 : BitVec 32 := Scalar.select v118_r0 c0_i32_132_r0 v117_r0
  let c0_i32_133_r0 : BitVec 32 := 0#32
  let v120_r0 : BitVec 32 := Scalar.addi v119_r0 c0_i32_133_r0
  let v4046_r0 : BitVec 1 := Scalar.cmpi .ne v110_r0 v120_r0
  let c0_i32_79_r0 : BitVec 32 := 0#32
  let c1_i32_81_r0 : BitVec 32 := 1#32
  let arg7_r0 : BitVec 32 := Scf.iv c0_i32_79_r0 c1_i32_81_r0 k0_t1
  let c7_i32_122_r0 : BitVec 32 := 7#32
  let v109_r0 : BitVec 1 := Scalar.cmpi .eq arg7_r0 c7_i32_122_r0
  let v4047_r0 : BitVec 1 := Scalar.ori v4046_r0 v109_r0
  let v4048_r0 : BitVec 32 := Scalar.extui v4047_r0
  let c0_i32_3644_r0 : BitVec 32 := 0#32
  let v4049_r0 : BitVec 1 := Scalar.cmpi .ne v4048_r0 c0_i32_3644_r0
  v4049_r0

def k0_off57 (arg22_r0 : BitVec 32) : Fin 2 → Nat :=
  let c16_i32_3680_r0 : BitVec 32 := 16#32
  let c0_i32_123_r0 : BitVec 32 := 0#32
  let v110_r0 : BitVec 32 := Scalar.addi arg22_r0 c0_i32_123_r0
  let v4124_r0 : BitVec 32 := Scalar.muli c16_i32_3680_r0 v110_r0
  let c0_i32_3681_r0 : BitVec 32 := 0#32
  ![v4124_r0.toNat, 0]
def k0_off58 (arg20_r0 : BitVec 32) : Fin 3 → Nat :=
  let c2_i32_3679_r0 : BitVec 32 := 2#32
  let v4123_r0 : BitVec 32 := Scalar.remui arg20_r0 c2_i32_3679_r0
  let c0_i32_3682_r0 : BitVec 32 := 0#32
  let c0_i32_3683_r0 : BitVec 32 := 0#32
  ![v4123_r0.toNat, 0, 0]
def k0_off59 (arg19_r0 : BitVec 32) : Fin 1 → Nat :=
  let c2_i32_3679_r0 : BitVec 32 := 2#32
  let v4123_r0 : BitVec 32 := Scalar.remui arg19_r0 c2_i32_3679_r0
  ![v4123_r0.toNat]
def k0_cond26 (k0_t1 : Fin k0_t1_loop.trips) (arg22_r0 : BitVec 32) : BitVec 1 :=
  let c0_i32_123_r0 : BitVec 32 := 0#32
  let v110_r0 : BitVec 32 := Scalar.addi arg22_r0 c0_i32_123_r0
  let true_125_r0 : BitVec 1 := 1#1
  let c1_i32_124_r0 : BitVec 32 := 1#32
  let v111_r0 : BitVec 32 := Scalar.subi arg22_r0 c1_i32_124_r0
  let v112_r0 : BitVec 32 := Scalar.select true_125_r0 v111_r0 arg22_r0
  let c_m1_i32_126_r0 : BitVec 32 := 4294967295#32
  let v113_r0 : BitVec 1 := Scalar.cmpi .eq v112_r0 c_m1_i32_126_r0
  let c7_i32_127_r0 : BitVec 32 := 7#32
  let v114_r0 : BitVec 32 := Scalar.select v113_r0 c7_i32_127_r0 v112_r0
  let c0_i32_128_r0 : BitVec 32 := 0#32
  let v115_r0 : BitVec 32 := Scalar.addi v114_r0 c0_i32_128_r0
  let v4083_r0 : BitVec 1 := Scalar.cmpi .ne v110_r0 v115_r0
  let c0_i32_79_r0 : BitVec 32 := 0#32
  let c1_i32_81_r0 : BitVec 32 := 1#32
  let arg7_r0 : BitVec 32 := Scf.iv c0_i32_79_r0 c1_i32_81_r0 k0_t1
  let c0_i32_121_r0 : BitVec 32 := 0#32
  let v108_r0 : BitVec 1 := Scalar.cmpi .eq arg7_r0 c0_i32_121_r0
  let true_3662_r0 : BitVec 1 := 1#1
  let v4084_r0 : BitVec 1 := Scalar.xori v108_r0 true_3662_r0
  let v4085_r0 : BitVec 1 := Scalar.andi v4083_r0 v4084_r0
  let v4086_r0 : BitVec 32 := Scalar.extui v4085_r0
  let c0_i32_3663_r0 : BitVec 32 := 0#32
  let v4087_r0 : BitVec 1 := Scalar.cmpi .ne v4086_r0 c0_i32_3663_r0
  v4087_r0

def k0_off60 (arg22_r0 : BitVec 32) : Fin 4 → Nat :=
  let c16_i32_3680_r0 : BitVec 32 := 16#32
  let true_125_r0 : BitVec 1 := 1#1
  let c1_i32_124_r0 : BitVec 32 := 1#32
  let v111_r0 : BitVec 32 := Scalar.subi arg22_r0 c1_i32_124_r0
  let v112_r0 : BitVec 32 := Scalar.select true_125_r0 v111_r0 arg22_r0
  let c_m1_i32_126_r0 : BitVec 32 := 4294967295#32
  let v113_r0 : BitVec 1 := Scalar.cmpi .eq v112_r0 c_m1_i32_126_r0
  let c7_i32_127_r0 : BitVec 32 := 7#32
  let v114_r0 : BitVec 32 := Scalar.select v113_r0 c7_i32_127_r0 v112_r0
  let c0_i32_128_r0 : BitVec 32 := 0#32
  let v115_r0 : BitVec 32 := Scalar.addi v114_r0 c0_i32_128_r0
  let v4124_r0 : BitVec 32 := Scalar.muli c16_i32_3680_r0 v115_r0
  let c0_i32_3681_r0 : BitVec 32 := 0#32
  let c0_i32_3682_r0 : BitVec 32 := 0#32
  let c0_i32_3683_r0 : BitVec 32 := 0#32
  ![v4124_r0.toNat, 0, 0, 0]
def k0_off61 (arg19_r0 : BitVec 32) : Fin 5 → Nat :=
  let c2_i32_3679_r0 : BitVec 32 := 2#32
  let v4123_r0 : BitVec 32 := Scalar.remui arg19_r0 c2_i32_3679_r0
  let c0_i32_3684_r0 : BitVec 32 := 0#32
  let c0_i32_3685_r0 : BitVec 32 := 0#32
  let c0_i32_3686_r0 : BitVec 32 := 0#32
  let c0_i32_3687_r0 : BitVec 32 := 0#32
  ![v4123_r0.toNat, 0, 0, 0, 0]
def k0_off62 (arg21_r0 : BitVec 32) : Fin 1 → Nat :=
  let c2_i32_3679_r0 : BitVec 32 := 2#32
  let v4123_r0 : BitVec 32 := Scalar.remui arg21_r0 c2_i32_3679_r0
  ![v4123_r0.toNat]
def k0_cond27 (k0_t1 : Fin k0_t1_loop.trips) (arg22_r0 : BitVec 32) : BitVec 1 :=
  let c0_i32_123_r0 : BitVec 32 := 0#32
  let v110_r0 : BitVec 32 := Scalar.addi arg22_r0 c0_i32_123_r0
  let true_125_r0 : BitVec 1 := 1#1
  let c1_i32_124_r0 : BitVec 32 := 1#32
  let v111_r0 : BitVec 32 := Scalar.subi arg22_r0 c1_i32_124_r0
  let v112_r0 : BitVec 32 := Scalar.select true_125_r0 v111_r0 arg22_r0
  let c_m1_i32_126_r0 : BitVec 32 := 4294967295#32
  let v113_r0 : BitVec 1 := Scalar.cmpi .eq v112_r0 c_m1_i32_126_r0
  let c7_i32_127_r0 : BitVec 32 := 7#32
  let v114_r0 : BitVec 32 := Scalar.select v113_r0 c7_i32_127_r0 v112_r0
  let c0_i32_128_r0 : BitVec 32 := 0#32
  let v115_r0 : BitVec 32 := Scalar.addi v114_r0 c0_i32_128_r0
  let v4091_r0 : BitVec 1 := Scalar.cmpi .ne v110_r0 v115_r0
  let c0_i32_79_r0 : BitVec 32 := 0#32
  let c1_i32_81_r0 : BitVec 32 := 1#32
  let arg7_r0 : BitVec 32 := Scf.iv c0_i32_79_r0 c1_i32_81_r0 k0_t1
  let c0_i32_121_r0 : BitVec 32 := 0#32
  let v108_r0 : BitVec 1 := Scalar.cmpi .eq arg7_r0 c0_i32_121_r0
  let true_3666_r0 : BitVec 1 := 1#1
  let v4092_r0 : BitVec 1 := Scalar.xori v108_r0 true_3666_r0
  let v4093_r0 : BitVec 1 := Scalar.andi v4091_r0 v4092_r0
  let v4094_r0 : BitVec 32 := Scalar.extui v4093_r0
  let c0_i32_3667_r0 : BitVec 32 := 0#32
  let v4095_r0 : BitVec 1 := Scalar.cmpi .ne v4094_r0 c0_i32_3667_r0
  v4095_r0

def k0_off63 (arg22_r0 : BitVec 32) : Fin 2 → Nat :=
  let c16_i32_3680_r0 : BitVec 32 := 16#32
  let true_125_r0 : BitVec 1 := 1#1
  let c1_i32_124_r0 : BitVec 32 := 1#32
  let v111_r0 : BitVec 32 := Scalar.subi arg22_r0 c1_i32_124_r0
  let v112_r0 : BitVec 32 := Scalar.select true_125_r0 v111_r0 arg22_r0
  let c_m1_i32_126_r0 : BitVec 32 := 4294967295#32
  let v113_r0 : BitVec 1 := Scalar.cmpi .eq v112_r0 c_m1_i32_126_r0
  let c7_i32_127_r0 : BitVec 32 := 7#32
  let v114_r0 : BitVec 32 := Scalar.select v113_r0 c7_i32_127_r0 v112_r0
  let c0_i32_128_r0 : BitVec 32 := 0#32
  let v115_r0 : BitVec 32 := Scalar.addi v114_r0 c0_i32_128_r0
  let v4124_r0 : BitVec 32 := Scalar.muli c16_i32_3680_r0 v115_r0
  let c0_i32_3681_r0 : BitVec 32 := 0#32
  ![v4124_r0.toNat, 0]
def k0_off64 (arg21_r0 : BitVec 32) : Fin 3 → Nat :=
  let c2_i32_3679_r0 : BitVec 32 := 2#32
  let v4123_r0 : BitVec 32 := Scalar.remui arg21_r0 c2_i32_3679_r0
  let c0_i32_3682_r0 : BitVec 32 := 0#32
  let c0_i32_3683_r0 : BitVec 32 := 0#32
  ![v4123_r0.toNat, 0, 0]

def k0_chk1_0 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) : Prop :=
  (∀ (k0_h2 : k0_cond2 k0_t1 arg22_r0 = 1#1), ∀ a, (k0_off9 arg8_r0) a + S1.size a ≤ S2.size a) ∧
  (∀ (k0_h2 : k0_cond2 k0_t1 arg22_r0 = 1#1), ∀ a, (k0_off10 arg8_r0) a + S1x16x512.size a ≤ S2x16x512.size a) ∧
  (∀ (k0_h2 : k0_cond2 k0_t1 arg22_r0 = 1#1), ∀ a, (k0_off11 arg22_r0) a + S16x512.size a ≤ S128x512.size a) ∧
  (∀ (k0_h3 : k0_cond3 k0_t1 arg22_r0 = 1#1), ∀ a, (k0_off12 arg10_r0) a + S1.size a ≤ S2.size a) ∧
  (∀ (k0_h3 : k0_cond3 k0_t1 arg22_r0 = 1#1), ∀ a, (k0_off13 arg10_r0) a + S1x16x512.size a ≤ S2x16x512.size a) ∧
  (∀ (k0_h3 : k0_cond3 k0_t1 arg22_r0 = 1#1), ∀ a, (k0_off14 arg22_r0) a + S16x512.size a ≤ S128x512.size a) ∧
  (∀ (k0_h4 : k0_cond4 k0_t1 arg22_r0 = 1#1), ∀ a, (k0_off15 arg12_r0) a + S1.size a ≤ S2.size a) ∧
  (∀ (k0_h4 : k0_cond4 k0_t1 arg22_r0 = 1#1), ∀ a, (k0_off16 arg12_r0) a + S1x16x512.size a ≤ S2x16x512.size a) ∧
  (∀ (k0_h4 : k0_cond4 k0_t1 arg22_r0 = 1#1), ∀ a, (k0_off17 arg22_r0) a + S16x512.size a ≤ S128x512.size a) ∧
  (∀ (k0_h5 : k0_cond5 k0_t1 arg22_r0 = 1#1), ∀ a, (k0_off18 arg14_r0) a + S1.size a ≤ S2.size a) ∧
  (∀ (k0_h5 : k0_cond5 k0_t1 arg22_r0 = 1#1), ∀ a, (k0_off19 arg14_r0) a + S1x16x1024.size a ≤ S2x16x1024.size a) ∧
  (∀ (k0_h5 : k0_cond5 k0_t1 arg22_r0 = 1#1), ∀ a, (k0_off20 arg22_r0) a + S16x1024.size a ≤ S128x1024.size a) ∧
  (∀ (k0_h6 : k0_cond6 k0_t1 arg22_r0 = 1#1), ∀ a, (k0_off21 arg16_r0) a + S1.size a ≤ S3.size a) ∧
  (∀ (k0_h6 : k0_cond6 k0_t1 arg22_r0 = 1#1), ∀ a, (k0_off22 arg16_r0) a + S1x16x4x128x256.size a ≤ S3x16x4x128x256.size a) ∧
  (∀ (k0_h6 : k0_cond6 k0_t1 arg22_r0 = 1#1), ∀ a, (k0_off23 arg22_r0) a + S16x4x128x256.size a ≤ S128x4x128x256.size a) ∧
  (∀ (k0_h7 : k0_cond7 k0_t1 arg22_r0 = 1#1), ∀ a, (k0_off24 arg9_r0) a + S1.size a ≤ S2.size a) ∧
  (∀ (k0_h7 : k0_cond7 k0_t1 arg22_r0 = 1#1), ∀ a, (k0_off25 arg9_r0) a + S1x16x512.size a ≤ S2x16x512.size a) ∧
  (∀ (k0_h7 : k0_cond7 k0_t1 arg22_r0 = 1#1), ∀ a, (k0_off26 arg22_r0) a + S16x512.size a ≤ S128x512.size a) ∧
  (∀ (k0_h8 : k0_cond8 k0_t1 arg22_r0 = 1#1), ∀ a, (k0_off27 arg11_r0) a + S1.size a ≤ S2.size a) ∧
  (∀ (k0_h8 : k0_cond8 k0_t1 arg22_r0 = 1#1), ∀ a, (k0_off28 arg11_r0) a + S1x16x512.size a ≤ S2x16x512.size a) ∧
  (∀ (k0_h8 : k0_cond8 k0_t1 arg22_r0 = 1#1), ∀ a, (k0_off29 arg22_r0) a + S16x512.size a ≤ S128x512.size a) ∧
  (∀ (k0_h9 : k0_cond9 k0_t1 arg22_r0 = 1#1), ∀ a, (k0_off30 arg13_r0) a + S1.size a ≤ S2.size a) ∧
  (∀ (k0_h9 : k0_cond9 k0_t1 arg22_r0 = 1#1), ∀ a, (k0_off31 arg13_r0) a + S1x16x512.size a ≤ S2x16x512.size a) ∧
  (∀ (k0_h9 : k0_cond9 k0_t1 arg22_r0 = 1#1), ∀ a, (k0_off32 arg22_r0) a + S16x512.size a ≤ S128x512.size a) ∧
  (∀ (k0_h10 : k0_cond10 k0_t1 arg22_r0 = 1#1), ∀ a, (k0_off33 arg15_r0) a + S1.size a ≤ S2.size a) ∧
  (∀ (k0_h10 : k0_cond10 k0_t1 arg22_r0 = 1#1), ∀ a, (k0_off34 arg15_r0) a + S1x16x1024.size a ≤ S2x16x1024.size a) ∧
  (∀ (k0_h10 : k0_cond10 k0_t1 arg22_r0 = 1#1), ∀ a, (k0_off35 arg22_r0) a + S16x1024.size a ≤ S128x1024.size a) ∧
  (∀ (k0_h11 : k0_cond11 k0_t1 arg22_r0 = 1#1), ∀ a, (k0_off36 arg17_r0) a + S1.size a ≤ S3.size a) ∧
  (∀ (k0_h11 : k0_cond11 k0_t1 arg22_r0 = 1#1), ∀ a, (k0_off37 arg17_r0) a + S1x16x4x128x256.size a ≤ S3x16x4x128x256.size a) ∧
  (∀ (k0_h11 : k0_cond11 k0_t1 arg22_r0 = 1#1), ∀ a, (k0_off38 arg22_r0) a + S16x4x128x256.size a ≤ S128x4x128x256.size a) ∧
  (∀ (k0_h19 : k0_cond19 k0_t1 arg22_r0 = 1#1), ∀ a, (k0_off53 arg18_r0) a + S1.size a ≤ S2.size a) ∧
  (∀ (k0_h19 : k0_cond19 k0_t1 arg22_r0 = 1#1), ∀ a, (k0_off54 arg22_r0) a + S16x4x128x256.size a ≤ S128x4x128x256.size a)
def k0_chk1_1 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) : Prop :=
  (∀ (k0_h19 : k0_cond19 k0_t1 arg22_r0 = 1#1), ∀ a, (k0_off55 arg18_r0) a + S1x16x4x128x256.size a ≤ S2x16x4x128x256.size a) ∧
  (∀ (k0_h20 : k0_cond20 k0_t1 arg22_r0 = 1#1), ∀ a, (k0_off56 arg20_r0) a + S1.size a ≤ S2.size a) ∧
  (∀ (k0_h20 : k0_cond20 k0_t1 arg22_r0 = 1#1), ∀ a, (k0_off57 arg22_r0) a + S16x1024.size a ≤ S128x1024.size a) ∧
  (∀ (k0_h20 : k0_cond20 k0_t1 arg22_r0 = 1#1), ∀ a, (k0_off58 arg20_r0) a + S1x16x1024.size a ≤ S2x16x1024.size a) ∧
  (∀ (k0_h26 : k0_cond26 k0_t1 arg22_r0 = 1#1), ∀ a, (k0_off59 arg19_r0) a + S1.size a ≤ S2.size a) ∧
  (∀ (k0_h26 : k0_cond26 k0_t1 arg22_r0 = 1#1), ∀ a, (k0_off60 arg22_r0) a + S16x4x128x256.size a ≤ S128x4x128x256.size a) ∧
  (∀ (k0_h26 : k0_cond26 k0_t1 arg22_r0 = 1#1), ∀ a, (k0_off61 arg19_r0) a + S1x16x4x128x256.size a ≤ S2x16x4x128x256.size a) ∧
  (∀ (k0_h27 : k0_cond27 k0_t1 arg22_r0 = 1#1), ∀ a, (k0_off62 arg21_r0) a + S1.size a ≤ S2.size a) ∧
  (∀ (k0_h27 : k0_cond27 k0_t1 arg22_r0 = 1#1), ∀ a, (k0_off63 arg22_r0) a + S16x1024.size a ≤ S128x1024.size a) ∧
  (∀ (k0_h27 : k0_cond27 k0_t1 arg22_r0 = 1#1), ∀ a, (k0_off64 arg21_r0) a + S1x16x1024.size a ≤ S2x16x1024.size a)
def k0_chk1 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) : Prop :=
  k0_chk1_0 k0_t1 arg8_r0 arg9_r0 arg10_r0 arg11_r0 arg12_r0 arg13_r0 arg14_r0 arg15_r0 arg16_r0 arg17_r0 arg18_r0 arg19_r0 arg20_r0 arg21_r0 arg22_r0 ∧
  k0_chk1_1 k0_t1 arg8_r0 arg9_r0 arg10_r0 arg11_r0 arg12_r0 arg13_r0 arg14_r0 arg15_r0 arg16_r0 arg17_r0 arg18_r0 arg19_r0 arg20_r0 arg21_r0 arg22_r0
theorem k0_off9_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h2 : k0_cond2 k0_t1 arg22_r0 = 1#1), ∀ a, (k0_off9 arg8_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h2 => k0_hw1.1.1 k0_h2
theorem k0_off10_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h2 : k0_cond2 k0_t1 arg22_r0 = 1#1), ∀ a, (k0_off10 arg8_r0) a + S1x16x512.size a ≤ S2x16x512.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h2 => k0_hw1.1.2.1 k0_h2
theorem k0_off11_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h2 : k0_cond2 k0_t1 arg22_r0 = 1#1), ∀ a, (k0_off11 arg22_r0) a + S16x512.size a ≤ S128x512.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h2 => k0_hw1.1.2.2.1 k0_h2
theorem k0_off12_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h3 : k0_cond3 k0_t1 arg22_r0 = 1#1), ∀ a, (k0_off12 arg10_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h3 => k0_hw1.1.2.2.2.1 k0_h3
theorem k0_off13_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h3 : k0_cond3 k0_t1 arg22_r0 = 1#1), ∀ a, (k0_off13 arg10_r0) a + S1x16x512.size a ≤ S2x16x512.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h3 => k0_hw1.1.2.2.2.2.1 k0_h3
theorem k0_off14_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h3 : k0_cond3 k0_t1 arg22_r0 = 1#1), ∀ a, (k0_off14 arg22_r0) a + S16x512.size a ≤ S128x512.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h3 => k0_hw1.1.2.2.2.2.2.1 k0_h3
theorem k0_off15_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h4 : k0_cond4 k0_t1 arg22_r0 = 1#1), ∀ a, (k0_off15 arg12_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h4 => k0_hw1.1.2.2.2.2.2.2.1 k0_h4
theorem k0_off16_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h4 : k0_cond4 k0_t1 arg22_r0 = 1#1), ∀ a, (k0_off16 arg12_r0) a + S1x16x512.size a ≤ S2x16x512.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h4 => k0_hw1.1.2.2.2.2.2.2.2.1 k0_h4
theorem k0_off17_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h4 : k0_cond4 k0_t1 arg22_r0 = 1#1), ∀ a, (k0_off17 arg22_r0) a + S16x512.size a ≤ S128x512.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h4 => k0_hw1.1.2.2.2.2.2.2.2.2.1 k0_h4
theorem k0_off18_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h5 : k0_cond5 k0_t1 arg22_r0 = 1#1), ∀ a, (k0_off18 arg14_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h5 => k0_hw1.1.2.2.2.2.2.2.2.2.2.1 k0_h5
theorem k0_off19_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h5 : k0_cond5 k0_t1 arg22_r0 = 1#1), ∀ a, (k0_off19 arg14_r0) a + S1x16x1024.size a ≤ S2x16x1024.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h5 => k0_hw1.1.2.2.2.2.2.2.2.2.2.2.1 k0_h5
theorem k0_off20_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h5 : k0_cond5 k0_t1 arg22_r0 = 1#1), ∀ a, (k0_off20 arg22_r0) a + S16x1024.size a ≤ S128x1024.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h5 => k0_hw1.1.2.2.2.2.2.2.2.2.2.2.2.1 k0_h5
theorem k0_off21_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h6 : k0_cond6 k0_t1 arg22_r0 = 1#1), ∀ a, (k0_off21 arg16_r0) a + S1.size a ≤ S3.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h6 => k0_hw1.1.2.2.2.2.2.2.2.2.2.2.2.2.1 k0_h6
theorem k0_off22_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h6 : k0_cond6 k0_t1 arg22_r0 = 1#1), ∀ a, (k0_off22 arg16_r0) a + S1x16x4x128x256.size a ≤ S3x16x4x128x256.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h6 => k0_hw1.1.2.2.2.2.2.2.2.2.2.2.2.2.2.1 k0_h6
theorem k0_off23_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h6 : k0_cond6 k0_t1 arg22_r0 = 1#1), ∀ a, (k0_off23 arg22_r0) a + S16x4x128x256.size a ≤ S128x4x128x256.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h6 => k0_hw1.1.2.2.2.2.2.2.2.2.2.2.2.2.2.2.1 k0_h6
theorem k0_off24_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h7 : k0_cond7 k0_t1 arg22_r0 = 1#1), ∀ a, (k0_off24 arg9_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h7 => k0_hw1.1.2.2.2.2.2.2.2.2.2.2.2.2.2.2.2.1 k0_h7
theorem k0_off25_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h7 : k0_cond7 k0_t1 arg22_r0 = 1#1), ∀ a, (k0_off25 arg9_r0) a + S1x16x512.size a ≤ S2x16x512.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h7 => k0_hw1.1.2.2.2.2.2.2.2.2.2.2.2.2.2.2.2.2.1 k0_h7
theorem k0_off26_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h7 : k0_cond7 k0_t1 arg22_r0 = 1#1), ∀ a, (k0_off26 arg22_r0) a + S16x512.size a ≤ S128x512.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h7 => k0_hw1.1.2.2.2.2.2.2.2.2.2.2.2.2.2.2.2.2.2.1 k0_h7
theorem k0_off27_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h8 : k0_cond8 k0_t1 arg22_r0 = 1#1), ∀ a, (k0_off27 arg11_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h8 => k0_hw1.1.2.2.2.2.2.2.2.2.2.2.2.2.2.2.2.2.2.2.1 k0_h8
theorem k0_off28_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h8 : k0_cond8 k0_t1 arg22_r0 = 1#1), ∀ a, (k0_off28 arg11_r0) a + S1x16x512.size a ≤ S2x16x512.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h8 => k0_hw1.1.2.2.2.2.2.2.2.2.2.2.2.2.2.2.2.2.2.2.2.1 k0_h8
theorem k0_off29_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h8 : k0_cond8 k0_t1 arg22_r0 = 1#1), ∀ a, (k0_off29 arg22_r0) a + S16x512.size a ≤ S128x512.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h8 => k0_hw1.1.2.2.2.2.2.2.2.2.2.2.2.2.2.2.2.2.2.2.2.2.1 k0_h8
theorem k0_off30_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h9 : k0_cond9 k0_t1 arg22_r0 = 1#1), ∀ a, (k0_off30 arg13_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h9 => k0_hw1.1.2.2.2.2.2.2.2.2.2.2.2.2.2.2.2.2.2.2.2.2.2.1 k0_h9
theorem k0_off31_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h9 : k0_cond9 k0_t1 arg22_r0 = 1#1), ∀ a, (k0_off31 arg13_r0) a + S1x16x512.size a ≤ S2x16x512.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h9 => k0_hw1.1.2.2.2.2.2.2.2.2.2.2.2.2.2.2.2.2.2.2.2.2.2.2.1 k0_h9
theorem k0_off32_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h9 : k0_cond9 k0_t1 arg22_r0 = 1#1), ∀ a, (k0_off32 arg22_r0) a + S16x512.size a ≤ S128x512.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h9 => k0_hw1.1.2.2.2.2.2.2.2.2.2.2.2.2.2.2.2.2.2.2.2.2.2.2.2.1 k0_h9
theorem k0_off33_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h10 : k0_cond10 k0_t1 arg22_r0 = 1#1), ∀ a, (k0_off33 arg15_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h10 => k0_hw1.1.2.2.2.2.2.2.2.2.2.2.2.2.2.2.2.2.2.2.2.2.2.2.2.2.1 k0_h10
theorem k0_off34_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h10 : k0_cond10 k0_t1 arg22_r0 = 1#1), ∀ a, (k0_off34 arg15_r0) a + S1x16x1024.size a ≤ S2x16x1024.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h10 => k0_hw1.1.2.2.2.2.2.2.2.2.2.2.2.2.2.2.2.2.2.2.2.2.2.2.2.2.2.1 k0_h10
theorem k0_off35_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h10 : k0_cond10 k0_t1 arg22_r0 = 1#1), ∀ a, (k0_off35 arg22_r0) a + S16x1024.size a ≤ S128x1024.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h10 => k0_hw1.1.2.2.2.2.2.2.2.2.2.2.2.2.2.2.2.2.2.2.2.2.2.2.2.2.2.2.1 k0_h10
theorem k0_off36_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h11 : k0_cond11 k0_t1 arg22_r0 = 1#1), ∀ a, (k0_off36 arg17_r0) a + S1.size a ≤ S3.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h11 => k0_hw1.1.2.2.2.2.2.2.2.2.2.2.2.2.2.2.2.2.2.2.2.2.2.2.2.2.2.2.2.1 k0_h11
theorem k0_off37_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h11 : k0_cond11 k0_t1 arg22_r0 = 1#1), ∀ a, (k0_off37 arg17_r0) a + S1x16x4x128x256.size a ≤ S3x16x4x128x256.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h11 => k0_hw1.1.2.2.2.2.2.2.2.2.2.2.2.2.2.2.2.2.2.2.2.2.2.2.2.2.2.2.2.2.1 k0_h11
theorem k0_off38_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h11 : k0_cond11 k0_t1 arg22_r0 = 1#1), ∀ a, (k0_off38 arg22_r0) a + S16x4x128x256.size a ≤ S128x4x128x256.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h11 => k0_hw1.1.2.2.2.2.2.2.2.2.2.2.2.2.2.2.2.2.2.2.2.2.2.2.2.2.2.2.2.2.2.1 k0_h11
theorem k0_off53_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h19 : k0_cond19 k0_t1 arg22_r0 = 1#1), ∀ a, (k0_off53 arg18_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h19 => k0_hw1.1.2.2.2.2.2.2.2.2.2.2.2.2.2.2.2.2.2.2.2.2.2.2.2.2.2.2.2.2.2.2.1 k0_h19
theorem k0_off54_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h19 : k0_cond19 k0_t1 arg22_r0 = 1#1), ∀ a, (k0_off54 arg22_r0) a + S16x4x128x256.size a ≤ S128x4x128x256.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h19 => k0_hw1.1.2.2.2.2.2.2.2.2.2.2.2.2.2.2.2.2.2.2.2.2.2.2.2.2.2.2.2.2.2.2.2 k0_h19
theorem k0_off55_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h19 : k0_cond19 k0_t1 arg22_r0 = 1#1), ∀ a, (k0_off55 arg18_r0) a + S1x16x4x128x256.size a ≤ S2x16x4x128x256.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h19 => k0_hw1.2.1 k0_h19
theorem k0_off56_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h20 : k0_cond20 k0_t1 arg22_r0 = 1#1), ∀ a, (k0_off56 arg20_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h20 => k0_hw1.2.2.1 k0_h20
theorem k0_off57_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h20 : k0_cond20 k0_t1 arg22_r0 = 1#1), ∀ a, (k0_off57 arg22_r0) a + S16x1024.size a ≤ S128x1024.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h20 => k0_hw1.2.2.2.1 k0_h20
theorem k0_off58_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h20 : k0_cond20 k0_t1 arg22_r0 = 1#1), ∀ a, (k0_off58 arg20_r0) a + S1x16x1024.size a ≤ S2x16x1024.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h20 => k0_hw1.2.2.2.2.1 k0_h20
theorem k0_off59_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h26 : k0_cond26 k0_t1 arg22_r0 = 1#1), ∀ a, (k0_off59 arg19_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h26 => k0_hw1.2.2.2.2.2.1 k0_h26
theorem k0_off60_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h26 : k0_cond26 k0_t1 arg22_r0 = 1#1), ∀ a, (k0_off60 arg22_r0) a + S16x4x128x256.size a ≤ S128x4x128x256.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h26 => k0_hw1.2.2.2.2.2.2.1 k0_h26
theorem k0_off61_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h26 : k0_cond26 k0_t1 arg22_r0 = 1#1), ∀ a, (k0_off61 arg19_r0) a + S1x16x4x128x256.size a ≤ S2x16x4x128x256.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h26 => k0_hw1.2.2.2.2.2.2.2.1 k0_h26
theorem k0_off62_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h27 : k0_cond27 k0_t1 arg22_r0 = 1#1), ∀ a, (k0_off62 arg21_r0) a + S1.size a ≤ S2.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h27 => k0_hw1.2.2.2.2.2.2.2.2.1 k0_h27
theorem k0_off63_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h27 : k0_cond27 k0_t1 arg22_r0 = 1#1), ∀ a, (k0_off63 arg22_r0) a + S16x1024.size a ≤ S128x1024.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h27 => k0_hw1.2.2.2.2.2.2.2.2.2.1 k0_h27
theorem k0_off64_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg18_r0 arg19_r0 arg20_r0 arg21_r0 arg22_r0), ∀ (k0_h27 : k0_cond27 k0_t1 arg22_r0 = 1#1), ∀ a, (k0_off64 arg21_r0) a + S1x16x1024.size a ≤ S2x16x1024.size a := fun k0_t1 arg8_r0 arg9_r0 arg10_r0 arg11_r0 arg12_r0 arg13_r0 arg14_r0 arg15_r0 arg16_r0 arg17_r0 arg18_r0 arg19_r0 arg20_r0 arg21_r0 arg22_r0 k0_hw1 k0_h27 => k0_hw1.2.2.2.2.2.2.2.2.2.2 k0_h27

def k0_off65 (v68_11_r0 : BitVec 32) : Fin 1 → Nat :=
  let c2_i32_108_r0 : BitVec 32 := 2#32
  let v94_r0 : BitVec 32 := Scalar.remui v68_11_r0 c2_i32_108_r0
  ![v94_r0.toNat]

def k0_off66 (v68_14_r0 : BitVec 32) : Fin 4 → Nat :=
  let c16_i32_r0 : BitVec 32 := 16#32
  let true_84_r0 : BitVec 1 := 1#1
  let c1_i32_83_r0 : BitVec 32 := 1#32
  let v69_r0 : BitVec 32 := Scalar.subi v68_14_r0 c1_i32_83_r0
  let v70_r0 : BitVec 32 := Scalar.select true_84_r0 v69_r0 v68_14_r0
  let c_m1_i32_85_r0 : BitVec 32 := 4294967295#32
  let v71_r0 : BitVec 1 := Scalar.cmpi .eq v70_r0 c_m1_i32_85_r0
  let c7_i32_86_r0 : BitVec 32 := 7#32
  let v72_r0 : BitVec 32 := Scalar.select v71_r0 c7_i32_86_r0 v70_r0
  let c0_i32_87_r0 : BitVec 32 := 0#32
  let v73_r0 : BitVec 32 := Scalar.addi v72_r0 c0_i32_87_r0
  let v95_r0 : BitVec 32 := Scalar.muli c16_i32_r0 v73_r0
  let c0_i32_109_r0 : BitVec 32 := 0#32
  let c0_i32_110_r0 : BitVec 32 := 0#32
  let c0_i32_111_r0 : BitVec 32 := 0#32
  ![v95_r0.toNat, 0, 0, 0]

def k0_off67 (v68_11_r0 : BitVec 32) : Fin 5 → Nat :=
  let c2_i32_108_r0 : BitVec 32 := 2#32
  let v94_r0 : BitVec 32 := Scalar.remui v68_11_r0 c2_i32_108_r0
  let c0_i32_112_r0 : BitVec 32 := 0#32
  let c0_i32_113_r0 : BitVec 32 := 0#32
  let c0_i32_114_r0 : BitVec 32 := 0#32
  let c0_i32_115_r0 : BitVec 32 := 0#32
  ![v94_r0.toNat, 0, 0, 0, 0]

def k0_chk9 (v68_11_r0 : BitVec 32) : Prop :=
  (∀ a, (k0_off65 v68_11_r0) a + S1.size a ≤ S2.size a) ∧
  (∀ a, (k0_off67 v68_11_r0) a + S1x16x4x128x256.size a ≤ S2x16x4x128x256.size a)
theorem k0_off65_inb : ∀ (v68_11_r0 : BitVec 32) (k0_hw9 : k0_chk9 v68_11_r0), ∀ a, (k0_off65 v68_11_r0) a + S1.size a ≤ S2.size a := fun v68_11_r0 k0_hw9 => k0_hw9.1
theorem k0_off67_inb : ∀ (v68_11_r0 : BitVec 32) (k0_hw9 : k0_chk9 v68_11_r0), ∀ a, (k0_off67 v68_11_r0) a + S1x16x4x128x256.size a ≤ S2x16x4x128x256.size a := fun v68_11_r0 k0_hw9 => k0_hw9.2

def k0_off68 (v68_13_r0 : BitVec 32) : Fin 1 → Nat :=
  let c2_i32_116_r0 : BitVec 32 := 2#32
  let v101_r0 : BitVec 32 := Scalar.remui v68_13_r0 c2_i32_116_r0
  ![v101_r0.toNat]

def k0_off69 (v68_14_r0 : BitVec 32) : Fin 2 → Nat :=
  let c16_i32_117_r0 : BitVec 32 := 16#32
  let true_84_r0 : BitVec 1 := 1#1
  let c1_i32_83_r0 : BitVec 32 := 1#32
  let v69_r0 : BitVec 32 := Scalar.subi v68_14_r0 c1_i32_83_r0
  let v70_r0 : BitVec 32 := Scalar.select true_84_r0 v69_r0 v68_14_r0
  let c_m1_i32_85_r0 : BitVec 32 := 4294967295#32
  let v71_r0 : BitVec 1 := Scalar.cmpi .eq v70_r0 c_m1_i32_85_r0
  let c7_i32_86_r0 : BitVec 32 := 7#32
  let v72_r0 : BitVec 32 := Scalar.select v71_r0 c7_i32_86_r0 v70_r0
  let c0_i32_87_r0 : BitVec 32 := 0#32
  let v73_r0 : BitVec 32 := Scalar.addi v72_r0 c0_i32_87_r0
  let v102_r0 : BitVec 32 := Scalar.muli c16_i32_117_r0 v73_r0
  let c0_i32_118_r0 : BitVec 32 := 0#32
  ![v102_r0.toNat, 0]

def k0_chk10 (v68_14_r0 : BitVec 32) : Prop :=
  (∀ a, (k0_off66 v68_14_r0) a + S16x4x128x256.size a ≤ S128x4x128x256.size a) ∧
  (∀ a, (k0_off69 v68_14_r0) a + S16x1024.size a ≤ S128x1024.size a)
theorem k0_off66_inb : ∀ (v68_14_r0 : BitVec 32) (k0_hw10 : k0_chk10 v68_14_r0), ∀ a, (k0_off66 v68_14_r0) a + S16x4x128x256.size a ≤ S128x4x128x256.size a := fun v68_14_r0 k0_hw10 => k0_hw10.1
theorem k0_off69_inb : ∀ (v68_14_r0 : BitVec 32) (k0_hw10 : k0_chk10 v68_14_r0), ∀ a, (k0_off69 v68_14_r0) a + S16x1024.size a ≤ S128x1024.size a := fun v68_14_r0 k0_hw10 => k0_hw10.2

def k0_off70 (v68_13_r0 : BitVec 32) : Fin 3 → Nat :=
  let c2_i32_116_r0 : BitVec 32 := 2#32
  let v101_r0 : BitVec 32 := Scalar.remui v68_13_r0 c2_i32_116_r0
  let c0_i32_119_r0 : BitVec 32 := 0#32
  let c0_i32_120_r0 : BitVec 32 := 0#32
  ![v101_r0.toNat, 0, 0]

def k0_chk11 (v68_13_r0 : BitVec 32) : Prop :=
  (∀ a, (k0_off68 v68_13_r0) a + S1.size a ≤ S2.size a) ∧
  (∀ a, (k0_off70 v68_13_r0) a + S1x16x1024.size a ≤ S2x16x1024.size a)
theorem k0_off68_inb : ∀ (v68_13_r0 : BitVec 32) (k0_hw11 : k0_chk11 v68_13_r0), ∀ a, (k0_off68 v68_13_r0) a + S1.size a ≤ S2.size a := fun v68_13_r0 k0_hw11 => k0_hw11.1
theorem k0_off70_inb : ∀ (v68_13_r0 : BitVec 32) (k0_hw11 : k0_chk11 v68_13_r0), ∀ a, (k0_off70 v68_13_r0) a + S1x16x1024.size a ≤ S2x16x1024.size a := fun v68_13_r0 k0_hw11 => k0_hw11.2
-- ==== ReferenceIdeal.lean ====
abbrev S128x512 : Shape := ⟨2, ![128, 512]⟩
abbrev S128x1024 : Shape := ⟨2, ![128, 1024]⟩
abbrev S1x128x4x128x256 : Shape := ⟨5, ![1, 128, 4, 128, 256]⟩
abbrev S128x4x128 : Shape := ⟨3, ![128, 4, 128]⟩
abbrev S128x4x256 : Shape := ⟨3, ![128, 4, 256]⟩
abbrev S128x4x128x1 : Shape := ⟨4, ![128, 4, 128, 1]⟩
abbrev S128x4x128x256 : Shape := ⟨4, ![128, 4, 128, 256]⟩
abbrev S128x4x1x256 : Shape := ⟨4, ![128, 4, 1, 256]⟩

abbrev nBuf : Space → Nat
  | .hbm => 21
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x1024, .f32⟩
  | .hbm, ⟨4, _⟩ => ⟨S1x128x4x128x256, .f32⟩
  | .hbm, ⟨5, _⟩ => ⟨S128x4x128, .f32⟩
  | .hbm, ⟨6, _⟩ => ⟨S128x4x128, .f32⟩
  | .hbm, ⟨7, _⟩ => ⟨S128x4x128, .f32⟩
  | .hbm, ⟨8, _⟩ => ⟨S128x4x256, .f32⟩
  | .hbm, ⟨9, _⟩ => ⟨S128x4x128x1, .f32⟩
  | .hbm, ⟨10, _⟩ => ⟨S128x4x128x256, .f32⟩
  | .hbm, ⟨11, _⟩ => ⟨S128x4x128x256, .f32⟩
  | .hbm, ⟨12, _⟩ => ⟨S128x4x128x256, .f32⟩
  | .hbm, ⟨13, _⟩ => ⟨S128x4x128x1, .f32⟩
  | .hbm, ⟨14, _⟩ => ⟨S128x4x1x256, .f32⟩
  | .hbm, ⟨15, _⟩ => ⟨S128x4x128x256, .f32⟩
  | .hbm, ⟨16, _⟩ => ⟨S128x4x128x256, .f32⟩
  | .hbm, ⟨17, _⟩ => ⟨S128x4x128x256, .f32⟩
  | .hbm, ⟨18, _⟩ => ⟨S128x4x128x256, .f32⟩
  | .hbm, ⟨19, _⟩ => ⟨S128x4x256, .f32⟩
  | .hbm, ⟨20, _⟩ => ⟨S128x1024, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel2.lean ====
abbrev S8x2048x1024 : Shape := ⟨3, ![8, 2048, 1024]⟩
abbrev S2x1024 : Shape := ⟨2, ![2, 1024]⟩
abbrev S1x1024x7184 : Shape := ⟨3, ![1, 1024, 7184]⟩
abbrev S1x16x512 : Shape := ⟨3, ![1, 16, 512]⟩
abbrev S1x512 : Shape := ⟨2, ![1, 512]⟩
abbrev S1x256 : Shape := ⟨2, ![1, 256]⟩
abbrev S1x3x1024 : Shape := ⟨3, ![1, 3, 1024]⟩
abbrev S1x2048x1024 : Shape := ⟨3, ![1, 2048, 1024]⟩
abbrev S1024x7184 : Shape := ⟨2, ![1024, 7184]⟩
abbrev S7184x1024 : Shape := ⟨2, ![7184, 1024]⟩
abbrev S16x512 : Shape := ⟨2, ![16, 512]⟩
abbrev S_ : Shape := ⟨0, ![]⟩
abbrev S128x512 : Shape := ⟨2, ![128, 512]⟩
abbrev S512 : Shape := ⟨1, ![512]⟩
abbrev S256 : Shape := ⟨1, ![256]⟩
abbrev S3x1024 : Shape := ⟨2, ![3, 1024]⟩
abbrev S2048x1024 : Shape := ⟨2, ![2048, 1024]⟩
abbrev S1x1024 : Shape := ⟨2, ![1, 1024]⟩
abbrev S1024 : Shape := ⟨1, ![1024]⟩
abbrev S1x8x4x128x256 : Shape := ⟨5, ![1, 8, 4, 128, 256]⟩
abbrev S1x8x2x1024 : Shape := ⟨4, ![1, 8, 2, 1024]⟩
abbrev S1x512x1024 : Shape := ⟨3, ![1, 512, 1024]⟩
abbrev S1x1x4x128x256 : Shape := ⟨5, ![1, 1, 4, 128, 256]⟩
abbrev S1x1x2x1024 : Shape := ⟨4, ![1, 1, 2, 1024]⟩
abbrev S4x256x128 : Shape := ⟨3, ![4, 256, 128]⟩
abbrev S520x1024 : Shape := ⟨2, ![520, 1024]⟩
abbrev S512x512 : Shape := ⟨2, ![512, 512]⟩
abbrev S512x1024 : Shape := ⟨2, ![512, 1024]⟩
abbrev S8x1024 : Shape := ⟨2, ![8, 1024]⟩
abbrev S512x1 : Shape := ⟨2, ![512, 1]⟩
abbrev S1024x1024 : Shape := ⟨2, ![1024, 1024]⟩
abbrev S128x1024 : Shape := ⟨2, ![128, 1024]⟩
abbrev S512x128 : Shape := ⟨2, ![512, 128]⟩
abbrev S256x1024 : Shape := ⟨2, ![256, 1024]⟩
abbrev S512x256 : Shape := ⟨2, ![512, 256]⟩
abbrev S256x256 : Shape := ⟨2, ![256, 256]⟩
abbrev S256x512 : Shape := ⟨2, ![256, 512]⟩
abbrev S64x512 : Shape := ⟨2, ![64, 512]⟩
abbrev S1x256x128 : Shape := ⟨3, ![1, 256, 128]⟩
abbrev S256x128 : Shape := ⟨2, ![256, 128]⟩
abbrev S64x256 : Shape := ⟨2, ![64, 256]⟩
abbrev S64x128 : Shape := ⟨2, ![64, 128]⟩
abbrev S64 : Shape := ⟨1, ![64]⟩
abbrev S64x1 : Shape := ⟨2, ![64, 1]⟩
abbrev S1x128 : Shape := ⟨2, ![1, 128]⟩
abbrev S128x256 : Shape := ⟨2, ![128, 256]⟩
abbrev S1x1x1x128x256 : Shape := ⟨5, ![1, 1, 1, 128, 256]⟩

abbrev nBuf : Space → Nat
  | .hbm => 29
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x7184, .f32⟩
  | .hbm, ⟨3, _⟩ => ⟨S1x16x512, .f32⟩
  | .hbm, ⟨4, _⟩ => ⟨S1x512, .f32⟩
  | .hbm, ⟨5, _⟩ => ⟨S1x256, .f32⟩
  | .hbm, ⟨6, _⟩ => ⟨S1x3x1024, .f32⟩
  | .hbm, ⟨7, _⟩ => ⟨S1x2048x1024, .f32⟩
  | .hbm, ⟨8, _⟩ => ⟨S1024x7184, .f32⟩
  | .hbm, ⟨9, _⟩ => ⟨S7184x1024, .f32⟩
  | .hbm, ⟨10, _⟩ => ⟨S7184x1024, .bf16⟩
  | .hbm, ⟨11, _⟩ => ⟨S16x512, .f32⟩
  | .hbm, ⟨12, _⟩ => ⟨S_, .i32⟩
  | .hbm, ⟨13, _⟩ => ⟨S_, .f32⟩
  | .hbm, ⟨14, _⟩ => ⟨S128x512, .f32⟩
  | .hbm, ⟨15, _⟩ => ⟨S128x512, .bf16⟩
  | .hbm, ⟨16, _⟩ => ⟨S512, .f32⟩
  | .hbm, ⟨17, _⟩ => ⟨S1x512, .f32⟩
  | .hbm, ⟨18, _⟩ => ⟨S256, .f32⟩
  | .hbm, ⟨19, _⟩ => ⟨S1x256, .f32⟩
  | .hbm, ⟨20, _⟩ => ⟨S3x1024, .f32⟩
  | .hbm, ⟨21, _⟩ => ⟨S2048x1024, .f32⟩
  | .hbm, ⟨22, _⟩ => ⟨S2048x1024, .bf16⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S8x2048x1024, .f32⟩
  | .hbm, ⟨27, _⟩ => ⟨S1x8x4x128x256, .f32⟩
  | .hbm, ⟨28, _⟩ => ⟨S1x8x2x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S7184x1024, .bf16⟩
  | .local _ .vmem, ⟨4, _⟩ => ⟨S128x512, .bf16⟩
  | .local _ .vmem, ⟨5, _⟩ => ⟨S1x512, .f32⟩
  | .local _ .vmem, ⟨6, _⟩ => ⟨S1x256, .f32⟩
  | .local _ .vmem, ⟨7, _⟩ => ⟨S3x1024, .f32⟩
  | .local _ .vmem, ⟨8, _⟩ => ⟨S2048x1024, .bf16⟩
  | .local _ .vmem, ⟨9, _⟩ => ⟨S1x512x1024, .f32⟩
  | .local _ .vmem, ⟨10, _⟩ => ⟨S1x512x1024, .f32⟩
  | .local _ .vmem, ⟨11, _⟩ => ⟨S1x1x4x128x256, .f32⟩
  | .local _ .vmem, ⟨12, _⟩ => ⟨S1x1x4x128x256, .f32⟩
  | .local _ .vmem, ⟨13, _⟩ => ⟨S1x1x2x1024, .f32⟩
  | .local _ .vmem, ⟨14, _⟩ => ⟨S1x1x2x1024, .f32⟩
  | .local _ .vmem, ⟨15, _⟩ => ⟨S4x256x128, .f32⟩
  | .local _ .vmem, ⟨16, _⟩ => ⟨S520x1024, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x1024, .bf16⟩
  | .local _ .vmem, ⟨21, _⟩ => ⟨S512x512, .f32⟩
  | .local _ .vmem, ⟨22, _⟩ => ⟨S512x1024, .f32⟩
  | .local _ .vmem, ⟨23, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v1325 : BitVec 1 := Scalar.cmpi .eq arg1 c3_i32
  let v1326 : BitVec 32 := Scalar.extui v1325
  let c0_i32_736 : BitVec 32 := 0#32
  let v1327 : BitVec 1 := Scalar.cmpi .ne v1326 c0_i32_736
  v1327

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S7184x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x4x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x2x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S8x2048x1024 : Shape := ⟨3, ![8, 2048, 1024]⟩
abbrev S2x1024 : Shape := ⟨2, ![2, 1024]⟩
abbrev S1x1024x7184 : Shape := ⟨3, ![1, 1024, 7184]⟩
abbrev S1x16x512 : Shape := ⟨3, ![1, 16, 512]⟩
abbrev S1x512 : Shape := ⟨2, ![1, 512]⟩
abbrev S1x256 : Shape := ⟨2, ![1, 256]⟩
abbrev S1x3x1024 : Shape := ⟨3, ![1, 3, 1024]⟩
abbrev S1x2048x1024 : Shape := ⟨3, ![1, 2048, 1024]⟩
abbrev S_ : Shape := ⟨0, ![]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩
abbrev S1024x7184 : Shape := ⟨2, ![1024, 7184]⟩
abbrev S8x2048x7184 : Shape := ⟨3, ![8, 2048, 7184]⟩
abbrev S8x2048x512 : Shape := ⟨3, ![8, 2048, 512]⟩
abbrev S8x2048x16 : Shape := ⟨3, ![8, 2048, 16]⟩
abbrev S16x512 : Shape := ⟨2, ![16, 512]⟩
abbrev S512 : Shape := ⟨1, ![512]⟩
abbrev S1x1x512 : Shape := ⟨3, ![1, 1, 512]⟩
abbrev S8x32x64x4x128 : Shape := ⟨5, ![8, 32, 64, 4, 128]⟩
abbrev S8x4x32x64x128 : Shape := ⟨5, ![8, 4, 32, 64, 128]⟩
abbrev S8x32x64x4x256 : Shape := ⟨5, ![8, 32, 64, 4, 256]⟩
abbrev S8x4x32x64x256 : Shape := ⟨5, ![8, 4, 32, 64, 256]⟩
abbrev S8x4x32x1x128 : Shape := ⟨5, ![8, 4, 32, 1, 128]⟩
abbrev S8x4x32x128x256 : Shape := ⟨5, ![8, 4, 32, 128, 256]⟩
abbrev S8x4x32x128 : Shape := ⟨4, ![8, 4, 32, 128]⟩
abbrev S8x4x128x256 : Shape := ⟨4, ![8, 4, 128, 256]⟩
abbrev S8x4x1x128 : Shape := ⟨4, ![8, 4, 1, 128]⟩
abbrev S8x4x128 : Shape := ⟨3, ![8, 4, 128]⟩
abbrev S8x4x128x1 : Shape := ⟨4, ![8, 4, 128, 1]⟩
abbrev S8x4x1x128x256 : Shape := ⟨5, ![8, 4, 1, 128, 256]⟩
abbrev S1x8x4x128x256 : Shape := ⟨5, ![1, 8, 4, 128, 256]⟩
abbrev S8x2x1024 : Shape := ⟨3, ![8, 2, 1024]⟩
abbrev S1x8x2x1024 : Shape := ⟨4, ![1, 8, 2, 1024]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x4x32x64x64 : Shape := ⟨5, ![8, 4, 32, 64, 64]⟩
abbrev S8x4x16x128x256 : Shape := ⟨5, ![8, 4, 16, 128, 256]⟩
abbrev S8x2048x4x256 : Shape := ⟨4, ![8, 2048, 4, 256]⟩
abbrev S8x2048x4 : Shape := ⟨3, ![8, 2048, 4]⟩
abbrev S8x2048x4x1 : Shape := ⟨4, ![8, 2048, 4, 1]⟩
abbrev S256 : Shape := ⟨1, ![256]⟩
abbrev S1x1x1x256 : Shape := ⟨4, ![1, 1, 1, 256]⟩
abbrev S8x2050x1024 : Shape := ⟨3, ![8, 2050, 1024]⟩
abbrev S8x2048x2048 : Shape := ⟨3, ![8, 2048, 2048]⟩
abbrev S2048x1024 : Shape := ⟨2, ![2048, 1024]⟩

abbrev nBuf : Space → Nat
  | .hbm => 469
  | .vmem => 0
  | .smem => 0
  | _ => 0

abbrev hbmTy0_0 (i : Nat) : BufTy := match i % 128 with
  | 0 => ⟨S8x2048x1024, .f32⟩
  | 1 => ⟨S2x1024, .f32⟩
  | 2 => ⟨S1x1024x7184, .f32⟩
  | 3 => ⟨S1x16x512, .f32⟩
  | 4 => ⟨S1x512, .f32⟩
  | 5 => ⟨S1x256, .f32⟩
  | 6 => ⟨S1x3x1024, .f32⟩
  | 7 => ⟨S1x2048x1024, .f32⟩
  | 8 => ⟨S8x2048x1024, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S_, .f32⟩
  | 16 => ⟨S8x2048x1, .f32⟩
  | 17 => ⟨S8x2048x1, .f32⟩
  | 18 => ⟨S8x2048x1, .f32⟩
  | 19 => ⟨S8x2048x1024, .f32⟩
  | 20 => ⟨S8x2048x1024, .f32⟩
  | 21 => ⟨S1x1024, .f32⟩
  | 22 => ⟨S1024, .f32⟩
  | 23 => ⟨S1x1x1024, .f32⟩
  | 24 => ⟨S8x2048x1024, .f32⟩
  | 25 => ⟨S8x2048x1024, .f32⟩
  | 26 => ⟨S1024x7184, .f32⟩
  | 27 => ⟨S8x2048x7184, .f32⟩
  | 28 => ⟨S8x2048x512, .f32⟩
  | 29 => ⟨S8x2048x512, .f32⟩
  | 30 => ⟨S8x2048x1024, .f32⟩
  | 31 => ⟨S8x2048x1024, .f32⟩
  | 32 => ⟨S8x2048x16, .f32⟩
  | 33 => ⟨S8x2048x1024, .f32⟩
  | 34 => ⟨S8x2048x1024, .f32⟩
  | 35 => ⟨S8x2048x1024, .f32⟩
  | 36 => ⟨S8x2048x1024, .f32⟩
  | 37 => ⟨S16x512, .f32⟩
  | 38 => ⟨S8x2048x512, .f32⟩
  | 39 => ⟨S512, .f32⟩
  | 40 => ⟨S1x1x512, .f32⟩
  | 41 => ⟨S8x2048x512, .f32⟩
  | 42 => ⟨S8x2048x512, .f32⟩
  | 43 => ⟨S8x2048x512, .f32⟩
  | 44 => ⟨S_, .f32⟩
  | 45 => ⟨S8x2048x512, .f32⟩
  | 46 => ⟨S8x2048x512, .f32⟩
  | 47 => ⟨S8x2048x512, .f32⟩
  | 48 => ⟨S8x2048x512, .f32⟩
  | 49 => ⟨S8x2048x512, .i1⟩
  | 50 => ⟨S8x2048x512, .f32⟩
  | 51 => ⟨S8x2048x512, .f32⟩
  | 52 => ⟨S8x2048x512, .f32⟩
  | 53 => ⟨S8x2048x512, .f32⟩
  | 54 => ⟨S8x2048x512, .f32⟩
  | 55 => ⟨S8x2048x512, .f32⟩
  | 56 => ⟨S8x2048x512, .f32⟩
  | 57 => ⟨S8x2048x512, .f32⟩
  | 58 => ⟨S8x2048x512, .f32⟩
  | 59 => ⟨S_, .f32⟩
  | 60 => ⟨S8x2048x512, .f32⟩
  | 61 => ⟨S8x2048x512, .f32⟩
  | 62 => ⟨S8x32x64x4x128, .f32⟩
  | 63 => ⟨S8x4x32x64x128, .f32⟩
  | 64 => ⟨S8x32x64x4x256, .f32⟩
  | 65 => ⟨S8x4x32x64x256, .f32⟩
  | 66 => ⟨S8x32x64x4x128, .f32⟩
  | 67 => ⟨S8x4x32x64x128, .f32⟩
  | 68 => ⟨S_, .f32⟩
  | 69 => ⟨S_, .f32⟩
  | 70 => ⟨S8x4x32x64x128, .f32⟩
  | 71 => ⟨S8x4x32x1x128, .f32⟩
  | 72 => ⟨S8x4x32x64x128, .f32⟩
  | 73 => ⟨S8x4x32x64x128, .f32⟩
  | 74 => ⟨S8x4x32x64x128, .f32⟩
  | 75 => ⟨S8x4x32x64x128, .f32⟩
  | 76 => ⟨S8x4x32x128x256, .f32⟩
  | 77 => ⟨S8x4x32x128, .f32⟩
  | 78 => ⟨S8x4x32x128, .f32⟩
  | 79 => ⟨S_, .f32⟩
  | 80 => ⟨S8x4x128x256, .f32⟩
  | 81 => ⟨S8x4x1x128, .f32⟩
  | 82 => ⟨S8x4x128, .f32⟩
  | 83 => ⟨S8x4x128x1, .f32⟩
  | 84 => ⟨S8x4x128x256, .f32⟩
  | 85 => ⟨S8x4x128x256, .f32⟩
  | 86 => ⟨S8x4x1x128x256, .f32⟩
  | 87 => ⟨S8x4x128x256, .f32⟩
  | 88 => ⟨S8x4x128x256, .f32⟩
  | 89 => ⟨S8x4x1x128, .f32⟩
  | 90 => ⟨S8x4x128, .f32⟩
  | 91 => ⟨S8x4x128x1, .f32⟩
  | 92 => ⟨S8x4x128x256, .f32⟩
  | 93 => ⟨S8x4x128x256, .f32⟩
  | 94 => ⟨S8x4x1x128x256, .f32⟩
  | 95 => ⟨S8x4x128x256, .f32⟩
  | 96 => ⟨S8x4x128x256, .f32⟩
  | 97 => ⟨S8x4x1x128, .f32⟩
  | 98 => ⟨S8x4x128, .f32⟩
  | 99 => ⟨S8x4x128x1, .f32⟩
  | 100 => ⟨S8x4x128x256, .f32⟩
  | 101 => ⟨S8x4x128x256, .f32⟩
  | 102 => ⟨S8x4x1x128x256, .f32⟩
  | 103 => ⟨S8x4x128x256, .f32⟩
  | 104 => ⟨S8x4x128x256, .f32⟩
  | 105 => ⟨S8x4x1x128, .f32⟩
  | 106 => ⟨S8x4x128, .f32⟩
  | 107 => ⟨S8x4x128x1, .f32⟩
  | 108 => ⟨S8x4x128x256, .f32⟩
  | 109 => ⟨S8x4x128x256, .f32⟩
  | 110 => ⟨S8x4x1x128x256, .f32⟩
  | 111 => ⟨S8x4x128x256, .f32⟩
  | 112 => ⟨S8x4x128x256, .f32⟩
  | 113 => ⟨S8x4x1x128, .f32⟩
  | 114 => ⟨S8x4x128, .f32⟩
  | 115 => ⟨S8x4x128x1, .f32⟩
  | 116 => ⟨S8x4x128x256, .f32⟩
  | 117 => ⟨S8x4x128x256, .f32⟩
  | 118 => ⟨S8x4x1x128x256, .f32⟩
  | 119 => ⟨S8x4x128x256, .f32⟩
  | 120 => ⟨S8x4x128x256, .f32⟩
  | 121 => ⟨S8x4x1x128, .f32⟩
  | 122 => ⟨S8x4x128, .f32⟩
  | 123 => ⟨S8x4x128x1, .f32⟩
  | 124 => ⟨S8x4x128x256, .f32⟩
  | 125 => ⟨S8x4x128x256, .f32⟩
  | 126 => ⟨S8x4x1x128x256, .f32⟩
  | 127 => ⟨S8x4x128x256, .f32⟩
  | _ => ⟨S8x2048x1024, .f32⟩

abbrev hbmTy0_1 (i : Nat) : BufTy := match i % 128 with
  | 0 => ⟨S8x4x128x256, .f32⟩
  | 1 => ⟨S8x4x1x128, .f32⟩
  | 2 => ⟨S8x4x128, .f32⟩
  | 3 => ⟨S8x4x128x1, .f32⟩
  | 4 => ⟨S8x4x128x256, .f32⟩
  | 5 => ⟨S8x4x128x256, .f32⟩
  | 6 => ⟨S8x4x1x128x256, .f32⟩
  | 7 => ⟨S8x4x128x256, .f32⟩
  | 8 => ⟨S8x4x128x256, .f32⟩
  | 9 => ⟨S8x4x1x128, .f32⟩
  | 10 => ⟨S8x4x128, .f32⟩
  | 11 => ⟨S8x4x128x1, .f32⟩
  | 12 => ⟨S8x4x128x256, .f32⟩
  | 13 => ⟨S8x4x128x256, .f32⟩
  | 14 => ⟨S8x4x1x128x256, .f32⟩
  | 15 => ⟨S8x4x128x256, .f32⟩
  | 16 => ⟨S8x4x128x256, .f32⟩
  | 17 => ⟨S8x4x1x128, .f32⟩
  | 18 => ⟨S8x4x128, .f32⟩
  | 19 => ⟨S8x4x128x1, .f32⟩
  | 20 => ⟨S8x4x128x256, .f32⟩
  | 21 => ⟨S8x4x128x256, .f32⟩
  | 22 => ⟨S8x4x1x128x256, .f32⟩
  | 23 => ⟨S8x4x128x256, .f32⟩
  | 24 => ⟨S8x4x128x256, .f32⟩
  | 25 => ⟨S8x4x1x128, .f32⟩
  | 26 => ⟨S8x4x128, .f32⟩
  | 27 => ⟨S8x4x128x1, .f32⟩
  | 28 => ⟨S8x4x128x256, .f32⟩
  | 29 => ⟨S8x4x128x256, .f32⟩
  | 30 => ⟨S8x4x1x128x256, .f32⟩
  | 31 => ⟨S8x4x128x256, .f32⟩
  | 32 => ⟨S8x4x128x256, .f32⟩
  | 33 => ⟨S8x4x1x128, .f32⟩
  | 34 => ⟨S8x4x128, .f32⟩
  | 35 => ⟨S8x4x128x1, .f32⟩
  | 36 => ⟨S8x4x128x256, .f32⟩
  | 37 => ⟨S8x4x128x256, .f32⟩
  | 38 => ⟨S8x4x1x128x256, .f32⟩
  | 39 => ⟨S8x4x128x256, .f32⟩
  | 40 => ⟨S8x4x128x256, .f32⟩
  | 41 => ⟨S8x4x1x128, .f32⟩
  | 42 => ⟨S8x4x128, .f32⟩
  | 43 => ⟨S8x4x128x1, .f32⟩
  | 44 => ⟨S8x4x128x256, .f32⟩
  | 45 => ⟨S8x4x128x256, .f32⟩
  | 46 => ⟨S8x4x1x128x256, .f32⟩
  | 47 => ⟨S8x4x128x256, .f32⟩
  | 48 => ⟨S8x4x128x256, .f32⟩
  | 49 => ⟨S8x4x1x128, .f32⟩
  | 50 => ⟨S8x4x128, .f32⟩
  | 51 => ⟨S8x4x128x1, .f32⟩
  | 52 => ⟨S8x4x128x256, .f32⟩
  | 53 => ⟨S8x4x128x256, .f32⟩
  | 54 => ⟨S8x4x1x128x256, .f32⟩
  | 55 => ⟨S8x4x128x256, .f32⟩
  | 56 => ⟨S8x4x128x256, .f32⟩
  | 57 => ⟨S8x4x1x128, .f32⟩
  | 58 => ⟨S8x4x128, .f32⟩
  | 59 => ⟨S8x4x128x1, .f32⟩
  | 60 => ⟨S8x4x128x256, .f32⟩
  | 61 => ⟨S8x4x128x256, .f32⟩
  | 62 => ⟨S8x4x1x128x256, .f32⟩
  | 63 => ⟨S8x4x128x256, .f32⟩
  | 64 => ⟨S8x4x128x256, .f32⟩
  | 65 => ⟨S8x4x1x128, .f32⟩
  | 66 => ⟨S8x4x128, .f32⟩
  | 67 => ⟨S8x4x128x1, .f32⟩
  | 68 => ⟨S8x4x128x256, .f32⟩
  | 69 => ⟨S8x4x128x256, .f32⟩
  | 70 => ⟨S8x4x1x128x256, .f32⟩
  | 71 => ⟨S8x4x128x256, .f32⟩
  | 72 => ⟨S8x4x128x256, .f32⟩
  | 73 => ⟨S8x4x1x128, .f32⟩
  | 74 => ⟨S8x4x128, .f32⟩
  | 75 => ⟨S8x4x128x1, .f32⟩
  | 76 => ⟨S8x4x128x256, .f32⟩
  | 77 => ⟨S8x4x128x256, .f32⟩
  | 78 => ⟨S8x4x1x128x256, .f32⟩
  | 79 => ⟨S8x4x128x256, .f32⟩
  | 80 => ⟨S8x4x128x256, .f32⟩
  | 81 => ⟨S8x4x1x128, .f32⟩
  | 82 => ⟨S8x4x128, .f32⟩
  | 83 => ⟨S8x4x128x1, .f32⟩
  | 84 => ⟨S8x4x128x256, .f32⟩
  | 85 => ⟨S8x4x128x256, .f32⟩
  | 86 => ⟨S8x4x1x128x256, .f32⟩
  | 87 => ⟨S8x4x128x256, .f32⟩
  | 88 => ⟨S8x4x128x256, .f32⟩
  | 89 => ⟨S8x4x1x128, .f32⟩
  | 90 => ⟨S8x4x128, .f32⟩
  | 91 => ⟨S8x4x128x1, .f32⟩
  | 92 => ⟨S8x4x128x256, .f32⟩
  | 93 => ⟨S8x4x128x256, .f32⟩
  | 94 => ⟨S8x4x1x128x256, .f32⟩
  | 95 => ⟨S8x4x128x256, .f32⟩
  | 96 => ⟨S8x4x128x256, .f32⟩
  | 97 => ⟨S8x4x1x128, .f32⟩
  | 98 => ⟨S8x4x128, .f32⟩
  | 99 => ⟨S8x4x128x1, .f32⟩
  | 100 => ⟨S8x4x128x256, .f32⟩
  | 101 => ⟨S8x4x128x256, .f32⟩
  | 102 => ⟨S8x4x1x128x256, .f32⟩
  | 103 => ⟨S8x4x128x256, .f32⟩
  | 104 => ⟨S8x4x128x256, .f32⟩
  | 105 => ⟨S8x4x1x128, .f32⟩
  | 106 => ⟨S8x4x128, .f32⟩
  | 107 => ⟨S8x4x128x1, .f32⟩
  | 108 => ⟨S8x4x128x256, .f32⟩
  | 109 => ⟨S8x4x128x256, .f32⟩
  | 110 => ⟨S8x4x1x128x256, .f32⟩
  | 111 => ⟨S8x4x128x256, .f32⟩
  | 112 => ⟨S8x4x128x256, .f32⟩
  | 113 => ⟨S8x4x1x128, .f32⟩
  | 114 => ⟨S8x4x128, .f32⟩
  | 115 => ⟨S8x4x128x1, .f32⟩
  | 116 => ⟨S8x4x128x256, .f32⟩
  | 117 => ⟨S8x4x128x256, .f32⟩
  | 118 => ⟨S8x4x1x128x256, .f32⟩
  | 119 => ⟨S8x4x128x256, .f32⟩
  | 120 => ⟨S8x4x128x256, .f32⟩
  | 121 => ⟨S8x4x1x128, .f32⟩
  | 122 => ⟨S8x4x128, .f32⟩
  | 123 => ⟨S8x4x128x1, .f32⟩
  | 124 => ⟨S8x4x128x256, .f32⟩
  | 125 => ⟨S8x4x128x256, .f32⟩
  | 126 => ⟨S8x4x1x128x256, .f32⟩
  | 127 => ⟨S8x4x128x256, .f32⟩
  | _ => ⟨S8x2048x1024, .f32⟩

abbrev hbmTy0_2 (i : Nat) : BufTy := match i % 128 with
  | 0 => ⟨S8x4x128x256, .f32⟩
  | 1 => ⟨S8x4x1x128, .f32⟩
  | 2 => ⟨S8x4x128, .f32⟩
  | 3 => ⟨S8x4x128x1, .f32⟩
  | 4 => ⟨S8x4x128x256, .f32⟩
  | 5 => ⟨S8x4x128x256, .f32⟩
  | 6 => ⟨S8x4x1x128x256, .f32⟩
  | 7 => ⟨S8x4x128x256, .f32⟩
  | 8 => ⟨S8x4x128x256, .f32⟩
  | 9 => ⟨S8x4x1x128, .f32⟩
  | 10 => ⟨S8x4x128, .f32⟩
  | 11 => ⟨S8x4x128x1, .f32⟩
  | 12 => ⟨S8x4x128x256, .f32⟩
  | 13 => ⟨S8x4x128x256, .f32⟩
  | 14 => ⟨S8x4x1x128x256, .f32⟩
  | 15 => ⟨S8x4x128x256, .f32⟩
  | 16 => ⟨S8x4x128x256, .f32⟩
  | 17 => ⟨S8x4x1x128, .f32⟩
  | 18 => ⟨S8x4x128, .f32⟩
  | 19 => ⟨S8x4x128x1, .f32⟩
  | 20 => ⟨S8x4x128x256, .f32⟩
  | 21 => ⟨S8x4x128x256, .f32⟩
  | 22 => ⟨S8x4x1x128x256, .f32⟩
  | 23 => ⟨S8x4x128x256, .f32⟩
  | 24 => ⟨S8x4x128x256, .f32⟩
  | 25 => ⟨S8x4x1x128, .f32⟩
  | 26 => ⟨S8x4x128, .f32⟩
  | 27 => ⟨S8x4x128x1, .f32⟩
  | 28 => ⟨S8x4x128x256, .f32⟩
  | 29 => ⟨S8x4x128x256, .f32⟩
  | 30 => ⟨S8x4x1x128x256, .f32⟩
  | 31 => ⟨S8x4x128x256, .f32⟩
  | 32 => ⟨S8x4x128x256, .f32⟩
  | 33 => ⟨S8x4x1x128, .f32⟩
  | 34 => ⟨S8x4x128, .f32⟩
  | 35 => ⟨S8x4x128x1, .f32⟩
  | 36 => ⟨S8x4x128x256, .f32⟩
  | 37 => ⟨S8x4x128x256, .f32⟩
  | 38 => ⟨S8x4x1x128x256, .f32⟩
  | 39 => ⟨S8x4x128x256, .f32⟩
  | 40 => ⟨S8x4x128x256, .f32⟩
  | 41 => ⟨S8x4x1x128, .f32⟩
  | 42 => ⟨S8x4x128, .f32⟩
  | 43 => ⟨S8x4x128x1, .f32⟩
  | 44 => ⟨S8x4x128x256, .f32⟩
  | 45 => ⟨S8x4x128x256, .f32⟩
  | 46 => ⟨S8x4x1x128x256, .f32⟩
  | 47 => ⟨S8x4x128x256, .f32⟩
  | 48 => ⟨S8x4x128x256, .f32⟩
  | 49 => ⟨S8x4x1x128, .f32⟩
  | 50 => ⟨S8x4x128, .f32⟩
  | 51 => ⟨S8x4x128x1, .f32⟩
  | 52 => ⟨S8x4x128x256, .f32⟩
  | 53 => ⟨S8x4x128x256, .f32⟩
  | 54 => ⟨S8x4x1x128x256, .f32⟩
  | 55 => ⟨S8x4x128x256, .f32⟩
  | 56 => ⟨S8x4x128x256, .f32⟩
  | 57 => ⟨S8x4x1x128, .f32⟩
  | 58 => ⟨S8x4x128, .f32⟩
  | 59 => ⟨S8x4x128x1, .f32⟩
  | 60 => ⟨S8x4x128x256, .f32⟩
  | 61 => ⟨S8x4x128x256, .f32⟩
  | 62 => ⟨S8x4x1x128x256, .f32⟩
  | 63 => ⟨S8x4x128x256, .f32⟩
  | 64 => ⟨S8x4x128x256, .f32⟩
  | 65 => ⟨S8x4x1x128, .f32⟩
  | 66 => ⟨S8x4x128, .f32⟩
  | 67 => ⟨S8x4x128x1, .f32⟩
  | 68 => ⟨S8x4x128x256, .f32⟩
  | 69 => ⟨S8x4x128x256, .f32⟩
  | 70 => ⟨S8x4x1x128x256, .f32⟩
  | 71 => ⟨S8x4x128x256, .f32⟩
  | 72 => ⟨S8x4x128x256, .f32⟩
  | 73 => ⟨S8x4x1x128, .f32⟩
  | 74 => ⟨S8x4x128, .f32⟩
  | 75 => ⟨S8x4x128x1, .f32⟩
  | 76 => ⟨S8x4x128x256, .f32⟩
  | 77 => ⟨S8x4x128x256, .f32⟩
  | 78 => ⟨S8x4x1x128x256, .f32⟩
  | 79 => ⟨S8x4x128x256, .f32⟩
  | 80 => ⟨S8x4x128x256, .f32⟩
  | 81 => ⟨S8x2048x1024, .f32⟩
  | 82 => ⟨S1x8x4x128x256, .f32⟩
  | 83 => ⟨S8x2x1024, .f32⟩
  | 84 => ⟨S1x8x2x1024, .f32⟩
  | 85 => ⟨S_, .f32⟩
  | 86 => ⟨S8x2048x512, .f32⟩
  | 87 => ⟨S8x2048x512, .f32⟩
  | 88 => ⟨S8x32x64x4x128, .f32⟩
  | 89 => ⟨S8x4x32x64x128, .f32⟩
  | 90 => ⟨S8x4x32x64x128, .f32⟩
  | 91 => ⟨S8x4x32x64x128, .f32⟩
  | 92 => ⟨S8x4x32x64x128, .f32⟩
  | 93 => ⟨S8x4x32x64x128, .f32⟩
  | 94 => ⟨S8x4x32x64x128, .f32⟩
  | 95 => ⟨S64, .i32⟩
  | 96 => ⟨S64x1, .i32⟩
  | 97 => ⟨S64, .i32⟩
  | 98 => ⟨S1x64, .i32⟩
  | 99 => ⟨S64x64, .i32⟩
  | 100 => ⟨S64x64, .i32⟩
  | 101 => ⟨S64x64, .i1⟩
  | 102 => ⟨S8x4x32x64x64, .f32⟩
  | 103 => ⟨S_, .f32⟩
  | 104 => ⟨S_, .f32⟩
  | 105 => ⟨S8x4x32x64x64, .i1⟩
  | 106 => ⟨S8x4x32x64x64, .f32⟩
  | 107 => ⟨S8x4x32x64x64, .f32⟩
  | 108 => ⟨S8x4x32x64x256, .f32⟩
  | 109 => ⟨S8x4x1x128x256, .f32⟩
  | 110 => ⟨S8x4x1x128x256, .f32⟩
  | 111 => ⟨S8x4x1x128x256, .f32⟩
  | 112 => ⟨S8x4x1x128x256, .f32⟩
  | 113 => ⟨S8x4x1x128x256, .f32⟩
  | 114 => ⟨S8x4x1x128x256, .f32⟩
  | 115 => ⟨S8x4x1x128x256, .f32⟩
  | 116 => ⟨S8x4x1x128x256, .f32⟩
  | 117 => ⟨S8x4x1x128x256, .f32⟩
  | 118 => ⟨S8x4x1x128x256, .f32⟩
  | 119 => ⟨S8x4x1x128x256, .f32⟩
  | 120 => ⟨S8x4x1x128x256, .f32⟩
  | 121 => ⟨S8x4x1x128x256, .f32⟩
  | 122 => ⟨S8x4x1x128x256, .f32⟩
  | 123 => ⟨S8x4x1x128x256, .f32⟩
  | 124 => ⟨S8x4x1x128x256, .f32⟩
  | 125 => ⟨S8x4x1x128x256, .f32⟩
  | 126 => ⟨S8x4x1x128x256, .f32⟩
  | 127 => ⟨S8x4x1x128x256, .f32⟩
  | _ => ⟨S8x2048x1024, .f32⟩

abbrev hbmTy0_3 (i : Nat) : BufTy := match i % 128 with
  | 0 => ⟨S8x4x1x128x256, .f32⟩
  | 1 => ⟨S8x4x1x128x256, .f32⟩
  | 2 => ⟨S8x4x1x128x256, .f32⟩
  | 3 => ⟨S8x4x1x128x256, .f32⟩
  | 4 => ⟨S8x4x1x128x256, .f32⟩
  | 5 => ⟨S8x4x1x128x256, .f32⟩
  | 6 => ⟨S8x4x1x128x256, .f32⟩
  | 7 => ⟨S8x4x1x128x256, .f32⟩
  | 8 => ⟨S8x4x1x128x256, .f32⟩
  | 9 => ⟨S8x4x1x128x256, .f32⟩
  | 10 => ⟨S8x4x1x128x256, .f32⟩
  | 11 => ⟨S8x4x1x128x256, .f32⟩
  | 12 => ⟨S8x4x1x128x256, .f32⟩
  | 13 => ⟨S8x4x16x128x256, .f32⟩
  | 14 => ⟨S8x4x16x128x256, .f32⟩
  | 15 => ⟨S8x4x32x128x256, .f32⟩
  | 16 => ⟨S8x4x32x64x256, .f32⟩
  | 17 => ⟨S8x4x32x64x256, .f32⟩
  | 18 => ⟨S8x32x64x4x256, .f32⟩
  | 19 => ⟨S8x2048x4x256, .f32⟩
  | 20 => ⟨S8x2048x4x256, .f32⟩
  | 21 => ⟨S_, .f32⟩
  | 22 => ⟨S8x2048x4, .f32⟩
  | 23 => ⟨S8x2048x4x1, .f32⟩
  | 24 => ⟨S_, .f32⟩
  | 25 => ⟨S8x2048x4x1, .f32⟩
  | 26 => ⟨S8x2048x4x1, .f32⟩
  | 27 => ⟨S_, .f32⟩
  | 28 => ⟨S8x2048x4x1, .f32⟩
  | 29 => ⟨S8x2048x4x1, .f32⟩
  | 30 => ⟨S8x2048x4x1, .f32⟩
  | 31 => ⟨S8x2048x4x256, .f32⟩
  | 32 => ⟨S8x2048x4x256, .f32⟩
  | 33 => ⟨S256, .f32⟩
  | 34 => ⟨S1x1x1x256, .f32⟩
  | 35 => ⟨S8x2048x4x256, .f32⟩
  | 36 => ⟨S8x2048x4x256, .f32⟩
  | 37 => ⟨S8x2048x1024, .f32⟩
  | 38 => ⟨S8x2048x1024, .f32⟩
  | 39 => ⟨S8x2048x1024, .f32⟩
  | 40 => ⟨S_, .f32⟩
  | 41 => ⟨S8x2048x1024, .f32⟩
  | 42 => ⟨S8x2048x1024, .f32⟩
  | 43 => ⟨S_, .f32⟩
  | 44 => ⟨S8x2048x1024, .f32⟩
  | 45 => ⟨S8x2048x1024, .f32⟩
  | 46 => ⟨S8x2048x1024, .f32⟩
  | 47 => ⟨S8x2048x1024, .f32⟩
  | 48 => ⟨S_, .f32⟩
  | 49 => ⟨S8x2x1024, .f32⟩
  | 50 => ⟨S8x2050x1024, .f32⟩
  | 51 => ⟨S1x1x1024, .f32⟩
  | 52 => ⟨S1024, .f32⟩
  | 53 => ⟨S8x2048x1024, .f32⟩
  | 54 => ⟨S1x1x1024, .f32⟩
  | 55 => ⟨S8x2048x1024, .f32⟩
  | 56 => ⟨S8x2048x1024, .f32⟩
  | 57 => ⟨S1x1x1024, .f32⟩
  | 58 => ⟨S1024, .f32⟩
  | 59 => ⟨S8x2048x1024, .f32⟩
  | 60 => ⟨S1x1x1024, .f32⟩
  | 61 => ⟨S8x2048x1024, .f32⟩
  | 62 => ⟨S8x2048x1024, .f32⟩
  | 63 => ⟨S8x2048x1024, .f32⟩
  | 64 => ⟨S1x1x1024, .f32⟩
  | 65 => ⟨S1024, .f32⟩
  | 66 => ⟨S1x1x1024, .f32⟩
  | 67 => ⟨S8x2048x1024, .f32⟩
  | 68 => ⟨S8x2048x1024, .f32⟩
  | 69 => ⟨S8x2048x1024, .f32⟩
  | 70 => ⟨S8x2048x1024, .f32⟩
  | 71 => ⟨S8x2048x1024, .f32⟩
  | 72 => ⟨S8x2048x1024, .f32⟩
  | 73 => ⟨S_, .f32⟩
  | 74 => ⟨S8x2048x1024, .f32⟩
  | 75 => ⟨S8x2048x1024, .f32⟩
  | 76 => ⟨S_, .f32⟩
  | 77 => ⟨S8x2048x1024, .f32⟩
  | 78 => ⟨S8x2048x1024, .f32⟩
  | 79 => ⟨S8x2048x1024, .f32⟩
  | 80 => ⟨S8x2048x1024, .f32⟩
  | 81 => ⟨S8x2048x2048, .f32⟩
  | 82 => ⟨S2048x1024, .f32⟩
  | 83 => ⟨S8x2048x1024, .f32⟩
  | 84 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | 3 => hbmTy0_3 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_call0_cst : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_call0_v2 : Ref sig .tc := ⟨.hbm, 47, rfl⟩
abbrev main_call0_call0_v3 : Ref sig .tc := ⟨.hbm, 48, rfl⟩
abbrev main_call0_call0_v4 : Ref sig .tc := ⟨.hbm, 49, rfl⟩
abbrev main_call0_call0_v5 : Ref sig .tc := ⟨.hbm, 50, rfl⟩
abbrev main_call0_call0_v6 : Ref sig .tc := ⟨.hbm, 51, rfl⟩
abbrev main_call0_call0_v7 : Ref sig .tc := ⟨.hbm, 52, rfl⟩
abbrev main_call0_call0_v8 : Ref sig .tc := ⟨.hbm, 53, rfl⟩
abbrev main_call0_call0_v9 : Ref sig .tc := ⟨.hbm, 54, rfl⟩
abbrev main_call0_call0_v10 : Ref sig .tc := ⟨.hbm, 55, rfl⟩
abbrev main_call0_call0_v11 : Ref sig .tc := ⟨.hbm, 56, rfl⟩
abbrev main_call0_v1 : Ref sig .tc := ⟨.hbm, 57, rfl⟩
abbrev main_v32 : Ref sig .tc := ⟨.hbm, 58, rfl⟩
abbrev main_cst_2 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call1_call0_cst : Ref sig .tc := ⟨.hbm, 68, rfl⟩
abbrev main_call1_call0_v0 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_3 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_v237 : Ref sig .tc := ⟨.hbm, 267, rfl⟩
abbrev main_v238 : Ref sig .tc := ⟨.hbm, 268, rfl⟩
abbrev main_v239 : Ref sig .tc := ⟨.hbm, 269, rfl⟩
abbrev main_v240 : Ref sig .tc := ⟨.hbm, 270, rfl⟩
abbrev main_v241 : Ref sig .tc := ⟨.hbm, 271, rfl⟩
abbrev main_v242 : Ref sig .tc := ⟨.hbm, 272, rfl⟩
abbrev main_v243 : Ref sig .tc := ⟨.hbm, 273, rfl⟩
abbrev main_v244 : Ref sig .tc := ⟨.hbm, 274, rfl⟩
abbrev main_v245 : Ref sig .tc := ⟨.hbm, 275, rfl⟩
abbrev main_v246 : Ref sig .tc := ⟨.hbm, 276, rfl⟩
abbrev main_v247 : Ref sig .tc := ⟨.hbm, 277, rfl⟩
abbrev main_v248 : Ref sig .tc := ⟨.hbm, 278, rfl⟩
abbrev main_v249 : Ref sig .tc := ⟨.hbm, 279, rfl⟩
abbrev main_v250 : Ref sig .tc := ⟨.hbm, 280, rfl⟩
abbrev main_v251 : Ref sig .tc := ⟨.hbm, 281, rfl⟩
abbrev main_v252 : Ref sig .tc := ⟨.hbm, 282, rfl⟩
abbrev main_v253 : Ref sig .tc := ⟨.hbm, 283, rfl⟩
abbrev main_v254 : Ref sig .tc := ⟨.hbm, 284, rfl⟩
abbrev main_v255 : Ref sig .tc := ⟨.hbm, 285, rfl⟩
abbrev main_v256 : Ref sig .tc := ⟨.hbm, 286, rfl⟩
abbrev main_v257 : Ref sig .tc := ⟨.hbm, 287, rfl⟩
abbrev main_v258 : Ref sig .tc := ⟨.hbm, 288, rfl⟩
abbrev main_v259 : Ref sig .tc := ⟨.hbm, 289, rfl⟩
abbrev main_v260 : Ref sig .tc := ⟨.hbm, 290, rfl⟩
abbrev main_v261 : Ref sig .tc := ⟨.hbm, 291, rfl⟩
abbrev main_v262 : Ref sig .tc := ⟨.hbm, 292, rfl⟩
abbrev main_v263 : Ref sig .tc := ⟨.hbm, 293, rfl⟩
abbrev main_v264 : Ref sig .tc := ⟨.hbm, 294, rfl⟩
abbrev main_v265 : Ref sig .tc := ⟨.hbm, 295, rfl⟩
abbrev main_v266 : Ref sig .tc := ⟨.hbm, 296, rfl⟩
abbrev main_v267 : Ref sig .tc := ⟨.hbm, 297, rfl⟩
abbrev main_v268 : Ref sig .tc := ⟨.hbm, 298, rfl⟩
abbrev main_v269 : Ref sig .tc := ⟨.hbm, 299, rfl⟩
abbrev main_v270 : Ref sig .tc := ⟨.hbm, 300, rfl⟩
abbrev main_v271 : Ref sig .tc := ⟨.hbm, 301, rfl⟩
abbrev main_v272 : Ref sig .tc := ⟨.hbm, 302, rfl⟩
abbrev main_v273 : Ref sig .tc := ⟨.hbm, 303, rfl⟩
abbrev main_v274 : Ref sig .tc := ⟨.hbm, 304, rfl⟩
abbrev main_v275 : Ref sig .tc := ⟨.hbm, 305, rfl⟩
abbrev main_v276 : Ref sig .tc := ⟨.hbm, 306, rfl⟩
abbrev main_v277 : Ref sig .tc := ⟨.hbm, 307, rfl⟩
abbrev main_v278 : Ref sig .tc := ⟨.hbm, 308, rfl⟩
abbrev main_v279 : Ref sig .tc := ⟨.hbm, 309, rfl⟩
abbrev main_v280 : Ref sig .tc := ⟨.hbm, 310, rfl⟩
abbrev main_v281 : Ref sig .tc := ⟨.hbm, 311, rfl⟩
abbrev main_v282 : Ref sig .tc := ⟨.hbm, 312, rfl⟩
abbrev main_v283 : Ref sig .tc := ⟨.hbm, 313, rfl⟩
abbrev main_v284 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_v288 : Ref sig .tc := ⟨.hbm, 318, rfl⟩
abbrev main_v289 : Ref sig .tc := ⟨.hbm, 319, rfl⟩
abbrev main_v290 : Ref sig .tc := ⟨.hbm, 320, rfl⟩
abbrev main_v291 : Ref sig .tc := ⟨.hbm, 321, rfl⟩
abbrev main_v292 : Ref sig .tc := ⟨.hbm, 322, rfl⟩
abbrev main_v293 : Ref sig .tc := ⟨.hbm, 323, rfl⟩
abbrev main_v294 : Ref sig .tc := ⟨.hbm, 324, rfl⟩
abbrev main_v295 : Ref sig .tc := ⟨.hbm, 325, rfl⟩
abbrev main_v296 : Ref sig .tc := ⟨.hbm, 326, rfl⟩
abbrev main_v297 : Ref sig .tc := ⟨.hbm, 327, rfl⟩
abbrev main_v298 : Ref sig .tc := ⟨.hbm, 328, rfl⟩
abbrev main_v299 : Ref sig .tc := ⟨.hbm, 329, rfl⟩
abbrev main_v300 : Ref sig .tc := ⟨.hbm, 330, rfl⟩
abbrev main_v301 : Ref sig .tc := ⟨.hbm, 331, rfl⟩
abbrev main_v302 : Ref sig .tc := ⟨.hbm, 332, rfl⟩
abbrev main_v303 : Ref sig .tc := ⟨.hbm, 333, rfl⟩
abbrev main_v304 : Ref sig .tc := ⟨.hbm, 334, rfl⟩
abbrev main_v305 : Ref sig .tc := ⟨.hbm, 335, rfl⟩
abbrev main_v306 : Ref sig .tc := ⟨.hbm, 336, rfl⟩
abbrev main_v307 : Ref sig .tc := ⟨.hbm, 337, rfl⟩
abbrev main_v308 : Ref sig .tc := ⟨.hbm, 338, rfl⟩
abbrev main_v309 : Ref sig .tc := ⟨.hbm, 339, rfl⟩
abbrev main_v310 : Ref sig .tc := ⟨.hbm, 340, rfl⟩
abbrev main_cst_4 : Ref sig .tc := ⟨.hbm, 341, rfl⟩
abbrev main_v311 : Ref sig .tc := ⟨.hbm, 342, rfl⟩
abbrev main_v312 : Ref sig .tc := ⟨.hbm, 343, rfl⟩
abbrev main_v313 : Ref sig .tc := ⟨.hbm, 344, rfl⟩
abbrev main_v314 : Ref sig .tc := ⟨.hbm, 345, rfl⟩
abbrev main_v315 : Ref sig .tc := ⟨.hbm, 346, rfl⟩
abbrev main_v316 : Ref sig .tc := ⟨.hbm, 347, rfl⟩
abbrev main_v317 : Ref sig .tc := ⟨.hbm, 348, rfl⟩
abbrev main_v318 : Ref sig .tc := ⟨.hbm, 349, rfl⟩
abbrev main_v319 : Ref sig .tc := ⟨.hbm, 350, rfl⟩
abbrev main_v320 : Ref sig .tc := ⟨.hbm, 351, rfl⟩
abbrev main_v321 : Ref sig .tc := ⟨.hbm, 352, rfl⟩
abbrev main_v322 : Ref sig .tc := ⟨.hbm, 353, rfl⟩
abbrev main_v323 : Ref sig .tc := ⟨.hbm, 354, rfl⟩
abbrev main_v324 : Ref sig .tc := ⟨.hbm, 355, rfl⟩
abbrev main_v325 : Ref sig .tc := ⟨.hbm, 356, rfl⟩
abbrev main_v326 : Ref sig .tc := ⟨.hbm, 357, rfl⟩
abbrev main_v327 : Ref sig .tc := ⟨.hbm, 358, rfl⟩
abbrev main_cst_5 : Ref sig .tc := ⟨.hbm, 359, rfl⟩
abbrev main_call2_v0 : Ref sig .tc := ⟨.hbm, 360, rfl⟩
abbrev main_call2_v1 : Ref sig .tc := ⟨.hbm, 361, rfl⟩
abbrev main_call2_v2 : Ref sig .tc := ⟨.hbm, 362, rfl⟩
abbrev main_v328 : Ref sig .tc := ⟨.hbm, 363, rfl⟩
abbrev main_v329 : Ref sig .tc := ⟨.hbm, 364, rfl⟩
abbrev main_v330 : Ref sig .tc := ⟨.hbm, 365, rfl⟩
abbrev main_v331 : Ref sig .tc := ⟨.hbm, 366, rfl⟩
abbrev main_v332 : Ref sig .tc := ⟨.hbm, 367, rfl⟩
abbrev main_v333 : Ref sig .tc := ⟨.hbm, 368, rfl⟩
abbrev main_v334 : Ref sig .tc := ⟨.hbm, 369, rfl⟩
abbrev main_v335 : Ref sig .tc := ⟨.hbm, 370, rfl⟩
abbrev main_v336 : Ref sig .tc := ⟨.hbm, 371, rfl⟩
abbrev main_v337 : Ref sig .tc := ⟨.hbm, 372, rfl⟩
abbrev main_v338 : Ref sig .tc := ⟨.hbm, 373, rfl⟩
abbrev main_v339 : Ref sig .tc := ⟨.hbm, 374, rfl⟩
abbrev main_v340 : Ref sig .tc := ⟨.hbm, 375, rfl⟩
abbrev main_v341 : Ref sig .tc := ⟨.hbm, 376, rfl⟩
abbrev main_v342 : Ref sig .tc := ⟨.hbm, 377, rfl⟩
abbrev main_v343 : Ref sig .tc := ⟨.hbm, 378, rfl⟩
abbrev main_v344 : Ref sig .tc := ⟨.hbm, 379, rfl⟩
abbrev main_v345 : Ref sig .tc := ⟨.hbm, 380, rfl⟩
abbrev main_v346 : Ref sig .tc := ⟨.hbm, 381, rfl⟩
abbrev main_v347 : Ref sig .tc := ⟨.hbm, 382, rfl⟩
abbrev main_v348 : Ref sig .tc := ⟨.hbm, 383, rfl⟩
abbrev main_v349 : Ref sig .tc := ⟨.hbm, 384, rfl⟩
abbrev main_v350 : Ref sig .tc := ⟨.hbm, 385, rfl⟩
abbrev main_v351 : Ref sig .tc := ⟨.hbm, 386, rfl⟩
abbrev main_v352 : Ref sig .tc := ⟨.hbm, 387, rfl⟩
abbrev main_v353 : Ref sig .tc := ⟨.hbm, 388, rfl⟩
abbrev main_v354 : Ref sig .tc := ⟨.hbm, 389, rfl⟩
abbrev main_v355 : Ref sig .tc := ⟨.hbm, 390, rfl⟩
abbrev main_v356 : Ref sig .tc := ⟨.hbm, 391, rfl⟩
abbrev main_v357 : Ref sig .tc := ⟨.hbm, 392, rfl⟩
abbrev main_v358 : Ref sig .tc := ⟨.hbm, 393, rfl⟩
abbrev main_v359 : Ref sig .tc := ⟨.hbm, 394, rfl⟩
abbrev main_v360 : Ref sig .tc := ⟨.hbm, 395, rfl⟩
abbrev main_v361 : Ref sig .tc := ⟨.hbm, 396, rfl⟩
abbrev main_v362 : Ref sig .tc := ⟨.hbm, 397, rfl⟩
abbrev main_v363 : Ref sig .tc := ⟨.hbm, 398, rfl⟩
abbrev main_v364 : Ref sig .tc := ⟨.hbm, 399, rfl⟩
abbrev main_v365 : Ref sig .tc := ⟨.hbm, 400, rfl⟩
abbrev main_v366 : Ref sig .tc := ⟨.hbm, 401, rfl⟩
abbrev main_v367 : Ref sig .tc := ⟨.hbm, 402, rfl⟩
abbrev main_v368 : Ref sig .tc := ⟨.hbm, 403, rfl⟩
abbrev main_v369 : Ref sig .tc := ⟨.hbm, 404, rfl⟩
abbrev main_cst_6 : Ref sig .tc := ⟨.hbm, 405, rfl⟩
abbrev main_v370 : Ref sig .tc := ⟨.hbm, 406, rfl⟩
abbrev main_v371 : Ref sig .tc := ⟨.hbm, 407, rfl⟩
abbrev main_cst_7 : Ref sig .tc := ⟨.hbm, 408, rfl⟩
abbrev main_v372 : Ref sig .tc := ⟨.hbm, 409, rfl⟩
abbrev main_v373 : Ref sig .tc := ⟨.hbm, 410, rfl⟩
abbrev main_cst_8 : Ref sig .tc := ⟨.hbm, 411, rfl⟩
abbrev main_v374 : Ref sig .tc := ⟨.hbm, 412, rfl⟩
abbrev main_v375 : Ref sig .tc := ⟨.hbm, 413, rfl⟩
abbrev main_v376 : Ref sig .tc := ⟨.hbm, 414, rfl⟩
abbrev main_v377 : Ref sig .tc := ⟨.hbm, 415, rfl⟩
abbrev main_v378 : Ref sig .tc := ⟨.hbm, 416, rfl⟩
abbrev main_v379 : Ref sig .tc := ⟨.hbm, 417, rfl⟩
abbrev main_v380 : Ref sig .tc := ⟨.hbm, 418, rfl⟩
abbrev main_v381 : Ref sig .tc := ⟨.hbm, 419, rfl⟩
abbrev main_v382 : Ref sig .tc := ⟨.hbm, 420, rfl⟩
abbrev main_v383 : Ref sig .tc := ⟨.hbm, 421, rfl⟩
abbrev main_call3_v0 : Ref sig .tc := ⟨.hbm, 422, rfl⟩
abbrev main_call3_v1 : Ref sig .tc := ⟨.hbm, 423, rfl⟩
abbrev main_call3_cst : Ref sig .tc := ⟨.hbm, 424, rfl⟩
abbrev main_call3_v2 : Ref sig .tc := ⟨.hbm, 425, rfl⟩
abbrev main_call3_v3 : Ref sig .tc := ⟨.hbm, 426, rfl⟩
abbrev main_call3_cst_0 : Ref sig .tc := ⟨.hbm, 427, rfl⟩
abbrev main_call3_v4 : Ref sig .tc := ⟨.hbm, 428, rfl⟩
abbrev main_call3_v5 : Ref sig .tc := ⟨.hbm, 429, rfl⟩
abbrev main_v384 : Ref sig .tc := ⟨.hbm, 430, rfl⟩
abbrev main_v385 : Ref sig .tc := ⟨.hbm, 431, rfl⟩
abbrev main_cst_9 : Ref sig .tc := ⟨.hbm, 432, rfl⟩
abbrev main_v386 : Ref sig .tc := ⟨.hbm, 433, rfl⟩
abbrev main_v387 : Ref sig .tc := ⟨.hbm, 434, rfl⟩
abbrev main_v388 : Ref sig .tc := ⟨.hbm, 435, rfl⟩
abbrev main_v389 : Ref sig .tc := ⟨.hbm, 436, rfl⟩
abbrev main_v390 : Ref sig .tc := ⟨.hbm, 437, rfl⟩
abbrev main_v391 : Ref sig .tc := ⟨.hbm, 438, rfl⟩
abbrev main_v392 : Ref sig .tc := ⟨.hbm, 439, rfl⟩
abbrev main_v393 : Ref sig .tc := ⟨.hbm, 440, rfl⟩
abbrev main_v394 : Ref sig .tc := ⟨.hbm, 441, rfl⟩
abbrev main_v395 : Ref sig .tc := ⟨.hbm, 442, rfl⟩
abbrev main_v396 : Ref sig .tc := ⟨.hbm, 443, rfl⟩
abbrev main_v397 : Ref sig .tc := ⟨.hbm, 444, rfl⟩
abbrev main_v398 : Ref sig .tc := ⟨.hbm, 445, rfl⟩
abbrev main_v399 : Ref sig .tc := ⟨.hbm, 446, rfl⟩
abbrev main_v400 : Ref sig .tc := ⟨.hbm, 447, rfl⟩
abbrev main_v401 : Ref sig .tc := ⟨.hbm, 448, rfl⟩
abbrev main_v402 : Ref sig .tc := ⟨.hbm, 449, rfl⟩
abbrev main_v403 : Ref sig .tc := ⟨.hbm, 450, rfl⟩
abbrev main_v404 : Ref sig .tc := ⟨.hbm, 451, rfl⟩
abbrev main_v405 : Ref sig .tc := ⟨.hbm, 452, rfl⟩
abbrev main_v406 : Ref sig .tc := ⟨.hbm, 453, rfl⟩
abbrev main_v407 : Ref sig .tc := ⟨.hbm, 454, rfl⟩
abbrev main_call4_v0 : Ref sig .tc := ⟨.hbm, 455, rfl⟩
abbrev main_call4_v1 : Ref sig .tc := ⟨.hbm, 456, rfl⟩
abbrev main_call4_cst : Ref sig .tc := ⟨.hbm, 457, rfl⟩
abbrev main_call4_v2 : Ref sig .tc := ⟨.hbm, 458, rfl⟩
abbrev main_call4_v3 : Ref sig .tc := ⟨.hbm, 459, rfl⟩
abbrev main_call4_cst_0 : Ref sig .tc := ⟨.hbm, 460, rfl⟩
abbrev main_call4_v4 : Ref sig .tc := ⟨.hbm, 461, rfl⟩
abbrev main_call4_v5 : Ref sig .tc := ⟨.hbm, 462, rfl⟩
abbrev main_v408 : Ref sig .tc := ⟨.hbm, 463, rfl⟩
abbrev main_v409 : Ref sig .tc := ⟨.hbm, 464, rfl⟩
abbrev main_v410 : Ref sig .tc := ⟨.hbm, 465, rfl⟩
abbrev main_v411 : Ref sig .tc := ⟨.hbm, 466, rfl⟩
abbrev main_v412 : Ref sig .tc := ⟨.hbm, 467, rfl⟩
abbrev main_v413 : Ref sig .tc := ⟨.hbm, 468, rfl⟩

abbrev nD : Nat := 1
abbrev τ : Topo := Topo.v7x

variable {F : FTy → Type} [FloatOps F]
-- ==== Proof.Names.lean ====
/-
  The names a proof of the streamed decode step uses: the slots of the kernel's seven rings of buffers, their
  semaphores, the blocks of sixteen sequences of the arrays that stay in HBM, and the loop's carried words at trip `k`.
  The equations below say that the slices the kernel forms are these slots, semaphores and blocks.

  The rings, by letter: `q`, `k`, `a`, `v` (two slots each, one block ahead), `s` (the state read, three slots, two
  blocks ahead), `t` (the state written) and `o` (the mixed rows written), two slots each, drained one trip behind.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Dec

open Cert.KernelIdeal Cert.KernelIdeal.Gen
open Idealize.ShloMosaic
open Idealize.ShloMosaic.TcCoe Idealize.ShloMosaic.Tactic

/-! ## The arrays in HBM, the rings' buffers and their semaphores -/

abbrev qA : Memref sig .tc .hbm S128x512 .f32 := Memref.whole main_arg0
abbrev kA : Memref sig .tc .hbm S128x512 .f32 := Memref.whole main_arg1
abbrev aA : Memref sig .tc .hbm S128x512 .f32 := Memref.whole main_arg2
abbrev vA : Memref sig .tc .hbm S128x1024 .f32 := Memref.whole main_arg3
abbrev sA : Memref sig .tc .hbm S128x4x128x256 .f32 := Memref.whole main_v0
abbrev tA : Memref sig .tc .hbm S128x4x128x256 .f32 := Memref.whole main_v1_0
abbrev oA : Memref sig .tc .hbm S128x1024 .f32 := Memref.whole main_v1_1
abbrev qM : Memref sig .tc .vmem S2x16x512 .f32 := Memref.whole cc0_scoped0
abbrev kM : Memref sig .tc .vmem S2x16x512 .f32 := Memref.whole cc0_scoped2
abbrev aM : Memref sig .tc .vmem S2x16x512 .f32 := Memref.whole cc0_scoped4
abbrev vM : Memref sig .tc .vmem S2x16x1024 .f32 := Memref.whole cc0_scoped6
abbrev sM : Memref sig .tc .vmem S3x16x4x128x256 .f32 := Memref.whole cc0_scoped8
abbrev tM : Memref sig .tc .vmem S2x16x4x128x256 .f32 := Memref.whole cc0_scoped10
abbrev oM : Memref sig .tc .vmem S2x16x1024 .f32 := Memref.whole cc0_scoped12
abbrev qS : DmaSems sig S2 := cc0_scoped1
abbrev kS : DmaSems sig S2 := cc0_scoped3
abbrev aS : DmaSems sig S2 := cc0_scoped5
abbrev vS : DmaSems sig S2 := cc0_scoped7
abbrev sS : DmaSems sig S3 := cc0_scoped9
abbrev tS : DmaSems sig S2 := cc0_scoped11
abbrev oS : DmaSems sig S2 := cc0_scoped13

/-! ## Offsets -/

abbrev cellOff (s : Nat) : Fin 1 → Nat := ![s]
abbrev slotOff (s : Nat) : Fin 3 → Nat := ![s, 0, 0]
abbrev slotOff5 (s : Nat) : Fin 5 → Nat := ![s, 0, 0, 0, 0]
abbrev rowsOff (b : Nat) : Fin 2 → Nat := ![16 * b, 0]
abbrev rowsOff4 (b : Nat) : Fin 4 → Nat := ![16 * b, 0, 0, 0]

theorem cellOff_inb : ∀ (s : Fin 2) a, cellOff s.val a + S1.size a ≤ S2.size a := by decide
theorem cellOff_inb3 : ∀ (s : Fin 3) a, cellOff s.val a + S1.size a ≤ S3.size a := by decide
theorem slotN_inb : ∀ (s : Fin 2) a, slotOff s.val a + S1x16x512.size a ≤ S2x16x512.size a := by decide
theorem slotW_inb : ∀ (s : Fin 2) a, slotOff s.val a + S1x16x1024.size a ≤ S2x16x1024.size a := by decide
theorem slotS_inb : ∀ (s : Fin 2) a, slotOff5 s.val a + S1x16x4x128x256.size a ≤ S2x16x4x128x256.size a := by decide
theorem slotS3_inb : ∀ (s : Fin 3) a, slotOff5 s.val a + S1x16x4x128x256.size a ≤ S3x16x4x128x256.size a := by decide
theorem rowsN_inb : ∀ (b : Fin 8) a, rowsOff b.val a + S16x512.size a ≤ S128x512.size a := by decide
theorem rowsW_inb : ∀ (b : Fin 8) a, rowsOff b.val a + S16x1024.size a ≤ S128x1024.size a := by decide
theorem rowsS_inb : ∀ (b : Fin 8) a, rowsOff4 b.val a + S16x4x128x256.size a ≤ S128x4x128x256.size a := by decide

/-! ## Slots, cells, blocks -/

/-- Semaphore `s` of a pair, as the body slices and squeezes it. -/
def cell (A : DmaSems sig S2) (s : Fin 2) : DmaSems sig S_ :=
  (A.slice (Rect.unit (s := S2) (cellOff s.val) S1.size (cellOff_inb s))).squeeze S_ squeezes_S1_S_
/-- Semaphore `s` of three. -/
def cell3 (A : DmaSems sig S3) (s : Fin 3) : DmaSems sig S_ :=
  (A.slice (Rect.unit (s := S3) (cellOff s.val) S1.size (cellOff_inb3 s))).squeeze S_ squeezes_S1_S_
/-- Slot `s` of a ring of blocks 512 wide. -/
def slotN (M : Memref sig .tc .vmem S2x16x512 .f32) (s : Fin 2) : Memref sig .tc .vmem S16x512 .f32 :=
  (M.slice (Rect.unit (s := S2x16x512) (slotOff s.val) S1x16x512.size (slotN_inb s)) (fun _ => rfl)).squeeze S16x512 squeezes_S1x16x512_S16x512
/-- Slot `s` of a ring of blocks 1024 wide. -/
def slotW (M : Memref sig .tc .vmem S2x16x1024 .f32) (s : Fin 2) : Memref sig .tc .vmem S16x1024 .f32 :=
  (M.slice (Rect.unit (s := S2x16x1024) (slotOff s.val) S1x16x1024.size (slotW_inb s)) (fun _ => rfl)).squeeze S16x1024 squeezes_S1x16x1024_S16x1024
/-- Slot `s` of the ring of state blocks written. -/
def slotS (M : Memref sig .tc .vmem S2x16x4x128x256 .f32) (s : Fin 2) : Memref sig .tc .vmem S16x4x128x256 .f32 :=
  (M.slice (Rect.unit (s := S2x16x4x128x256) (slotOff5 s.val) S1x16x4x128x256.size (slotS_inb s)) (fun _ => rfl)).squeeze S16x4x128x256 squeezes_S1x16x4x128x256_S16x4x128x256
/-- Slot `s` of the ring of state blocks read. -/
def slotS3 (M : Memref sig .tc .vmem S3x16x4x128x256 .f32) (s : Fin 3) : Memref sig .tc .vmem S16x4x128x256 .f32 :=
  (M.slice (Rect.unit (s := S3x16x4x128x256) (slotOff5 s.val) S1x16x4x128x256.size (slotS3_inb s)) (fun _ => rfl)).squeeze S16x4x128x256 squeezes_S1x16x4x128x256_S16x4x128x256
/-- Block `b` (sixteen rows) of an array 512 wide. -/
def rowsN (M : Memref sig .tc .hbm S128x512 .f32) (b : Fin 8) : Memref sig .tc .hbm S16x512 .f32 :=
  M.slice (Rect.unit (s := S128x512) (rowsOff b.val) S16x512.size (rowsN_inb b)) (fun _ => rfl)
/-- Block `b` of an array 1024 wide. -/
def rowsW (M : Memref sig .tc .hbm S128x1024 .f32) (b : Fin 8) : Memref sig .tc .hbm S16x1024 .f32 :=
  M.slice (Rect.unit (s := S128x1024) (rowsOff b.val) S16x1024.size (rowsW_inb b)) (fun _ => rfl)
/-- Block `b` of a state array. -/
def rowsS (M : Memref sig .tc .hbm S128x4x128x256 .f32) (b : Fin 8) : Memref sig .tc .hbm S16x4x128x256 .f32 :=
  M.slice (Rect.unit (s := S128x4x128x256) (rowsOff4 b.val) S16x4x128x256.size (rowsS_inb b)) (fun _ => rfl)

theorem cell_congr {A : DmaSems sig S2} {off : Fin 1 → Nat} {s : Fin 2} (e : off = cellOff s.val) (hh) :
    (A.slice (Rect.unit (s := S2) off S1.size hh)).squeeze S_ squeezes_S1_S_ = cell A s :=
  congrArg (fun X : DmaSems sig S1 => X.squeeze S_ squeezes_S1_S_) (SemArray.slice_unit_congr _ e _ _)
theorem cell3_congr {A : DmaSems sig S3} {off : Fin 1 → Nat} {s : Fin 3} (e : off = cellOff s.val) (hh) :
    (A.slice (Rect.unit (s := S3) off S1.size hh)).squeeze S_ squeezes_S1_S_ = cell3 A s :=
  congrArg (fun X : DmaSems sig S1 => X.squeeze S_ squeezes_S1_S_) (SemArray.slice_unit_congr _ e _ _)
theorem slotN_congr {M : Memref sig .tc .vmem S2x16x512 .f32} {off : Fin 3 → Nat} {s : Fin 2} (e : off = slotOff s.val) (hh hs) :
    (M.slice (Rect.unit (s := S2x16x512) off S1x16x512.size hh) hs).squeeze S16x512 squeezes_S1x16x512_S16x512 = slotN M s :=
  congrArg (fun X : Memref sig .tc .vmem S1x16x512 .f32 => X.squeeze S16x512 squeezes_S1x16x512_S16x512) (Memref.slice_unit_congr _ e _ _ _ _)
theorem slotW_congr {M : Memref sig .tc .vmem S2x16x1024 .f32} {off : Fin 3 → Nat} {s : Fin 2} (e : off = slotOff s.val) (hh hs) :
    (M.slice (Rect.unit (s := S2x16x1024) off S1x16x1024.size hh) hs).squeeze S16x1024 squeezes_S1x16x1024_S16x1024 = slotW M s :=
  congrArg (fun X : Memref sig .tc .vmem S1x16x1024 .f32 => X.squeeze S16x1024 squeezes_S1x16x1024_S16x1024) (Memref.slice_unit_congr _ e _ _ _ _)
theorem slotS_congr {M : Memref sig .tc .vmem S2x16x4x128x256 .f32} {off : Fin 5 → Nat} {s : Fin 2} (e : off = slotOff5 s.val) (hh hs) :
    (M.slice (Rect.unit (s := S2x16x4x128x256) off S1x16x4x128x256.size hh) hs).squeeze S16x4x128x256 squeezes_S1x16x4x128x256_S16x4x128x256 = slotS M s :=
  congrArg (fun X : Memref sig .tc .vmem S1x16x4x128x256 .f32 => X.squeeze S16x4x128x256 squeezes_S1x16x4x128x256_S16x4x128x256) (Memref.slice_unit_congr _ e _ _ _ _)
theorem slotS3_congr {M : Memref sig .tc .vmem S3x16x4x128x256 .f32} {off : Fin 5 → Nat} {s : Fin 3} (e : off = slotOff5 s.val) (hh hs) :
    (M.slice (Rect.unit (s := S3x16x4x128x256) off S1x16x4x128x256.size hh) hs).squeeze S16x4x128x256 squeezes_S1x16x4x128x256_S16x4x128x256 = slotS3 M s :=
  congrArg (fun X : Memref sig .tc .vmem S1x16x4x128x256 .f32 => X.squeeze S16x4x128x256 squeezes_S1x16x4x128x256_S16x4x128x256) (Memref.slice_unit_congr _ e _ _ _ _)
theorem rowsN_congr {M : Memref sig .tc .hbm S128x512 .f32} {off : Fin 2 → Nat} {b : Fin 8} (e : off = rowsOff b.val) (hh hs) :
    M.slice (Rect.unit (s := S128x512) off S16x512.size hh) hs = rowsN M b := Memref.slice_unit_congr _ e _ _ _ (fun _ => rfl)
theorem rowsW_congr {M : Memref sig .tc .hbm S128x1024 .f32} {off : Fin 2 → Nat} {b : Fin 8} (e : off = rowsOff b.val) (hh hs) :
    M.slice (Rect.unit (s := S128x1024) off S16x1024.size hh) hs = rowsW M b := Memref.slice_unit_congr _ e _ _ _ (fun _ => rfl)
theorem rowsS_congr {M : Memref sig .tc .hbm S128x4x128x256 .f32} {off : Fin 4 → Nat} {b : Fin 8} (e : off = rowsOff4 b.val) (hh hs) :
    M.slice (Rect.unit (s := S128x4x128x256) off S16x4x128x256.size hh) hs = rowsS M b := Memref.slice_unit_congr _ e _ _ _ (fun _ => rfl)

/-! ## The loop's carried words before trip `k` -/

/-- Blocks waited for, computed and started out. -/
def wA (k : Nat) : BitVec 32 := BitVec.ofNat 32 k
/-- Blocks of `q`, `k`, `a`, `v` issued. -/
def wB (k : Nat) : BitVec 32 := BitVec.ofNat 32 (min (k + 1) 8)
/-- Blocks of the state issued. -/
def wC (k : Nat) : BitVec 32 := BitVec.ofNat 32 (min (k + 2) 8)
/-- Blocks whose copies out were waited for. -/
def wD (k : Nat) : BitVec 32 := BitVec.ofNat 32 (k - 1)
/-- The block the trip works on. -/
def wE (k : Nat) : BitVec 32 := BitVec.ofNat 32 (k % 8)
/-- The fifteen words. -/
abbrev words (k : Nat) : BitVec 32 × BitVec 32 × BitVec 32 × BitVec 32 × BitVec 32 × BitVec 32 × BitVec 32 × BitVec 32 × BitVec 32 × BitVec 32 × BitVec 32 × BitVec 32 × BitVec 32 × BitVec 32 × BitVec 32 :=
  (wB k, wA k, wB k, wA k, wB k, wA k, wB k, wA k, wC k, wA k, wA k, wD k, wA k, wD k, wE k)

/-! The prologue: block 0 of every input, block 1 of the state. -/
@[sl_canon] theorem n1q (hh) : (qS.slice (Rect.unit (s := S2) k0_off1 S1.size hh)).squeeze S_ squeezes_S1_S_ = cell qS (Ring.sl 2 0) := cell_congr (by decide) _
@[sl_canon] theorem n1k (hh) : (kS.slice (Rect.unit (s := S2) k0_off1 S1.size hh)).squeeze S_ squeezes_S1_S_ = cell kS (Ring.sl 2 0) := cell_congr (by decide) _
@[sl_canon] theorem n1a (hh) : (aS.slice (Rect.unit (s := S2) k0_off1 S1.size hh)).squeeze S_ squeezes_S1_S_ = cell aS (Ring.sl 2 0) := cell_congr (by decide) _
@[sl_canon] theorem n1v (hh) : (vS.slice (Rect.unit (s := S2) k0_off1 S1.size hh)).squeeze S_ squeezes_S1_S_ = cell vS (Ring.sl 2 0) := cell_congr (by decide) _
@[sl_canon] theorem n2q (hh hs) : (qM.slice (Rect.unit (s := S2x16x512) k0_off2 S1x16x512.size hh) hs).squeeze S16x512 squeezes_S1x16x512_S16x512 = slotN qM (Ring.sl 2 0) := slotN_congr (by decide) _ _
@[sl_canon] theorem n2k (hh hs) : (kM.slice (Rect.unit (s := S2x16x512) k0_off2 S1x16x512.size hh) hs).squeeze S16x512 squeezes_S1x16x512_S16x512 = slotN kM (Ring.sl 2 0) := slotN_congr (by decide) _ _
@[sl_canon] theorem n2a (hh hs) : (aM.slice (Rect.unit (s := S2x16x512) k0_off2 S1x16x512.size hh) hs).squeeze S16x512 squeezes_S1x16x512_S16x512 = slotN aM (Ring.sl 2 0) := slotN_congr (by decide) _ _
@[sl_canon] theorem n3v (hh hs) : (vM.slice (Rect.unit (s := S2x16x1024) k0_off3 S1x16x1024.size hh) hs).squeeze S16x1024 squeezes_S1x16x1024_S16x1024 = slotW vM (Ring.sl 2 0) := slotW_congr (by decide) _ _
@[sl_canon] theorem n4 (hh) : (sS.slice (Rect.unit (s := S3) k0_off4 S1.size hh)).squeeze S_ squeezes_S1_S_ = cell3 sS (Ring.sl 3 0) := cell3_congr (by decide) _
@[sl_canon] theorem n5 (hh hs) : (sM.slice (Rect.unit (s := S3x16x4x128x256) k0_off5 S1x16x4x128x256.size hh) hs).squeeze S16x4x128x256 squeezes_S1x16x4x128x256_S16x4x128x256 = slotS3 sM (Ring.sl 3 0) := slotS3_congr (by decide) _ _
@[sl_canon] theorem n6 (hh) : (sS.slice (Rect.unit (s := S3) k0_off6 S1.size hh)).squeeze S_ squeezes_S1_S_ = cell3 sS (Ring.sl 3 1) := cell3_congr (by decide) _
@[sl_canon] theorem n7 (hh hs) : (sM.slice (Rect.unit (s := S3x16x4x128x256) k0_off7 S1x16x4x128x256.size hh) hs).squeeze S16x4x128x256 squeezes_S1x16x4x128x256_S16x4x128x256 = slotS3 sM (Ring.sl 3 1) := slotS3_congr (by decide) _ _
@[sl_canon] theorem n8 (hh hs) : sA.slice (Rect.unit (s := S128x4x128x256) k0_off8 S16x4x128x256.size hh) hs = rowsS sA (Ring.bk 8 1) := rowsS_congr (by decide) _ _
@[sl_canon] theorem n0q (hh hs) : qA.slice (Rect.unit (s := S128x512) ![0, 0] S16x512.size hh) hs = rowsN qA (Ring.bk 8 0) := rowsN_congr (by decide) _ _
@[sl_canon] theorem n0k (hh hs) : kA.slice (Rect.unit (s := S128x512) ![0, 0] S16x512.size hh) hs = rowsN kA (Ring.bk 8 0) := rowsN_congr (by decide) _ _
@[sl_canon] theorem n0a (hh hs) : aA.slice (Rect.unit (s := S128x512) ![0, 0] S16x512.size hh) hs = rowsN aA (Ring.bk 8 0) := rowsN_congr (by decide) _ _
@[sl_canon] theorem n0v (hh hs) : vA.slice (Rect.unit (s := S128x1024) ![0, 0] S16x1024.size hh) hs = rowsW vA (Ring.bk 8 0) := rowsW_congr (by decide) _ _
@[sl_canon] theorem n0s (hh hs) : sA.slice (Rect.unit (s := S128x4x128x256) ![0, 0, 0, 0] S16x4x128x256.size hh) hs = rowsS sA (Ring.bk 8 0) := rowsS_congr (by decide) _ _
/-! A trip: the slots, cells and blocks its transfers and its computation name. -/
theorem o9 : ∀ k : Fin k0_t1_loop.trips, k.val < 7 → k0_off9 (wB k.val) = cellOff (Ring.sl 2 (k.val + 1)).val := by decide
@[sl_canon] theorem n9 (k : Fin k0_t1_loop.trips) (h : k.val < 7) (hh) : (qS.slice (Rect.unit (s := S2) (k0_off9 (wB k.val)) S1.size hh)).squeeze S_ squeezes_S1_S_ = cell qS (Ring.sl 2 (k.val + 1)) := cell_congr (o9 k h) _
theorem o10 : ∀ k : Fin k0_t1_loop.trips, k.val < 7 → k0_off10 (wB k.val) = slotOff (Ring.sl 2 (k.val + 1)).val := by decide
@[sl_canon] theorem n10 (k : Fin k0_t1_loop.trips) (h : k.val < 7) (hh hs) : (qM.slice (Rect.unit (s := S2x16x512) (k0_off10 (wB k.val)) S1x16x512.size hh) hs).squeeze S16x512 squeezes_S1x16x512_S16x512 = slotN qM (Ring.sl 2 (k.val + 1)) := slotN_congr (o10 k h) _ _
theorem o11 : ∀ k : Fin k0_t1_loop.trips, k.val < 7 → k0_off11 (wE k.val) = rowsOff (Ring.bk 8 (k.val + 1)).val := by decide
@[sl_canon] theorem n11 (k : Fin k0_t1_loop.trips) (h : k.val < 7) (hh hs) : qA.slice (Rect.unit (s := S128x512) (k0_off11 (wE k.val)) S16x512.size hh) hs = rowsN qA (Ring.bk 8 (k.val + 1)) := rowsN_congr (o11 k h) _ _
theorem o12 : ∀ k : Fin k0_t1_loop.trips, k.val < 7 → k0_off12 (wB k.val) = cellOff (Ring.sl 2 (k.val + 1)).val := by decide
@[sl_canon] theorem n12 (k : Fin k0_t1_loop.trips) (h : k.val < 7) (hh) : (kS.slice (Rect.unit (s := S2) (k0_off12 (wB k.val)) S1.size hh)).squeeze S_ squeezes_S1_S_ = cell kS (Ring.sl 2 (k.val + 1)) := cell_congr (o12 k h) _
theorem o13 : ∀ k : Fin k0_t1_loop.trips, k.val < 7 → k0_off13 (wB k.val) = slotOff (Ring.sl 2 (k.val + 1)).val := by decide
@[sl_canon] theorem n13 (k : Fin k0_t1_loop.trips) (h : k.val < 7) (hh hs) : (kM.slice (Rect.unit (s := S2x16x512) (k0_off13 (wB k.val)) S1x16x512.size hh) hs).squeeze S16x512 squeezes_S1x16x512_S16x512 = slotN kM (Ring.sl 2 (k.val + 1)) := slotN_congr (o13 k h) _ _
theorem o14 : ∀ k : Fin k0_t1_loop.trips, k.val < 7 → k0_off14 (wE k.val) = rowsOff (Ring.bk 8 (k.val + 1)).val := by decide
@[sl_canon] theorem n14 (k : Fin k0_t1_loop.trips) (h : k.val < 7) (hh hs) : kA.slice (Rect.unit (s := S128x512) (k0_off14 (wE k.val)) S16x512.size hh) hs = rowsN kA (Ring.bk 8 (k.val + 1)) := rowsN_congr (o14 k h) _ _
theorem o15 : ∀ k : Fin k0_t1_loop.trips, k.val < 7 → k0_off15 (wB k.val) = cellOff (Ring.sl 2 (k.val + 1)).val := by decide
@[sl_canon] theorem n15 (k : Fin k0_t1_loop.trips) (h : k.val < 7) (hh) : (aS.slice (Rect.unit (s := S2) (k0_off15 (wB k.val)) S1.size hh)).squeeze S_ squeezes_S1_S_ = cell aS (Ring.sl 2 (k.val + 1)) := cell_congr (o15 k h) _
theorem o16 : ∀ k : Fin k0_t1_loop.trips, k.val < 7 → k0_off16 (wB k.val) = slotOff (Ring.sl 2 (k.val + 1)).val := by decide
@[sl_canon] theorem n16 (k : Fin k0_t1_loop.trips) (h : k.val < 7) (hh hs) : (aM.slice (Rect.unit (s := S2x16x512) (k0_off16 (wB k.val)) S1x16x512.size hh) hs).squeeze S16x512 squeezes_S1x16x512_S16x512 = slotN aM (Ring.sl 2 (k.val + 1)) := slotN_congr (o16 k h) _ _
theorem o17 : ∀ k : Fin k0_t1_loop.trips, k.val < 7 → k0_off17 (wE k.val) = rowsOff (Ring.bk 8 (k.val + 1)).val := by decide
@[sl_canon] theorem n17 (k : Fin k0_t1_loop.trips) (h : k.val < 7) (hh hs) : aA.slice (Rect.unit (s := S128x512) (k0_off17 (wE k.val)) S16x512.size hh) hs = rowsN aA (Ring.bk 8 (k.val + 1)) := rowsN_congr (o17 k h) _ _
theorem o18 : ∀ k : Fin k0_t1_loop.trips, k.val < 7 → k0_off18 (wB k.val) = cellOff (Ring.sl 2 (k.val + 1)).val := by decide
@[sl_canon] theorem n18 (k : Fin k0_t1_loop.trips) (h : k.val < 7) (hh) : (vS.slice (Rect.unit (s := S2) (k0_off18 (wB k.val)) S1.size hh)).squeeze S_ squeezes_S1_S_ = cell vS (Ring.sl 2 (k.val + 1)) := cell_congr (o18 k h) _
theorem o19 : ∀ k : Fin k0_t1_loop.trips, k.val < 7 → k0_off19 (wB k.val) = slotOff (Ring.sl 2 (k.val + 1)).val := by decide
@[sl_canon] theorem n19 (k : Fin k0_t1_loop.trips) (h : k.val < 7) (hh hs) : (vM.slice (Rect.unit (s := S2x16x1024) (k0_off19 (wB k.val)) S1x16x1024.size hh) hs).squeeze S16x1024 squeezes_S1x16x1024_S16x1024 = slotW vM (Ring.sl 2 (k.val + 1)) := slotW_congr (o19 k h) _ _
theorem o20 : ∀ k : Fin k0_t1_loop.trips, k.val < 7 → k0_off20 (wE k.val) = rowsOff (Ring.bk 8 (k.val + 1)).val := by decide
@[sl_canon] theorem n20 (k : Fin k0_t1_loop.trips) (h : k.val < 7) (hh hs) : vA.slice (Rect.unit (s := S128x1024) (k0_off20 (wE k.val)) S16x1024.size hh) hs = rowsW vA (Ring.bk 8 (k.val + 1)) := rowsW_congr (o20 k h) _ _
theorem o21 : ∀ k : Fin k0_t1_loop.trips, k.val < 6 → k0_off21 (wC k.val) = cellOff (Ring.sl 3 (k.val + 2)).val := by decide
@[sl_canon] theorem n21 (k : Fin k0_t1_loop.trips) (h : k.val < 6) (hh) : (sS.slice (Rect.unit (s := S3) (k0_off21 (wC k.val)) S1.size hh)).squeeze S_ squeezes_S1_S_ = cell3 sS (Ring.sl 3 (k.val + 2)) := cell3_congr (o21 k h) _
theorem o22 : ∀ k : Fin k0_t1_loop.trips, k.val < 6 → k0_off22 (wC k.val) = slotOff5 (Ring.sl 3 (k.val + 2)).val := by decide
@[sl_canon] theorem n22 (k : Fin k0_t1_loop.trips) (h : k.val < 6) (hh hs) : (sM.slice (Rect.unit (s := S3x16x4x128x256) (k0_off22 (wC k.val)) S1x16x4x128x256.size hh) hs).squeeze S16x4x128x256 squeezes_S1x16x4x128x256_S16x4x128x256 = slotS3 sM (Ring.sl 3 (k.val + 2)) := slotS3_congr (o22 k h) _ _
theorem o23 : ∀ k : Fin k0_t1_loop.trips, k.val < 6 → k0_off23 (wE k.val) = rowsOff4 (Ring.bk 8 (k.val + 2)).val := by decide
@[sl_canon] theorem n23 (k : Fin k0_t1_loop.trips) (h : k.val < 6) (hh hs) : sA.slice (Rect.unit (s := S128x4x128x256) (k0_off23 (wE k.val)) S16x4x128x256.size hh) hs = rowsS sA (Ring.bk 8 (k.val + 2)) := rowsS_congr (o23 k h) _ _
theorem o24 : ∀ k : Fin k0_t1_loop.trips, k0_off24 (wA k.val) = cellOff (Ring.sl 2 k.val).val := by decide
@[sl_canon] theorem n24 (k : Fin k0_t1_loop.trips) (hh) : (qS.slice (Rect.unit (s := S2) (k0_off24 (wA k.val)) S1.size hh)).squeeze S_ squeezes_S1_S_ = cell qS (Ring.sl 2 k.val) := cell_congr (o24 k) _
theorem o25 : ∀ k : Fin k0_t1_loop.trips, k0_off25 (wA k.val) = slotOff (Ring.sl 2 k.val).val := by decide
@[sl_canon] theorem n25 (k : Fin k0_t1_loop.trips) (hh hs) : (qM.slice (Rect.unit (s := S2x16x512) (k0_off25 (wA k.val)) S1x16x512.size hh) hs).squeeze S16x512 squeezes_S1x16x512_S16x512 = slotN qM (Ring.sl 2 k.val) := slotN_congr (o25 k) _ _
theorem o26 : ∀ k : Fin k0_t1_loop.trips, k0_off26 (wE k.val) = rowsOff (Ring.bk 8 k.val).val := by decide
@[sl_canon] theorem n26 (k : Fin k0_t1_loop.trips) (hh hs) : qA.slice (Rect.unit (s := S128x512) (k0_off26 (wE k.val)) S16x512.size hh) hs = rowsN qA (Ring.bk 8 k.val) := rowsN_congr (o26 k) _ _
theorem o27 : ∀ k : Fin k0_t1_loop.trips, k0_off27 (wA k.val) = cellOff (Ring.sl 2 k.val).val := by decide
@[sl_canon] theorem n27 (k : Fin k0_t1_loop.trips) (hh) : (kS.slice (Rect.unit (s := S2) (k0_off27 (wA k.val)) S1.size hh)).squeeze S_ squeezes_S1_S_ = cell kS (Ring.sl 2 k.val) := cell_congr (o27 k) _
theorem o28 : ∀ k : Fin k0_t1_loop.trips, k0_off28 (wA k.val) = slotOff (Ring.sl 2 k.val).val := by decide
@[sl_canon] theorem n28 (k : Fin k0_t1_loop.trips) (hh hs) : (kM.slice (Rect.unit (s := S2x16x512) (k0_off28 (wA k.val)) S1x16x512.size hh) hs).squeeze S16x512 squeezes_S1x16x512_S16x512 = slotN kM (Ring.sl 2 k.val) := slotN_congr (o28 k) _ _
theorem o29 : ∀ k : Fin k0_t1_loop.trips, k0_off29 (wE k.val) = rowsOff (Ring.bk 8 k.val).val := by decide
@[sl_canon] theorem n29 (k : Fin k0_t1_loop.trips) (hh hs) : kA.slice (Rect.unit (s := S128x512) (k0_off29 (wE k.val)) S16x512.size hh) hs = rowsN kA (Ring.bk 8 k.val) := rowsN_congr (o29 k) _ _
theorem o30 : ∀ k : Fin k0_t1_loop.trips, k0_off30 (wA k.val) = cellOff (Ring.sl 2 k.val).val := by decide
@[sl_canon] theorem n30 (k : Fin k0_t1_loop.trips) (hh) : (aS.slice (Rect.unit (s := S2) (k0_off30 (wA k.val)) S1.size hh)).squeeze S_ squeezes_S1_S_ = cell aS (Ring.sl 2 k.val) := cell_congr (o30 k) _
theorem o31 : ∀ k : Fin k0_t1_loop.trips, k0_off31 (wA k.val) = slotOff (Ring.sl 2 k.val).val := by decide
@[sl_canon] theorem n31 (k : Fin k0_t1_loop.trips) (hh hs) : (aM.slice (Rect.unit (s := S2x16x512) (k0_off31 (wA k.val)) S1x16x512.size hh) hs).squeeze S16x512 squeezes_S1x16x512_S16x512 = slotN aM (Ring.sl 2 k.val) := slotN_congr (o31 k) _ _
theorem o32 : ∀ k : Fin k0_t1_loop.trips, k0_off32 (wE k.val) = rowsOff (Ring.bk 8 k.val).val := by decide
@[sl_canon] theorem n32 (k : Fin k0_t1_loop.trips) (hh hs) : aA.slice (Rect.unit (s := S128x512) (k0_off32 (wE k.val)) S16x512.size hh) hs = rowsN aA (Ring.bk 8 k.val) := rowsN_congr (o32 k) _ _
theorem o33 : ∀ k : Fin k0_t1_loop.trips, k0_off33 (wA k.val) = cellOff (Ring.sl 2 k.val).val := by decide
@[sl_canon] theorem n33 (k : Fin k0_t1_loop.trips) (hh) : (vS.slice (Rect.unit (s := S2) (k0_off33 (wA k.val)) S1.size hh)).squeeze S_ squeezes_S1_S_ = cell vS (Ring.sl 2 k.val) := cell_congr (o33 k) _
theorem o34 : ∀ k : Fin k0_t1_loop.trips, k0_off34 (wA k.val) = slotOff (Ring.sl 2 k.val).val := by decide
@[sl_canon] theorem n34 (k : Fin k0_t1_loop.trips) (hh hs) : (vM.slice (Rect.unit (s := S2x16x1024) (k0_off34 (wA k.val)) S1x16x1024.size hh) hs).squeeze S16x1024 squeezes_S1x16x1024_S16x1024 = slotW vM (Ring.sl 2 k.val) := slotW_congr (o34 k) _ _
theorem o35 : ∀ k : Fin k0_t1_loop.trips, k0_off35 (wE k.val) = rowsOff (Ring.bk 8 k.val).val := by decide
@[sl_canon] theorem n35 (k : Fin k0_t1_loop.trips) (hh hs) : vA.slice (Rect.unit (s := S128x1024) (k0_off35 (wE k.val)) S16x1024.size hh) hs = rowsW vA (Ring.bk 8 k.val) := rowsW_congr (o35 k) _ _
theorem o36 : ∀ k : Fin k0_t1_loop.trips, k0_off36 (wA k.val) = cellOff (Ring.sl 3 k.val).val := by decide
@[sl_canon] theorem n36 (k : Fin k0_t1_loop.trips) (hh) : (sS.slice (Rect.unit (s := S3) (k0_off36 (wA k.val)) S1.size hh)).squeeze S_ squeezes_S1_S_ = cell3 sS (Ring.sl 3 k.val) := cell3_congr (o36 k) _
theorem o37 : ∀ k : Fin k0_t1_loop.trips, k0_off37 (wA k.val) = slotOff5 (Ring.sl 3 k.val).val := by decide
@[sl_canon] theorem n37 (k : Fin k0_t1_loop.trips) (hh hs) : (sM.slice (Rect.unit (s := S3x16x4x128x256) (k0_off37 (wA k.val)) S1x16x4x128x256.size hh) hs).squeeze S16x4x128x256 squeezes_S1x16x4x128x256_S16x4x128x256 = slotS3 sM (Ring.sl 3 k.val) := slotS3_congr (o37 k) _ _
theorem o38 : ∀ k : Fin k0_t1_loop.trips, k0_off38 (wE k.val) = rowsOff4 (Ring.bk 8 k.val).val := by decide
@[sl_canon] theorem n38 (k : Fin k0_t1_loop.trips) (hh hs) : sA.slice (Rect.unit (s := S128x4x128x256) (k0_off38 (wE k.val)) S16x4x128x256.size hh) hs = rowsS sA (Ring.bk 8 k.val) := rowsS_congr (o38 k) _ _
theorem o39 : ∀ k : Fin k0_t1_loop.trips, k0_off39 (wA k.val) = slotOff (Ring.sl 2 k.val).val := by decide
@[sl_canon] theorem n39 (k : Fin k0_t1_loop.trips) (hh hs) : (aM.slice (Rect.unit (s := S2x16x512) (k0_off39 (wA k.val)) S1x16x512.size hh) hs).squeeze S16x512 squeezes_S1x16x512_S16x512 = slotN aM (Ring.sl 2 k.val) := slotN_congr (o39 k) _ _
theorem o40 : ∀ k : Fin k0_t1_loop.trips, k0_off40 (wA k.val) = slotOff (Ring.sl 2 k.val).val := by decide
@[sl_canon] theorem n40 (k : Fin k0_t1_loop.trips) (hh hs) : (kM.slice (Rect.unit (s := S2x16x512) (k0_off40 (wA k.val)) S1x16x512.size hh) hs).squeeze S16x512 squeezes_S1x16x512_S16x512 = slotN kM (Ring.sl 2 k.val) := slotN_congr (o40 k) _ _
theorem o41 : ∀ k : Fin k0_t1_loop.trips, k0_off41 (wA k.val) = slotOff (Ring.sl 2 k.val).val := by decide
@[sl_canon] theorem n41 (k : Fin k0_t1_loop.trips) (hh hs) : (qM.slice (Rect.unit (s := S2x16x512) (k0_off41 (wA k.val)) S1x16x512.size hh) hs).squeeze S16x512 squeezes_S1x16x512_S16x512 = slotN qM (Ring.sl 2 k.val) := slotN_congr (o41 k) _ _
theorem o42 : ∀ k : Fin k0_t1_loop.trips, k0_off42 (wA k.val) = slotOff (Ring.sl 2 k.val).val := by decide
@[sl_canon] theorem n42 (k : Fin k0_t1_loop.trips) (hh hs) : (vM.slice (Rect.unit (s := S2x16x1024) (k0_off42 (wA k.val)) S1x16x1024.size hh) hs).squeeze S16x1024 squeezes_S1x16x1024_S16x1024 = slotW vM (Ring.sl 2 k.val) := slotW_congr (o42 k) _ _
theorem o43 : ∀ k : Fin k0_t1_loop.trips, k0_off43 (wA k.val) = slotOff5 (Ring.sl 3 k.val).val := by decide
@[sl_canon] theorem n43 (k : Fin k0_t1_loop.trips) (hh hs) : (sM.slice (Rect.unit (s := S3x16x4x128x256) (k0_off43 (wA k.val)) S1x16x4x128x256.size hh) hs).squeeze S16x4x128x256 squeezes_S1x16x4x128x256_S16x4x128x256 = slotS3 sM (Ring.sl 3 k.val) := slotS3_congr (o43 k) _ _
theorem o44 : ∀ k : Fin k0_t1_loop.trips, k0_off44 (wA k.val) = slotOff5 (Ring.sl 2 k.val).val := by decide
@[sl_canon] theorem n44 (k : Fin k0_t1_loop.trips) (hh hs) : (tM.slice (Rect.unit (s := S2x16x4x128x256) (k0_off44 (wA k.val)) S1x16x4x128x256.size hh) hs).squeeze S16x4x128x256 squeezes_S1x16x4x128x256_S16x4x128x256 = slotS tM (Ring.sl 2 k.val) := slotS_congr (o44 k) _ _
theorem o45 : ∀ k : Fin k0_t1_loop.trips, k0_off45 (wA k.val) = slotOff5 (Ring.sl 3 k.val).val := by decide
@[sl_canon] theorem n45 (k : Fin k0_t1_loop.trips) (hh hs) : (sM.slice (Rect.unit (s := S3x16x4x128x256) (k0_off45 (wA k.val)) S1x16x4x128x256.size hh) hs).squeeze S16x4x128x256 squeezes_S1x16x4x128x256_S16x4x128x256 = slotS3 sM (Ring.sl 3 k.val) := slotS3_congr (o45 k) _ _
theorem o46 : ∀ k : Fin k0_t1_loop.trips, k0_off46 (wA k.val) = slotOff (Ring.sl 2 k.val).val := by decide
@[sl_canon] theorem n46 (k : Fin k0_t1_loop.trips) (hh hs) : (oM.slice (Rect.unit (s := S2x16x1024) (k0_off46 (wA k.val)) S1x16x1024.size hh) hs).squeeze S16x1024 squeezes_S1x16x1024_S16x1024 = slotW oM (Ring.sl 2 k.val) := slotW_congr (o46 k) _ _
theorem o47 : ∀ k : Fin k0_t1_loop.trips, k0_off47 (wA k.val) = slotOff (Ring.sl 2 k.val).val := by decide
@[sl_canon] theorem n47 (k : Fin k0_t1_loop.trips) (hh hs) : (aM.slice (Rect.unit (s := S2x16x512) (k0_off47 (wA k.val)) S1x16x512.size hh) hs).squeeze S16x512 squeezes_S1x16x512_S16x512 = slotN aM (Ring.sl 2 k.val) := slotN_congr (o47 k) _ _
theorem o48 : ∀ k : Fin k0_t1_loop.trips, k0_off48 (wA k.val) = slotOff (Ring.sl 2 k.val).val := by decide
@[sl_canon] theorem n48 (k : Fin k0_t1_loop.trips) (hh hs) : (kM.slice (Rect.unit (s := S2x16x512) (k0_off48 (wA k.val)) S1x16x512.size hh) hs).squeeze S16x512 squeezes_S1x16x512_S16x512 = slotN kM (Ring.sl 2 k.val) := slotN_congr (o48 k) _ _
theorem o49 : ∀ k : Fin k0_t1_loop.trips, k0_off49 (wA k.val) = slotOff (Ring.sl 2 k.val).val := by decide
@[sl_canon] theorem n49 (k : Fin k0_t1_loop.trips) (hh hs) : (qM.slice (Rect.unit (s := S2x16x512) (k0_off49 (wA k.val)) S1x16x512.size hh) hs).squeeze S16x512 squeezes_S1x16x512_S16x512 = slotN qM (Ring.sl 2 k.val) := slotN_congr (o49 k) _ _
theorem o50 : ∀ k : Fin k0_t1_loop.trips, k0_off50 (wA k.val) = slotOff (Ring.sl 2 k.val).val := by decide
@[sl_canon] theorem n50 (k : Fin k0_t1_loop.trips) (hh hs) : (vM.slice (Rect.unit (s := S2x16x1024) (k0_off50 (wA k.val)) S1x16x1024.size hh) hs).squeeze S16x1024 squeezes_S1x16x1024_S16x1024 = slotW vM (Ring.sl 2 k.val) := slotW_congr (o50 k) _ _
theorem o51 : ∀ k : Fin k0_t1_loop.trips, k0_off51 (wA k.val) = slotOff5 (Ring.sl 3 k.val).val := by decide
@[sl_canon] theorem n51 (k : Fin k0_t1_loop.trips) (hh hs) : (sM.slice (Rect.unit (s := S3x16x4x128x256) (k0_off51 (wA k.val)) S1x16x4x128x256.size hh) hs).squeeze S16x4x128x256 squeezes_S1x16x4x128x256_S16x4x128x256 = slotS3 sM (Ring.sl 3 k.val) := slotS3_congr (o51 k) _ _
theorem o52 : ∀ k : Fin k0_t1_loop.trips, k0_off52 (wA k.val) = slotOff5 (Ring.sl 2 k.val).val := by decide
@[sl_canon] theorem n52 (k : Fin k0_t1_loop.trips) (hh hs) : (tM.slice (Rect.unit (s := S2x16x4x128x256) (k0_off52 (wA k.val)) S1x16x4x128x256.size hh) hs).squeeze S16x4x128x256 squeezes_S1x16x4x128x256_S16x4x128x256 = slotS tM (Ring.sl 2 k.val) := slotS_congr (o52 k) _ _
theorem o53 : ∀ k : Fin k0_t1_loop.trips, k0_off53 (wA k.val) = cellOff (Ring.sl 2 k.val).val := by decide
@[sl_canon] theorem n53 (k : Fin k0_t1_loop.trips) (hh) : (tS.slice (Rect.unit (s := S2) (k0_off53 (wA k.val)) S1.size hh)).squeeze S_ squeezes_S1_S_ = cell tS (Ring.sl 2 k.val) := cell_congr (o53 k) _
theorem o54 : ∀ k : Fin k0_t1_loop.trips, k0_off54 (wE k.val) = rowsOff4 (Ring.bk 8 k.val).val := by decide
@[sl_canon] theorem n54 (k : Fin k0_t1_loop.trips) (hh hs) : tA.slice (Rect.unit (s := S128x4x128x256) (k0_off54 (wE k.val)) S16x4x128x256.size hh) hs = rowsS tA (Ring.bk 8 k.val) := rowsS_congr (o54 k) _ _
theorem o55 : ∀ k : Fin k0_t1_loop.trips, k0_off55 (wA k.val) = slotOff5 (Ring.sl 2 k.val).val := by decide
@[sl_canon] theorem n55 (k : Fin k0_t1_loop.trips) (hh hs) : (tM.slice (Rect.unit (s := S2x16x4x128x256) (k0_off55 (wA k.val)) S1x16x4x128x256.size hh) hs).squeeze S16x4x128x256 squeezes_S1x16x4x128x256_S16x4x128x256 = slotS tM (Ring.sl 2 k.val) := slotS_congr (o55 k) _ _
theorem o56 : ∀ k : Fin k0_t1_loop.trips, k0_off56 (wA k.val) = cellOff (Ring.sl 2 k.val).val := by decide
@[sl_canon] theorem n56 (k : Fin k0_t1_loop.trips) (hh) : (oS.slice (Rect.unit (s := S2) (k0_off56 (wA k.val)) S1.size hh)).squeeze S_ squeezes_S1_S_ = cell oS (Ring.sl 2 k.val) := cell_congr (o56 k) _
theorem o57 : ∀ k : Fin k0_t1_loop.trips, k0_off57 (wE k.val) = rowsOff (Ring.bk 8 k.val).val := by decide
@[sl_canon] theorem n57 (k : Fin k0_t1_loop.trips) (hh hs) : oA.slice (Rect.unit (s := S128x1024) (k0_off57 (wE k.val)) S16x1024.size hh) hs = rowsW oA (Ring.bk 8 k.val) := rowsW_congr (o57 k) _ _
theorem o58 : ∀ k : Fin k0_t1_loop.trips, k0_off58 (wA k.val) = slotOff (Ring.sl 2 k.val).val := by decide
@[sl_canon] theorem n58 (k : Fin k0_t1_loop.trips) (hh hs) : (oM.slice (Rect.unit (s := S2x16x1024) (k0_off58 (wA k.val)) S1x16x1024.size hh) hs).squeeze S16x1024 squeezes_S1x16x1024_S16x1024 = slotW oM (Ring.sl 2 k.val) := slotW_congr (o58 k) _ _
theorem o59 : ∀ k : Fin k0_t1_loop.trips, 1 ≤ k.val → k0_off59 (wD k.val) = cellOff (Ring.sl 2 (k.val - 1)).val := by decide
@[sl_canon] theorem n59 (k : Fin k0_t1_loop.trips) (h : 1 ≤ k.val) (hh) : (tS.slice (Rect.unit (s := S2) (k0_off59 (wD k.val)) S1.size hh)).squeeze S_ squeezes_S1_S_ = cell tS (Ring.sl 2 (k.val - 1)) := cell_congr (o59 k h) _
theorem o60 : ∀ k : Fin k0_t1_loop.trips, 1 ≤ k.val → k0_off60 (wE k.val) = rowsOff4 (Ring.bk 8 (k.val - 1)).val := by decide
@[sl_canon] theorem n60 (k : Fin k0_t1_loop.trips) (h : 1 ≤ k.val) (hh hs) : tA.slice (Rect.unit (s := S128x4x128x256) (k0_off60 (wE k.val)) S16x4x128x256.size hh) hs = rowsS tA (Ring.bk 8 (k.val - 1)) := rowsS_congr (o60 k h) _ _
theorem o61 : ∀ k : Fin k0_t1_loop.trips, 1 ≤ k.val → k0_off61 (wD k.val) = slotOff5 (Ring.sl 2 (k.val - 1)).val := by decide
@[sl_canon] theorem n61 (k : Fin k0_t1_loop.trips) (h : 1 ≤ k.val) (hh hs) : (tM.slice (Rect.unit (s := S2x16x4x128x256) (k0_off61 (wD k.val)) S1x16x4x128x256.size hh) hs).squeeze S16x4x128x256 squeezes_S1x16x4x128x256_S16x4x128x256 = slotS tM (Ring.sl 2 (k.val - 1)) := slotS_congr (o61 k h) _ _
theorem o62 : ∀ k : Fin k0_t1_loop.trips, 1 ≤ k.val → k0_off62 (wD k.val) = cellOff (Ring.sl 2 (k.val - 1)).val := by decide
@[sl_canon] theorem n62 (k : Fin k0_t1_loop.trips) (h : 1 ≤ k.val) (hh) : (oS.slice (Rect.unit (s := S2) (k0_off62 (wD k.val)) S1.size hh)).squeeze S_ squeezes_S1_S_ = cell oS (Ring.sl 2 (k.val - 1)) := cell_congr (o62 k h) _
theorem o63 : ∀ k : Fin k0_t1_loop.trips, 1 ≤ k.val → k0_off63 (wE k.val) = rowsOff (Ring.bk 8 (k.val - 1)).val := by decide
@[sl_canon] theorem n63 (k : Fin k0_t1_loop.trips) (h : 1 ≤ k.val) (hh hs) : oA.slice (Rect.unit (s := S128x1024) (k0_off63 (wE k.val)) S16x1024.size hh) hs = rowsW oA (Ring.bk 8 (k.val - 1)) := rowsW_congr (o63 k h) _ _
theorem o64 : ∀ k : Fin k0_t1_loop.trips, 1 ≤ k.val → k0_off64 (wD k.val) = slotOff (Ring.sl 2 (k.val - 1)).val := by decide
@[sl_canon] theorem n64 (k : Fin k0_t1_loop.trips) (h : 1 ≤ k.val) (hh hs) : (oM.slice (Rect.unit (s := S2x16x1024) (k0_off64 (wD k.val)) S1x16x1024.size hh) hs).squeeze S16x1024 squeezes_S1x16x1024_S16x1024 = slotW oM (Ring.sl 2 (k.val - 1)) := slotW_congr (o64 k h) _ _
/-! The epilogue: the last trip's copies out. -/
@[sl_canon] theorem n65 (hh) : (tS.slice (Rect.unit (s := S2) (k0_off65 (wD 8)) S1.size hh)).squeeze S_ squeezes_S1_S_ = cell tS (Ring.sl 2 7) := cell_congr (by decide) _
@[sl_canon] theorem n66 (hh hs) : tA.slice (Rect.unit (s := S128x4x128x256) (k0_off66 (wE 8)) S16x4x128x256.size hh) hs = rowsS tA (Ring.bk 8 7) := rowsS_congr (by decide) _ _
@[sl_canon] theorem n67 (hh hs) : (tM.slice (Rect.unit (s := S2x16x4x128x256) (k0_off67 (wD 8)) S1x16x4x128x256.size hh) hs).squeeze S16x4x128x256 squeezes_S1x16x4x128x256_S16x4x128x256 = slotS tM (Ring.sl 2 7) := slotS_congr (by decide) _ _
@[sl_canon] theorem n68 (hh) : (oS.slice (Rect.unit (s := S2) (k0_off68 (wD 8)) S1.size hh)).squeeze S_ squeezes_S1_S_ = cell oS (Ring.sl 2 7) := cell_congr (by decide) _
@[sl_canon] theorem n69 (hh hs) : oA.slice (Rect.unit (s := S128x1024) (k0_off69 (wE 8)) S16x1024.size hh) hs = rowsW oA (Ring.bk 8 7) := rowsW_congr (by decide) _ _
@[sl_canon] theorem n70 (hh hs) : (oM.slice (Rect.unit (s := S2x16x1024) (k0_off70 (wD 8)) S1x16x1024.size hh) hs).squeeze S16x1024 squeezes_S1x16x1024_S16x1024 = slotW oM (Ring.sl 2 7) := slotW_congr (by decide) _ _

/-! ## Conditions and checks at trip `k` -/

section Conds
theorem c2 : ∀ k : Fin k0_t1_loop.trips, (k0_cond2 k (wE k.val) = 1#1) ↔ k.val < 7 := by decide
theorem c3 : ∀ k : Fin k0_t1_loop.trips, (k0_cond3 k (wE k.val) = 1#1) ↔ k.val < 7 := by decide
theorem c4 : ∀ k : Fin k0_t1_loop.trips, (k0_cond4 k (wE k.val) = 1#1) ↔ k.val < 7 := by decide
theorem c5 : ∀ k : Fin k0_t1_loop.trips, (k0_cond5 k (wE k.val) = 1#1) ↔ k.val < 7 := by decide
theorem c6 : ∀ k : Fin k0_t1_loop.trips, (k0_cond6 k (wE k.val) = 1#1) ↔ k.val < 6 := by decide
theorem c7 : ∀ k : Fin k0_t1_loop.trips, k0_cond7 k (wE k.val) = 1#1 := by decide
theorem c8 : ∀ k : Fin k0_t1_loop.trips, k0_cond8 k (wE k.val) = 1#1 := by decide
theorem c9 : ∀ k : Fin k0_t1_loop.trips, k0_cond9 k (wE k.val) = 1#1 := by decide
theorem c10 : ∀ k : Fin k0_t1_loop.trips, k0_cond10 k (wE k.val) = 1#1 := by decide
theorem c11 : ∀ k : Fin k0_t1_loop.trips, k0_cond11 k (wE k.val) = 1#1 := by decide
theorem c19 : ∀ k : Fin k0_t1_loop.trips, k0_cond19 k (wE k.val) = 1#1 := by decide
theorem c20 : ∀ k : Fin k0_t1_loop.trips, k0_cond20 k (wE k.val) = 1#1 := by decide
theorem c26 : ∀ k : Fin k0_t1_loop.trips, (k0_cond26 k (wE k.val) = 1#1) ↔ 1 ≤ k.val := by decide
theorem c27 : ∀ k : Fin k0_t1_loop.trips, (k0_cond27 k (wE k.val) = 1#1) ↔ 1 ≤ k.val := by decide
theorem h8 : ∀ k : Fin k0_t1_loop.trips, k0_chk8 (wA k.val) := by decide
theorem h7 : ∀ k : Fin k0_t1_loop.trips, k0_chk7 (wA k.val) := by decide
theorem h6 : ∀ k : Fin k0_t1_loop.trips, k0_chk6 (wA k.val) := by decide
theorem h5 : ∀ k : Fin k0_t1_loop.trips, k0_chk5 (wA k.val) := by decide
theorem h4 : ∀ k : Fin k0_t1_loop.trips, k0_chk4 (wA k.val) := by decide
theorem h3 : ∀ k : Fin k0_t1_loop.trips, k0_chk3 (wA k.val) := by decide
theorem h2 : ∀ k : Fin k0_t1_loop.trips, k0_chk2 (wA k.val) := by decide
/-- Every transfer of a trip stays within its buffers. -/
theorem h1 : ∀ k : Fin k0_t1_loop.trips, k0_chk1 k (wB k.val) (wA k.val) (wB k.val) (wA k.val) (wB k.val) (wA k.val) (wB k.val) (wA k.val) (wC k.val) (wA k.val) (wA k.val) (wD k.val) (wA k.val) (wD k.val) (wE k.val) := by decide
theorem h9 : k0_chk9 (wD 8) := by decide
theorem h10 : k0_chk10 (wE 8) := by decide
theorem h11 : k0_chk11 (wD 8) := by decide
theorem trips8 : k0_t1_loop.trips = 8 := by decide
end Conds

end Cert.Proof.Dec

end
-- ==== Proof.Step.lean ====
/-
  What one decode step computes, index by index, and what one piece of it is: a head's key rows turned into columns, the
  state scaled and raised by one product, and the query's sum over the keys, 128 values at a time.
-/
module

public import proofs.«01_k».proof.Proof.Names
public import Idealize.ShloMosaic.Lib.ValueIdxCore
public import Idealize.ShloMosaic.Lib.Pipeline.Value
public import Idealize.ShloMosaic.PureOps.Ideal.Laws

@[expose] public section

noncomputable section

namespace Cert.Proof.Dec

open Cert.KernelIdeal Cert.KernelIdeal.Gen
open Idealize.ShloMosaic Idealize.ShloMosaic.ValueIdx
open scoped BigOperators

variable {F : FTy → Type} [FloatOps F]

/-! ## The step of `n` sequences -/

/-- Where head `h`'s key coordinate `d` of sequence `i` lies in a row of all four heads' keys. -/
abbrev atKey {n : ℕ} (i : Fin n) (h : Fin 4) (d : Fin 128) : (⟨2, ![n, 512]⟩ : Shape).Idx :=
  ix2 i ⟨128 * h.val + d.val, by omega⟩
/-- Where head `h`'s value coordinate `e` lies in a row of all four heads' values. -/
abbrev atVal {n : ℕ} (i : Fin n) (h : Fin 4) (e : Fin 256) : (⟨2, ![n, 1024]⟩ : Shape).Idx :=
  ix2 i ⟨256 * h.val + e.val, by omega⟩

/-- The new state: the old one decayed by key, raised by key times value. -/
def stateOf {n : ℕ} (A K : (⟨2, ![n, 512]⟩ : Shape).Idx → F .f32) (V : (⟨2, ![n, 1024]⟩ : Shape).Idx → F .f32)
    (S : (⟨4, ![n, 4, 128, 256]⟩ : Shape).Idx → F .f32) (y : (⟨4, ![n, 4, 128, 256]⟩ : Shape).Idx) : F .f32 :=
  FloatOps.addf (FloatOps.mulf (A (atKey (y 0) (y 1) (y 2))) (S y))
    (FloatOps.mulf (K (atKey (y 0) (y 1) (y 2))) (V (atVal (y 0) (y 1) (y 3))))

/-- The head a value coordinate of a row belongs to, -/
abbrev headOf (w : Fin 1024) : Fin 4 := ⟨w.val / 256, by omega⟩
/-- and its place in the head. -/
abbrev laneOf (w : Fin 1024) : Fin 256 := ⟨w.val % 256, by omega⟩

/-- The mixed row: the query's products with the new state summed over the keys. -/
def mixOf {n : ℕ} (Q A K : (⟨2, ![n, 512]⟩ : Shape).Idx → EReal) (V : (⟨2, ![n, 1024]⟩ : Shape).Idx → EReal)
    (S : (⟨4, ![n, 4, 128, 256]⟩ : Shape).Idx → EReal) (z : (⟨2, ![n, 1024]⟩ : Shape).Idx) : EReal :=
  ∑ d : Fin 128, Q (atKey (z 0) (headOf (z 1)) d) * stateOf (F := Ideal) A K V S (ix4 (z 0) (headOf (z 1)) d (laneOf (z 1)))

/-! ## One piece -/

theorem slices_half : ∀ e : Fin 2, S1x256.Slices ![0, 128 * e.val] S1x128 := by decide

/-- A key row as a column, repeated along the values. -/
def col (r : FVec F S1x128 .f32) : FVec F S128x128 .f32 :=
  transpose S128x128 [1, 0] (broadcastTo S128x128 (shapeCast S1x128 r shapeCasts_S1x128_S1x128) broadcasts_S1x128_S128x128) transposes_S128x128_p1_0_S128x128
/-- Half `e` of a value row, repeated along the keys. -/
def row (v : FVec F S1x256 .f32) (e : Fin 2) : FVec F S128x128 .f32 :=
  broadcastTo S128x128 (extractStridedSlice S1x128 ![0, 128 * e.val] v (slices_half e)) broadcasts_S1x128_S128x128
/-- Half `e` of a head's new state, -/
def newHalf (a k : FVec F S1x128 .f32) (v : FVec F S1x256 .f32) (s : FVec F S1x1x128x128 .f32) (e : Fin 2) : FVec F S128x128 .f32 :=
  addf (mulf (col a) (shapeCast S128x128 s shapeCasts_S1x1x128x128_S128x128)) (mulf (col k) (row v e))
/-- as it is stored. -/
def newPiece (a k : FVec F S1x128 .f32) (v : FVec F S1x256 .f32) (s : FVec F S1x1x128x128 .f32) (e : Fin 2) : FVec F S1x1x128x128 .f32 :=
  shapeCast S1x1x128x128 (newHalf a k v s e) shapeCasts_S128x128_S1x1x128x128
/-- Half `e` of a head's mixed row, -/
def mixHalf (q a k : FVec F S1x128 .f32) (v : FVec F S1x256 .f32) (s : FVec F S1x1x128x128 .f32) (e : Fin 2) : FVec F S1x128 .f32 :=
  shapeCast S1x128 (multiReduction .add [0] S128 (mulf (col q) (newHalf a k v s e)) 0x00000000#32 reduces_S128x128_S128 (.inl rfl) rfl) shapeCasts_S128_S1x128
/-- and the two halves side by side. -/
def mixPiece (q a k : FVec F S1x128 .f32) (v : FVec F S1x256 .f32) (s s' : FVec F S1x1x128x128 .f32) : FVec F S1x256 .f32 :=
  concatenate S1x256 1 [⟨S1x128, mixHalf q a k v s 0⟩, ⟨S1x128, mixHalf q a k v s' 1⟩] concatenates_S1x128_S1x128_S1x256_d1

theorem col_apply (r : FVec F S1x128 .f32) (i j : Fin 128) : col r (ix2 i j) = r (ix2 0 i) := by
  unfold col
  rw [transpose_apply _ _ _ _ (ix2 j i) (by intro b; match b with | ⟨0, _⟩ => rfl | ⟨1, _⟩ => rfl),
    broadcastTo_apply _ _ _ (ix2 0 i) (by intro b; match b with | ⟨0, _⟩ => rfl | ⟨1, _⟩ => rfl),
    shapeCast_apply _ _ _ (ix2 0 i) rfl]

theorem row_apply (v : FVec F S1x256 .f32) (e : Fin 2) (i j : Fin 128) : row v e (ix2 i j) = v (ix2 0 ⟨128 * e.val + j.val, by omega⟩) := by
  unfold row
  rw [broadcastTo_apply _ _ _ (ix2 0 j) (by intro b; match b with | ⟨0, _⟩ => rfl | ⟨1, _⟩ => rfl),
    extractStridedSlice_apply _ _ _ _ (ix2 0 ⟨128 * e.val + j.val, by omega⟩)
      (by intro b; match b with | ⟨0, _⟩ => rfl | ⟨1, _⟩ => rfl)]

theorem newHalf_apply (a k : FVec F S1x128 .f32) (v : FVec F S1x256 .f32) (s : FVec F S1x1x128x128 .f32) (e : Fin 2) (i j : Fin 128) :
    newHalf a k v s e (ix2 i j)
      = FloatOps.addf (FloatOps.mulf (a (ix2 0 i)) (s (ix4 0 0 i j))) (FloatOps.mulf (k (ix2 0 i)) (v (ix2 0 ⟨128 * e.val + j.val, by omega⟩))) := by
  show FloatOps.addf (FloatOps.mulf (col a (ix2 i j)) (shapeCast S128x128 s _ (ix2 i j))) (FloatOps.mulf (col k (ix2 i j)) (row v e (ix2 i j))) = _
  rw [col_apply, col_apply, row_apply, shapeCast_apply _ _ _ (ix4 0 0 i j) (by
    rw [Shape.rowMajor_val_four, Shape.rowMajor_val_two]; show ((0 * 1 + 0) * 128 + i.val) * 128 + j.val = i.val * 128 + j.val; omega)]

theorem newPiece_apply (a k : FVec F S1x128 .f32) (v : FVec F S1x256 .f32) (s : FVec F S1x1x128x128 .f32) (e : Fin 2) (i j : Fin 128) :
    newPiece a k v s e (ix4 0 0 i j) = newHalf a k v s e (ix2 i j) := by
  unfold newPiece
  rw [shapeCast_apply _ _ _ (ix2 i j) (by
    rw [Shape.rowMajor_val_four, Shape.rowMajor_val_two]; show i.val * 128 + j.val = ((0 * 1 + 0) * 128 + i.val) * 128 + j.val; omega)]

theorem mixHalf_apply (q a k : FVec Ideal S1x128 .f32) (v : FVec Ideal S1x256 .f32) (s : FVec Ideal S1x1x128x128 .f32) (e : Fin 2) (j : Fin 128) :
    mixHalf q a k v s e (ix2 0 j) = ∑ d : Fin 128, q (ix2 0 d) * newHalf a k v s e (ix2 d j) := by
  unfold mixHalf
  rw [shapeCast_apply _ _ _ (ix1 j) (by
    rw [Shape.rowMajor_val_one, Shape.rowMajor_val_two]; show j.val = 0 * 128 + j.val; omega)]
  refine (Ideal.multiReduction_add_single _ _ _ _ _ _).trans (Finset.sum_congr rfl fun d _ => ?_)
  have e1 : (reduces_S128x128_S128).lift (ix1 j) d = ix2 d j := by
    funext b; apply Fin.ext
    match b with | ⟨0, _⟩ => rfl | ⟨1, _⟩ => rfl
  rw [e1]
  exact congrArg (· * newHalf a k v s e (ix2 d j)) (col_apply q d j)

theorem mixPiece_apply (q a k : FVec Ideal S1x128 .f32) (v : FVec Ideal S1x256 .f32) (s s' : FVec Ideal S1x1x128x128 .f32) (e : Fin 2) (j : Fin 128) :
    mixPiece q a k v s s' (ix2 0 ⟨128 * e.val + j.val, by omega⟩)
      = ∑ d : Fin 128, q (ix2 0 d) * newHalf a k v (if e = 0 then s else s') e (ix2 d j) := by
  unfold mixPiece
  match e with
  | 0 =>
    exact (concatenate_pair_apply_left (t := S1x256) (s₁ := S1x128) (s₂ := S1x128) 1 _ _ _ _ rfl (ix2 0 j) (by
      intro b; match b with | ⟨0, _⟩ => rfl | ⟨1, _⟩ => show j.val = 128 * 0 + j.val; omega)).trans (mixHalf_apply q a k v s 0 j)
  | 1 =>
    exact (concatenate_pair_apply_right (t := S1x256) (s₁ := S1x128) (s₂ := S1x128) 1 _ _ _ _ rfl rfl (ix2 0 j) (by
      intro b hb; match b with | ⟨0, _⟩ => rfl | ⟨1, _⟩ => exact absurd rfl hb) (by show j.val + 128 = 128 * 1 + j.val; omega)).trans
      (mixHalf_apply q a k v s' 1 j)

end Cert.Proof.Dec

end
-- ==== Proof.Rings.lean ====
/-
  The pieces a proof of the streamed decode step holds: a semaphore at zero, a slot at anything, a block of an array in
  HBM, a transfer in flight; and what the three stretches of a trip do whose transfers depend on the trip: the issues of
  the next blocks of `q`, `k`, `a`, `v`, the issue of the state two blocks on (with the first waits), and the waits for
  the previous trip's copies out. Each is proved once for every trip, by the cases of whether the transfer is there.
-/
module

public import proofs.«01_k».proof.Proof.Names
public import Idealize.ShloMosaic.Lib.Ring.Trips
public import Idealize.ShloMosaic.Lib.Ring.WriteBehind

@[expose] public section

noncomputable section

namespace Cert.Proof.Dec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the region's own, beside the counters the kernel's transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## Pieces -/

section Pieces
variable (c : Dev nD)

/-- A semaphore at zero. -/
abbrev cellP (sm : DmaSems sig S_) : sProp 𝕄 := semVal ((c : Thread nD τ), SemLoc.dma sm.sem) 0
/-- A slot or a block held at contents `f` of its buffer. -/
abbrev heldP {sp : Space} {S : Shape} (M : Memref sig .tc sp S .f32) (f : Buf (Elt F) (M.view.loc (c : Thread nD τ))) : sProp 𝕄 :=
  M.view.loc (c : Thread nD τ) ↦[M.view.set]{fullShare} f
/-- What a transfer from `src` (its buffer at `X`) leaves in `dst` over `f`: the whole of it written. -/
abbrev landed {sp sp' : Space} {S : Shape} (dst : Memref sig .tc sp S .f32) (src : Memref sig .tc sp' S .f32)
    (X : Buf (Elt F) (src.view.loc (c : Thread nD τ))) (f : Buf (Elt F) (dst.view.loc (c : Thread nD τ))) : Buf (Elt F) (dst.view.loc (c : Thread nD τ)) :=
  dst.view.writes (Elt F) f [⟨Rect.whole S, ReadAs.same.apply (src.view.read (Elt F) X)⟩]
/-- A transfer of `n` units in flight on `sm`. -/
abbrev flightP {sp sp' : Space} {S : Shape} (n : ℕ) (sm : DmaSems sig S_) (dst : Memref sig .tc sp S .f32) (src : Memref sig .tc sp' S .f32)
    (X : Buf (Elt F) (src.view.loc (c : Thread nD τ))) (f : Buf (Elt F) (dst.view.loc (c : Thread nD τ))) : sProp 𝕄 :=
  Transfers.Flight countersEmb (c : Thread nD τ) (SemLoc.dma sm.sem) () n iprop(heldP c dst (landed c dst src X f) ∗ heldP c src X)
/-- A slot free: its semaphore at zero and it held at anything. -/
abbrev freeP {sp : Space} {S : Shape} (sm : DmaSems sig S_) (M : Memref sig .tc sp S .f32) : sProp 𝕄 :=
  iprop(cellP c sm ∗ ∃ f, heldP c M f)

/-- A block read into a slot, in flight. -/
abbrev inN (A : Memref sig .tc .hbm S128x512 .f32) (M : Memref sig .tc .vmem S2x16x512 .f32) (S : DmaSems sig S2)
    (X : Buf (Elt F) (A.view.loc (c : Thread nD τ))) (s : Fin 2) (b : Fin 8) : sProp 𝕄 :=
  iprop(∃ f, flightP c 1024 (cell S s) (slotN M s) (rowsN A b) X f)
abbrev inW (A : Memref sig .tc .hbm S128x1024 .f32) (M : Memref sig .tc .vmem S2x16x1024 .f32) (S : DmaSems sig S2)
    (X : Buf (Elt F) (A.view.loc (c : Thread nD τ))) (s : Fin 2) (b : Fin 8) : sProp 𝕄 :=
  iprop(∃ f, flightP c 2048 (cell S s) (slotW M s) (rowsW A b) X f)
abbrev inS (A : Memref sig .tc .hbm S128x4x128x256 .f32) (M : Memref sig .tc .vmem S3x16x4x128x256 .f32) (S : DmaSems sig S3)
    (X : Buf (Elt F) (A.view.loc (c : Thread nD τ))) (s : Fin 3) (b : Fin 8) : sProp 𝕄 :=
  iprop(∃ f, flightP c 262144 (cell3 S s) (slotS3 M s) (rowsS A b) X f)

/-- The blocks of an array, each held at the array's contents. -/
abbrev homeN (A : Memref sig .tc .hbm S128x512 .f32) (X : Buf (Elt F) (A.view.loc (c : Thread nD τ))) (b : Fin 8) : sProp 𝕄 := heldP c (rowsN A b) X
abbrev homeW (A : Memref sig .tc .hbm S128x1024 .f32) (X : Buf (Elt F) (A.view.loc (c : Thread nD τ))) (b : Fin 8) : sProp 𝕄 := heldP c (rowsW A b) X
abbrev homeS (A : Memref sig .tc .hbm S128x4x128x256 .f32) (X : Buf (Elt F) (A.view.loc (c : Thread nD τ))) (b : Fin 8) : sProp 𝕄 := heldP c (rowsS A b) X

end Pieces

/-! ## The blocks at home as a ring advances -/

section Homes

/-- A block is issued: of the blocks out of range of a ring `L` ahead, block `k + L` beside those of a ring `L + 1` ahead. -/
theorem homes_issue (Φ : Fin 8 → sProp (MT nD τ sig Unit (Elt F) ℕ (UU nD τ) ℕ)) (L k : ℕ) (h : k + L < 8) :
    bigSep (Ring.homeSet L k) Φ = iprop(Φ (Ring.bk 8 (k + L)) ∗ bigSep (Ring.homeSet (L + 1) k) Φ) := by
  have e : Ring.homeSet (NB := 8) L k = insert (Ring.bk 8 (k + L)) (Ring.homeSet (L + 1) k) := by
    ext b; have := b.isLt
    rw [Finset.mem_insert, Ring.mem_homeSet, Ring.mem_homeSet, Fin.ext_iff, Ring.bk_val h]; omega
  rw [e, bigSep_insert (by rw [Ring.mem_homeSet, Ring.bk_val h]; omega)]; rfl
/-- No block is left to issue. -/
theorem homes_none (L k : ℕ) (h : 8 ≤ k + L) : Ring.homeSet (NB := 8) L k = Ring.homeSet (L + 1) k := by
  ext b; have := b.isLt
  rw [Ring.mem_homeSet, Ring.mem_homeSet]; omega
/-- Block `k` is back. -/
theorem homes_back (Φ : Fin 8 → sProp (MT nD τ sig Unit (Elt F) ℕ (UU nD τ) ℕ)) (L k : ℕ) (h : k < 8) :
    bigSep (Ring.homeSet L (k + 1)) Φ = iprop(Φ (Ring.bk 8 k) ∗ bigSep (Ring.homeSet (L + 1) k) Φ) := by
  have e : Ring.homeSet (NB := 8) L (k + 1) = insert (Ring.bk 8 k) (Ring.homeSet (L + 1) k) := by
    ext b; have := b.isLt
    rw [Finset.mem_insert, Ring.mem_homeSet, Ring.mem_homeSet, Fin.ext_iff, Ring.bk_val h]; omega
  rw [e, bigSep_insert (by rw [Ring.mem_homeSet, Ring.bk_val h]; omega)]; rfl

end Homes

/-! ## The issues of block `k + 1` -/

section Parts
variable (c : Dev nD)
  (Xq : Buf (Elt F) (qA.view.loc (c : Thread nD τ))) (Xk : Buf (Elt F) (kA.view.loc (c : Thread nD τ)))
  (Xa : Buf (Elt F) (aA.view.loc (c : Thread nD τ))) (Xv : Buf (Elt F) (vA.view.loc (c : Thread nD τ)))
  (Xs : Buf (Elt F) (sA.view.loc (c : Thread nD τ)))

/-- What the next counter of issues is, the issue's condition being `b`. -/
abbrev next (b : BitVec 1) (w : BitVec 32) : BitVec 32 := Scalar.select b (Scalar.addi w 1#32) w

abbrev p2 (k : Fin k0_t1_loop.trips) (arg7 v110 v120 : BitVec 32) (v131 v133 : BitVec 1) :
    Prog (TpuEff nD τ sig (Elt F) Λ₀ .tc) (Σ' (_ : BitVec 32) (_ : BitVec 32) (_ : BitVec 32), BitVec 1) :=
  k0_part2 qA (Memref.isWhole_whole _) kA (Memref.isWhole_whole _) aA (Memref.isWhole_whole _) vA (Memref.isWhole_whole _) sA (Memref.isWhole_whole _)
    tA (Memref.isWhole_whole _) oA (Memref.isWhole_whole _) qM (Memref.isWhole_whole _) qS kM (Memref.isWhole_whole _) kS aM (Memref.isWhole_whole _) aS
    vM (Memref.isWhole_whole _) vS sM (Memref.isWhole_whole _) sS tM (Memref.isWhole_whole _) tS oM (Memref.isWhole_whole _) oS k
    (wB k.val) (wA k.val) (wB k.val) (wA k.val) (wB k.val) (wA k.val) (wB k.val) (wA k.val) (wC k.val) (wA k.val) (wA k.val) (wD k.val) (wA k.val) (wD k.val) (wE k.val)
    (h1 k) arg7 v110 v120 v131 v133

/-- What is held before the issues: each array's other blocks, and the free slots. -/
abbrev issue4 (k : ℕ) : sProp 𝕄 :=
  iprop(bigSep (Ring.homeSet 1 k) (homeN c qA Xq) ∗ freeP c (cell qS (Ring.sl 2 (k + 1))) (slotN qM (Ring.sl 2 (k + 1)))
    ∗ bigSep (Ring.homeSet 1 k) (homeN c kA Xk) ∗ freeP c (cell kS (Ring.sl 2 (k + 1))) (slotN kM (Ring.sl 2 (k + 1)))
    ∗ bigSep (Ring.homeSet 1 k) (homeN c aA Xa) ∗ freeP c (cell aS (Ring.sl 2 (k + 1))) (slotN aM (Ring.sl 2 (k + 1)))
    ∗ bigSep (Ring.homeSet 1 k) (homeW c vA Xv) ∗ freeP c (cell vS (Ring.sl 2 (k + 1))) (slotW vM (Ring.sl 2 (k + 1))))
/-- A proposition kept folded (a slot's, by its role). -/
@[irreducible] def role (P : sProp (MT nD τ sig Unit (Elt F) ℕ (UU nD τ) ℕ)) : sProp 𝕄 := P
theorem role_eq (P : sProp (MT nD τ sig Unit (Elt F) ℕ (UU nD τ) ℕ)) : role P = P := by unfold role; rfl

/-- The slots of block `k`, by role: in flight with it while it exists, else free. -/
abbrev roleN (A : Memref sig .tc .hbm S128x512 .f32) (M : Memref sig .tc .vmem S2x16x512 .f32) (S : DmaSems sig S2)
    (X : Buf (Elt F) (A.view.loc (c : Thread nD τ))) (k : ℕ) : sProp 𝕄 :=
  role (Ring.roleAt (freeP c (cell S (Ring.sl 2 k)) (slotN M (Ring.sl 2 k))) (inN c A M S X (Ring.sl 2 k)) k)
abbrev roleW (A : Memref sig .tc .hbm S128x1024 .f32) (M : Memref sig .tc .vmem S2x16x1024 .f32) (S : DmaSems sig S2)
    (X : Buf (Elt F) (A.view.loc (c : Thread nD τ))) (k : ℕ) : sProp 𝕄 :=
  role (Ring.roleAt (freeP c (cell S (Ring.sl 2 k)) (slotW M (Ring.sl 2 k))) (inW c A M S X (Ring.sl 2 k)) k)
abbrev roleS (A : Memref sig .tc .hbm S128x4x128x256 .f32) (M : Memref sig .tc .vmem S3x16x4x128x256 .f32) (S : DmaSems sig S3)
    (X : Buf (Elt F) (A.view.loc (c : Thread nD τ))) (k : ℕ) : sProp 𝕄 :=
  role (Ring.roleAt (freeP c (cell3 S (Ring.sl 3 k)) (slotS3 M (Ring.sl 3 k))) (inS c A M S X (Ring.sl 3 k)) k)

/-- What is held after them. -/
abbrev issued4 (k : ℕ) : sProp 𝕄 :=
  iprop(bigSep (Ring.homeSet 2 k) (homeN c qA Xq) ∗ roleN c qA qM qS Xq (k + 1)
    ∗ bigSep (Ring.homeSet 2 k) (homeN c kA Xk) ∗ roleN c kA kM kS Xk (k + 1)
    ∗ bigSep (Ring.homeSet 2 k) (homeN c aA Xa) ∗ roleN c aA aM aS Xa (k + 1)
    ∗ bigSep (Ring.homeSet 2 k) (homeW c vA Xv) ∗ roleW c vA vM vS Xv (k + 1))

/-- The words the stretch returns. -/
def ret2 (k : ℕ) (arg7 v110 v120 : BitVec 32) (v131 v133 : BitVec 1) (r : Σ' (_ : BitVec 32) (_ : BitVec 32) (_ : BitVec 32), BitVec 1) : Prop :=
  r.1 = next (Scalar.andi (Scalar.andi v131 v133) 1#1) (wB k)
    ∧ r.2.1 = next (Scalar.andi (Scalar.andi (Scalar.cmpi .ne v110 v120) (Scalar.xori (Scalar.cmpi .sge arg7 7#32) 1#1)) 1#1) (wB k)
    ∧ r.2.2.1 = next (Scalar.andi (Scalar.andi (Scalar.cmpi .ne v110 v120) (Scalar.xori (Scalar.cmpi .sge arg7 7#32) 1#1)) 1#1) (wB k)
    ∧ r.2.2.2 = Scalar.andi (Scalar.andi (Scalar.cmpi .ne v110 v120) (Scalar.xori (Scalar.cmpi .sge arg7 7#32) 1#1)) 1#1

/-- Block `k + 1` of `q`, `k`, `a` and `v` is issued into the free slots while there is one. -/
theorem p2_spec (k : Fin k0_t1_loop.trips) (arg7 v110 v120 : BitVec 32) (v131 v133 : BitVec 1) :
    issue4 c Xq Xk Xa Xv k.val
      ⊢ wp frame (wpE (defs₀ (F := F)) 𝒱₀ (c : Thread nD τ) none) Set.univ (p2 (F := F) k arg7 v110 v120 v131 v133)
          (fun r => iprop(⌜ret2 k.val arg7 v110 v120 v131 v133 r⌝ ∗ issued4 c Xq Xk Xa Xv k.val)) := by
  dsimp only [issue4, issued4]
  by_cases h : k.val < 7
  · have h2 := (c2 k).2 h; have h3 := (c3 k).2 h; have h4 := (c4 k).2 h; have h5 := (c5 k).2 h
    have hk : k.val + 1 < 8 := by omega
    simp only [roleN, roleW, role_eq, Ring.roleAt_of_lt _ _ _ hk, homes_issue _ 1 k.val hk]
    iintro ⟨⟨Hqb, Hqh⟩, ⟨Hqc, ⟨%fq, Hqs⟩⟩, ⟨Hkb, Hkh⟩, ⟨Hkc, ⟨%fk, Hks⟩⟩, ⟨Hab, Hah⟩, ⟨Hac, ⟨%fa, Has⟩⟩, ⟨Hvb, Hvh⟩, ⟨Hvc, ⟨%fv, Hvs⟩⟩⟩
    dsimp only [p2]
    sl_unfold [k0_part2]
    sl_exec
    sl_step
    isplitr
    · ipureintro; exact ⟨rfl, rfl, rfl, rfl⟩
    isplitl [Hqh]; · iexact Hqh
    isplitl [Hqc]; · iexists fq; iexact Hqc
    isplitl [Hkh]; · iexact Hkh
    isplitl [Hkc]; · iexists fk; iexact Hkc
    isplitl [Hah]; · iexact Hah
    isplitl [Hac]; · iexists fa; iexact Hac
    isplitl [Hvh]; · iexact Hvh
    iexists fv; iexact Hvc
  · have h2 : ¬ k0_cond2 k (wE k.val) = 1#1 := fun e => h ((c2 k).1 e)
    have h3 : ¬ k0_cond3 k (wE k.val) = 1#1 := fun e => h ((c3 k).1 e)
    have h4 : ¬ k0_cond4 k (wE k.val) = 1#1 := fun e => h ((c4 k).1 e)
    have h5 : ¬ k0_cond5 k (wE k.val) = 1#1 := fun e => h ((c5 k).1 e)
    have hk : 8 ≤ k.val + 1 := by omega
    simp only [roleN, roleW, role_eq, Ring.roleAt_of_le _ _ _ hk, homes_none 1 k.val hk]
    iintro H
    dsimp only [p2]
    sl_unfold [k0_part2]
    sl_exec
    sl_step
    isplitr
    · ipureintro; exact ⟨rfl, rfl, rfl, rfl⟩
    iexact H

/-! ## The issue of the state two blocks on, and the first waits -/

abbrev p3 (k : Fin k0_t1_loop.trips) (arg7 : BitVec 32) (v108 : BitVec 1) (v110 v115 v120 v125 : BitVec 32) (v168 : BitVec 1) :
    Prog (TpuEff nD τ sig (Elt F) Λ₀ .tc) (Σ' (_ : BitVec 32) (_ : BitVec 32), BitVec 1) :=
  k0_part3 qA (Memref.isWhole_whole _) kA (Memref.isWhole_whole _) aA (Memref.isWhole_whole _) vA (Memref.isWhole_whole _) sA (Memref.isWhole_whole _)
    tA (Memref.isWhole_whole _) oA (Memref.isWhole_whole _) qM (Memref.isWhole_whole _) qS kM (Memref.isWhole_whole _) kS aM (Memref.isWhole_whole _) aS
    vM (Memref.isWhole_whole _) vS sM (Memref.isWhole_whole _) sS tM (Memref.isWhole_whole _) tS oM (Memref.isWhole_whole _) oS k
    (wB k.val) (wA k.val) (wB k.val) (wA k.val) (wB k.val) (wA k.val) (wB k.val) (wA k.val) (wC k.val) (wA k.val) (wA k.val) (wD k.val) (wA k.val) (wD k.val) (wE k.val)
    (h1 k) arg7 v108 v110 v115 v120 v125 v168

/-- What is held before the stretch: the state's other blocks and its free slot, and blocks `k` of `q`, `k`, `a` in flight into
    slots that held `fq`, `fk`, `fa`. -/
abbrev pre3 (k : ℕ) (fq : Buf (Elt F) ((slotN qM (Ring.sl 2 k)).view.loc (c : Thread nD τ))) (fk : Buf (Elt F) ((slotN kM (Ring.sl 2 k)).view.loc (c : Thread nD τ)))
    (fa : Buf (Elt F) ((slotN aM (Ring.sl 2 k)).view.loc (c : Thread nD τ))) : sProp 𝕄 :=
  iprop(bigSep (Ring.homeSet 2 k) (homeS c sA Xs) ∗ freeP c (cell3 sS (Ring.sl 3 (k + 2))) (slotS3 sM (Ring.sl 3 (k + 2)))
    ∗ flightP c 1024 (cell qS (Ring.sl 2 k)) (slotN qM (Ring.sl 2 k)) (rowsN qA (Ring.bk 8 k)) Xq fq
    ∗ flightP c 1024 (cell kS (Ring.sl 2 k)) (slotN kM (Ring.sl 2 k)) (rowsN kA (Ring.bk 8 k)) Xk fk
    ∗ flightP c 1024 (cell aS (Ring.sl 2 k)) (slotN aM (Ring.sl 2 k)) (rowsN aA (Ring.bk 8 k)) Xa fa
    ∗ ∃ W, owes (c : Thread nD τ) 0 W)
/-- What is held after it: the state's next block issued while there is one, and blocks `k` of `q`, `k`, `a` landed. -/
abbrev post3 (k : ℕ) (fq : Buf (Elt F) ((slotN qM (Ring.sl 2 k)).view.loc (c : Thread nD τ))) (fk : Buf (Elt F) ((slotN kM (Ring.sl 2 k)).view.loc (c : Thread nD τ)))
    (fa : Buf (Elt F) ((slotN aM (Ring.sl 2 k)).view.loc (c : Thread nD τ))) : sProp 𝕄 :=
  iprop(bigSep (Ring.homeSet 3 k) (homeS c sA Xs) ∗ roleS c sA sM sS Xs (k + 2)
    ∗ cellP c (cell qS (Ring.sl 2 k)) ∗ heldP c (slotN qM (Ring.sl 2 k)) (landed c (slotN qM (Ring.sl 2 k)) (rowsN qA (Ring.bk 8 k)) Xq fq) ∗ homeN c qA Xq (Ring.bk 8 k)
    ∗ cellP c (cell kS (Ring.sl 2 k)) ∗ heldP c (slotN kM (Ring.sl 2 k)) (landed c (slotN kM (Ring.sl 2 k)) (rowsN kA (Ring.bk 8 k)) Xk fk) ∗ homeN c kA Xk (Ring.bk 8 k)
    ∗ cellP c (cell aS (Ring.sl 2 k)) ∗ heldP c (slotN aM (Ring.sl 2 k)) (landed c (slotN aM (Ring.sl 2 k)) (rowsN aA (Ring.bk 8 k)) Xa fa) ∗ homeN c aA Xa (Ring.bk 8 k)
    ∗ ∃ W, owes (c : Thread nD τ) 0 W)

/-- The words the stretch returns. -/
def ret3 (k : ℕ) (arg7 : BitVec 32) (v110 v115 v120 v125 : BitVec 32) (v168 : BitVec 1) (r : Σ' (_ : BitVec 32) (_ : BitVec 32), BitVec 1) : Prop :=
  r.1 = next v168 (wB k)
    ∧ r.2.1 = next (Scalar.andi (Scalar.andi (Scalar.cmpi .ne v120 v125) (Scalar.xori (Scalar.cmpi .sge arg7 6#32) 1#1)) 1#1) (wC k)
    ∧ r.2.2 = Scalar.cmpi .ne v110 v115

/-- Block `k + 2` of the state is issued while there is one, and blocks `k` of `q`, `k` and `a` are waited for. -/
theorem p3_spec (k : Fin k0_t1_loop.trips) (arg7 : BitVec 32) (v108 : BitVec 1) (v110 v115 v120 v125 : BitVec 32) (v168 : BitVec 1)
    (fq : Buf (Elt F) ((slotN qM (Ring.sl 2 k.val)).view.loc (c : Thread nD τ))) (fk : Buf (Elt F) ((slotN kM (Ring.sl 2 k.val)).view.loc (c : Thread nD τ)))
    (fa : Buf (Elt F) ((slotN aM (Ring.sl 2 k.val)).view.loc (c : Thread nD τ))) :
    pre3 c Xq Xk Xa Xs k.val fq fk fa
      ⊢ wp frame (wpE (defs₀ (F := F)) 𝒱₀ (c : Thread nD τ) none) Set.univ (p3 (F := F) k arg7 v108 v110 v115 v120 v125 v168)
          (fun r => iprop(⌜ret3 k.val arg7 v110 v115 v120 v125 v168 r⌝ ∗ post3 c Xq Xk Xa Xs k.val fq fk fa)) := by
  dsimp only [pre3, post3]
  have h7 := c7 k; have h8 := c8 k; have h9 := c9 k
  by_cases h : k.val < 6
  · have h6 := (c6 k).2 h
    have hk : k.val + 2 < 8 := by omega
    simp only [roleS, role_eq, Ring.roleAt_of_lt _ _ _ hk, homes_issue _ 2 k.val hk]
    iintro ⟨⟨Hb, Hh⟩, ⟨Hc, ⟨%f, Hs⟩⟩, Hq, Hk, Ha, ⟨%W, HO⟩⟩
    dsimp only [p3]
    sl_unfold [k0_part3]
    sl_exec
    sl_step
    isplitr
    · ipureintro; exact ⟨rfl, rfl, rfl⟩
    isplitl [Hh]; · iexact Hh
    isplitl [Hc]; · iexists f; iexact Hc
    isplitl [Hq]; · iexact Hq
    isplitl [Hq_dst]; · iexact Hq_dst
    isplitl [Hq_src]; · iexact Hq_src
    isplitl [Hk]; · iexact Hk
    isplitl [Hk_dst]; · iexact Hk_dst
    isplitl [Hk_src]; · iexact Hk_src
    isplitl [Ha]; · iexact Ha
    isplitl [Ha_dst]; · iexact Ha_dst
    isplitl [Ha_src]; · iexact Ha_src
    iexists _; iexact HO
  · have h6 : ¬ k0_cond6 k (wE k.val) = 1#1 := fun e => h ((c6 k).1 e)
    have hk : 8 ≤ k.val + 2 := by omega
    simp only [roleS, role_eq, Ring.roleAt_of_le _ _ _ hk, homes_none 2 k.val hk]
    iintro ⟨Hh, Hc, Hq, Hk, Ha, ⟨%W, HO⟩⟩
    dsimp only [p3]
    sl_unfold [k0_part3]
    sl_exec
    sl_step
    isplitr
    · ipureintro; exact ⟨rfl, rfl, rfl⟩
    isplitl [Hh]; · iexact Hh
    isplitl [Hc]; · iexact Hc
    isplitl [Hq]; · iexact Hq
    isplitl [Hq_dst]; · iexact Hq_dst
    isplitl [Hq_src]; · iexact Hq_src
    isplitl [Hk]; · iexact Hk
    isplitl [Hk_dst]; · iexact Hk_dst
    isplitl [Hk_src]; · iexact Hk_src
    isplitl [Ha]; · iexact Ha
    isplitl [Ha_dst]; · iexact Ha_dst
    isplitl [Ha_src]; · iexact Ha_src
    iexists _; iexact HO

/-! ## The waits for the previous trip's copies out -/

variable (goodT : Fin 8 → (S16x4x128x256.Idx → Elt F .f32) → Prop) (goodO : Fin 8 → (S16x1024.Idx → Elt F .f32) → Prop)

/-- A slot copied out to a block, in flight: what it carries is `good`. -/
abbrev outT (s : Fin 2) (b : Fin 8) : sProp 𝕄 :=
  iprop(∃ f g, ⌜goodT b ((slotS tM s).view.read (Elt F) f)⌝ ∗ flightP c 262144 (cell tS s) (rowsS tA b) (slotS tM s) f g)
abbrev outO (s : Fin 2) (b : Fin 8) : sProp 𝕄 :=
  iprop(∃ f g, ⌜goodO b ((slotW oM s).view.read (Elt F) f)⌝ ∗ flightP c 2048 (cell oS s) (rowsW oA b) (slotW oM s) f g)
/-- A block copied out: what it holds is `good`. -/
abbrev doneT (b : Fin 8) : sProp 𝕄 := iprop(∃ f, ⌜goodT b ((rowsS tA b).view.read (Elt F) f)⌝ ∗ heldP c (rowsS tA b) f)
abbrev doneO (b : Fin 8) : sProp 𝕄 := iprop(∃ f, ⌜goodO b ((rowsW oA b).view.read (Elt F) f)⌝ ∗ heldP c (rowsW oA b) f)
/-- The slot of the previous trip, by role. -/
abbrev backT (k : ℕ) : sProp 𝕄 :=
  role (Ring.roleBAt 1 (freeP c (cell tS (Ring.sl 2 (k + 1))) (slotS tM (Ring.sl 2 (k + 1)))) (outT c goodT (Ring.sl 2 (k + 1))) k)
abbrev backO (k : ℕ) : sProp 𝕄 :=
  role (Ring.roleBAt 1 (freeP c (cell oS (Ring.sl 2 (k + 1))) (slotW oM (Ring.sl 2 (k + 1)))) (outO c goodO (Ring.sl 2 (k + 1))) k)

/-- What lands in a block is what the slot held. -/
theorem landed_good {sp sp' : Space} {S : Shape} (dst : Memref sig .tc sp S .f32) (src : Memref sig .tc sp' S .f32)
    (X : Buf (Elt F) (src.view.loc (c : Thread nD τ))) (f : Buf (Elt F) (dst.view.loc (c : Thread nD τ))) :
    dst.view.read (Elt F) (landed c dst src X f) = src.view.read (Elt F) X := View.read_writes_whole _ _ _

abbrev p130 (k : Fin k0_t1_loop.trips) (v108 v109 : BitVec 1) (v110 v115 v120 : BitVec 32) (v4067 : BitVec 1) (v4068 : BitVec 32) :
    Prog (TpuEff nD τ sig (Elt F) Λ₀ .tc) (Σ' (_ : BitVec 32) (_ : BitVec 32) (_ : BitVec 32) (_ : BitVec 1), BitVec 32) :=
  k0_part130 qA (Memref.isWhole_whole _) kA (Memref.isWhole_whole _) aA (Memref.isWhole_whole _) vA (Memref.isWhole_whole _) sA (Memref.isWhole_whole _)
    tA (Memref.isWhole_whole _) oA (Memref.isWhole_whole _) qM (Memref.isWhole_whole _) qS kM (Memref.isWhole_whole _) kS aM (Memref.isWhole_whole _) aS
    vM (Memref.isWhole_whole _) vS sM (Memref.isWhole_whole _) sS tM (Memref.isWhole_whole _) tS oM (Memref.isWhole_whole _) oS k
    (wB k.val) (wA k.val) (wB k.val) (wA k.val) (wB k.val) (wA k.val) (wB k.val) (wA k.val) (wC k.val) (wA k.val) (wA k.val) (wD k.val) (wA k.val) (wD k.val) (wE k.val)
    (h1 k) v108 v109 v110 v115 v120 v4067 v4068

/-- What is held before the waits: the previous trip's slots by role and the blocks already out. -/
abbrev pre130 (k : ℕ) : sProp 𝕄 :=
  iprop(backT c goodT k ∗ bigSep (Ring.behindSet 1 k) (doneT c goodT) ∗ backO c goodO k ∗ bigSep (Ring.behindSet 1 k) (doneO c goodO)
    ∗ ∃ W, owes (c : Thread nD τ) 0 W)
/-- What is held after them: the slots free, the previous block out. -/
abbrev post130 (k : ℕ) : sProp 𝕄 :=
  iprop(freeP c (cell tS (Ring.sl 2 (k + 1))) (slotS tM (Ring.sl 2 (k + 1))) ∗ bigSep (Ring.behindSet 1 (k + 1)) (doneT c goodT)
    ∗ freeP c (cell oS (Ring.sl 2 (k + 1))) (slotW oM (Ring.sl 2 (k + 1))) ∗ bigSep (Ring.behindSet 1 (k + 1)) (doneO c goodO)
    ∗ ∃ W, owes (c : Thread nD τ) 0 W)

/-- The words the stretch returns. -/
def ret130 (k : ℕ) (v108 v109 : BitVec 1) (v110 v115 v120 : BitVec 32)
    (r : Σ' (_ : BitVec 32) (_ : BitVec 32) (_ : BitVec 32) (_ : BitVec 1), BitVec 32) : Prop :=
  r.1 = next (Scalar.andi (Scalar.andi (Scalar.cmpi .ne v110 v115) (Scalar.xori v108 1#1)) 1#1) (wD k)
    ∧ r.2.1 = next (Scalar.andi (Scalar.andi (Scalar.cmpi .ne v110 v115) (Scalar.xori v108 1#1)) 1#1) (wD k)
    ∧ r.2.2.1 = next (Scalar.ori (Scalar.cmpi .ne v110 v120) v109) (wA k)
    ∧ r.2.2.2.1 = Scalar.ori (Scalar.cmpi .ne v110 v120) v109
    ∧ r.2.2.2.2 = Scalar.addi (wA k) 1#32

/-- The previous trip's copies out, if there was one, are waited for. -/
theorem p130_spec (k : Fin k0_t1_loop.trips) (v108 v109 : BitVec 1) (v110 v115 v120 : BitVec 32) (v4067 : BitVec 1) (v4068 : BitVec 32) :
    pre130 c goodT goodO k.val
      ⊢ wp frame (wpE (defs₀ (F := F)) 𝒱₀ (c : Thread nD τ) none) Set.univ (p130 (F := F) k v108 v109 v110 v115 v120 v4067 v4068)
          (fun r => iprop(⌜ret130 k.val v108 v109 v110 v115 v120 r⌝ ∗ post130 c goodT goodO k.val)) := by
  dsimp only [pre130, post130]
  have hk : k.val < 8 := trips8 ▸ k.isLt
  by_cases h : 1 ≤ k.val
  · have h26 := (c26 k).2 h; have h27 := (c27 k).2 h
    have en : ∀ Φ : Fin 8 → sProp (MT nD τ sig Unit (Elt F) ℕ (UU nD τ) ℕ),
        bigSep (Ring.behindSet 1 (k.val + 1)) Φ = iprop(Φ (Ring.bk 8 (k.val - 1)) ∗ bigSep (Ring.behindSet 1 k.val) Φ) := fun Φ => by
      rw [Ring.behindSet_close 1 k.val h hk]; exact bigSep_insert (Ring.bk_not_mem_behindSet 1 k.val h hk)
    simp only [backT, backO, role_eq, Ring.roleBAt_of_le _ _ _ _ h, en, Ring.sl2_succ_eq_pred k.val h]
    iintro ⟨⟨%ft, %gt, %ht, Ht⟩, Htb, ⟨%fo, %go, %ho, Ho⟩, Hob, ⟨%W, HO⟩⟩
    dsimp only [p130]
    sl_unfold [k0_part130]
    sl_exec
    sl_step
    isplitr
    · ipureintro; exact ⟨rfl, rfl, rfl, rfl, rfl⟩
    isplitl [Ht Ht_src]
    · isplitl [Ht]; · iexact Ht
      iexists ft; iexact Ht_src
    isplitl [Ht_dst Htb]
    · isplitl [Ht_dst]
      · iexists _
        isplitl []
        swap; · iexact Ht_dst
        ipureintro; rw [landed_good]; exact ht
      iexact Htb
    isplitl [Ho Ho_src]
    · isplitl [Ho]; · iexact Ho
      iexists fo; iexact Ho_src
    isplitl [Ho_dst Hob]
    · isplitl [Ho_dst]
      · iexists _
        isplitl []
        swap; · iexact Ho_dst
        ipureintro; rw [landed_good]; exact ho
      iexact Hob
    iexists _; iexact HO
  · have h26 : ¬ k0_cond26 k (wE k.val) = 1#1 := fun e => h ((c26 k).1 e)
    have h27 : ¬ k0_cond27 k (wE k.val) = 1#1 := fun e => h ((c27 k).1 e)
    have e0 : k.val = 0 := by omega
    simp only [backT, backO, role_eq, Ring.roleBAt_of_lt _ _ _ _ (Nat.lt_of_not_le h), Ring.behindSet_boot (NB := 8) 1 k.val (by omega),
      Ring.behindSet_boot (NB := 8) 1 (k.val + 1) (by omega)]
    iintro H
    dsimp only [p130]
    sl_unfold [k0_part130]
    sl_exec
    sl_step
    isplitr
    · ipureintro; exact ⟨rfl, rfl, rfl, rfl, rfl⟩
    iexact H

end Parts

end Cert.Proof.Dec

end
-- ==== Proof.Trip.lean ====
/-
  One trip of the decode step's pipeline, at any trip number.
-/
module

public import proofs.«01_k».proof.Proof.Rings

@[expose] public section

noncomputable section

namespace Cert.Proof.Dec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip
variable (c : Dev nD)
  (Xq : Buf (Elt F) (qA.view.loc (c : Thread nD τ))) (Xk : Buf (Elt F) (kA.view.loc (c : Thread nD τ)))
  (Xa : Buf (Elt F) (aA.view.loc (c : Thread nD τ))) (Xv : Buf (Elt F) (vA.view.loc (c : Thread nD τ)))
  (Xs : Buf (Elt F) (sA.view.loc (c : Thread nD τ)))
  (goodT : Fin 8 → (S16x4x128x256.Idx → Elt F .f32) → Prop) (goodO : Fin 8 → (S16x1024.Idx → Elt F .f32) → Prop)
  (v14 v31 v38 v45 v52 : BitVec 32)

abbrev tripG (k : Fin k0_t1_loop.trips) :=
  k0_t1_body (F := F) qA (Memref.isWhole_whole _) kA (Memref.isWhole_whole _) aA (Memref.isWhole_whole _) vA (Memref.isWhole_whole _) sA (Memref.isWhole_whole _)
    tA (Memref.isWhole_whole _) oA (Memref.isWhole_whole _) qM (Memref.isWhole_whole _) qS kM (Memref.isWhole_whole _) kS aM (Memref.isWhole_whole _) aS
    vM (Memref.isWhole_whole _) vS sM (Memref.isWhole_whole _) sS tM (Memref.isWhole_whole _) tS oM (Memref.isWhole_whole _) oS v14 v31 v38 v45 v52 k
    (wB k.val, wA k.val, wB k.val, wA k.val, wB k.val, wA k.val, wB k.val, wA k.val, wC k.val, wA k.val, wA k.val, wD k.val, wA k.val, wD k.val, wE k.val)

/-- What is held before trip `k`, the slots of block `k` at the contents named. -/
abbrev preTrip (k : ℕ)
    (fq : Buf (Elt F) ((slotN qM (Ring.sl 2 k)).view.loc (c : Thread nD τ))) (fk : Buf (Elt F) ((slotN kM (Ring.sl 2 k)).view.loc (c : Thread nD τ)))
    (fa : Buf (Elt F) ((slotN aM (Ring.sl 2 k)).view.loc (c : Thread nD τ))) (fv : Buf (Elt F) ((slotW vM (Ring.sl 2 k)).view.loc (c : Thread nD τ)))
    (fs : Buf (Elt F) ((slotS3 sM (Ring.sl 3 k)).view.loc (c : Thread nD τ)))
    (ft : Buf (Elt F) ((slotS tM (Ring.sl 2 k)).view.loc (c : Thread nD τ))) (fo : Buf (Elt F) ((slotW oM (Ring.sl 2 k)).view.loc (c : Thread nD τ)))
    (gt : Buf (Elt F) ((rowsS tA (Ring.bk 8 k)).view.loc (c : Thread nD τ))) (go : Buf (Elt F) ((rowsW oA (Ring.bk 8 k)).view.loc (c : Thread nD τ))) : sProp 𝕄 :=
  iprop(issue4 c Xq Xk Xa Xv k ∗ pre3 c Xq Xk Xa Xs k fq fk fa
    ∗ flightP c 2048 (cell vS (Ring.sl 2 k)) (slotW vM (Ring.sl 2 k)) (rowsW vA (Ring.bk 8 k)) Xv fv
    ∗ flightP c 262144 (cell3 sS (Ring.sl 3 k)) (slotS3 sM (Ring.sl 3 k)) (rowsS sA (Ring.bk 8 k)) Xs fs
    ∗ backT c goodT k ∗ bigSep (Ring.behindSet 1 k) (doneT c goodT) ∗ backO c goodO k ∗ bigSep (Ring.behindSet 1 k) (doneO c goodO)
    ∗ cellP c (cell tS (Ring.sl 2 k)) ∗ heldP c (slotS tM (Ring.sl 2 k)) ft ∗ heldP c (rowsS tA (Ring.bk 8 k)) gt
    ∗ cellP c (cell oS (Ring.sl 2 k)) ∗ heldP c (slotW oM (Ring.sl 2 k)) fo ∗ heldP c (rowsW oA (Ring.bk 8 k)) go)

/-- What is held after trip `k`: block `k` of every array read back home and its slots free, the results' slots in flight to
    their blocks with the pieces written, the previous trip's copies out done, the next blocks issued. -/
abbrev postTrip (k : ℕ) (pt : List (View.Piece (Elt F) S16x4x128x256 .f32)) (po : List (View.Piece (Elt F) S16x1024 .f32))
    (ft : Buf (Elt F) ((slotS tM (Ring.sl 2 k)).view.loc (c : Thread nD τ))) (fo : Buf (Elt F) ((slotW oM (Ring.sl 2 k)).view.loc (c : Thread nD τ)))
    (gt : Buf (Elt F) ((rowsS tA (Ring.bk 8 k)).view.loc (c : Thread nD τ))) (go : Buf (Elt F) ((rowsW oA (Ring.bk 8 k)).view.loc (c : Thread nD τ))) : sProp 𝕄 :=
  iprop(issued4 c Xq Xk Xa Xv k ∗ bigSep (Ring.homeSet 3 k) (homeS c sA Xs) ∗ roleS c sA sM sS Xs (k + 2)
    ∗ freeP c (cell qS (Ring.sl 2 k)) (slotN qM (Ring.sl 2 k)) ∗ homeN c qA Xq (Ring.bk 8 k)
    ∗ freeP c (cell kS (Ring.sl 2 k)) (slotN kM (Ring.sl 2 k)) ∗ homeN c kA Xk (Ring.bk 8 k)
    ∗ freeP c (cell aS (Ring.sl 2 k)) (slotN aM (Ring.sl 2 k)) ∗ homeN c aA Xa (Ring.bk 8 k)
    ∗ freeP c (cell vS (Ring.sl 2 k)) (slotW vM (Ring.sl 2 k)) ∗ homeW c vA Xv (Ring.bk 8 k)
    ∗ freeP c (cell3 sS (Ring.sl 3 k)) (slotS3 sM (Ring.sl 3 k)) ∗ homeS c sA Xs (Ring.bk 8 k)
    ∗ flightP c 262144 (cell tS (Ring.sl 2 k)) (rowsS tA (Ring.bk 8 k)) (slotS tM (Ring.sl 2 k)) ((slotS tM (Ring.sl 2 k)).view.writes (Elt F) ft pt) gt
    ∗ flightP c 2048 (cell oS (Ring.sl 2 k)) (rowsW oA (Ring.bk 8 k)) (slotW oM (Ring.sl 2 k)) ((slotW oM (Ring.sl 2 k)).view.writes (Elt F) fo po) go
    ∗ post130 c goodT goodO k)

set_option maxHeartbeats 4000000 in
set_option backward.proofsInPublic true in
/-- ONE TRIP, at any trip number: from block `k`'s arrays in flight to its results in flight. The pieces it writes to the
    results' slots are found by the run; they are functions of the arrays alone. -/
def tripRun (k : Fin k0_t1_loop.trips) :
    { w : List (View.Piece (Elt F) S16x4x128x256 .f32) × List (View.Piece (Elt F) S16x1024 .f32) //
      ∀ (goodT : Fin 8 → (S16x4x128x256.Idx → Elt F .f32) → Prop) (goodO : Fin 8 → (S16x1024.Idx → Elt F .f32) → Prop) (v14 v31 v38 v45 v52 : BitVec 32)
        (fq : Buf (Elt F) ((slotN qM (Ring.sl 2 k.val)).view.loc (c : Thread nD τ))) (fk : Buf (Elt F) ((slotN kM (Ring.sl 2 k.val)).view.loc (c : Thread nD τ)))
        (fa : Buf (Elt F) ((slotN aM (Ring.sl 2 k.val)).view.loc (c : Thread nD τ))) (fv : Buf (Elt F) ((slotW vM (Ring.sl 2 k.val)).view.loc (c : Thread nD τ)))
        (fs : Buf (Elt F) ((slotS3 sM (Ring.sl 3 k.val)).view.loc (c : Thread nD τ)))
        (ft : Buf (Elt F) ((slotS tM (Ring.sl 2 k.val)).view.loc (c : Thread nD τ))) (fo : Buf (Elt F) ((slotW oM (Ring.sl 2 k.val)).view.loc (c : Thread nD τ)))
        (gt : Buf (Elt F) ((rowsS tA (Ring.bk 8 k.val)).view.loc (c : Thread nD τ))) (go : Buf (Elt F) ((rowsW oA (Ring.bk 8 k.val)).view.loc (c : Thread nD τ))),
      preTrip c Xq Xk Xa Xv Xs goodT goodO k.val fq fk fa fv fs ft fo gt go
        ⊢ wp frame (wpE (defs₀ (F := F)) 𝒱₀ (c : Thread nD τ) none) Set.univ (tripG (F := F) v14 v31 v38 v45 v52 k)
          (fun r => iprop(⌜r = words (k.val + 1)⌝ ∗ postTrip c Xq Xk Xa Xv Xs goodT goodO k.val w.1 w.2 ft fo gt go)) } := by
  refine ⟨(?_, ?_), ?run⟩
  case run =>
    intro goodT goodO v14 v31 v38 v45 v52 fq fk fa fv fs ft fo gt go
    have h7 := c7 k; have h8 := c8 k; have h9 := c9 k; have h10 := c10 k; have h11 := c11 k; have h19 := c19 k; have h20 := c20 k
    have k1 := h1 k; have k2 := Dec.h2 k; have k3 := Dec.h3 k; have k4 := Dec.h4 k; have k5 := Dec.h5 k; have k6 := Dec.h6 k; have k7 := Dec.h7 k; have k8 := Dec.h8 k
    have hcut2 := p2_spec (F := F) c Xq Xk Xa Xv k
    have hcut3 := p3_spec (F := F) c Xq Xk Xa Xs k
    have hcut130 := p130_spec (F := F) c goodT goodO k
    dsimp only [p2, p3, p130, issue4, issued4, pre3, post3, pre130, post130] at hcut2 hcut3 hcut130
    dsimp only [preTrip, postTrip, issue4, issued4, pre3, post130]
    iintro ⟨⟨Hqh, ⟨Hqc, ⟨%fq1, Hqs⟩⟩, Hkh, ⟨Hkc, ⟨%fk1, Hks⟩⟩, Hah, ⟨Hac, ⟨%fa1, Has⟩⟩, Hvh, ⟨Hvc, ⟨%fv1, Hvs⟩⟩⟩,
      ⟨Hsh, ⟨Hsc, ⟨%fs1, Hss⟩⟩, Hq, Hk, Ha, ⟨%W, HO⟩⟩, Hv, Hs, Htb, Htd, Hob, Hod, Htc, Hts, Htr, Hoc, Hos, Hor⟩
    dsimp only [tripG]
    sl_unfold [k0_t1_body]
    sl_exec_parts
    sl_step
    isplitr
    · ipureintro
      have e1 : v140_r0 = _ := hk0_part2_0.1
      have e2 : v150_r0 = _ := hk0_part2_0.2.1
      have e3 : v160_r0 = _ := hk0_part2_0.2.2.1
      have e4 : v168_r0 = _ := hk0_part2_0.2.2.2
      have e5 : v170_r0 = _ := hk0_part3_0.1
      have e6 : v180_r0 = _ := hk0_part3_0.2.1
      have e7 : v4090_r0 = _ := hk0_part130_0.1
      have e8 : v4098_r0 = _ := hk0_part130_0.2.1
      have e9 : v4102_r0 = _ := hk0_part130_0.2.2.1
      have e10 : v4104_r0 = _ := hk0_part130_0.2.2.2.1
      have e11 : v4105_r0 = _ := hk0_part130_0.2.2.2.2
      rw [e1, e2, e3, e5, e6, e7, e8, e9, e10, e11, e4]
      simp only [words, Prod.mk.injEq]
      refine ⟨?_, ?_, ?_, ?_, ?_, ?_, ?_, ?_, ?_, ?_, ?_, ?_, ?_, ?_, ?_⟩ <;> (clear * -; revert k; decide)
    delta tripRun.sl.dma768 tripRun.sl.dma768_1
    isplitl [Hk0_part2_1 Hk0_part2_2 Hk0_part2_3 Hk0_part2_4 Hk0_part2_5 Hk0_part2_6 Hk0_part2_7 Hk0_part2_8]
    · isplitl [Hk0_part2_1]; · iexact Hk0_part2_1
      isplitl [Hk0_part2_2]; · iexact Hk0_part2_2
      isplitl [Hk0_part2_3]; · iexact Hk0_part2_3
      isplitl [Hk0_part2_4]; · iexact Hk0_part2_4
      isplitl [Hk0_part2_5]; · iexact Hk0_part2_5
      isplitl [Hk0_part2_6]; · iexact Hk0_part2_6
      isplitl [Hk0_part2_7]; · iexact Hk0_part2_7
      iexact Hk0_part2_8
    isplitl [Hk0_part3_1]; · iexact Hk0_part3_1
    isplitl [Hk0_part3_2]; · iexact Hk0_part3_2
    isplitl [Hk0_part3_3 Hk0_part3_4]
    · isplitl [Hk0_part3_3]; · iexact Hk0_part3_3
      iexists _; iexact Hk0_part3_4
    isplitl [Hk0_part3_5]; · iexact Hk0_part3_5
    isplitl [Hk0_part3_6 Hk0_part3_7]
    · isplitl [Hk0_part3_6]; · iexact Hk0_part3_6
      iexists _; iexact Hk0_part3_7
    isplitl [Hk0_part3_8]; · iexact Hk0_part3_8
    isplitl [Hk0_part3_9 Hk0_part3_10]
    · isplitl [Hk0_part3_9]; · iexact Hk0_part3_9
      iexists _; iexact Hk0_part3_10
    isplitl [Hk0_part3_11]; · iexact Hk0_part3_11
    isplitl [Hv Hv_dst]
    · isplitl [Hv]; · iexact Hv
      iexists _; iexact Hv_dst
    isplitl [Hv_src]; · iexact Hv_src
    isplitl [Hs Hs_dst]
    · isplitl [Hs]; · iexact Hs
      iexists _; iexact Hs_dst
    isplitl [Hs_src]; · iexact Hs_src
    isplitl [Htc]; · iexact Htc
    isplitl [Hoc]; · iexact Hoc
    isplitl [Hk0_part130_1 Hk0_part130_2]
    · isplitl [Hk0_part130_1]; · iexact Hk0_part130_1
      iexists _; iexact Hk0_part130_2
    isplitl [Hk0_part130_3]; · iexact Hk0_part130_3
    isplitl [Hk0_part130_4 Hk0_part130_5]
    · isplitl [Hk0_part130_4]; · iexact Hk0_part130_4
      iexists _; iexact Hk0_part130_5
    isplitl [Hk0_part130_6]; · iexact Hk0_part130_6
    iexists _; iexact Hk0_part130_7

end Trip

end Cert.Proof.Dec

end
-- ==== Proof.Block.lean ====
/-
  What one trip leaves in the two results' slots: the step of the sixteen sequences of its block.
-/
module

public import proofs.«01_k».proof.Proof.Step
public import proofs.«01_k».proof.Proof.Trip

@[expose] public section

noncomputable section

namespace Cert.Proof.Dec

open Cert.KernelIdeal Cert.KernelIdeal.Gen
open Idealize.ShloMosaic Idealize.ShloMosaic.ValueIdx Idealize.ShloMosaic.TcCoe
open scoped BigOperators

/-! ## A buffer filled piece by piece -/

section Filled
variable {sig' : RefSig} {κ : Kind} {sp : Space} {s : Shape} {e : EltTy} {Val : EltTy → Type}

/-- The last `n` writes are pieces of `G`, and piece `j` covers the places `T j`. -/
def Filled (T : ℕ → s.Idx → Prop) (G : s.Idx → Val e) : ℕ → List (View.Piece Val s e) → Prop
  | 0, L => L = []
  | _ + 1, [] => False
  | n + 1, p :: L => ((∀ y, T n y → y ∈ p.1.set) ∧ ∀ x, p.2 x = G (p.1.emb x)) ∧ Filled T G n L

theorem Filled.pieces {T : ℕ → s.Idx → Prop} {G : s.Idx → Val e} :
    ∀ {n : ℕ} {L : List (View.Piece Val s e)}, Filled T G n L → ∀ p ∈ L, ∀ x, p.2 x = G (p.1.emb x)
  | 0, _, h, p, hp, _ => by rw [show _ = [] from h] at hp; exact absurd hp List.not_mem_nil
  | _ + 1, [], h, _, _, _ => h.elim
  | n + 1, q :: L, h, p, hp, x => by
    rcases List.mem_cons.mp hp with rfl | hp
    · exact h.1.2 x
    · exact Filled.pieces h.2 p hp x

theorem Filled.covers {T : ℕ → s.Idx → Prop} {G : s.Idx → Val e} {j : ℕ} {y : s.Idx} (hy : T j y) :
    ∀ {n : ℕ} {L : List (View.Piece Val s e)}, Filled T G n L → j < n → ∃ p ∈ L, y ∈ p.1.set
  | 0, _, _, hj => absurd hj (Nat.not_lt_zero j)
  | _ + 1, [], h, _ => h.elim
  | n + 1, p :: L, h, hj => by
    rcases Nat.lt_succ_iff_lt_or_eq.mp hj with hj | rfl
    · obtain ⟨p', hp', hy'⟩ := Filled.covers hy h.2 hj
      exact ⟨p', List.mem_cons_of_mem _ hp', hy'⟩
    · exact ⟨p, List.mem_cons_self, h.1.1 y hy⟩

/-- Pieces that cover a buffer leave `G` in it. -/
theorem Filled.read {T : ℕ → s.Idx → Prop} {G : s.Idx → Val e} {n : ℕ} {L : List (View.Piece Val s e)} (h : Filled T G n L)
    (hT : ∀ y, ∃ j < n, T j y) (v : View sig' κ sp s e) (f : v.ty.Contents Val) : v.read Val (v.writes Val f L) = G :=
  funext fun y => by
    obtain ⟨j, hj, hy⟩ := hT y
    exact View.read_writes_apply_of_pieces v f G L h.pieces y (Filled.covers hy h hj)

/-- A load after one write of a whole buffer reads what was written. -/
theorem readCov_whole [∀ e, Nonempty (Val e)] (v : View sig' κ sp s e) (w : s.Idx → Val e) (r : Rect s) (x : r.shape.Idx) :
    v.readCov [⟨Rect.whole s, w⟩] r.toLoadRect x = w (r.emb x) :=
  congrFun (View.read_writes_whole v v.junk w) (r.emb x)

end Filled

/-! ## The loads -/

variable {F : FTy → Type} [FloatOps F]

theorem inbN (i h : ℕ) (hi : i < 16) (hh : h < 4) : ∀ a, ![i, 128 * h] a + S1x128.size a ≤ S16x512.size a := fun a =>
  match a with
  | ⟨0, _⟩ => by show i + 1 ≤ 16; omega
  | ⟨1, _⟩ => by show 128 * h + 128 ≤ 512; omega
theorem inbW (i h : ℕ) (hi : i < 16) (hh : h < 4) : ∀ a, ![i, 256 * h] a + S1x256.size a ≤ S16x1024.size a := fun a =>
  match a with
  | ⟨0, _⟩ => by show i + 1 ≤ 16; omega
  | ⟨1, _⟩ => by show 256 * h + 256 ≤ 1024; omega
theorem inbS (i h : ℕ) (e : Fin 2) (hi : i < 16) (hh : h < 4) : ∀ a, ![i, h, 0, 128 * e.val] a + S1x1x128x128.size a ≤ S16x4x128x256.size a := fun a =>
  match a with
  | ⟨0, _⟩ => by show i + 1 ≤ 16; omega
  | ⟨1, _⟩ => by show h + 1 ≤ 4; omega
  | ⟨2, _⟩ => by show 0 + 128 ≤ 128; omega
  | ⟨3, _⟩ => by show 128 * e.val + 128 ≤ 256; omega

/-- Sequence `i`'s key row of head `h`, loaded from a slot that holds `X`; -/
def ldN (M : Memref sig .tc .vmem S16x512 .f32) (X : S16x512.Idx → Elt F .f32) (i h : ℕ) (hi : i < 16) (hh : h < 4) : FVec F S1x128 .f32 :=
  M.view.readCov [⟨Rect.whole S16x512, ReadAs.same.apply X⟩] (Rect.unit (s := S16x512) ![i, 128 * h] S1x128.size (inbN i h hi hh)).toLoadRect
/-- its value row; -/
def ldW (M : Memref sig .tc .vmem S16x1024 .f32) (X : S16x1024.Idx → Elt F .f32) (i h : ℕ) (hi : i < 16) (hh : h < 4) : FVec F S1x256 .f32 :=
  M.view.readCov [⟨Rect.whole S16x1024, ReadAs.same.apply X⟩] (Rect.unit (s := S16x1024) ![i, 256 * h] S1x256.size (inbW i h hi hh)).toLoadRect
/-- half `e` of its state. -/
def ldS (M : Memref sig .tc .vmem S16x4x128x256 .f32) (X : S16x4x128x256.Idx → Elt F .f32) (i h : ℕ) (e : Fin 2) (hi : i < 16) (hh : h < 4) : FVec F S1x1x128x128 .f32 :=
  M.view.readCov [⟨Rect.whole S16x4x128x256, ReadAs.same.apply X⟩] (Rect.unit (s := S16x4x128x256) ![i, h, 0, 128 * e.val] S1x1x128x128.size (inbS i h e hi hh)).toLoadRect

theorem ldN_apply (M : Memref sig .tc .vmem S16x512 .f32) (X : S16x512.Idx → Elt F .f32) (i h : ℕ) (hi : i < 16) (hh : h < 4) (d : Fin 128) :
    ldN M X i h hi hh (ix2 0 d) = X (atKey ⟨i, hi⟩ ⟨h, hh⟩ d) := by
  refine (readCov_whole _ _ _ _).trans (congrArg X (funext fun a => Fin.ext ?_))
  match a with
  | ⟨0, _⟩ => show i + 1 * 0 = i; omega
  | ⟨1, _⟩ => show 128 * h + 1 * d.val = 128 * h + d.val; omega
theorem ldW_apply (M : Memref sig .tc .vmem S16x1024 .f32) (X : S16x1024.Idx → Elt F .f32) (i h : ℕ) (hi : i < 16) (hh : h < 4) (e : Fin 256) :
    ldW M X i h hi hh (ix2 0 e) = X (atVal ⟨i, hi⟩ ⟨h, hh⟩ e) := by
  refine (readCov_whole _ _ _ _).trans (congrArg X (funext fun a => Fin.ext ?_))
  match a with
  | ⟨0, _⟩ => show i + 1 * 0 = i; omega
  | ⟨1, _⟩ => show 256 * h + 1 * e.val = 256 * h + e.val; omega
theorem ldS_apply (M : Memref sig .tc .vmem S16x4x128x256 .f32) (X : S16x4x128x256.Idx → Elt F .f32) (i h : ℕ) (e : Fin 2) (hi : i < 16) (hh : h < 4) (d j : Fin 128) :
    ldS M X i h e hi hh (ix4 0 0 d j) = X (ix4 ⟨i, hi⟩ ⟨h, hh⟩ d ⟨128 * e.val + j.val, by omega⟩) := by
  refine (readCov_whole _ _ _ _).trans (congrArg X (funext fun a => Fin.ext ?_))
  match a with
  | ⟨0, _⟩ => show i + 1 * 0 = i; omega
  | ⟨1, _⟩ => show h + 1 * 0 = h; omega
  | ⟨2, _⟩ => show 0 + 1 * d.val = d.val; omega
  | ⟨3, _⟩ => show 128 * e.val + 1 * j.val = 128 * e.val + j.val; omega

/-! ## The pieces -/

section Pieces
variable (Ma Mk : Memref sig .tc .vmem S16x512 .f32) (Mv : Memref sig .tc .vmem S16x1024 .f32) (Ms : Memref sig .tc .vmem S16x4x128x256 .f32)
  (A K : S16x512.Idx → Elt F .f32) (W : S16x1024.Idx → Elt F .f32) (S : S16x4x128x256.Idx → Elt F .f32)

/-- The state's piece `n`: half `n % 2` of head `n / 2 % 4` of sequence `n / 8`. -/
abbrev tileT (n : ℕ) (y : S16x4x128x256.Idx) : Prop := (y 0).val = n / 8 ∧ (y 1).val = n / 2 % 4 ∧ (y 3).val / 128 = n % 2
/-- The mixed rows' piece `n`: head `n % 4` of sequence `n / 4`. -/
abbrev tileO (n : ℕ) (y : S16x1024.Idx) : Prop := (y 0).val = n / 4 ∧ (y 1).val / 256 = n % 4

theorem tileT_cover (y : S16x4x128x256.Idx) : ∃ j < 128, tileT j y := by
  have h0 : (y 0).val < 16 := (y 0).isLt
  have h1 : (y 1).val < 4 := (y 1).isLt
  have h3 : (y 3).val < 256 := (y 3).isLt
  exact ⟨8 * (y 0).val + 2 * (y 1).val + (y 3).val / 128, by omega, by omega, by omega, by omega⟩
theorem tileO_cover (y : S16x1024.Idx) : ∃ j < 64, tileO j y := by
  have h0 : (y 0).val < 16 := (y 0).isLt
  have h1 : (y 1).val < 1024 := (y 1).isLt
  exact ⟨4 * (y 0).val + (y 1).val / 256, by omega, by omega, by omega⟩

/-- A head's new half state, of the loaded rows, at an index. -/
theorem newHalf_ld (i h : ℕ) (e : Fin 2) (hi : i < 16) (hh : h < 4) (d j : Fin 128) :
    newHalf (ldN Ma A i h hi hh) (ldN Mk K i h hi hh) (ldW Mv W i h hi hh) (ldS Ms S i h e hi hh) e (ix2 d j)
      = stateOf A K W S (ix4 ⟨i, hi⟩ ⟨h, hh⟩ d ⟨128 * e.val + j.val, by omega⟩) := by
  rw [newHalf_apply, ldN_apply, ldN_apply, ldW_apply, ldS_apply]
  rfl

/-- The next piece of the new state. -/
theorem fillT (n : ℕ) (hn : n < 128) (L : List (View.Piece (Elt F) S16x4x128x256 .f32)) (h : Filled tileT (stateOf A K W S) n L) :
    Filled tileT (stateOf A K W S) (n + 1)
      (⟨Rect.unit (s := S16x4x128x256) ![n / 8, n / 2 % 4, 0, 128 * (⟨n % 2, by omega⟩ : Fin 2).val] S1x1x128x128.size (inbS _ _ _ (by omega) (by omega)),
        newPiece (ldN Ma A (n / 8) (n / 2 % 4) (by omega) (by omega)) (ldN Mk K (n / 8) (n / 2 % 4) (by omega) (by omega))
          (ldW Mv W (n / 8) (n / 2 % 4) (by omega) (by omega)) (ldS Ms S (n / 8) (n / 2 % 4) ⟨n % 2, by omega⟩ (by omega) (by omega)) ⟨n % 2, by omega⟩⟩ :: L) := by
  refine ⟨⟨fun y hy => ?_, fun x => ?_⟩, h⟩
  · rw [Rect.mem_set_unit]
    have h2 : (y 2).val < 128 := (y 2).isLt
    obtain ⟨e0, e1, e3⟩ := hy
    intro a
    match a with
    | ⟨0, _⟩ => show n / 8 ≤ (y 0).val ∧ (y 0).val < n / 8 + 1; omega
    | ⟨1, _⟩ => show n / 2 % 4 ≤ (y 1).val ∧ (y 1).val < n / 2 % 4 + 1; omega
    | ⟨2, _⟩ => show 0 ≤ (y 2).val ∧ (y 2).val < 0 + 128; omega
    | ⟨3, _⟩ => show 128 * (n % 2) ≤ (y 3).val ∧ (y 3).val < 128 * (n % 2) + 128; omega
  · have hx : x = ix4 0 0 (x 2) (x 3) := by
      funext a
      match a with
      | ⟨0, _⟩ => exact Subsingleton.elim (α := Fin 1) _ _
      | ⟨1, _⟩ => exact Subsingleton.elim (α := Fin 1) _ _
      | ⟨2, _⟩ => rfl
      | ⟨3, _⟩ => rfl
    rw [hx]
    refine (newPiece_apply _ _ _ _ _ (x 2) (x 3)).trans ((newHalf_ld Ma Mk Mv Ms A K W S _ _ _ _ _ _ _).trans (congrArg _ ?_))
    funext a
    refine Fin.ext ?_
    match a with
    | ⟨0, _⟩ => show n / 8 = n / 8 + 1 * 0; omega
    | ⟨1, _⟩ => show n / 2 % 4 = n / 2 % 4 + 1 * 0; omega
    | ⟨2, _⟩ => show (x 2).val = 0 + 1 * (x 2).val; omega
    | ⟨3, _⟩ => show 128 * (n % 2) + (x 3).val = 128 * (n % 2) + 1 * (x 3).val; omega

end Pieces

section Mixed
variable (Mq Ma Mk : Memref sig .tc .vmem S16x512 .f32) (Mv : Memref sig .tc .vmem S16x1024 .f32) (Ms : Memref sig .tc .vmem S16x4x128x256 .f32)
  (Q A K : S16x512.Idx → Elt Ideal .f32) (W : S16x1024.Idx → Elt Ideal .f32) (S : S16x4x128x256.Idx → Elt Ideal .f32)

theorem mix_term (i : Fin 16) {h h' : Fin 4} (d : Fin 128) {l l' : Fin 256} (hh : h = h') (hl : l = l') :
    Q (atKey i h d) * stateOf (F := Ideal) A K W S (ix4 i h d l) = Q (atKey i h' d) * stateOf (F := Ideal) A K W S (ix4 i h' d l') := by
  rw [hh, hl]

/-- The next piece of the mixed rows. -/
theorem fillO (n : ℕ) (hn : n < 64) (L : List (View.Piece (Elt Ideal) S16x1024 .f32)) (h : Filled tileO (mixOf Q A K W S) n L) :
    Filled tileO (mixOf Q A K W S) (n + 1)
      (⟨Rect.unit (s := S16x1024) ![n / 4, 256 * (n % 4)] S1x256.size (inbW _ _ (by omega) (by omega)),
        mixPiece (ldN Mq Q (n / 4) (n % 4) (by omega) (by omega)) (ldN Ma A (n / 4) (n % 4) (by omega) (by omega)) (ldN Mk K (n / 4) (n % 4) (by omega) (by omega))
          (ldW Mv W (n / 4) (n % 4) (by omega) (by omega)) (ldS Ms S (n / 4) (n % 4) 0 (by omega) (by omega)) (ldS Ms S (n / 4) (n % 4) 1 (by omega) (by omega))⟩ :: L) := by
  refine ⟨⟨fun y hy => ?_, fun x => ?_⟩, h⟩
  · rw [Rect.mem_set_unit]
    obtain ⟨e0, e1⟩ := hy
    intro a
    match a with
    | ⟨0, _⟩ => show n / 4 ≤ (y 0).val ∧ (y 0).val < n / 4 + 1; omega
    | ⟨1, _⟩ => show 256 * (n % 4) ≤ (y 1).val ∧ (y 1).val < 256 * (n % 4) + 256; omega
  · have h1 : (x 1).val < 256 := (x 1).isLt
    let e : Fin 2 := ⟨(x 1).val / 128, by omega⟩
    let j : Fin 128 := ⟨(x 1).val % 128, by omega⟩
    have hx : x = ix2 0 ⟨128 * e.val + j.val, by omega⟩ := by
      funext a
      match a with
      | ⟨0, _⟩ => exact Subsingleton.elim (α := Fin 1) _ _
      | ⟨1, _⟩ => exact Fin.ext (Nat.div_add_mod (x 1).val 128).symm
    have hs : (if e = 0 then ldS Ms S (n / 4) (n % 4) 0 (by omega) (by omega) else ldS Ms S (n / 4) (n % 4) 1 (by omega) (by omega))
        = ldS Ms S (n / 4) (n % 4) e (by omega) (by omega) := by
      generalize e = e'
      match e' with
      | 0 => rfl
      | 1 => rfl
    have hz : (Rect.unit (s := S16x1024) ![n / 4, 256 * (n % 4)] S1x256.size (inbW _ _ (by omega) (by omega))).emb x
        = ix2 ⟨n / 4, by omega⟩ ⟨256 * (n % 4) + (x 1).val, by omega⟩ := by
      funext a
      refine Fin.ext ?_
      match a with
      | ⟨0, _⟩ => show n / 4 + 1 * (x 0).val = n / 4; have : (x 0).val < 1 := (x 0).isLt; omega
      | ⟨1, _⟩ => show 256 * (n % 4) + 1 * (x 1).val = 256 * (n % 4) + (x 1).val; omega
    refine Eq.trans ?_ (congrArg (mixOf Q A K W S) hz.symm)
    refine (congrArg _ hx).trans ((mixPiece_apply _ _ _ _ _ _ e j).trans (Finset.sum_congr rfl fun d _ => ?_))
    rw [hs]
    have hh : headOf ⟨256 * (n % 4) + (x 1).val, by omega⟩ = ⟨n % 4, by omega⟩ := Fin.ext (by show (256 * (n % 4) + (x 1).val) / 256 = n % 4; omega)
    have hl : laneOf ⟨256 * (n % 4) + (x 1).val, by omega⟩ = ⟨128 * e.val + j.val, by omega⟩ :=
      Fin.ext (by show (256 * (n % 4) + (x 1).val) % 256 = 128 * ((x 1).val / 128) + (x 1).val % 128; omega)
    rw [ldN_apply, newHalf_ld]
    exact mix_term Q A K W S _ d hh.symm hl.symm

end Mixed

end Cert.Proof.Dec

end
-- ==== Proof.Filled.lean ====
/-
  A trip's writes to the two results' slots, matched with the pieces of the step, and the whole slot read back.
-/
module

public import proofs.«01_k».proof.Proof.Block

@[expose] public section

noncomputable section

namespace Cert.Proof.Dec

open Cert.KernelIdeal Cert.KernelIdeal.Gen
open Idealize.ShloMosaic Idealize.ShloMosaic.ValueIdx Idealize.ShloMosaic.TcCoe

section State
variable {F : FTy → Type} [FloatOps F]
variable (c : Dev nD) (Xq : Buf (Elt F) ((c : Thread nD τ).loc main_arg0)) (Xk : Buf (Elt F) ((c : Thread nD τ).loc main_arg1)) (Xa : Buf (Elt F) ((c : Thread nD τ).loc main_arg2))
  (Xv : Buf (Elt F) ((c : Thread nD τ).loc main_arg3)) (Xs : Buf (Elt F) ((c : Thread nD τ).loc main_v0)) (k : Fin k0_t1_loop.trips)

/-- The trip's block of the queries, decays, keys, values and state. -/
abbrev blkQ := View.read (Elt F) (rowsN qA (Ring.bk 8 k.val)).view Xq
abbrev blkA := View.read (Elt F) (rowsN aA (Ring.bk 8 k.val)).view Xa
abbrev blkK := View.read (Elt F) (rowsN kA (Ring.bk 8 k.val)).view Xk
abbrev blkV := View.read (Elt F) (rowsW vA (Ring.bk 8 k.val)).view Xv
abbrev blkS := View.read (Elt F) (rowsS sA (Ring.bk 8 k.val)).view Xs

/-- The next write to the state's slot, when it is the next piece of the new state. -/
theorem state_next (n : ℕ) (hn : n < 128) (r : Rect S16x4x128x256) (x : r.shape.Idx → Elt F .f32) (L : List (View.Piece (Elt F) S16x4x128x256 .f32))
    (h : Filled tileT (stateOf (blkA c Xa k) (blkK c Xk k) (blkV c Xv k) (blkS c Xs k)) n L)
    (hr : r = Rect.unit (s := S16x4x128x256) ![n / 8, n / 2 % 4, 0, 128 * (⟨n % 2, by omega⟩ : Fin 2).val] S1x1x128x128.size (inbS _ _ _ (by omega) (by omega)))
    (hx : HEq x (newPiece (ldN (slotN aM (Ring.sl 2 k.val)) (blkA c Xa k) (n / 8) (n / 2 % 4) (by omega) (by omega))
      (ldN (slotN kM (Ring.sl 2 k.val)) (blkK c Xk k) (n / 8) (n / 2 % 4) (by omega) (by omega))
      (ldW (slotW vM (Ring.sl 2 k.val)) (blkV c Xv k) (n / 8) (n / 2 % 4) (by omega) (by omega))
      (ldS (slotS3 sM (Ring.sl 3 k.val)) (blkS c Xs k) (n / 8) (n / 2 % 4) ⟨n % 2, by omega⟩ (by omega) (by omega)) ⟨n % 2, by omega⟩)) :
    Filled tileT (stateOf (blkA c Xa k) (blkK c Xk k) (blkV c Xv k) (blkS c Xs k)) (n + 1) (⟨r, x⟩ :: L) := by
  subst hr
  cases hx
  exact fillT _ _ _ _ _ _ _ _ n hn L h

set_option maxHeartbeats 4000000 in
/-- The trip's writes to the state's slot are the pieces of the new state, in order. -/
theorem state_filled : Filled tileT (stateOf (blkA c Xa k) (blkK c Xk k) (blkV c Xv k) (blkS c Xs k)) 128 (tripRun.sl.Hts_128 c Xk Xa Xv Xs k) := by
  iterate 128
    refine state_next (hn := (by decide)) (hr := ?_) (hx := ?_) (h := ?_) ..
    rotate_left
    · exact rfl
    · exact HEq.rfl
  exact rfl

/-- A trip leaves the new state of its block in the state's slot. -/
theorem state_slot (v : View sig .tc .vmem S16x4x128x256 .f32) (f : v.ty.Contents (Elt F)) :
    v.read (Elt F) (v.writes (Elt F) f (tripRun c Xq Xk Xa Xv Xs k).1.1) = stateOf (blkA c Xa k) (blkK c Xk k) (blkV c Xv k) (blkS c Xs k) :=
  (state_filled c Xk Xa Xv Xs k).read tileT_cover v f

end State

section Mixed
variable (c : Dev nD) (Xq : Buf (Elt Ideal) ((c : Thread nD τ).loc main_arg0)) (Xk : Buf (Elt Ideal) ((c : Thread nD τ).loc main_arg1)) (Xa : Buf (Elt Ideal) ((c : Thread nD τ).loc main_arg2))
  (Xv : Buf (Elt Ideal) ((c : Thread nD τ).loc main_arg3)) (Xs : Buf (Elt Ideal) ((c : Thread nD τ).loc main_v0)) (k : Fin k0_t1_loop.trips)

/-- The next write to the mixed rows' slot, when it is their next piece. -/
theorem mix_next (n : ℕ) (hn : n < 64) (r : Rect S16x1024) (x : r.shape.Idx → Elt Ideal .f32) (L : List (View.Piece (Elt Ideal) S16x1024 .f32))
    (h : Filled tileO (mixOf (blkQ c Xq k) (blkA c Xa k) (blkK c Xk k) (blkV c Xv k) (blkS c Xs k)) n L)
    (hr : r = Rect.unit (s := S16x1024) ![n / 4, 256 * (n % 4)] S1x256.size (inbW _ _ (by omega) (by omega)))
    (hx : HEq x (mixPiece (ldN (slotN qM (Ring.sl 2 k.val)) (blkQ c Xq k) (n / 4) (n % 4) (by omega) (by omega))
      (ldN (slotN aM (Ring.sl 2 k.val)) (blkA c Xa k) (n / 4) (n % 4) (by omega) (by omega))
      (ldN (slotN kM (Ring.sl 2 k.val)) (blkK c Xk k) (n / 4) (n % 4) (by omega) (by omega))
      (ldW (slotW vM (Ring.sl 2 k.val)) (blkV c Xv k) (n / 4) (n % 4) (by omega) (by omega))
      (ldS (slotS3 sM (Ring.sl 3 k.val)) (blkS c Xs k) (n / 4) (n % 4) 0 (by omega) (by omega))
      (ldS (slotS3 sM (Ring.sl 3 k.val)) (blkS c Xs k) (n / 4) (n % 4) 1 (by omega) (by omega)))) :
    Filled tileO (mixOf (blkQ c Xq k) (blkA c Xa k) (blkK c Xk k) (blkV c Xv k) (blkS c Xs k)) (n + 1) (⟨r, x⟩ :: L) := by
  subst hr
  cases hx
  exact fillO _ _ _ _ _ _ _ _ _ _ n hn L h

set_option maxHeartbeats 4000000 in
/-- The trip's writes to the mixed rows' slot are their pieces, in order. -/
theorem mix_filled : Filled tileO (mixOf (blkQ c Xq k) (blkA c Xa k) (blkK c Xk k) (blkV c Xv k) (blkS c Xs k)) 64 (tripRun.sl.Hos_64 c Xq Xk Xa Xv Xs k) := by
  iterate 64
    refine mix_next (hn := (by decide)) (hr := ?_) (hx := ?_) (h := ?_) ..
    rotate_left
    · exact rfl
    · exact HEq.rfl
  exact rfl

/-- A trip leaves the mixed rows of its block in their slot. -/
theorem mix_slot (v : View sig .tc .vmem S16x1024 .f32) (f : v.ty.Contents (Elt Ideal)) :
    v.read (Elt Ideal) (v.writes (Elt Ideal) f (tripRun c Xq Xk Xa Xv Xs k).1.2) = (mixOf (blkQ c Xq k) (blkA c Xa k) (blkK c Xk k) (blkV c Xv k) (blkS c Xs k)) :=
  (mix_filled c Xq Xk Xa Xv Xs k).read tileO_cover v f

end Mixed

end Cert.Proof.Dec

end
-- ==== Proof.Run.lean ====
/-
  The decode step's pipeline whole: the invariant of its loop, one trip under it, and the body from the arrays at home to
  the arrays at home.
-/
module

public import proofs.«01_k».proof.Proof.Trip

@[expose] public section

noncomputable section

namespace Cert.Proof.Dec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Run
variable (c : Dev nD)
  (Xq : Buf (Elt F) (qA.view.loc (c : Thread nD τ))) (Xk : Buf (Elt F) (kA.view.loc (c : Thread nD τ)))
  (Xa : Buf (Elt F) (aA.view.loc (c : Thread nD τ))) (Xv : Buf (Elt F) (vA.view.loc (c : Thread nD τ)))
  (Xs : Buf (Elt F) (sA.view.loc (c : Thread nD τ)))
  (goodT : Fin 8 → (S16x4x128x256.Idx → Elt F .f32) → Prop) (goodO : Fin 8 → (S16x1024.Idx → Elt F .f32) → Prop)

/-- A block of a result, at anything. -/
abbrev aheadT (b : Fin 8) : sProp 𝕄 := iprop(∃ g, heldP c (rowsS tA b) g)
abbrev aheadO (b : Fin 8) : sProp 𝕄 := iprop(∃ g, heldP c (rowsW oA b) g)

/-- What is held before trip `k`. -/
abbrev resAt (k : ℕ) : sProp 𝕄 :=
  iprop((bigSep (Ring.homeSet 1 k) (homeN c qA Xq) ∗ roleN c qA qM qS Xq k ∗ freeP c (cell qS (Ring.sl 2 (k + 1))) (slotN qM (Ring.sl 2 (k + 1))))
    ∗ (bigSep (Ring.homeSet 1 k) (homeN c kA Xk) ∗ roleN c kA kM kS Xk k ∗ freeP c (cell kS (Ring.sl 2 (k + 1))) (slotN kM (Ring.sl 2 (k + 1))))
    ∗ (bigSep (Ring.homeSet 1 k) (homeN c aA Xa) ∗ roleN c aA aM aS Xa k ∗ freeP c (cell aS (Ring.sl 2 (k + 1))) (slotN aM (Ring.sl 2 (k + 1))))
    ∗ (bigSep (Ring.homeSet 1 k) (homeW c vA Xv) ∗ roleW c vA vM vS Xv k ∗ freeP c (cell vS (Ring.sl 2 (k + 1))) (slotW vM (Ring.sl 2 (k + 1))))
    ∗ (bigSep (Ring.homeSet 2 k) (homeS c sA Xs) ∗ roleS c sA sM sS Xs k ∗ roleS c sA sM sS Xs (k + 1)
        ∗ freeP c (cell3 sS (Ring.sl 3 (k + 2))) (slotS3 sM (Ring.sl 3 (k + 2))))
    ∗ (bigSep (Ring.aheadSet k) (aheadT (F := F) c) ∗ bigSep (Ring.behindSet 1 k) (doneT c goodT)
        ∗ freeP c (cell tS (Ring.sl 2 k)) (slotS tM (Ring.sl 2 k)) ∗ backT c goodT k)
    ∗ (bigSep (Ring.aheadSet k) (aheadO (F := F) c) ∗ bigSep (Ring.behindSet 1 k) (doneO c goodO)
        ∗ freeP c (cell oS (Ring.sl 2 k)) (slotW oM (Ring.sl 2 k)) ∗ backO c goodO k)
    ∗ ∃ W, owes (c : Thread nD τ) 0 W)

/-- The loop's invariant: the words at their values for trip `k`, and what is held. -/
abbrev inv (k : ℕ) (acc : BitVec 32 × BitVec 32 × BitVec 32 × BitVec 32 × BitVec 32 × BitVec 32 × BitVec 32 × BitVec 32 × BitVec 32 × BitVec 32
    × BitVec 32 × BitVec 32 × BitVec 32 × BitVec 32 × BitVec 32) : sProp 𝕄 :=
  iprop(⌜acc = words k⌝ ∗ resAt c Xq Xk Xa Xv Xs goodT goodO k)

theorem roleN_in (A M S) (X : Buf (Elt F) (A.view.loc (c : Thread nD τ))) (k : ℕ) (h : k < 8) :
    roleN c A M S X k = inN c A M S X (Ring.sl 2 k) (Ring.bk 8 k) := by simp only [roleN, role_eq, Ring.roleAt_of_lt _ _ _ h]
theorem roleW_in (A M S) (X : Buf (Elt F) (A.view.loc (c : Thread nD τ))) (k : ℕ) (h : k < 8) :
    roleW c A M S X k = inW c A M S X (Ring.sl 2 k) (Ring.bk 8 k) := by simp only [roleW, role_eq, Ring.roleAt_of_lt _ _ _ h]
theorem roleS_in (A M S) (X : Buf (Elt F) (A.view.loc (c : Thread nD τ))) (k : ℕ) (h : k < 8) :
    roleS c A M S X k = inS c A M S X (Ring.sl 3 k) (Ring.bk 8 k) := by simp only [roleS, role_eq, Ring.roleAt_of_lt _ _ _ h]
theorem roleN_free (A M S) (X : Buf (Elt F) (A.view.loc (c : Thread nD τ))) (k : ℕ) (h : 8 ≤ k) :
    roleN c A M S X k = freeP c (cell S (Ring.sl 2 k)) (slotN M (Ring.sl 2 k)) := by simp only [roleN, role_eq, Ring.roleAt_of_le _ _ _ h]
theorem roleW_free (A M S) (X : Buf (Elt F) (A.view.loc (c : Thread nD τ))) (k : ℕ) (h : 8 ≤ k) :
    roleW c A M S X k = freeP c (cell S (Ring.sl 2 k)) (slotW M (Ring.sl 2 k)) := by simp only [roleW, role_eq, Ring.roleAt_of_le _ _ _ h]
theorem roleS_free (A M S) (X : Buf (Elt F) (A.view.loc (c : Thread nD τ))) (k : ℕ) (h : 8 ≤ k) :
    roleS c A M S X k = freeP c (cell3 S (Ring.sl 3 k)) (slotS3 M (Ring.sl 3 k)) := by simp only [roleS, role_eq, Ring.roleAt_of_le _ _ _ h]
theorem backT_out (k : ℕ) : backT c goodT (k + 1) = outT c goodT (Ring.sl 2 k) (Ring.bk 8 k) := by
  simp only [backT, role_eq, Ring.roleBAt_of_le _ _ _ _ (Nat.le_add_left 1 k), show k + 1 + 1 = k + 2 from rfl, Ring.sl_add, Nat.add_sub_cancel]
theorem backO_out (k : ℕ) : backO c goodO (k + 1) = outO c goodO (Ring.sl 2 k) (Ring.bk 8 k) := by
  simp only [backO, role_eq, Ring.roleBAt_of_le _ _ _ _ (Nat.le_add_left 1 k), show k + 1 + 1 = k + 2 from rfl, Ring.sl_add, Nat.add_sub_cancel]
theorem ahead_open (Φ : Fin 8 → sProp (MT nD τ sig Unit (Elt F) ℕ (UU nD τ) ℕ)) (k : ℕ) (h : k < 8) :
    bigSep (Ring.aheadSet k) Φ = iprop(Φ (Ring.bk 8 k) ∗ bigSep (Ring.aheadSet (k + 1)) Φ) := by
  rw [Ring.aheadSet_open k h]; exact bigSep_insert (Ring.bk_not_mem_aheadSet_succ k h)

variable
  (hT : ∀ (k : Fin k0_t1_loop.trips) (ft : Buf (Elt F) ((slotS tM (Ring.sl 2 k.val)).view.loc (c : Thread nD τ))),
    goodT (Ring.bk 8 k.val) ((slotS tM (Ring.sl 2 k.val)).view.read (Elt F) ((slotS tM (Ring.sl 2 k.val)).view.writes (Elt F) ft (tripRun c Xq Xk Xa Xv Xs k).1.1)))
  (hO : ∀ (k : Fin k0_t1_loop.trips) (fo : Buf (Elt F) ((slotW oM (Ring.sl 2 k.val)).view.loc (c : Thread nD τ))),
    goodO (Ring.bk 8 k.val) ((slotW oM (Ring.sl 2 k.val)).view.read (Elt F) ((slotW oM (Ring.sl 2 k.val)).view.writes (Elt F) fo (tripRun c Xq Xk Xa Xv Xs k).1.2)))

include hT hO in
/-- One trip carries the invariant on. -/
theorem step (v14 v31 v38 v45 v52 : BitVec 32) (k : Fin k0_t1_loop.trips) :
    resAt c Xq Xk Xa Xv Xs goodT goodO k.val
      ⊢ wp frame (wpE (defs₀ (F := F)) 𝒱₀ (c : Thread nD τ) none) Set.univ (tripG (F := F) v14 v31 v38 v45 v52 k)
          (fun r => inv c Xq Xk Xa Xv Xs goodT goodO (k.val + 1) r) := by
  have hk : k.val < 8 := trips8 ▸ k.isLt
  have e3 : Ring.sl 3 (k.val + 1 + 2) = Ring.sl 3 k.val := Ring.sl_add 3 k.val
  have e2 : Ring.sl 2 (k.val + 1 + 1) = Ring.sl 2 k.val := Ring.sl_add 2 k.val
  dsimp only [inv, resAt]
  rw [roleN_in c qA qM qS Xq k.val hk, roleN_in c kA kM kS Xk k.val hk, roleN_in c aA aM aS Xa k.val hk, roleW_in c vA vM vS Xv k.val hk,
    roleS_in c sA sM sS Xs k.val hk, ahead_open (aheadT c) k.val hk, ahead_open (aheadO c) k.val hk,
    backT_out, backO_out, e3, e2, homes_back _ 1 k.val hk, homes_back _ 1 k.val hk, homes_back _ 1 k.val hk, homes_back _ 1 k.val hk, homes_back _ 2 k.val hk]
  iintro ⟨⟨Hqh, ⟨%fq, Hq⟩, Hqf⟩, ⟨Hkh, ⟨%fk, Hk⟩, Hkf⟩, ⟨Hah, ⟨%fa, Ha⟩, Haf⟩, ⟨Hvh, ⟨%fv, Hv⟩, Hvf⟩, ⟨Hsh, ⟨%fs, Hs⟩, Hs1, Hsf⟩,
    ⟨⟨⟨%gt, Htr⟩, Hta⟩, Htd, ⟨Htc, ⟨%ft, Hts⟩⟩, Htb⟩, ⟨⟨⟨%go, Hor⟩, Hoa⟩, Hod, ⟨Hoc, ⟨%fo, Hos⟩⟩, Hob⟩, HO⟩
  iapply (wp_wand_r Idealize.ShloMosaic.frame (wpE (defs₀ (F := F)) 𝒱₀ (c : Thread nD τ) none) Set.univ)
  isplitl [Hqh Hq Hqf Hkh Hk Hkf Hah Ha Haf Hvh Hv Hvf Hsh Hs Hsf Htr Htd Htc Hts Htb Hor Hod Hoc Hos Hob HO]
  · iapply ((tripRun c Xq Xk Xa Xv Xs k).2 goodT goodO v14 v31 v38 v45 v52 fq fk fa fv fs ft fo gt go)
    dsimp only [preTrip, issue4, pre3]
    isplitl [Hqh Hqf Hkh Hkf Hah Haf Hvh Hvf]
    · isplitl [Hqh]; · iexact Hqh
      isplitl [Hqf]; · iexact Hqf
      isplitl [Hkh]; · iexact Hkh
      isplitl [Hkf]; · iexact Hkf
      isplitl [Hah]; · iexact Hah
      isplitl [Haf]; · iexact Haf
      isplitl [Hvh]; · iexact Hvh
      iexact Hvf
    isplitl [Hsh Hsf Hq Hk Ha HO]
    · isplitl [Hsh]; · iexact Hsh
      isplitl [Hsf]; · iexact Hsf
      isplitl [Hq]; · iexact Hq
      isplitl [Hk]; · iexact Hk
      isplitl [Ha]; · iexact Ha
      iexact HO
    isplitl [Hv]; · iexact Hv
    isplitl [Hs]; · iexact Hs
    isplitl [Htb]; · iexact Htb
    isplitl [Htd]; · iexact Htd
    isplitl [Hob]; · iexact Hob
    isplitl [Hod]; · iexact Hod
    isplitl [Htc]; · iexact Htc
    isplitl [Hts]; · iexact Hts
    isplitl [Htr]; · iexact Htr
    isplitl [Hoc]; · iexact Hoc
    isplitl [Hos]; · iexact Hos
    iexact Hor
  iintro %r ⟨%er, H⟩
  isplitr; · ipureintro; exact er
  dsimp only [postTrip, issued4, post130]
  icases H with ⟨⟨Hqh, Hqr, Hkh, Hkr, Hah, Har, Hvh, Hvr⟩, Hsh, Hsr, Hqf, Hqb, Hkf, Hkb, Haf, Hab, Hvf, Hvb, Hsf, Hsb, Htl, Hol, Htf, Htd, Hof, Hod, HO⟩
  isplitl [Hqh Hqr Hqf Hqb]
  · isplitl [Hqh Hqb]
    · isplitl [Hqb]; · iexact Hqb
      iexact Hqh
    isplitl [Hqr]; · iexact Hqr
    iexact Hqf
  isplitl [Hkh Hkr Hkf Hkb]
  · isplitl [Hkh Hkb]
    · isplitl [Hkb]; · iexact Hkb
      iexact Hkh
    isplitl [Hkr]; · iexact Hkr
    iexact Hkf
  isplitl [Hah Har Haf Hab]
  · isplitl [Hah Hab]
    · isplitl [Hab]; · iexact Hab
      iexact Hah
    isplitl [Har]; · iexact Har
    iexact Haf
  isplitl [Hvh Hvr Hvf Hvb]
  · isplitl [Hvh Hvb]
    · isplitl [Hvb]; · iexact Hvb
      iexact Hvh
    isplitl [Hvr]; · iexact Hvr
    iexact Hvf
  isplitl [Hsh Hs1 Hsr Hsf Hsb]
  · isplitl [Hsh Hsb]
    · isplitl [Hsb]; · iexact Hsb
      iexact Hsh
    isplitl [Hs1]; · iexact Hs1
    isplitl [Hsr]; · iexact Hsr
    iexact Hsf
  isplitl [Hta Htd Htf Htl]
  · isplitl [Hta]; · iexact Hta
    isplitl [Htd]; · iexact Htd
    isplitl [Htf]; · iexact Htf
    iexists _, gt
    isplitl []
    swap; · iexact Htl
    ipureintro; exact hT k ft
  isplitl [Hoa Hod Hof Hol]
  · isplitl [Hoa]; · iexact Hoa
    isplitl [Hod]; · iexact Hod
    isplitl [Hof]; · iexact Hof
    iexists _, go
    isplitl []
    swap; · iexact Hol
    ipureintro; exact hO k fo
  iexact HO

/-! ## The body -/

/-- Every ring at rest: an array's blocks at home and its slots free. -/
abbrev restN (A : Memref sig .tc .hbm S128x512 .f32) (M : Memref sig .tc .vmem S2x16x512 .f32) (S : DmaSems sig S2)
    (X : Buf (Elt F) (A.view.loc (c : Thread nD τ))) : sProp 𝕄 :=
  iprop(bigSep Finset.univ (homeN c A X) ∗ freeP c (cell S (Ring.sl 2 0)) (slotN M (Ring.sl 2 0)) ∗ freeP c (cell S (Ring.sl 2 1)) (slotN M (Ring.sl 2 1)))
abbrev restW (A : Memref sig .tc .hbm S128x1024 .f32) (M : Memref sig .tc .vmem S2x16x1024 .f32) (S : DmaSems sig S2)
    (X : Buf (Elt F) (A.view.loc (c : Thread nD τ))) : sProp 𝕄 :=
  iprop(bigSep Finset.univ (homeW c A X) ∗ freeP c (cell S (Ring.sl 2 0)) (slotW M (Ring.sl 2 0)) ∗ freeP c (cell S (Ring.sl 2 1)) (slotW M (Ring.sl 2 1)))
abbrev restS (A : Memref sig .tc .hbm S128x4x128x256 .f32) (M : Memref sig .tc .vmem S3x16x4x128x256 .f32) (S : DmaSems sig S3)
    (X : Buf (Elt F) (A.view.loc (c : Thread nD τ))) : sProp 𝕄 :=
  iprop(bigSep Finset.univ (homeS c A X) ∗ freeP c (cell3 S (Ring.sl 3 0)) (slotS3 M (Ring.sl 3 0)) ∗ freeP c (cell3 S (Ring.sl 3 1)) (slotS3 M (Ring.sl 3 1))
    ∗ freeP c (cell3 S (Ring.sl 3 2)) (slotS3 M (Ring.sl 3 2)))
/-- The results' slots free. -/
abbrev restT : sProp 𝕄 :=
  iprop(freeP c (cell tS (Ring.sl 2 0)) (slotS tM (Ring.sl 2 0)) ∗ freeP c (cell tS (Ring.sl 2 1)) (slotS tM (Ring.sl 2 1)))
abbrev restO : sProp 𝕄 :=
  iprop(freeP c (cell oS (Ring.sl 2 0)) (slotW oM (Ring.sl 2 0)) ∗ freeP c (cell oS (Ring.sl 2 1)) (slotW oM (Ring.sl 2 1)))
/-- The five inputs at rest. -/
abbrev restIn : sProp 𝕄 :=
  iprop(restN c qA qM qS Xq ∗ restN c kA kM kS Xk ∗ restN c aA aM aS Xa ∗ restW c vA vM vS Xv ∗ restS c sA sM sS Xs)

theorem homes_all0 : Ring.homeSet (NB := 8) 0 0 = Finset.univ := by decide
theorem homes_all1 : Ring.homeSet (NB := 8) 1 8 = Finset.univ := by decide
theorem homes_all2 : Ring.homeSet (NB := 8) 2 8 = Finset.univ := by decide
theorem ahead_all : Ring.aheadSet (NB := 8) 0 = Finset.univ := by decide
theorem behind_none : Ring.behindSet (NB := 8) 1 0 = ∅ := by decide
/-- The first block is issued. -/
theorem all_issue (Φ : Fin 8 → sProp (MT nD τ sig Unit (Elt F) ℕ (UU nD τ) ℕ)) :
    bigSep Finset.univ Φ = iprop(Φ (Ring.bk 8 0) ∗ bigSep (Ring.homeSet 1 0) Φ) := by
  rw [← homes_all0]; exact homes_issue Φ 0 0 (by decide)
/-- The first two are. -/
theorem all_issue2 (Φ : Fin 8 → sProp (MT nD τ sig Unit (Elt F) ℕ (UU nD τ) ℕ)) :
    bigSep Finset.univ Φ = iprop(Φ (Ring.bk 8 0) ∗ Φ (Ring.bk 8 1) ∗ bigSep (Ring.homeSet 2 0) Φ) := by
  rw [all_issue Φ, homes_issue Φ 1 0 (by decide)]
/-- The last block joins the others behind. -/
theorem behind_all (Φ : Fin 8 → sProp (MT nD τ sig Unit (Elt F) ℕ (UU nD τ) ℕ)) :
    bigSep Finset.univ Φ = iprop(Φ (Ring.bk 8 7) ∗ bigSep (Ring.behindSet 1 8) Φ) := by
  rw [show (Finset.univ : Finset (Fin 8)) = insert (Ring.bk 8 7) (Ring.behindSet 1 8) from by decide]
  exact bigSep_insert (by decide)

/-- The whole pipeline on the arrays and its own buffers. -/
abbrev bodyG : Prog (TpuEff nD τ sig (Elt F) Λ₀ .tc) PUnit :=
  cc0_gla_decode qA (Memref.isWhole_whole _) kA (Memref.isWhole_whole _) aA (Memref.isWhole_whole _) vA (Memref.isWhole_whole _) sA (Memref.isWhole_whole _)
    tA (Memref.isWhole_whole _) oA (Memref.isWhole_whole _) qM (Memref.isWhole_whole _) qS kM (Memref.isWhole_whole _) kS aM (Memref.isWhole_whole _) aS
    vM (Memref.isWhole_whole _) vS sM (Memref.isWhole_whole _) sS tM (Memref.isWhole_whole _) tS oM (Memref.isWhole_whole _) oS

/-- What the body is handed. -/
abbrev PRE : sProp 𝕄 :=
  iprop(restIn c Xq Xk Xa Xv Xs ∗ bigSep Finset.univ (aheadT (F := F) c) ∗ bigSep Finset.univ (aheadO (F := F) c) ∗ restT (F := F) c ∗ restO (F := F) c
    ∗ ∃ W, owes (c : Thread nD τ) 0 W)
/-- What it hands back: the inputs as they were, every block of the results done. -/
abbrev POST : sProp 𝕄 :=
  iprop(restIn c Xq Xk Xa Xv Xs ∗ bigSep Finset.univ (doneT c goodT) ∗ bigSep Finset.univ (doneO c goodO) ∗ restT (F := F) c ∗ restO (F := F) c
    ∗ ∃ W, owes (c : Thread nD τ) 0 W)

set_option maxHeartbeats 2000000 in
include hT hO in
/-- The body. -/
theorem bodyRun :
    PRE c Xq Xk Xa Xv Xs
      ⊢ wp frame (wpE (defs₀ (F := F)) 𝒱₀ (c : Thread nD τ) none) Set.univ (bodyG (F := F)) (fun _ => POST c Xq Xk Xa Xv Xs goodT goodO) := by
  dsimp only [PRE, restIn, restN, restW, restS, restT, restO]
  rw [all_issue (homeN c qA Xq), all_issue (homeN c kA Xk), all_issue (homeN c aA Xa), all_issue (homeW c vA Xv), all_issue2 (homeS c sA Xs)]
  iintro ⟨⟨⟨⟨Hqb, Hqh⟩, ⟨Hqc, ⟨%fq, Hqs⟩⟩, Hqf⟩, ⟨⟨Hkb, Hkh⟩, ⟨Hkc, ⟨%fk, Hks⟩⟩, Hkf⟩, ⟨⟨Hab, Hah⟩, ⟨Hac, ⟨%fa, Has⟩⟩, Haf⟩,
    ⟨⟨Hvb, Hvh⟩, ⟨Hvc, ⟨%fv, Hvs⟩⟩, Hvf⟩, ⟨⟨Hsb, Hsb1, Hsh⟩, ⟨Hsc, ⟨%fs, Hss⟩⟩, ⟨Hsc1, ⟨%fs1, Hss1⟩⟩, Hsf⟩⟩, Hta, Hoa, ⟨Ht0, Ht1⟩, ⟨Ho0, Ho1⟩, ⟨%W, HO⟩⟩
  sl_exec
  sl_for (inv c Xq Xk Xa Xv Xs goodT goodO) $$ [Hqh Hqc Hqf Hkh Hkc Hkf Hah Hac Haf Hvh Hvc Hvf Hsh Hsc Hsc1 Hsf Hta Hoa Ht0 Ht1 Ho0 Ho1 HO]
  · intro k acc
    iintro ⟨%e, H⟩
    subst e
    iapply (step c Xq Xk Xa Xv Xs goodT goodO hT hO _ _ _ _ _ k)
    iexact H
  · dsimp only [inv, resAt]
    rw [roleN_in c qA qM qS Xq 0 (by decide), roleN_in c kA kM kS Xk 0 (by decide), roleN_in c aA aM aS Xa 0 (by decide), roleW_in c vA vM vS Xv 0 (by decide),
      roleS_in c sA sM sS Xs 0 (by decide), roleS_in c sA sM sS Xs (0 + 1) (by decide), ahead_all, behind_none, bigSep_empty, bigSep_empty]
    simp only [backT, backO, role_eq, Ring.roleBAt_of_lt _ _ _ _ (Nat.zero_lt_one)]
    isplitr
    · ipureintro; rfl
    isplitl [Hqh Hqc Hqf]
    · isplitl [Hqh]; · iexact Hqh
      isplitl [Hqc]; · iexists fq; iexact Hqc
      iexact Hqf
    isplitl [Hkh Hkc Hkf]
    · isplitl [Hkh]; · iexact Hkh
      isplitl [Hkc]; · iexists fk; iexact Hkc
      iexact Hkf
    isplitl [Hah Hac Haf]
    · isplitl [Hah]; · iexact Hah
      isplitl [Hac]; · iexists fa; iexact Hac
      iexact Haf
    isplitl [Hvh Hvc Hvf]
    · isplitl [Hvh]; · iexact Hvh
      isplitl [Hvc]; · iexists fv; iexact Hvc
      iexact Hvf
    isplitl [Hsh Hsc Hsc1 Hsf]
    · isplitl [Hsh]; · iexact Hsh
      isplitl [Hsc]; · iexists fs; iexact Hsc
      isplitl [Hsc1]; · iexists fs1; iexact Hsc1
      iexact Hsf
    isplitl [Hta Ht0 Ht1]
    · isplitl [Hta]; · iexact Hta
      isplitl []; · iempintro
      isplitl [Ht0]; · iexact Ht0
      iexact Ht1
    isplitl [Hoa Ho0 Ho1]
    · isplitl [Hoa]; · iexact Hoa
      isplitl []; · iempintro
      isplitl [Ho0]; · iexact Ho0
      iexact Ho1
    iexists _; iexact HO
  iintro %acc HI
  rw [show Scf.trips k0_t1_loop.lb k0_t1_loop.ub k0_t1_loop.st = 8 from trips8]
  dsimp only [inv, resAt]
  have e80 : Ring.sl 2 8 = Ring.sl 2 0 := by decide
  have e81 : Ring.sl 2 (8 + 1) = Ring.sl 2 1 := by decide
  rw [roleN_free c qA qM qS Xq 8 (le_refl 8), roleN_free c kA kM kS Xk 8 (le_refl 8), roleN_free c aA aM aS Xa 8 (le_refl 8), roleW_free c vA vM vS Xv 8 (le_refl 8),
    roleS_free c sA sM sS Xs 8 (le_refl 8), roleS_free c sA sM sS Xs (8 + 1) (by decide), homes_all1, homes_all2, backT_out c goodT 7, backO_out c goodO 7]
  icases HI with ⟨%e, ⟨Hqh, Hq0, Hq1⟩, ⟨Hkh, Hk0, Hk1⟩, ⟨Hah, Ha0, Ha1⟩, ⟨Hvh, Hv0, Hv1⟩, ⟨Hsh, Hs0, Hs1, Hs2⟩,
    ⟨-, Htd, Htf, ⟨%ft, %gt, %ht, Ht⟩⟩, ⟨-, Hod, Hof, ⟨%fo, %go, %ho, Ho⟩⟩, ⟨%W', HO⟩⟩
  subst e
  have h9' := h9; have h10' := h10; have h11' := h11
  sl_exec
  sl_step
  dsimp only [POST, restIn, restN, restW, restS, restT, restO]
  rw [behind_all (doneT c goodT), behind_all (doneO c goodO)]
  isplitl [Hqh Hq0 Hq1 Hkh Hk0 Hk1 Hah Ha0 Ha1 Hvh Hv0 Hv1 Hsh Hs0 Hs1 Hs2]
  · isplitl [Hqh Hq0 Hq1]
    · isplitl [Hqh]; · iexact Hqh
      isplitl [Hq0]; · iexact Hq0
      iexact Hq1
    isplitl [Hkh Hk0 Hk1]
    · isplitl [Hkh]; · iexact Hkh
      isplitl [Hk0]; · iexact Hk0
      iexact Hk1
    isplitl [Hah Ha0 Ha1]
    · isplitl [Hah]; · iexact Hah
      isplitl [Ha0]; · iexact Ha0
      iexact Ha1
    isplitl [Hvh Hv0 Hv1]
    · isplitl [Hvh]; · iexact Hvh
      isplitl [Hv0]; · iexact Hv0
      iexact Hv1
    isplitl [Hsh]; · iexact Hsh
    isplitl [Hs1]; · iexact Hs1
    isplitl [Hs2]; · iexact Hs2
    iexact Hs0
  isplitl [Ht_dst Htd]
  · isplitl [Ht_dst]
    · iexists _
      isplitl []
      swap; · iexact Ht_dst
      ipureintro; rw [landed_good]; exact ht
    iexact Htd
  isplitl [Ho_dst Hod]
  · isplitl [Ho_dst]
    · iexists _
      isplitl []
      swap; · iexact Ho_dst
      ipureintro; rw [landed_good]; exact ho
    iexact Hod
  isplitl [Htf Ht Ht_src]
  · isplitl [Htf]; · iexact Htf
    isplitl [Ht]; · iexact Ht
    iexists ft; iexact Ht_src
  isplitl [Hof Ho Ho_src]
  · isplitl [Hof]; · iexact Hof
    isplitl [Ho]; · iexact Ho
    iexists fo; iexact Ho_src
  iexists _; iexact HO

end Run

end Cert.Proof.Dec

end
-- ==== Proof.Launch.lean ====
/-
  The run of the whole decode step from a launch: the arrays and the call's own buffers as blocks and slots, the body's run as
  the call's obligation, and what every final state holds.
-/
module

public import proofs.«01_k».proof.Proof.Run
public import proofs.«01_k».proof.Proof.Gen.KernelIdeal.Frame

@[expose] public section

noncomputable section

namespace Cert.Proof.Dec

open Cert.KernelIdeal Cert.KernelIdeal.Gen
open Idealize.ShloMosaic Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The elements of each block and slot -/

abbrev RN (b : Fin 8) : Finset S128x512.Idx := (Rect.unit (s := S128x512) (rowsOff b.val) S16x512.size (rowsN_inb b)).set
abbrev RW (b : Fin 8) : Finset S128x1024.Idx := (Rect.unit (s := S128x1024) (rowsOff b.val) S16x1024.size (rowsW_inb b)).set
abbrev RS (b : Fin 8) : Finset S128x4x128x256.Idx := (Rect.unit (s := S128x4x128x256) (rowsOff4 b.val) S16x4x128x256.size (rowsS_inb b)).set
abbrev LN (s : Fin 2) : Finset S2x16x512.Idx := (Rect.unit (s := S2x16x512) (slotOff s.val) S1x16x512.size (slotN_inb s)).set
abbrev LW (s : Fin 2) : Finset S2x16x1024.Idx := (Rect.unit (s := S2x16x1024) (slotOff s.val) S1x16x1024.size (slotW_inb s)).set
abbrev LS (s : Fin 2) : Finset S2x16x4x128x256.Idx := (Rect.unit (s := S2x16x4x128x256) (slotOff5 s.val) S1x16x4x128x256.size (slotS_inb s)).set
abbrev LS3 (s : Fin 3) : Finset S3x16x4x128x256.Idx := (Rect.unit (s := S3x16x4x128x256) (slotOff5 s.val) S1x16x4x128x256.size (slotS3_inb s)).set

/-- A block holds the sixteen rows from `16 b`. -/
theorem mem_RN (b : Fin 8) (y : S128x512.Idx) : y ∈ RN b ↔ (y 0).val / 16 = b.val := by
  rw [Rect.mem_set_unit]
  have h1 : (y 1).val < 512 := (y 1).isLt
  constructor
  · intro H; have a0 : 16 * b.val ≤ (y 0).val ∧ (y 0).val < 16 * b.val + 16 := H 0; omega
  · intro H i; fin_cases i
    · show 16 * b.val ≤ (y 0).val ∧ (y 0).val < 16 * b.val + 16; omega
    · show 0 ≤ (y 1).val ∧ (y 1).val < 0 + 512; omega
theorem mem_RW (b : Fin 8) (y : S128x1024.Idx) : y ∈ RW b ↔ (y 0).val / 16 = b.val := by
  rw [Rect.mem_set_unit]
  have h1 : (y 1).val < 1024 := (y 1).isLt
  constructor
  · intro H; have a0 : 16 * b.val ≤ (y 0).val ∧ (y 0).val < 16 * b.val + 16 := H 0; omega
  · intro H i; fin_cases i
    · show 16 * b.val ≤ (y 0).val ∧ (y 0).val < 16 * b.val + 16; omega
    · show 0 ≤ (y 1).val ∧ (y 1).val < 0 + 1024; omega
theorem mem_RS (b : Fin 8) (y : S128x4x128x256.Idx) : y ∈ RS b ↔ (y 0).val / 16 = b.val := by
  rw [Rect.mem_set_unit]
  have h1 : (y 1).val < 4 := (y 1).isLt
  have h2 : (y 2).val < 128 := (y 2).isLt
  have h3 : (y 3).val < 256 := (y 3).isLt
  constructor
  · intro H; have a0 : 16 * b.val ≤ (y 0).val ∧ (y 0).val < 16 * b.val + 16 := H 0; omega
  · intro H i; fin_cases i
    · show 16 * b.val ≤ (y 0).val ∧ (y 0).val < 16 * b.val + 16; omega
    · show 0 ≤ (y 1).val ∧ (y 1).val < 0 + 4; omega
    · show 0 ≤ (y 2).val ∧ (y 2).val < 0 + 128; omega
    · show 0 ≤ (y 3).val ∧ (y 3).val < 0 + 256; omega
/-- A slot holds one index of the first axis. -/
theorem mem_LN (s : Fin 2) (y : S2x16x512.Idx) : y ∈ LN s ↔ (y 0).val = s.val := by
  rw [Rect.mem_set_unit]
  have h1 : (y 1).val < 16 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 16; omega
    · show 0 ≤ (y 2).val ∧ (y 2).val < 0 + 512; omega
theorem mem_LW (s : Fin 2) (y : S2x16x1024.Idx) : y ∈ LW s ↔ (y 0).val = s.val := by
  rw [Rect.mem_set_unit]
  have h1 : (y 1).val < 16 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 16; omega
    · show 0 ≤ (y 2).val ∧ (y 2).val < 0 + 1024; omega
theorem mem_LS (s : Fin 2) (y : S2x16x4x128x256.Idx) : y ∈ LS s ↔ (y 0).val = s.val := by
  rw [Rect.mem_set_unit]
  have h1 : (y 1).val < 16 := (y 1).isLt
  have h2 : (y 2).val < 4 := (y 2).isLt
  have h3 : (y 3).val < 128 := (y 3).isLt
  have h4 : (y 4).val < 256 := (y 4).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 16; omega
    · show 0 ≤ (y 2).val ∧ (y 2).val < 0 + 4; omega
    · show 0 ≤ (y 3).val ∧ (y 3).val < 0 + 128; omega
    · show 0 ≤ (y 4).val ∧ (y 4).val < 0 + 256; omega
theorem mem_LS3 (s : Fin 3) (y : S3x16x4x128x256.Idx) : y ∈ LS3 s ↔ (y 0).val = s.val := by
  rw [Rect.mem_set_unit]
  have h1 : (y 1).val < 16 := (y 1).isLt
  have h2 : (y 2).val < 4 := (y 2).isLt
  have h3 : (y 3).val < 128 := (y 3).isLt
  have h4 : (y 4).val < 256 := (y 4).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 16; omega
    · show 0 ≤ (y 2).val ∧ (y 2).val < 0 + 4; omega
    · show 0 ≤ (y 3).val ∧ (y 3).val < 0 + 128; omega
    · show 0 ≤ (y 4).val ∧ (y 4).val < 0 + 256; omega

/-- Sets told apart by a number are disjoint, -/
theorem disjoint_of_mem {α : Type} [DecidableEq α] {n : ℕ} {I : Fin n → Finset α} (f : α → ℕ) (h : ∀ b y, y ∈ I b ↔ f y = b.val) :
    ∀ b b' : Fin n, b ≠ b' → Disjoint (I b) (I b') := by
  intro b b' hne; rw [Finset.disjoint_left]; intro y hy hy'; rw [h] at hy hy'; exact hne (Fin.ext (hy.symm.trans hy'))
/-- and together they are everything when the number is always one of theirs. -/
theorem cover_of_mem {α : Type} [DecidableEq α] [Fintype α] {n : ℕ} {I : Fin n → Finset α} (f : α → ℕ) (h : ∀ b y, y ∈ I b ↔ f y = b.val) (hf : ∀ y, f y < n) :
    (Finset.univ : Finset (Fin n)).biUnion I = Finset.univ := by
  ext y; simp only [Finset.mem_biUnion, Finset.mem_univ, true_and, iff_true]; exact ⟨⟨f y, hf y⟩, (h _ y).2 rfl⟩

theorem RN_disjoint : ∀ b b' : Fin 8, b ≠ b' → Disjoint (RN b) (RN b') := disjoint_of_mem (I := RN) (fun y => (y 0).val / 16) mem_RN
theorem RN_cover : (Finset.univ : Finset (Fin 8)).biUnion RN = Finset.univ := cover_of_mem (I := RN) (fun y => (y 0).val / 16) mem_RN (fun y => by have : (y 0).val < 128 := (y 0).isLt; omega)
theorem RW_disjoint : ∀ b b' : Fin 8, b ≠ b' → Disjoint (RW b) (RW b') := disjoint_of_mem (I := RW) (fun y => (y 0).val / 16) mem_RW
theorem RW_cover : (Finset.univ : Finset (Fin 8)).biUnion RW = Finset.univ := cover_of_mem (I := RW) (fun y => (y 0).val / 16) mem_RW (fun y => by have : (y 0).val < 128 := (y 0).isLt; omega)
theorem RS_disjoint : ∀ b b' : Fin 8, b ≠ b' → Disjoint (RS b) (RS b') := disjoint_of_mem (I := RS) (fun y => (y 0).val / 16) mem_RS
theorem RS_cover : (Finset.univ : Finset (Fin 8)).biUnion RS = Finset.univ := cover_of_mem (I := RS) (fun y => (y 0).val / 16) mem_RS (fun y => by have : (y 0).val < 128 := (y 0).isLt; omega)
theorem LN_disjoint : ∀ b b' : Fin 2, b ≠ b' → Disjoint (LN b) (LN b') := disjoint_of_mem (I := LN) (fun y => (y 0).val) mem_LN
theorem LN_cover : (Finset.univ : Finset (Fin 2)).biUnion LN = Finset.univ := cover_of_mem (I := LN) (fun y => (y 0).val) mem_LN (fun y => (y 0).isLt)
theorem LW_disjoint : ∀ b b' : Fin 2, b ≠ b' → Disjoint (LW b) (LW b') := disjoint_of_mem (I := LW) (fun y => (y 0).val) mem_LW
theorem LW_cover : (Finset.univ : Finset (Fin 2)).biUnion LW = Finset.univ := cover_of_mem (I := LW) (fun y => (y 0).val) mem_LW (fun y => (y 0).isLt)
theorem LS_disjoint : ∀ b b' : Fin 2, b ≠ b' → Disjoint (LS b) (LS b') := disjoint_of_mem (I := LS) (fun y => (y 0).val) mem_LS
theorem LS_cover : (Finset.univ : Finset (Fin 2)).biUnion LS = Finset.univ := cover_of_mem (I := LS) (fun y => (y 0).val) mem_LS (fun y => (y 0).isLt)
theorem LS3_disjoint : ∀ b b' : Fin 3, b ≠ b' → Disjoint (LS3 b) (LS3 b') := disjoint_of_mem (I := LS3) (fun y => (y 0).val) mem_LS3
theorem LS3_cover : (Finset.univ : Finset (Fin 3)).biUnion LS3 = Finset.univ := cover_of_mem (I := LS3) (fun y => (y 0).val) mem_LS3 (fun y => (y 0).isLt)

/-! ## A buffer whole and in pieces -/

section Pieces
variable {n : ℕ} {ℓ : Loc nD τ sig} (I : Fin n → Finset (Idx ℓ)) (hd : ∀ b b', b ≠ b' → Disjoint (I b) (I b')) (hc : Finset.univ.biUnion I = Finset.univ)
include hd hc

/-- A buffer at one value is its pieces at it, -/
theorem whole_pieces (Φ : Fin n → sProp (MT nD τ sig Unit (Elt F) ℕ (UU nD τ) ℕ)) (X : Buf (Elt F) ℓ) (h : ∀ b, Φ b = (ℓ ↦[I b]{fullShare} X)) :
    (ℓ ↦{fullShare} X : sProp (MT nD τ sig Unit (Elt F) ℕ (UU nD τ) ℕ)) = bigSep Finset.univ Φ := by
  rw [Ring.pointsTo_blocks I hd hc]; exact bigSep_congr fun b _ => (h b).symm
/-- at anything is its pieces at anything, -/
theorem any_pieces (Φ : Fin n → Buf (Elt F) ℓ → sProp (MT nD τ sig Unit (Elt F) ℕ (UU nD τ) ℕ)) (h : ∀ b f, Φ b f = (ℓ ↦[I b]{fullShare} f)) :
    (iprop(∃ f : Buf (Elt F) ℓ, ℓ ↦{fullShare} f) : sProp (MT nD τ sig Unit (Elt F) ℕ (UU nD τ) ℕ)) ⊢ bigSep Finset.univ (fun b => iprop(∃ f, Φ b f)) := by
  iintro ⟨%f, H⟩
  ihave H2 := (entails_of_eq (whole_pieces I hd hc (fun b => Φ b f) f (fun b => h b f))) $$ H
  iapply (show bigSep Finset.univ (fun b => Φ b f) ⊢ bigSep Finset.univ (fun b => iprop(∃ f, Φ b f)) from
    bigSep_mono fun b _ => (exists_intro (PROP := sProp (MT nD τ sig Unit (Elt F) ℕ (UU nD τ) ℕ)) (Φ := fun f => Φ b f) f : _))
  iexact H2
/-- and back. -/
theorem pieces_any (Φ : Fin n → Buf (Elt F) ℓ → sProp (MT nD τ sig Unit (Elt F) ℕ (UU nD τ) ℕ)) (h : ∀ b f, Φ b f = (ℓ ↦[I b]{fullShare} f)) (f₀ : Buf (Elt F) ℓ) :
    bigSep Finset.univ (fun b => iprop(∃ f, Φ b f)) ⊢ (iprop(∃ f : Buf (Elt F) ℓ, ℓ ↦{fullShare} f) : sProp (MT nD τ sig Unit (Elt F) ℕ (UU nD τ) ℕ)) := by
  simp only [h]
  exact Ring.pointsTo_blocks_join_exists I hd hc f₀
/-- Pieces each at contents of a kind are the whole at contents that agree, on every piece, with contents of its kind. -/
theorem pieces_good (Φ : Fin n → Buf (Elt F) ℓ → sProp (MT nD τ sig Unit (Elt F) ℕ (UU nD τ) ℕ)) (P : Fin n → Buf (Elt F) ℓ → Prop)
    (h : ∀ b f, Φ b f = (ℓ ↦[I b]{fullShare} f)) (f₀ : Buf (Elt F) ℓ) :
    bigSep Finset.univ (fun b => iprop(∃ f, ⌜P b f⌝ ∗ Φ b f))
      ⊢ (iprop(∃ g : Buf (Elt F) ℓ, ⌜∀ b, ∃ f, P b f ∧ ∀ i ∈ I b, g i = f i⌝ ∗ ℓ ↦{fullShare} g) : sProp (MT nD τ sig Unit (Elt F) ℕ (UU nD τ) ℕ)) := by
  simp only [h]
  have : Nonempty (Buf (Elt F) ℓ) := ⟨f₀⟩
  refine (bigSep_exists_pi Finset.univ (fun b (f : Buf (Elt F) ℓ) => (iprop(⌜P b f⌝ ∗ ℓ ↦[I b]{fullShare} f) : sProp (MT nD τ sig Unit (Elt F) ℕ (UU nD τ) ℕ)))).trans ?_
  iintro ⟨%fs, H⟩
  ihave H2 := (bigSep_pure_sep Finset.univ (fun b => P b (fs b)) (fun b => (ℓ ↦[I b]{fullShare} fs b : sProp (MT nD τ sig Unit (Elt F) ℕ (UU nD τ) ℕ)))) $$ H
  icases H2 with ⟨%hP, H⟩
  ihave H3 := (pointsTo_biUnion_join Finset.univ I fs f₀ (fun b _ b' _ hne => hd b b' hne)) $$ H
  icases H3 with ⟨%g, %hg, H⟩
  iexists g
  isplitr
  · ipureintro; exact fun b => ⟨fs b, hP b (Finset.mem_univ b), hg b (Finset.mem_univ b)⟩
  iapply (entails_of_eq (congrArg (fun S => (ℓ ↦[S]{fullShare} g : sProp (MT nD τ sig Unit (Elt F) ℕ (UU nD τ) ℕ))) hc))
  iexact H

end Pieces

omit [FloatOps F] in
theorem bigSep_fin2 (Φ : Fin 2 → sProp (MT nD τ sig Unit (Elt F) ℕ (UU nD τ) ℕ)) : bigSep Finset.univ Φ = iprop(Φ (Ring.sl 2 0) ∗ Φ (Ring.sl 2 1)) :=
  bigSep_univ_eq_bigSepL [Ring.sl 2 0, Ring.sl 2 1] (by decide) (by decide) Φ
omit [FloatOps F] in
theorem bigSep_fin3 (Φ : Fin 3 → sProp (MT nD τ sig Unit (Elt F) ℕ (UU nD τ) ℕ)) : bigSep Finset.univ Φ = iprop(Φ (Ring.sl 3 0) ∗ Φ (Ring.sl 3 1) ∗ Φ (Ring.sl 3 2)) :=
  bigSep_univ_eq_bigSepL [Ring.sl 3 0, Ring.sl 3 1, Ring.sl 3 2] (by decide) (by decide) Φ

/-! ## The call's own semaphores -/

abbrev osem : Fin 15 → SemLoc sig :=
  ![.dma (cell qS (Ring.sl 2 0)).sem, .dma (cell qS (Ring.sl 2 1)).sem, .dma (cell kS (Ring.sl 2 0)).sem, .dma (cell kS (Ring.sl 2 1)).sem,
    .dma (cell aS (Ring.sl 2 0)).sem, .dma (cell aS (Ring.sl 2 1)).sem, .dma (cell vS (Ring.sl 2 0)).sem, .dma (cell vS (Ring.sl 2 1)).sem,
    .dma (cell3 sS (Ring.sl 3 0)).sem, .dma (cell3 sS (Ring.sl 3 1)).sem, .dma (cell3 sS (Ring.sl 3 2)).sem,
    .dma (cell tS (Ring.sl 2 0)).sem, .dma (cell tS (Ring.sl 2 1)).sem, .dma (cell oS (Ring.sl 2 0)).sem, .dma (cell oS (Ring.sl 2 1)).sem]
theorem ownSemFacts : Pipeline.OwnSemFacts cfg0.spec osem := by decide

theorem ownSems0_eq (c : Dev nD) : (Pipeline.ownSems0 (Ix := Unit) (Name := ℕ) (U := UU nD τ) (Lvl := ℕ) (Val := Elt F) (τ := τ) osem c : sProp 𝕄)
    = iprop(cellP c (cell qS (Ring.sl 2 0)) ∗ cellP c (cell qS (Ring.sl 2 1)) ∗ cellP c (cell kS (Ring.sl 2 0)) ∗ cellP c (cell kS (Ring.sl 2 1))
        ∗ cellP c (cell aS (Ring.sl 2 0)) ∗ cellP c (cell aS (Ring.sl 2 1)) ∗ cellP c (cell vS (Ring.sl 2 0)) ∗ cellP c (cell vS (Ring.sl 2 1))
        ∗ cellP c (cell3 sS (Ring.sl 3 0)) ∗ cellP c (cell3 sS (Ring.sl 3 1)) ∗ cellP c (cell3 sS (Ring.sl 3 2))
        ∗ cellP c (cell tS (Ring.sl 2 0)) ∗ cellP c (cell tS (Ring.sl 2 1)) ∗ cellP c (cell oS (Ring.sl 2 0)) ∗ cellP c (cell oS (Ring.sl 2 1))) := by
  unfold Pipeline.ownSems0
  exact bigSep_univ_eq_bigSepL [0, 1, 2, 3, 4, 5, 6, 7, 8, 9, 10, 11, 12, 13, 14] (by decide) (by decide) _

/-! ## The arrays as blocks, the rings' buffers as slots -/

section Split
variable (c : Dev nD)

/-! What each block and slot holds of its buffer. -/
theorem q_set (b : Fin 8) : (rowsN qA b).view.set = RN b := View.set_slice_whole _ _
theorem q_held (b : Fin 8) (f : Buf (Elt F) ((c : Thread nD τ).loc main_arg0)) : (heldP c (rowsN qA b) f : sProp 𝕄) = (((c : Thread nD τ).loc main_arg0) ↦[RN b]{fullShare} f) :=
  congrArg (fun S => (((c : Thread nD τ).loc main_arg0) ↦[S]{fullShare} f : sProp 𝕄)) (q_set b)
theorem k_set (b : Fin 8) : (rowsN kA b).view.set = RN b := View.set_slice_whole _ _
theorem k_held (b : Fin 8) (f : Buf (Elt F) ((c : Thread nD τ).loc main_arg1)) : (heldP c (rowsN kA b) f : sProp 𝕄) = (((c : Thread nD τ).loc main_arg1) ↦[RN b]{fullShare} f) :=
  congrArg (fun S => (((c : Thread nD τ).loc main_arg1) ↦[S]{fullShare} f : sProp 𝕄)) (k_set b)
theorem a_set (b : Fin 8) : (rowsN aA b).view.set = RN b := View.set_slice_whole _ _
theorem a_held (b : Fin 8) (f : Buf (Elt F) ((c : Thread nD τ).loc main_arg2)) : (heldP c (rowsN aA b) f : sProp 𝕄) = (((c : Thread nD τ).loc main_arg2) ↦[RN b]{fullShare} f) :=
  congrArg (fun S => (((c : Thread nD τ).loc main_arg2) ↦[S]{fullShare} f : sProp 𝕄)) (a_set b)
theorem v_set (b : Fin 8) : (rowsW vA b).view.set = RW b := View.set_slice_whole _ _
theorem v_held (b : Fin 8) (f : Buf (Elt F) ((c : Thread nD τ).loc main_arg3)) : (heldP c (rowsW vA b) f : sProp 𝕄) = (((c : Thread nD τ).loc main_arg3) ↦[RW b]{fullShare} f) :=
  congrArg (fun S => (((c : Thread nD τ).loc main_arg3) ↦[S]{fullShare} f : sProp 𝕄)) (v_set b)
theorem s_set (b : Fin 8) : (rowsS sA b).view.set = RS b := View.set_slice_whole _ _
theorem s_held (b : Fin 8) (f : Buf (Elt F) ((c : Thread nD τ).loc main_v0)) : (heldP c (rowsS sA b) f : sProp 𝕄) = (((c : Thread nD τ).loc main_v0) ↦[RS b]{fullShare} f) :=
  congrArg (fun S => (((c : Thread nD τ).loc main_v0) ↦[S]{fullShare} f : sProp 𝕄)) (s_set b)
theorem t_set (b : Fin 8) : (rowsS tA b).view.set = RS b := View.set_slice_whole _ _
theorem t_held (b : Fin 8) (f : Buf (Elt F) ((c : Thread nD τ).loc main_v1_0)) : (heldP c (rowsS tA b) f : sProp 𝕄) = (((c : Thread nD τ).loc main_v1_0) ↦[RS b]{fullShare} f) :=
  congrArg (fun S => (((c : Thread nD τ).loc main_v1_0) ↦[S]{fullShare} f : sProp 𝕄)) (t_set b)
theorem o_set (b : Fin 8) : (rowsW oA b).view.set = RW b := View.set_slice_whole _ _
theorem o_held (b : Fin 8) (f : Buf (Elt F) ((c : Thread nD τ).loc main_v1_1)) : (heldP c (rowsW oA b) f : sProp 𝕄) = (((c : Thread nD τ).loc main_v1_1) ↦[RW b]{fullShare} f) :=
  congrArg (fun S => (((c : Thread nD τ).loc main_v1_1) ↦[S]{fullShare} f : sProp 𝕄)) (o_set b)
theorem qM_set (s : Fin 2) : (slotN qM s).view.set = LN s := (View.set_reshape _ _).trans (View.set_slice_whole _ _)
theorem qM_held (s : Fin 2) (f : Buf (Elt F) ((c : Thread nD τ).loc cc0_scoped0)) : (heldP c (slotN qM s) f : sProp 𝕄) = (((c : Thread nD τ).loc cc0_scoped0) ↦[LN s]{fullShare} f) :=
  congrArg (fun S => (((c : Thread nD τ).loc cc0_scoped0) ↦[S]{fullShare} f : sProp 𝕄)) (qM_set s)
theorem kM_set (s : Fin 2) : (slotN kM s).view.set = LN s := (View.set_reshape _ _).trans (View.set_slice_whole _ _)
theorem kM_held (s : Fin 2) (f : Buf (Elt F) ((c : Thread nD τ).loc cc0_scoped2)) : (heldP c (slotN kM s) f : sProp 𝕄) = (((c : Thread nD τ).loc cc0_scoped2) ↦[LN s]{fullShare} f) :=
  congrArg (fun S => (((c : Thread nD τ).loc cc0_scoped2) ↦[S]{fullShare} f : sProp 𝕄)) (kM_set s)
theorem aM_set (s : Fin 2) : (slotN aM s).view.set = LN s := (View.set_reshape _ _).trans (View.set_slice_whole _ _)
theorem aM_held (s : Fin 2) (f : Buf (Elt F) ((c : Thread nD τ).loc cc0_scoped4)) : (heldP c (slotN aM s) f : sProp 𝕄) = (((c : Thread nD τ).loc cc0_scoped4) ↦[LN s]{fullShare} f) :=
  congrArg (fun S => (((c : Thread nD τ).loc cc0_scoped4) ↦[S]{fullShare} f : sProp 𝕄)) (aM_set s)
theorem vM_set (s : Fin 2) : (slotW vM s).view.set = LW s := (View.set_reshape _ _).trans (View.set_slice_whole _ _)
theorem vM_held (s : Fin 2) (f : Buf (Elt F) ((c : Thread nD τ).loc cc0_scoped6)) : (heldP c (slotW vM s) f : sProp 𝕄) = (((c : Thread nD τ).loc cc0_scoped6) ↦[LW s]{fullShare} f) :=
  congrArg (fun S => (((c : Thread nD τ).loc cc0_scoped6) ↦[S]{fullShare} f : sProp 𝕄)) (vM_set s)
theorem sM_set (s : Fin 3) : (slotS3 sM s).view.set = LS3 s := (View.set_reshape _ _).trans (View.set_slice_whole _ _)
theorem sM_held (s : Fin 3) (f : Buf (Elt F) ((c : Thread nD τ).loc cc0_scoped8)) : (heldP c (slotS3 sM s) f : sProp 𝕄) = (((c : Thread nD τ).loc cc0_scoped8) ↦[LS3 s]{fullShare} f) :=
  congrArg (fun S => (((c : Thread nD τ).loc cc0_scoped8) ↦[S]{fullShare} f : sProp 𝕄)) (sM_set s)
theorem tM_set (s : Fin 2) : (slotS tM s).view.set = LS s := (View.set_reshape _ _).trans (View.set_slice_whole _ _)
theorem tM_held (s : Fin 2) (f : Buf (Elt F) ((c : Thread nD τ).loc cc0_scoped10)) : (heldP c (slotS tM s) f : sProp 𝕄) = (((c : Thread nD τ).loc cc0_scoped10) ↦[LS s]{fullShare} f) :=
  congrArg (fun S => (((c : Thread nD τ).loc cc0_scoped10) ↦[S]{fullShare} f : sProp 𝕄)) (tM_set s)
theorem oM_set (s : Fin 2) : (slotW oM s).view.set = LW s := (View.set_reshape _ _).trans (View.set_slice_whole _ _)
theorem oM_held (s : Fin 2) (f : Buf (Elt F) ((c : Thread nD τ).loc cc0_scoped12)) : (heldP c (slotW oM s) f : sProp 𝕄) = (((c : Thread nD τ).loc cc0_scoped12) ↦[LW s]{fullShare} f) :=
  congrArg (fun S => (((c : Thread nD τ).loc cc0_scoped12) ↦[S]{fullShare} f : sProp 𝕄)) (oM_set s)

/-! An array is its blocks. -/
theorem q_eq (X : Buf (Elt F) ((c : Thread nD τ).loc main_arg0)) : (((c : Thread nD τ).loc main_arg0) ↦{fullShare} X : sProp 𝕄) = bigSep Finset.univ (homeN c qA X) :=
  whole_pieces (ℓ := (c : Thread nD τ).loc main_arg0) RN RN_disjoint RN_cover (homeN c qA X) X fun b => q_held c b X
theorem k_eq (X : Buf (Elt F) ((c : Thread nD τ).loc main_arg1)) : (((c : Thread nD τ).loc main_arg1) ↦{fullShare} X : sProp 𝕄) = bigSep Finset.univ (homeN c kA X) :=
  whole_pieces (ℓ := (c : Thread nD τ).loc main_arg1) RN RN_disjoint RN_cover (homeN c kA X) X fun b => k_held c b X
theorem a_eq (X : Buf (Elt F) ((c : Thread nD τ).loc main_arg2)) : (((c : Thread nD τ).loc main_arg2) ↦{fullShare} X : sProp 𝕄) = bigSep Finset.univ (homeN c aA X) :=
  whole_pieces (ℓ := (c : Thread nD τ).loc main_arg2) RN RN_disjoint RN_cover (homeN c aA X) X fun b => a_held c b X
theorem v_eq (X : Buf (Elt F) ((c : Thread nD τ).loc main_arg3)) : (((c : Thread nD τ).loc main_arg3) ↦{fullShare} X : sProp 𝕄) = bigSep Finset.univ (homeW c vA X) :=
  whole_pieces (ℓ := (c : Thread nD τ).loc main_arg3) RW RW_disjoint RW_cover (homeW c vA X) X fun b => v_held c b X
theorem s_eq (X : Buf (Elt F) ((c : Thread nD τ).loc main_v0)) : (((c : Thread nD τ).loc main_v0) ↦{fullShare} X : sProp 𝕄) = bigSep Finset.univ (homeS c sA X) :=
  whole_pieces (ℓ := (c : Thread nD τ).loc main_v0) RS RS_disjoint RS_cover (homeS c sA X) X fun b => s_held c b X
theorem t_ahead (X : Buf (Elt F) ((c : Thread nD τ).loc main_v1_0)) : (((c : Thread nD τ).loc main_v1_0) ↦{fullShare} X : sProp 𝕄) ⊢ bigSep Finset.univ (aheadT c) := by
  iintro H
  iapply (any_pieces (ℓ := (c : Thread nD τ).loc main_v1_0) RS RS_disjoint RS_cover (fun b f => heldP c (rowsS tA b) f) (fun b f => t_held c b f))
  iexists X; iexact H
theorem o_ahead (X : Buf (Elt F) ((c : Thread nD τ).loc main_v1_1)) : (((c : Thread nD τ).loc main_v1_1) ↦{fullShare} X : sProp 𝕄) ⊢ bigSep Finset.univ (aheadO c) := by
  iintro H
  iapply (any_pieces (ℓ := (c : Thread nD τ).loc main_v1_1) RW RW_disjoint RW_cover (fun b f => heldP c (rowsW oA b) f) (fun b f => o_held c b f))
  iexists X; iexact H

variable (goodT : Fin 8 → (S16x4x128x256.Idx → Elt F .f32) → Prop) (goodO : Fin 8 → (S16x1024.Idx → Elt F .f32) → Prop)

/-- A result whose every block is good. -/
abbrev AllT (g : Buf (Elt F) ((c : Thread nD τ).loc main_v1_0)) : Prop := ∀ b, goodT b ((rowsS tA b).view.read (Elt F) g)
abbrev AllO (g : Buf (Elt F) ((c : Thread nD τ).loc main_v1_1)) : Prop := ∀ b, goodO b ((rowsW oA b).view.read (Elt F) g)

/-- The blocks of the new state, each good, are the whole array, its every block good. -/
theorem t_done : bigSep Finset.univ (doneT c goodT) ⊢ (iprop(∃ g, ⌜AllT c goodT g⌝ ∗ ((c : Thread nD τ).loc main_v1_0) ↦{fullShare} g) : sProp 𝕄) := by
  iintro H
  ihave H2 := (show bigSep Finset.univ (doneT c goodT) ⊢ _ from pieces_good (ℓ := (c : Thread nD τ).loc main_v1_0) RS RS_disjoint RS_cover (fun b f => heldP c (rowsS tA b) f)
    (fun b f => goodT b ((rowsS tA b).view.read (Elt F) f)) (fun b f => t_held c b f) (tA.view.junk : Buf (Elt F) (tA.view.loc (c : Thread nD τ)))) $$ H
  icases H2 with ⟨%g, %hg, H⟩
  iexists g
  isplitr
  · ipureintro
    intro b
    obtain ⟨f, hf, e⟩ := hg b
    rwa [show (rowsS tA b).view.read (Elt F) g = (rowsS tA b).view.read (Elt F) f from
      View.read_congr fun i hi => e i ((t_set b) ▸ hi)]
  iexact H
/-- So are those of the outputs. -/
theorem o_done : bigSep Finset.univ (doneO c goodO) ⊢ (iprop(∃ g, ⌜AllO c goodO g⌝ ∗ ((c : Thread nD τ).loc main_v1_1) ↦{fullShare} g) : sProp 𝕄) := by
  iintro H
  ihave H2 := (show bigSep Finset.univ (doneO c goodO) ⊢ _ from pieces_good (ℓ := (c : Thread nD τ).loc main_v1_1) RW RW_disjoint RW_cover (fun b f => heldP c (rowsW oA b) f)
    (fun b f => goodO b ((rowsW oA b).view.read (Elt F) f)) (fun b f => o_held c b f) (oA.view.junk : Buf (Elt F) (oA.view.loc (c : Thread nD τ)))) $$ H
  icases H2 with ⟨%g, %hg, H⟩
  iexists g
  isplitr
  · ipureintro
    intro b
    obtain ⟨f, hf, e⟩ := hg b
    rwa [show (rowsW oA b).view.read (Elt F) g = (rowsW oA b).view.read (Elt F) f from
      View.read_congr fun i hi => e i ((o_set b) ▸ hi)]
  iexact H

/-- The two slots of a ring, at anything. -/
abbrev twoN (M : Memref sig .tc .vmem S2x16x512 .f32) : sProp 𝕄 := iprop((∃ f, heldP c (slotN M (Ring.sl 2 0)) f) ∗ ∃ f, heldP c (slotN M (Ring.sl 2 1)) f)
abbrev twoW (M : Memref sig .tc .vmem S2x16x1024 .f32) : sProp 𝕄 := iprop((∃ f, heldP c (slotW M (Ring.sl 2 0)) f) ∗ ∃ f, heldP c (slotW M (Ring.sl 2 1)) f)
abbrev twoS (M : Memref sig .tc .vmem S2x16x4x128x256 .f32) : sProp 𝕄 := iprop((∃ f, heldP c (slotS M (Ring.sl 2 0)) f) ∗ ∃ f, heldP c (slotS M (Ring.sl 2 1)) f)
abbrev threeS (M : Memref sig .tc .vmem S3x16x4x128x256 .f32) : sProp 𝕄 :=
  iprop((∃ f, heldP c (slotS3 M (Ring.sl 3 0)) f) ∗ (∃ f, heldP c (slotS3 M (Ring.sl 3 1)) f) ∗ ∃ f, heldP c (slotS3 M (Ring.sl 3 2)) f)

theorem eq_of_both {P Q : sProp (MT nD τ sig Unit (Elt F) ℕ (UU nD τ) ℕ)} (h : P ⊢ Q) (h' : Q ⊢ P) : P = Q := Entails.antisymm h h'

/-- A ring's buffer is its slots. -/
theorem any_eq {n : ℕ} {ℓ : Loc nD τ sig} (I : Fin n → Finset (Idx ℓ)) (hd : ∀ b b', b ≠ b' → Disjoint (I b) (I b')) (hc : Finset.univ.biUnion I = Finset.univ)
    (Φ : Fin n → Buf (Elt F) ℓ → sProp (MT nD τ sig Unit (Elt F) ℕ (UU nD τ) ℕ)) (h : ∀ b f, Φ b f = (ℓ ↦[I b]{fullShare} f)) (f₀ : Buf (Elt F) ℓ) :
    (iprop(∃ f : Buf (Elt F) ℓ, ℓ ↦{fullShare} f) : sProp (MT nD τ sig Unit (Elt F) ℕ (UU nD τ) ℕ)) = bigSep Finset.univ (fun b => iprop(∃ f, Φ b f)) :=
  eq_of_both (any_pieces I hd hc Φ h) (pieces_any I hd hc Φ h f₀)

theorem qM_eq : (iprop(∃ f : Buf (Elt F) ((c : Thread nD τ).loc cc0_scoped0), ((c : Thread nD τ).loc cc0_scoped0) ↦{fullShare} f) : sProp 𝕄) = twoN c qM :=
  (any_eq (ℓ := (c : Thread nD τ).loc cc0_scoped0) LN LN_disjoint LN_cover (fun s f => heldP c (slotN qM s) f) (fun s f => qM_held c s f)
    (qM.view.junk : Buf (Elt F) (qM.view.loc (c : Thread nD τ)))).trans (bigSep_fin2 fun s => iprop(∃ f, heldP c (slotN qM s) f))
theorem kM_eq : (iprop(∃ f : Buf (Elt F) ((c : Thread nD τ).loc cc0_scoped2), ((c : Thread nD τ).loc cc0_scoped2) ↦{fullShare} f) : sProp 𝕄) = twoN c kM :=
  (any_eq (ℓ := (c : Thread nD τ).loc cc0_scoped2) LN LN_disjoint LN_cover (fun s f => heldP c (slotN kM s) f) (fun s f => kM_held c s f)
    (kM.view.junk : Buf (Elt F) (kM.view.loc (c : Thread nD τ)))).trans (bigSep_fin2 fun s => iprop(∃ f, heldP c (slotN kM s) f))
theorem aM_eq : (iprop(∃ f : Buf (Elt F) ((c : Thread nD τ).loc cc0_scoped4), ((c : Thread nD τ).loc cc0_scoped4) ↦{fullShare} f) : sProp 𝕄) = twoN c aM :=
  (any_eq (ℓ := (c : Thread nD τ).loc cc0_scoped4) LN LN_disjoint LN_cover (fun s f => heldP c (slotN aM s) f) (fun s f => aM_held c s f)
    (aM.view.junk : Buf (Elt F) (aM.view.loc (c : Thread nD τ)))).trans (bigSep_fin2 fun s => iprop(∃ f, heldP c (slotN aM s) f))
theorem vM_eq : (iprop(∃ f : Buf (Elt F) ((c : Thread nD τ).loc cc0_scoped6), ((c : Thread nD τ).loc cc0_scoped6) ↦{fullShare} f) : sProp 𝕄) = twoW c vM :=
  (any_eq (ℓ := (c : Thread nD τ).loc cc0_scoped6) LW LW_disjoint LW_cover (fun s f => heldP c (slotW vM s) f) (fun s f => vM_held c s f)
    (vM.view.junk : Buf (Elt F) (vM.view.loc (c : Thread nD τ)))).trans (bigSep_fin2 fun s => iprop(∃ f, heldP c (slotW vM s) f))
theorem sM_eq : (iprop(∃ f : Buf (Elt F) ((c : Thread nD τ).loc cc0_scoped8), ((c : Thread nD τ).loc cc0_scoped8) ↦{fullShare} f) : sProp 𝕄) = threeS c sM :=
  (any_eq (ℓ := (c : Thread nD τ).loc cc0_scoped8) LS3 LS3_disjoint LS3_cover (fun s f => heldP c (slotS3 sM s) f) (fun s f => sM_held c s f)
    (sM.view.junk : Buf (Elt F) (sM.view.loc (c : Thread nD τ)))).trans (bigSep_fin3 fun s => iprop(∃ f, heldP c (slotS3 sM s) f))
theorem tM_eq : (iprop(∃ f : Buf (Elt F) ((c : Thread nD τ).loc cc0_scoped10), ((c : Thread nD τ).loc cc0_scoped10) ↦{fullShare} f) : sProp 𝕄) = twoS c tM :=
  (any_eq (ℓ := (c : Thread nD τ).loc cc0_scoped10) LS LS_disjoint LS_cover (fun s f => heldP c (slotS tM s) f) (fun s f => tM_held c s f)
    (tM.view.junk : Buf (Elt F) (tM.view.loc (c : Thread nD τ)))).trans (bigSep_fin2 fun s => iprop(∃ f, heldP c (slotS tM s) f))
theorem oM_eq : (iprop(∃ f : Buf (Elt F) ((c : Thread nD τ).loc cc0_scoped12), ((c : Thread nD τ).loc cc0_scoped12) ↦{fullShare} f) : sProp 𝕄) = twoW c oM :=
  (any_eq (ℓ := (c : Thread nD τ).loc cc0_scoped12) LW LW_disjoint LW_cover (fun s f => heldP c (slotW oM s) f) (fun s f => oM_held c s f)
    (oM.view.junk : Buf (Elt F) (oM.view.loc (c : Thread nD τ)))).trans (bigSep_fin2 fun s => iprop(∃ f, heldP c (slotW oM s) f))

end Split

end Cert.Proof.Dec

end
-- ==== Proof.Whole.lean ====
/-
  The program run whole: from any memory with every semaphore at zero, it ends with its arguments as they were, its results good
  block by block, and every semaphore at zero again.
-/
module

public import proofs.«01_k».proof.Proof.Launch

@[expose] public section

noncomputable section

namespace Cert.Proof.Dec

open Cert.KernelIdeal Cert.KernelIdeal.Gen
open Idealize.ShloMosaic Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (m : (ℓ : Loc nD τ sig) → Buf (Elt F) ℓ) (ρ : Dev nD → PrngReg)

/-- The arrays as the call finds them. -/
abbrev Xq (c : Dev nD) : Buf (Elt F) (qA.view.loc (c : Thread nD τ)) := V m c main_arg0
abbrev Xk (c : Dev nD) : Buf (Elt F) (kA.view.loc (c : Thread nD τ)) := V m c main_arg1
abbrev Xa (c : Dev nD) : Buf (Elt F) (aA.view.loc (c : Thread nD τ)) := V m c main_arg2
abbrev Xv (c : Dev nD) : Buf (Elt F) (vA.view.loc (c : Thread nD τ)) := V m c main_arg3
abbrev Xs (c : Dev nD) : Buf (Elt F) (sA.view.loc (c : Thread nD τ)) := V m c main_v0

variable (goodT : Dev nD → Fin 8 → (S16x4x128x256.Idx → Elt F .f32) → Prop) (goodO : Dev nD → Fin 8 → (S16x1024.Idx → Elt F .f32) → Prop)

/-- What the call's body is handed, -/
def before (c : Dev nD) : sProp 𝕄 :=
  iprop(restIn c (Xq m c) (Xk m c) (Xa m c) (Xv m c) (Xs m c) ∗ bigSep Finset.univ (aheadT (F := F) c) ∗ bigSep Finset.univ (aheadO (F := F) c)
    ∗ restT (F := F) c ∗ restO (F := F) c)
/-- and what it hands back. -/
def afterwards (c : Dev nD) : sProp 𝕄 :=
  iprop(restIn c (Xq m c) (Xk m c) (Xa m c) (Xv m c) (Xs m c) ∗ bigSep Finset.univ (doneT c (goodT c)) ∗ bigSep Finset.univ (doneO c (goodO c))
    ∗ restT (F := F) c ∗ restO (F := F) c)
/-- The first before the one point, the second after it. -/
def held (c : Dev nD) : ℕ → sProp 𝕄
  | 0 => before m c
  | _ + 1 => afterwards m goodT goodO c

def dats (_ : Fin 1) (c : Dev nD) : Dat τ (Elt F) Unit ℕ (UU nD τ) ℕ cfg0 c where
  A w := V m c (Pipeline.arrRef cfg0.spec w)
  after w := w.elim0
  Φ t := held m goodT goodO c t.val
  q _ := fullShare
  owed _ := 0

theorem defs_tc : (defs₀ (F := F)) .tc cfg0.body = fun _ => bodyG := rfl
theorem prog_eq (t : Fin cfg0.N) : (defs₀ (F := F)) .tc cfg0.body (cfg0.bodyArgs t (cfg0.slots t)) = bodyG := (congrFun defs_tc _).trans rfl

variable
  (hT : ∀ (c : Dev nD) (k : Fin k0_t1_loop.trips) (ft : Buf (Elt F) ((slotS tM (Ring.sl 2 k.val)).view.loc (c : Thread nD τ))),
    goodT c (Ring.bk 8 k.val) ((slotS tM (Ring.sl 2 k.val)).view.read (Elt F)
      ((slotS tM (Ring.sl 2 k.val)).view.writes (Elt F) ft (tripRun c (Xq m c) (Xk m c) (Xa m c) (Xv m c) (Xs m c) k).1.1)))
  (hO : ∀ (c : Dev nD) (k : Fin k0_t1_loop.trips) (fo : Buf (Elt F) ((slotW oM (Ring.sl 2 k.val)).view.loc (c : Thread nD τ))),
    goodO c (Ring.bk 8 k.val) ((slotW oM (Ring.sl 2 k.val)).view.read (Elt F)
      ((slotW oM (Ring.sl 2 k.val)).view.writes (Elt F) fo (tripRun c (Xq m c) (Xk m c) (Xa m c) (Xv m c) (Xs m c) k).1.2)))

set_option backward.isDefEq.respectTransparency.types false in
include hT hO in
/-- The body's run is the call's obligation. -/
theorem body_obligation (c : Dev nD) : BodyObligation (dats m goodT goodO 0 c) (defs₀ (F := F)) 𝒱₀ () Set.univ := fun t => by
  have ht : t = t0_0 := fin_N0 t
  subst ht
  dsimp only
  rw [show (dats m goodT goodO 0 c).Φ (Fin.castSucc t0_0) = before m c from rfl, show (dats m goodT goodO 0 c).Φ (Fin.succ t0_0) = afterwards m goodT goodO c from rfl]
  unfold Dat.owesAt Pipeline.owesWithin
  rw [show (dats m goodT goodO 0 c).owed (Fin.castSucc t0_0) = 0 from rfl, show (dats m goodT goodO 0 c).owed (Fin.succ t0_0) = 0 from rfl]
  unfold before afterwards
  iintro ⟨⟨HI, HT, HO, HTs, HOs⟩, ⟨%W, -, HW⟩, Hw⟩
  sl_rw [prog_eq t0_0]
  iapply (wp_wand_r Idealize.ShloMosaic.frame (wpE (defs₀ (F := F)) 𝒱₀ (c : Thread nD τ) none) Set.univ)
  isplitl [HI HT HO HTs HOs HW]
  · iapply (bodyRun c (Xq m c) (Xk m c) (Xa m c) (Xv m c) (Xs m c) (goodT c) (goodO c) (hT c) (hO c))
    isplitl [HI]; · iexact HI
    isplitl [HT]; · iexact HT
    isplitl [HO]; · iexact HO
    isplitl [HTs]; · iexact HTs
    isplitl [HOs]; · iexact HOs
    iexists W; iexact HW
  iintro %r ⟨HI, HT, HO, HTs, HOs, ⟨%W', HW⟩⟩
  isplitl [HI HT HO HTs HOs]
  · isplitl [HI]; · iexact HI
    isplitl [HT]; · iexact HT
    isplitl [HO]; · iexact HO
    isplitl [HTs]; · iexact HTs
    iexact HOs
  isplitl [HW]
  · iexists W'; isplitr; · ipureintro; exact fun _ _ => Or.inl trivial
    iexact HW
  iexact Hw

/-! ## The run -/

/-- The semaphores of the five inputs and of the two results. -/
abbrev arrays (c : Dev nD) : sProp 𝕄 :=
  iprop(bigSep Finset.univ (homeN c qA (Xq m c)) ∗ bigSep Finset.univ (homeN c kA (Xk m c)) ∗ bigSep Finset.univ (homeN c aA (Xa m c))
    ∗ bigSep Finset.univ (homeW c vA (Xv m c)) ∗ bigSep Finset.univ (homeS c sA (Xs m c)))
def into (c : Dev nD) : sProp 𝕄 :=
  iprop(arrays m c ∗ bigSep Finset.univ (aheadT (F := F) c) ∗ bigSep Finset.univ (aheadO (F := F) c) ∗ Pipeline.ownSems0 osem c)
def outOf (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_arg3) ↦{fullShare} V m c main_arg3)
    ∗ (∃ g, ⌜AllT c (goodT c) g⌝ ∗ ((c : Thread nD τ).loc main_v1_0) ↦{fullShare} g) ∗ (∃ g, ⌜AllO c (goodO c) g⌝ ∗ ((c : Thread nD τ).loc main_v1_1) ↦{fullShare} g))
/-- What the call leaves alone. -/
def aside (c : Dev nD) : sProp 𝕄 := ((c : Thread nD τ).loc main_arg4) ↦{fullShare} V m c main_arg4

def u₀ : UU nD τ := (initOf (Pipeline.cells cfgs cellOf_inj) (Pipeline.launchToks cfgs cellOf_inj), 1)

/-- What a final state holds on core `c`. -/
def Ends (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ AllT c (goodT c) (s.mem ((c : Thread nD τ).loc main_v1_0))
    ∧ AllO c (goodO c) (s.mem ((c : Thread nD τ).loc main_v1_1))

set_option maxHeartbeats 800000 in
/-- The program up to the call. -/
theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

theorem hin (c : Dev nD) : iprop(into m c ∗ Pipeline.scopedRest cfg0.spec c) ⊢ before m c := by
  rw [scopedRest0_eq, qM_eq, kM_eq, aM_eq, vM_eq, sM_eq, tM_eq, oM_eq]
  unfold into before; rw [ownSems0_eq]
  iintro ⟨⟨⟨Hq, Hk, Ha, Hv, Hs⟩, Ht, Ho, Cq0, Cq1, Ck0, Ck1, Ca0, Ca1, Cv0, Cv1, Cs0, Cs1, Cs2, Ct0, Ct1, Co0, Co1⟩,
    ⟨Mq0, Mq1⟩, ⟨Mk0, Mk1⟩, ⟨Ma0, Ma1⟩, ⟨Mv0, Mv1⟩, ⟨Ms0, Ms1, Ms2⟩, ⟨Mt0, Mt1⟩, ⟨Mo0, Mo1⟩⟩
  isplitl [Hq Hk Ha Hv Hs Cq0 Cq1 Ck0 Ck1 Ca0 Ca1 Cv0 Cv1 Cs0 Cs1 Cs2 Mq0 Mq1 Mk0 Mk1 Ma0 Ma1 Mv0 Mv1 Ms0 Ms1 Ms2]
  · isplitl [Hq Cq0 Cq1 Mq0 Mq1]
    · isplitl [Hq]; · iexact Hq
      isplitl [Cq0 Mq0]
      · isplitl [Cq0]; · iexact Cq0
        iexact Mq0
      isplitl [Cq1]; · iexact Cq1
      iexact Mq1
    isplitl [Hk Ck0 Ck1 Mk0 Mk1]
    · isplitl [Hk]; · iexact Hk
      isplitl [Ck0 Mk0]
      · isplitl [Ck0]; · iexact Ck0
        iexact Mk0
      isplitl [Ck1]; · iexact Ck1
      iexact Mk1
    isplitl [Ha Ca0 Ca1 Ma0 Ma1]
    · isplitl [Ha]; · iexact Ha
      isplitl [Ca0 Ma0]
      · isplitl [Ca0]; · iexact Ca0
        iexact Ma0
      isplitl [Ca1]; · iexact Ca1
      iexact Ma1
    isplitl [Hv Cv0 Cv1 Mv0 Mv1]
    · isplitl [Hv]; · iexact Hv
      isplitl [Cv0 Mv0]
      · isplitl [Cv0]; · iexact Cv0
        iexact Mv0
      isplitl [Cv1]; · iexact Cv1
      iexact Mv1
    isplitl [Hs]; · iexact Hs
    isplitl [Cs0 Ms0]
    · isplitl [Cs0]; · iexact Cs0
      iexact Ms0
    isplitl [Cs1 Ms1]
    · isplitl [Cs1]; · iexact Cs1
      iexact Ms1
    isplitl [Cs2]; · iexact Cs2
    iexact Ms2
  isplitl [Ht]; · iexact Ht
  isplitl [Ho]; · iexact Ho
  isplitl [Ct0 Ct1 Mt0 Mt1]
  · isplitl [Ct0 Mt0]
    · isplitl [Ct0]; · iexact Ct0
      iexact Mt0
    isplitl [Ct1]; · iexact Ct1
    iexact Mt1
  isplitl [Co0 Mo0]
  · isplitl [Co0]; · iexact Co0
    iexact Mo0
  isplitl [Co1]; · iexact Co1
  iexact Mo1

theorem hout (c : Dev nD) : afterwards m goodT goodO c ⊢ iprop(outOf m goodT goodO c ∗ Pipeline.ownSems0 osem c ∗ Pipeline.scopedRest cfg0.spec c) := by
  rw [scopedRest0_eq, qM_eq, kM_eq, aM_eq, vM_eq, sM_eq, tM_eq, oM_eq, ownSems0_eq]
  unfold afterwards outOf; rw [q_eq, k_eq, a_eq, v_eq]
  iintro ⟨⟨⟨Hq, ⟨Cq0, Mq0⟩, Cq1, Mq1⟩, ⟨Hk, ⟨Ck0, Mk0⟩, Ck1, Mk1⟩, ⟨Ha, ⟨Ca0, Ma0⟩, Ca1, Ma1⟩, ⟨Hv, ⟨Cv0, Mv0⟩, Cv1, Mv1⟩,
    ⟨-, ⟨Cs0, Ms0⟩, ⟨Cs1, Ms1⟩, Cs2, Ms2⟩⟩, Ht, Ho, ⟨⟨Ct0, Mt0⟩, Ct1, Mt1⟩, ⟨Co0, Mo0⟩, Co1, Mo1⟩
  isplitl [Hq Hk Ha Hv Ht Ho]
  · isplitl [Hq]; · iexact Hq
    isplitl [Hk]; · iexact Hk
    isplitl [Ha]; · iexact Ha
    isplitl [Hv]; · iexact Hv
    isplitl [Ht]; · iapply (t_done c (goodT c)); iexact Ht
    iapply (o_done c (goodO c)); iexact Ho
  isplitl [Cq0 Cq1 Ck0 Ck1 Ca0 Ca1 Cv0 Cv1 Cs0 Cs1 Cs2 Ct0 Ct1 Co0 Co1]
  · isplitl [Cq0]; · iexact Cq0
    isplitl [Cq1]; · iexact Cq1
    isplitl [Ck0]; · iexact Ck0
    isplitl [Ck1]; · iexact Ck1
    isplitl [Ca0]; · iexact Ca0
    isplitl [Ca1]; · iexact Ca1
    isplitl [Cv0]; · iexact Cv0
    isplitl [Cv1]; · iexact Cv1
    isplitl [Cs0]; · iexact Cs0
    isplitl [Cs1]; · iexact Cs1
    isplitl [Cs2]; · iexact Cs2
    isplitl [Ct0]; · iexact Ct0
    isplitl [Ct1]; · iexact Ct1
    isplitl [Co0]; · iexact Co0
    iexact Co1
  isplitl [Mq0 Mq1]
  · isplitl [Mq0]; · iexact Mq0
    iexact Mq1
  isplitl [Mk0 Mk1]
  · isplitl [Mk0]; · iexact Mk0
    iexact Mk1
  isplitl [Ma0 Ma1]
  · isplitl [Ma0]; · iexact Ma0
    iexact Ma1
  isplitl [Mv0 Mv1]
  · isplitl [Mv0]; · iexact Mv0
    iexact Mv1
  isplitl [Ms0 Ms1 Ms2]
  · isplitl [Ms0]; · iexact Ms0
    isplitl [Ms1]; · iexact Ms1
    iexact Ms2
  isplitl [Mt0 Mt1]
  · isplitl [Mt0]; · iexact Mt0
    iexact Mt1
  isplitl [Mo0]; · iexact Mo0
  iexact Mo1

/-- The arrays into the call. -/
theorem hX (c : Dev nD) (R S T : sProp (MT nD τ sig Unit (Elt F) ℕ (UU nD τ) ℕ)) :
    iprop(Pipeline.unscopedRest cfg0.spec c (V m c) ∗ Pipeline.ownSems0 osem c ∗ R ∗ S ∗ T) ⊢ |={Set.univ}=> iprop(into m c ∗ aside m c) := by
  rw [unscopedRest0_eq, q_eq, k_eq, a_eq, v_eq, s_eq]
  unfold into aside
  iintro ⟨⟨Hq, Hk, Ha, Hv, H4, Hs, Ht, Ho⟩, HS, -, -, -⟩
  imodintro
  isplitr [H4]
  swap; · iexact H4
  isplitl [Hq Hk Ha Hv Hs]
  · isplitl [Hq]; · iexact Hq
    isplitl [Hk]; · iexact Hk
    isplitl [Ha]; · iexact Ha
    isplitl [Hv]; · iexact Hv
    iexact Hs
  isplitl [Ht]; · iapply (t_ahead c _); iexact Ht
  isplitl [Ho]; · iapply (o_ahead c _); iexact Ho
  iexact HS

/-- What is held at the end says what the final state's memory is. -/
theorem hY (c : Dev nD) (s' : Phys nD τ sig (Elt F)) :
    iprop(outOf m goodT goodO c ∗ aside m c ∗ SI s') ⊢ (|={Set.univ}=> iprop(⌜Ends m goodT goodO c s'.mem⌝ ∗ SI s') : sProp 𝕄) := by
  unfold outOf aside
  iintro ⟨⟨H0, H1, H2, H3, ⟨%gt, %ht, Ht⟩, ⟨%go, %ho, Ho⟩⟩, H4, HSI⟩
  icombine HSI H0 gives %h0
  icombine HSI H1 gives %h1
  icombine HSI H2 gives %h2
  icombine HSI H3 gives %h3
  icombine HSI H4 gives %h4
  icombine HSI Ht gives %h5
  icombine HSI Ho gives %h6
  imodintro
  isplitr
  · ipureintro
    exact ⟨(Buf.eq_of_forall_mem_univ h0).trans (V_main_arg0 m c), (Buf.eq_of_forall_mem_univ h1).trans (V_main_arg1 m c),
      (Buf.eq_of_forall_mem_univ h2).trans (V_main_arg2 m c), (Buf.eq_of_forall_mem_univ h3).trans (V_main_arg3 m c),
      (Buf.eq_of_forall_mem_univ h4).trans (V_main_arg4 m c),
      (Buf.eq_of_forall_mem_univ h5).symm ▸ ht, (Buf.eq_of_forall_mem_univ h6).symm ▸ ho⟩
  iexact HSI

set_option backward.isDefEq.respectTransparency.types false in
include hT hO in
/-- From any memory with every semaphore at zero, every fair run ends, on every core as `Ends` says and every semaphore at zero. -/
theorem run_main : θ_run defs (onTc (τ := τ) (main (F := F))) (s₀ m ρ) (fun r => (∀ c : Dev nD, Ends m goodT goodO c r.2) ∧ r.2.sem = fun _ => 0) :=
  Pipeline.θ_run_region_kit_quiescent cfgs (dats m goodT goodO) () (0 : Fin 1) launch0 ownSemFacts EP defs₀ 𝒱₀ m ρ main
    (hbody := fun c => (body_obligation m goodT goodO hT hO c).loose) (hshare := fun c => (dats m goodT goodO 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmainU m) (hA := fun _ _ => rfl)
    (X := into m) (Y := outOf m goodT goodO) (Z := aside m)
    (hX := fun c => hX m c _ _ _)
    (hin := fun c => hin m c)
    (hout := fun c => hout m goodT goodO c)
    (QY := Ends m goodT goodO)
    (hY := fun c s' => hY m goodT goodO c s')
    (hQ := fun _ hh hz => ⟨fun c => (hh c).2, hz⟩)

end Cert.Proof.Dec

end
-- ==== Proof.Value.lean ====
/-
  The whole arrays the call leaves, and the reference's results, both as the step of the hundred and twenty-eight sequences.
-/
module

public import proofs.«01_k».proof.Proof.Filled
public import proofs.«01_k».proof.Proof.Whole
public import proofs.«01_k».proof.Proof.Gen.ReferenceIdeal.Read

@[expose] public section

noncomputable section

namespace Cert.Proof.Dec

open Cert.KernelIdeal Cert.KernelIdeal.Gen
open Idealize.ShloMosaic Idealize.ShloMosaic.ValueIdx Idealize.ShloMosaic.TcCoe Idealize.SL.Sem
open scoped BigOperators

/-! ## A block of the whole arrays -/

/-- Row `i` of block `b`. -/
abbrev rowAt (b : Fin 8) (i : Fin 16) : Fin 128 := ⟨16 * b.val + i.val, by omega⟩

section Blocks
variable {F : FTy → Type} [FloatOps F] (c : Dev nD) (b : Fin 8)

theorem readA (X : Buf (Elt F) ((c : Thread nD τ).loc main_arg2)) (i : Fin 16) (w : Fin 512) :
    (rowsN aA b).view.read (Elt F) X (ix2 i w) = (X : S128x512.Idx → F .f32) (ix2 (rowAt b i) w) := by
  refine congrArg (X : S128x512.Idx → F .f32) (funext fun a => Fin.ext ?_)
  match a with
  | ⟨0, _⟩ => show 16 * b.val + 1 * i.val = 16 * b.val + i.val; omega
  | ⟨1, _⟩ => show 0 + 1 * w.val = w.val; omega
theorem readK (X : Buf (Elt F) ((c : Thread nD τ).loc main_arg1)) (i : Fin 16) (w : Fin 512) :
    (rowsN kA b).view.read (Elt F) X (ix2 i w) = (X : S128x512.Idx → F .f32) (ix2 (rowAt b i) w) := readA c b X i w
theorem readQ (X : Buf (Elt F) ((c : Thread nD τ).loc main_arg0)) (i : Fin 16) (w : Fin 512) :
    (rowsN qA b).view.read (Elt F) X (ix2 i w) = (X : S128x512.Idx → F .f32) (ix2 (rowAt b i) w) := readA c b X i w
theorem readV (X : Buf (Elt F) ((c : Thread nD τ).loc main_arg3)) (i : Fin 16) (w : Fin 1024) :
    (rowsW vA b).view.read (Elt F) X (ix2 i w) = (X : S128x1024.Idx → F .f32) (ix2 (rowAt b i) w) := by
  refine congrArg (X : S128x1024.Idx → F .f32) (funext fun a => Fin.ext ?_)
  match a with
  | ⟨0, _⟩ => show 16 * b.val + 1 * i.val = 16 * b.val + i.val; omega
  | ⟨1, _⟩ => show 0 + 1 * w.val = w.val; omega
theorem readO (X : Buf (Elt F) ((c : Thread nD τ).loc main_v1_1)) (i : Fin 16) (w : Fin 1024) :
    (rowsW oA b).view.read (Elt F) X (ix2 i w) = (X : S128x1024.Idx → F .f32) (ix2 (rowAt b i) w) := readV c b X i w
theorem readS (X : Buf (Elt F) ((c : Thread nD τ).loc main_v0)) (i : Fin 16) (h : Fin 4) (d : Fin 128) (e : Fin 256) :
    (rowsS sA b).view.read (Elt F) X (ix4 i h d e) = (X : S128x4x128x256.Idx → F .f32) (ix4 (rowAt b i) h d e) := by
  refine congrArg (X : S128x4x128x256.Idx → F .f32) (funext fun a => Fin.ext ?_)
  match a with
  | ⟨0, _⟩ => show 16 * b.val + 1 * i.val = 16 * b.val + i.val; omega
  | ⟨1, _⟩ => show 0 + 1 * h.val = h.val; omega
  | ⟨2, _⟩ => show 0 + 1 * d.val = d.val; omega
  | ⟨3, _⟩ => show 0 + 1 * e.val = e.val; omega
theorem readT (X : Buf (Elt F) ((c : Thread nD τ).loc main_v1_0)) (i : Fin 16) (h : Fin 4) (d : Fin 128) (e : Fin 256) :
    (rowsS tA b).view.read (Elt F) X (ix4 i h d e) = (X : S128x4x128x256.Idx → F .f32) (ix4 (rowAt b i) h d e) := readS c b X i h d e

end Blocks

section Whole
variable {F : FTy → Type} [FloatOps F] (c : Dev nD)
  (Xq : Buf (Elt F) ((c : Thread nD τ).loc main_arg0)) (Xk : Buf (Elt F) ((c : Thread nD τ).loc main_arg1)) (Xa : Buf (Elt F) ((c : Thread nD τ).loc main_arg2))
  (Xv : Buf (Elt F) ((c : Thread nD τ).loc main_arg3)) (Xs : Buf (Elt F) ((c : Thread nD τ).loc main_v0)) (k : Fin k0_t1_loop.trips)

/-- The step of a block's sequences is the block of the whole arrays' step. -/
theorem state_block (i : Fin 16) (h : Fin 4) (d : Fin 128) (e : Fin 256) :
    stateOf (blkA c Xa k) (blkK c Xk k) (blkV c Xv k) (blkS c Xs k) (ix4 i h d e)
      = stateOf (n := 128) (F := F) Xa Xk Xv Xs (ix4 (rowAt (Ring.bk 8 k.val) i) h d e) := by
  exact congrArg₂ FloatOps.addf (congrArg₂ FloatOps.mulf (readA c _ Xa i _) (readS c _ Xs i h d e))
    (congrArg₂ FloatOps.mulf (readK c _ Xk i _) (readV c _ Xv i _))

/-- A state whose every block is the step's is the step's. -/
theorem state_whole (g : Buf (Elt F) ((c : Thread nD τ).loc main_v1_0))
    (hg : ∀ b i h d e, (rowsS tA b).view.read (Elt F) g (ix4 i h d e) = stateOf (n := 128) (F := F) Xa Xk Xv Xs (ix4 (rowAt b i) h d e)) :
    (g : S128x4x128x256.Idx → F .f32) = stateOf (n := 128) (F := F) Xa Xk Xv Xs := by
  funext y
  have h0 : (y 0).val < 128 := (y 0).isLt
  have hy : y = ix4 (rowAt ⟨(y 0).val / 16, by omega⟩ ⟨(y 0).val % 16, by omega⟩) (y 1) (y 2) (y 3) := by
    funext a
    match a with
    | ⟨0, _⟩ => exact Fin.ext (Nat.div_add_mod (y 0).val 16).symm
    | ⟨1, _⟩ => rfl
    | ⟨2, _⟩ => rfl
    | ⟨3, _⟩ => rfl
  rw [hy]
  exact (readT c _ g _ _ _ _).symm.trans (hg _ _ _ _ _)

end Whole

section Mixed
variable (c : Dev nD)
  (Xq : Buf (Elt Ideal) ((c : Thread nD τ).loc main_arg0)) (Xk : Buf (Elt Ideal) ((c : Thread nD τ).loc main_arg1)) (Xa : Buf (Elt Ideal) ((c : Thread nD τ).loc main_arg2))
  (Xv : Buf (Elt Ideal) ((c : Thread nD τ).loc main_arg3)) (Xs : Buf (Elt Ideal) ((c : Thread nD τ).loc main_v0)) (k : Fin k0_t1_loop.trips)

/-- The mixed rows of a block's sequences are the block of the whole arrays' mixed rows. -/
theorem mix_block (i : Fin 16) (w : Fin 1024) :
    mixOf (blkQ c Xq k) (blkA c Xa k) (blkK c Xk k) (blkV c Xv k) (blkS c Xs k) (ix2 i w)
      = mixOf (n := 128) Xq Xa Xk Xv Xs (ix2 (rowAt (Ring.bk 8 k.val) i) w) :=
  Finset.sum_congr rfl fun d _ => congrArg₂ _ (readQ c _ Xq i _) (state_block c Xk Xa Xv Xs k i _ d _)

/-- Mixed rows whose every block is the step's are the step's. -/
theorem mix_whole (g : Buf (Elt Ideal) ((c : Thread nD τ).loc main_v1_1))
    (hg : ∀ b i w, (rowsW oA b).view.read (Elt Ideal) g (ix2 i w) = mixOf (n := 128) Xq Xa Xk Xv Xs (ix2 (rowAt b i) w)) :
    (g : S128x1024.Idx → Ideal .f32) = mixOf (n := 128) Xq Xa Xk Xv Xs := by
  funext y
  have h0 : (y 0).val < 128 := (y 0).isLt
  have hy : y = ix2 (rowAt ⟨(y 0).val / 16, by omega⟩ ⟨(y 0).val % 16, by omega⟩) (y 1) := by
    funext a
    match a with
    | ⟨0, _⟩ => exact Fin.ext (Nat.div_add_mod (y 0).val 16).symm
    | ⟨1, _⟩ => rfl
  rw [hy]
  exact (readO c _ g _ _).symm.trans (hg _ _ _)

end Mixed

/-! ## The run's results -/

section Results
variable (m : (ℓ : Loc nD τ sig) → Buf (Elt Ideal) ℓ) (ρ : Dev nD → PrngReg)

/-- A block of the new state, at every index; -/
def goodT (c : Dev nD) (b : Fin 8) (x : S16x4x128x256.Idx → Elt Ideal .f32) : Prop :=
  ∀ i h d e, x (ix4 i h d e) = stateOf (n := 128) (F := Ideal) (Xa m c) (Xk m c) (Xv m c) (Xs m c) (ix4 (rowAt b i) h d e)
/-- and of the mixed rows. -/
def goodO (c : Dev nD) (b : Fin 8) (x : S16x1024.Idx → Elt Ideal .f32) : Prop :=
  ∀ i w, x (ix2 i w) = mixOf (n := 128) (Xq m c) (Xa m c) (Xk m c) (Xv m c) (Xs m c) (ix2 (rowAt b i) w)

/-- The run ends with the step of all sequences in its two results and its arguments as they were. -/
theorem run_value : θ_run defs (onTc (τ := τ) (main (F := Ideal))) (s₀ m ρ) (fun r => ∀ c : Dev nD,
    (r.2.mem ((c : Thread nD τ).loc main_v1_0) : S128x4x128x256.Idx → Ideal .f32) = stateOf (n := 128) (F := Ideal) (Xa m c) (Xk m c) (Xv m c) (Xs m c)
    ∧ (r.2.mem ((c : Thread nD τ).loc main_v1_1) : S128x1024.Idx → Ideal .f32) = mixOf (n := 128) (Xq m c) (Xa m c) (Xk m c) (Xv m c) (Xs m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  (θ_run defs _ _).mono
    (fun _ h c => ⟨state_whole c _ _ _ _ _ (h.1 c).2.2.2.2.2.1, mix_whole c _ _ _ _ _ _ (h.1 c).2.2.2.2.2.2,
      (h.1 c).1, (h.1 c).2.1, (h.1 c).2.2.1, (h.1 c).2.2.2.1, (h.1 c).2.2.2.2.1⟩)
    (run_main (F := Ideal) m ρ (goodT m) (goodO m)
      (fun c k ft i h d e => (congrFun (state_slot c _ _ _ _ _ k _ ft) _).trans (state_block c _ _ _ _ k i h d e))
      (fun c k fo i w => (congrFun (mix_slot c _ _ _ _ _ k _ fo) _).trans (mix_block c _ _ _ _ _ k i w)))

end Results

/-! ## The reference's results -/

section Reference
open Cert.ReferenceIdeal.Read

variable {F : FTy → Type} [FloatOps F]
variable (x0 x1 x2 : S128x512.Idx → Elt F .f32) (x3 : S128x1024.Idx → Elt F .f32) (x4 : (⟨5, ![1, 128, 4, 128, 256]⟩ : Shape).Idx → Elt F .f32)

theorem ref_key (i : Fin 128) (h : Fin 4) (d : Fin 128) : val_main_v0 x0 (ix3 i h d) = x0 (atKey i h d) := by
  rw [val_main_v0_apply]
  refine congrArg x0 (funext fun a => Fin.ext ?_)
  match a with
  | ⟨0, _⟩ => show ((i.val * 4 + h.val) * 128 + d.val) / 512 = i.val; omega
  | ⟨1, _⟩ => show ((i.val * 4 + h.val) * 128 + d.val) % 512 = 128 * h.val + d.val; omega
theorem ref_val (i : Fin 128) (h : Fin 4) (e : Fin 256) : val_main_v3 x3 (ix3 i h e) = x3 (atVal i h e) := by
  rw [val_main_v3_apply]
  refine congrArg x3 (funext fun a => Fin.ext ?_)
  match a with
  | ⟨0, _⟩ => show ((i.val * 4 + h.val) * 256 + e.val) / 1024 = i.val; omega
  | ⟨1, _⟩ => show ((i.val * 4 + h.val) * 256 + e.val) % 1024 = 256 * h.val + e.val; omega

/-- The reference's new state. -/
theorem ref_state : (val_main_v13 x1 x2 x3 x4 : S128x4x128x256.Idx → F .f32) = stateOf (n := 128) (F := F) x2 x1 x3 (val_main_v5 x4) := by
  funext y
  rw [val_main_v13_apply, val_main_v7_apply, val_main_v12_apply, val_main_v6_apply, val_main_v10_apply, val_main_v11_apply,
    val_main_v4_apply, val_main_v8_apply, val_main_v9_apply]
  have ea : val_main_v2 x2 (idx_main_v4 (idx_main_v6 y)) = x2 (atKey (y 0) (y 1) (y 2)) :=
    Eq.trans (congrArg (val_main_v0 x2) (eq_ix3 _)) (ref_key x2 (y 0) (y 1) (y 2))
  have ek : val_main_v1 x1 (idx_main_v8 (idx_main_v10 y)) = x1 (atKey (y 0) (y 1) (y 2)) :=
    Eq.trans (congrArg (val_main_v0 x1) (eq_ix3 _)) (ref_key x1 (y 0) (y 1) (y 2))
  have ev : val_main_v3 x3 (idx_main_v9 (idx_main_v11 y)) = x3 (atVal (y 0) (y 1) (y 3)) :=
    Eq.trans (congrArg (val_main_v3 x3) (eq_ix3 _)) (ref_val x3 (y 0) (y 1) (y 3))
  rw [ea, ek, ev]
  rfl

end Reference

section ReferenceMixed
open Cert.ReferenceIdeal.Read

variable (x0 x1 x2 : S128x512.Idx → Elt Ideal .f32) (x3 : S128x1024.Idx → Elt Ideal .f32) (x4 : (⟨5, ![1, 128, 4, 128, 256]⟩ : Shape).Idx → Elt Ideal .f32)

/-- The reference's mixed rows. -/
theorem ref_mix : (val_main_v15 x0 x1 x2 x3 x4 : S128x1024.Idx → Ideal .f32) = mixOf (n := 128) x0 x2 x1 x3 (val_main_v5 x4) := by
  funext z
  have h0 : (z 0).val < 128 := (z 0).isLt
  have h1 : (z 1).val < 1024 := (z 1).isLt
  have hz : idx_main_v15 z = ix3 (z 0) (headOf (z 1)) (laneOf (z 1)) := by
    funext a
    refine Fin.ext ?_
    match a with
    | ⟨0, _⟩ => show ((z 0).val * 1024 + (z 1).val) / 1024 = (z 0).val; omega
    | ⟨1, _⟩ => show ((z 0).val * 1024 + (z 1).val) / 256 % 4 = (z 1).val / 256; omega
    | ⟨2, _⟩ => show ((z 0).val * 1024 + (z 1).val) % 256 = (z 1).val % 256; omega
  rw [val_main_v15_apply]
  refine (congrArg _ hz).trans ((val_main_v14_apply x0 x1 x2 x3 x4 _).trans (Finset.sum_congr rfl fun d _ => congrArg₂ _ ?_ ?_))
  · exact Eq.trans (congrArg (val_main_v0 x0) (eq_ix3 _)) (ref_key x0 _ _ _)
  · rw [ref_state]
    exact congrArg _ (eq_ix4 _)

end ReferenceMixed

end Cert.Proof.Dec

end
-- ==== Proof.PreSums.lean ====
/-
  Sums and scalar functions of the extended reals, used for the prompt's state.
-/
module

public import proofs.«01_k».proof.Proof.Gen.Kernel2Ideal.Skeleton
public import Idealize.ShloMosaic.Lib.Pipeline.Value
public import Idealize.ShloMosaic.Lib.ValueIdx
public import Idealize.ShloMosaic.PureOps.Ideal.Laws

@[expose] public section

namespace Cert.Proof.Pre

open Idealize.ShloMosaic
open scoped BigOperators

/-- Adding the rounding error `a - a` of exact numbers changes no sum whose terms are below infinity. -/
theorem sum_add_error {ι : Type} (s : Finset ι) (a : ι → EReal) (h : ∀ m, a m ≠ ⊤) :
    ∑ m ∈ s, a m + ∑ m ∈ s, (a m - a m) = ∑ m ∈ s, a m := by
  rw [← Finset.sum_add_distrib]
  refine Finset.sum_congr rfl fun m _ => ?_
  have hm := h m
  generalize a m = x at hm
  induction x using EReal.rec with
  | bot => rfl
  | top => exact absurd rfl hm
  | coe r => rw [← EReal.coe_sub, ← EReal.coe_add, sub_self, add_zero]

/-- The sum of the first `i + 1` entries of a chunk of 64. -/
noncomputable def upTo (f : Fin 64 → EReal) (i : Fin 64) : EReal := ∑ j : Fin 64, if j.val ≤ i.val then f j else 0

/-- A row of the zero-one matrix of four chunks picks the entries of its own chunk up to the row. -/
theorem sum_chunk (f : Fin 256 → EReal) (p : Fin 4) (i : Fin 64) (w : Fin 256 → EReal)
    (hw : ∀ m : Fin 256, w m = if m.val / 64 = p.val ∧ m.val ≤ 64 * p.val + i.val then 1 else 0) :
    ∑ m : Fin 256, w m * f m = upTo (fun j => f ⟨64 * p.val + j.val, by omega⟩) i := by
  unfold upTo
  have h1 : ∀ m : Fin 256, w m * f m = if m.val / 64 = p.val ∧ m.val ≤ 64 * p.val + i.val then f m else 0 := by
    intro m
    rw [hw m]
    split <;> simp
  rw [Finset.sum_congr rfl fun m _ => h1 m, ← Finset.sum_filter, ← Finset.sum_filter]
  refine Finset.sum_bij' (fun m _ => (⟨m.val % 64, Nat.mod_lt _ (by decide)⟩ : Fin 64)) (fun j _ => (⟨64 * p.val + j.val, by omega⟩ : Fin 256))
    ?_ ?_ ?_ ?_ ?_
  · intro m hm
    simp only [Finset.mem_filter, Finset.mem_univ, true_and] at hm ⊢
    omega
  · intro j hj
    simp only [Finset.mem_filter, Finset.mem_univ, true_and] at hj ⊢
    omega
  · intro m hm
    simp only [Finset.mem_filter, Finset.mem_univ, true_and] at hm
    exact Fin.ext (by simp only; omega)
  · intro j hj
    exact Fin.ext (by simp only; omega)
  · intro m hm
    simp only [Finset.mem_filter, Finset.mem_univ, true_and] at hm
    exact congrArg f (Fin.ext (by simp only; omega))

/-- A window that reaches 63 entries back from `i`, with zeros in front, holds the first `i + 1` entries. -/
theorem sum_window (f : Fin 64 → EReal) (i : Fin 64) :
    ∑ n : Fin 64, (if h : 63 ≤ i.val + n.val then f ⟨i.val + n.val - 63, by omega⟩ else 0) = upTo f i := by
  unfold upTo
  have h1 : ∀ n : Fin 64, (if h : 63 ≤ i.val + n.val then f ⟨i.val + n.val - 63, by omega⟩ else 0) =
      if 63 ≤ i.val + n.val then f ⟨i.val + n.val - 63, by omega⟩ else 0 := fun n => by split <;> rfl
  rw [Finset.sum_congr rfl fun n _ => h1 n, ← Finset.sum_filter, ← Finset.sum_filter]
  refine Finset.sum_bij' (fun n _ => (⟨i.val + n.val - 63, by omega⟩ : Fin 64)) (fun j _ => (⟨(63 + j.val - i.val) % 64, Nat.mod_lt _ (by decide)⟩ : Fin 64))
    ?_ ?_ ?_ ?_ ?_
  · intro n hn
    simp only [Finset.mem_filter, Finset.mem_univ, true_and] at hn ⊢
    omega
  · intro j hj
    simp only [Finset.mem_filter, Finset.mem_univ, true_and] at hj ⊢
    omega
  · intro n hn
    simp only [Finset.mem_filter, Finset.mem_univ, true_and] at hn
    exact Fin.ext (by simp only; omega)
  · intro j hj
    simp only [Finset.mem_filter, Finset.mem_univ, true_and] at hj
    exact Fin.ext (by simp only; omega)
  · intro n _
    rfl

/-- A sum over 128 columns of which only the first 16 have a weight. -/
theorem sum_pad (a w : Fin 128 → EReal) (h : ∀ k : Fin 128, 16 ≤ k.val → w k = 0) :
    ∑ k : Fin 128, a k * w k = ∑ k : Fin 16, a ⟨k.val, by omega⟩ * w ⟨k.val, by omega⟩ := by
  rw [show (∑ k : Fin 128, a k * w k) = ∑ k : Fin (16 + 112), a k * w k from rfl, Fin.sum_univ_add]
  rw [Finset.sum_eq_zero (s := Finset.univ) (f := fun i : Fin 112 => a (Fin.natAdd 16 i) * w (Fin.natAdd 16 i)), add_zero]
  · rfl
  · intro i _
    rw [h _ (by simp only [Fin.natAdd]; omega), mul_zero]

/-- The logarithm of the gate, from the number before it: minus the softplus of its negative, over 16. -/
noncomputable def gateLog (z : EReal) : EReal :=
  (0 - (max (0 - z) 0 + Ideal.log (1 + Ideal.exp (0 - max z (-z))))) * ((1 / 16 : ℝ) : EReal)

/-- The exponential is not negative, -/
theorem exp_nonneg (x : EReal) : 0 ≤ Ideal.exp x := by
  induction x using EReal.rec with
  | bot => exact le_refl _
  | top => exact le_top
  | coe r => exact EReal.coe_nonneg.mpr (Real.exp_pos r).le

/-- nor is the logarithm of one plus something that is not. -/
theorem log_nonneg (x : EReal) (h : 0 ≤ x) : 0 ≤ Ideal.log (1 + x) := by
  induction x using EReal.rec with
  | bot => exact absurd h (by simp)
  | top => exact le_top
  | coe r =>
    have hr : 0 ≤ r := EReal.coe_nonneg.mp h
    rw [show (1 : EReal) + (r : EReal) = ((1 + r : ℝ) : EReal) from (EReal.coe_add 1 r).symm]
    show 0 ≤ (if 1 + r ≤ 0 then (⊥ : EReal) else (Real.log (1 + r) : EReal))
    rw [if_neg (by linarith)]
    exact EReal.coe_nonneg.mpr (Real.log_nonneg (by linarith))

/-- The logarithm of a gate is never positive infinity. -/
theorem gateLog_ne_top (z : EReal) : gateLog z ≠ ⊤ := by
  have h0 : 0 ≤ max (0 - z) 0 + Ideal.log (1 + Ideal.exp (0 - max z (-z))) :=
    add_nonneg (le_max_right _ _) (log_nonneg _ (exp_nonneg _))
  unfold gateLog
  generalize max (0 - z) 0 + Ideal.log (1 + Ideal.exp (0 - max z (-z))) = y at h0
  induction y using EReal.rec with
  | bot => exact absurd h0 (by simp)
  | top =>
    rw [zero_sub, EReal.neg_top, EReal.bot_mul_coe_of_pos (by norm_num)]
    exact bot_ne_top
  | coe r =>
    rw [zero_sub, ← EReal.coe_neg, ← EReal.coe_mul]
    exact EReal.coe_ne_top _

end Cert.Proof.Pre

end
-- ==== Proof.PrePay.lean ====
/-
  What the prompt call computes for one tile of 512 rows, index by index: products of rows, the sums of the gates' logarithms within
  a chunk, the scaled keys, the decays, and one chunk's step of the state.
-/
module

public import proofs.«01_k».proof.Proof.PreSums

@[expose] public section

noncomputable section

namespace Cert.Proof.Pre

open Cert.Kernel2Ideal Cert.Kernel2Ideal.Gen
open Idealize.ShloMosaic Idealize.ShloMosaic.ValueIdx
open scoped BigOperators

/-- A product with one summed axis, read at an index. -/
theorem mm {sl sr so : Shape} {φ₁ φ₂ : FTy} (d : DotDims sl sr so) (n : ℕ) (hr : d.contr.rank = 1) (hs : d.contr.size ⟨0, by omega⟩ = n)
    (prec : Option ContractPrecision) (lhs : FVec Ideal sl φ₁) (rhs : FVec Ideal sr φ₂) (j : so.Idx) (L R : Fin n → EReal)
    (hl : ∀ (k : Fin n) (q : d.contr.Idx), (q ⟨0, by omega⟩).val = k.val → lhs (d.lhsIdx j q) = L k)
    (hR : ∀ (k : Fin n) (q : d.contr.Idx), (q ⟨0, by omega⟩).val = k.val → rhs (d.rhsIdx j q) = R k) :
    FloatOps.matmul d prec lhs rhs (constant so .f32 0x00000000#32) j = ∑ k : Fin n, L k * R k := by
  rw [Ideal.matmul_constant_zero_apply, ← (contrEquiv1 d n hr hs).symm.sum_comp]
  refine Finset.sum_congr rfl fun k _ => ?_
  rw [hl k _ (contrEquiv1_symm_val d n hr hs k), hR k _ (contrEquiv1_symm_val d n hr hs k)]

/-! ## Rows -/

/-- The row scaled by its root mean square and the weight. -/
def normRow (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- A row times a row of a weight. -/
def dotRow (h w : Fin 1024 → EReal) : EReal := ∑ k : Fin 1024, h k * w k

/-- The tile's normed rows. -/
theorem pay9_apply (x : FVec Ideal S1x512x1024 .f32) (g : FVec Ideal S1x1024 .f32) (r : Fin 512) (k : Fin 1024) :
    k0_pay9 (F := Ideal) x g (ix2 r k) = normRow (fun k => x (ix3 0 r k)) (fun k => g (ix2 0 k)) k := by
  have h8 : ∀ k : Fin 1024, k0_pay8 (F := Ideal) x (ix2 r k) = x (ix3 0 r k) := fun k =>
    shapeCast_apply _ _ _ (ix3 0 r k) (by
      rw [Shape.rowMajor_val_three, Shape.rowMajor_val_two]; show (0 * 512 + r.val) * 1024 + k.val = r.val * 1024 + k.val; omega)
  have hs : multiReduction .add [1] S512 (mulf (k0_pay8 (F := Ideal) x) (k0_pay8 x)) 0x00000000#32 reduces_S512x1024_S512 (.inl rfl) rfl (ix1 r)
      = ∑ j : Fin 1024, x (ix3 0 r j) * x (ix3 0 r j) := by
    refine (Ideal.multiReduction_add_single _ _ _ _ _ _).trans (Finset.sum_congr rfl fun d _ => ?_)
    have e1 : (reduces_S512x1024_S512).lift (ix1 r) d = ix2 r d := by
      funext b; apply Fin.ext
      match b with | ⟨0, _⟩ => rfl | ⟨1, _⟩ => rfl
    rw [e1]
    exact congrArg₂ (· * ·) (h8 d) (h8 d)
  unfold normRow
  refine congrArg₂ (· * ·) (congrArg₂ (· * ·) (h8 k) ?_) ?_
  · refine (broadcastTo_apply _ _ _ (ix2 r 0) (by intro b; match b with | ⟨0, _⟩ => rfl | ⟨1, _⟩ => rfl)).trans ?_
    refine congrArg Ideal.rsqrt (congrArg (· + Ideal.ofBits .f32 0x358637BD#32) (congrArg (Ideal.div · (Ideal.ofBits .f32 0x44800000#32)) ?_))
    exact (shapeCast_apply _ _ _ (ix1 r) (by
      rw [Shape.rowMajor_val_one, Shape.rowMajor_val_two]; show r.val = r.val * 1 + 0; omega)).trans hs
  · refine (broadcastTo_apply _ _ _ (ix2 0 k) (by intro b; match b with | ⟨0, _⟩ => rfl | ⟨1, _⟩ => rfl)).trans ?_
    exact shapeCast_apply _ _ _ (ix2 0 k) rfl

section Rows
variable (h : FVec Ideal S512x1024 .bf16) (r : Fin 512)

/-- The product of the rows with 512 rows of the weight, at an index; -/
theorem mm512_apply (w : FVec Ideal S512x1024 .bf16) (j : Fin 512) :
    FloatOps.matmul dot_S512x1024_S512x1024_S512x512_1_1_0_0_n_n none h (shapeCast S512x1024 w shapeCasts_S512x1024_S512x1024) (constant S512x512 .f32 0x00000000#32) (ix2 r j)
      = dotRow (fun k => h (ix2 r k)) (fun k => w (ix2 j k)) :=
  mm _ 1024 rfl rfl _ _ _ _ _ _
    (fun k q hq => congrArg h (funext fun b => Fin.ext (match b with | ⟨0, _⟩ => rfl | ⟨1, _⟩ => hq)))
    (fun k q hq => (congrArg _ (funext fun b => Fin.ext (match b with | ⟨0, _⟩ => rfl | ⟨1, _⟩ => hq))).trans (shapeCast_apply _ _ (ix2 j k) (ix2 j k) rfl))
/-- with 1024 rows; -/
theorem mm1024_apply (w : FVec Ideal S1024x1024 .bf16) (j : Fin 1024) :
    FloatOps.matmul dot_S512x1024_S1024x1024_S512x1024_1_1_0_0_n_n none h (shapeCast S1024x1024 w shapeCasts_S1024x1024_S1024x1024) (constant S512x1024 .f32 0x00000000#32) (ix2 r j)
      = dotRow (fun k => h (ix2 r k)) (fun k => w (ix2 j k)) :=
  mm _ 1024 rfl rfl _ _ _ _ _ _
    (fun k q hq => congrArg h (funext fun b => Fin.ext (match b with | ⟨0, _⟩ => rfl | ⟨1, _⟩ => hq)))
    (fun k q hq => (congrArg _ (funext fun b => Fin.ext (match b with | ⟨0, _⟩ => rfl | ⟨1, _⟩ => hq))).trans (shapeCast_apply _ _ (ix2 j k) (ix2 j k) rfl))
/-- with 128 rows; -/
theorem mm128_apply (w : FVec Ideal S128x1024 .bf16) (j : Fin 128) :
    FloatOps.matmul dot_S512x1024_S128x1024_S512x128_1_1_0_0_n_n none h (shapeCast S128x1024 w shapeCasts_S128x1024_S128x1024) (constant S512x128 .f32 0x00000000#32) (ix2 r j)
      = dotRow (fun k => h (ix2 r k)) (fun k => w (ix2 j k)) :=
  mm _ 1024 rfl rfl _ _ _ _ _ _
    (fun k q hq => congrArg h (funext fun b => Fin.ext (match b with | ⟨0, _⟩ => rfl | ⟨1, _⟩ => hq)))
    (fun k q hq => (congrArg _ (funext fun b => Fin.ext (match b with | ⟨0, _⟩ => rfl | ⟨1, _⟩ => hq))).trans (shapeCast_apply _ _ (ix2 j k) (ix2 j k) rfl))
/-- with 256 rows. -/
theorem mm256_apply (w : FVec Ideal S256x1024 .bf16) (j : Fin 256) :
    FloatOps.matmul dot_S512x1024_S256x1024_S512x256_1_1_0_0_n_n none h (shapeCast S256x1024 w shapeCasts_S256x1024_S256x1024) (constant S512x256 .f32 0x00000000#32) (ix2 r j)
      = dotRow (fun k => h (ix2 r k)) (fun k => w (ix2 j k)) :=
  mm _ 1024 rfl rfl _ _ _ _ _ _
    (fun k q hq => congrArg h (funext fun b => Fin.ext (match b with | ⟨0, _⟩ => rfl | ⟨1, _⟩ => hq)))
    (fun k q hq => (congrArg _ (funext fun b => Fin.ext (match b with | ⟨0, _⟩ => rfl | ⟨1, _⟩ => hq))).trans (shapeCast_apply _ _ (ix2 j k) (ix2 j k) rfl))
end Rows

/-- The number before the gate, -/
def gatePre (a : Fin 128 → EReal) (w : Fin 128 → Fin 512 → EReal) (b : Fin 512 → EReal) (c : Fin 512) : EReal := ∑ k : Fin 128, a k * w k c + b c

/-- The constant with which the logarithm is scaled is one sixteenth; -/
theorem ofBits_sixteenth : Ideal.ofBits .f32 0x3D800000#32 = ((1 / 16 : ℝ) : EReal) := by
  simp [Ideal.ofBits, Ideal.ieee, -EReal.coe_mul]; norm_num
/-- the constant of the logarithm is one. -/
theorem ofBits_one : Ideal.ofBits .f32 0x3F800000#32 = 1 := by
  rw [show (1 : EReal) = ((1 : ℝ) : EReal) by norm_cast]
  simp [Ideal.ofBits, Ideal.ieee, -EReal.coe_mul]; norm_num

/-- and the logarithm of the gate, at an index. -/
theorem pay18_apply (a : FVec Ideal S512x128 .bf16) (w : FVec Ideal S128x512 .bf16) (b : FVec Ideal S1x512 .f32) (r c : Fin 512) :
    k0_pay18 a w b (ix2 r c) = gateLog (gatePre (fun k => a (ix2 r k)) (fun k c => w (ix2 k c)) (fun c => b (ix2 0 c)) c) := by
  have hz : FloatOps.matmul dot_S512x128_S128x512_S512x512_1_0_0_1_n_n none a (shapeCast S128x512 w shapeCasts_S128x512_S128x512) (constant S512x512 .f32 0x00000000#32) (ix2 r c)
      + broadcastTo S512x512 (shapeCast S1x512 b shapeCasts_S1x512_S1x512) broadcasts_S1x512_S512x512 (ix2 r c)
      = gatePre (fun k => a (ix2 r k)) (fun k c => w (ix2 k c)) (fun c => b (ix2 0 c)) c := by
    refine congrArg₂ (· + ·) ?_ ?_
    · exact mm _ 128 rfl rfl _ _ _ _ _ _
        (fun k q hq => congrArg a (funext fun b => Fin.ext (match b with | ⟨0, _⟩ => rfl | ⟨1, _⟩ => hq)))
        (fun k q hq => (congrArg _ (funext fun b => Fin.ext (match b with | ⟨0, _⟩ => hq | ⟨1, _⟩ => rfl))).trans (shapeCast_apply _ _ (ix2 k c) (ix2 k c) rfl))
    · exact (broadcastTo_apply _ _ _ (ix2 0 c) (by intro b; match b with | ⟨0, _⟩ => rfl | ⟨1, _⟩ => rfl)).trans (shapeCast_apply _ _ (ix2 0 c) (ix2 0 c) rfl)
  rw [← hz]
  generalize hy : FloatOps.matmul dot_S512x128_S128x512_S512x512_1_0_0_1_n_n none a (shapeCast S128x512 w shapeCasts_S128x512_S128x512) (constant S512x512 .f32 0x00000000#32) (ix2 r c)
      + broadcastTo S512x512 (shapeCast S1x512 b shapeCasts_S1x512_S1x512) broadcasts_S1x512_S512x512 (ix2 r c) = y
  have h1 : k0_pay18 a w b (ix2 r c) = (Ideal.ofBits .f32 0x00000000#32 - (max (Ideal.ofBits .f32 0x00000000#32 - y) (Ideal.ofBits .f32 0x00000000#32)
      + Ideal.log (Ideal.ofBits .f32 0x3F800000#32 + Ideal.exp (Ideal.ofBits .f32 0x00000000#32 - max y (-y))))) * Ideal.ofBits .f32 0x3D800000#32 := by
    rw [← hy]; rfl
  rw [h1, ofBits_sixteenth, ofBits_one, Ideal.ofBits_zero_f32]
  rfl

/-! ## The sums within a chunk -/

/-- Whether entry `m` counts in row `l`'s sum. -/
theorem pay27_apply (l m : Fin 256) : k0_pay27 (ix2 l m) = if m.val / 64 = l.val / 64 ∧ m.val ≤ l.val then 1#1 else 0#1 := by
  have hsh : ∀ a : Fin 256, IntOp.shrsi .vector (BitVec.ofNat 32 a.val) 6#32 = BitVec.ofNat 32 (a.val / 64) := by decide
  have e : k0_pay27 (ix2 l m) = IntOp.cmpi .eq (IntOp.shrsi .vector (BitVec.ofNat 32 (0 * 256 + l.val)) 6#32) (IntOp.shrsi .vector (BitVec.ofNat 32 (0 * 256 + m.val)) 6#32)
      &&& IntOp.cmpi .sle (BitVec.ofNat 32 (0 * 256 + m.val)) (BitVec.ofNat 32 (0 * 256 + l.val)) := rfl
  rw [e, Nat.zero_mul, Nat.zero_add, Nat.zero_add, hsh, hsh]
  have h1 : IntOp.cmpi .eq (BitVec.ofNat 32 (l.val / 64)) (BitVec.ofNat 32 (m.val / 64)) = BitVec.ofBool (decide (l.val / 64 = m.val / 64)) := by
    rw [show IntOp.cmpi .eq (BitVec.ofNat 32 (l.val / 64)) (BitVec.ofNat 32 (m.val / 64)) = BitVec.ofBool (BitVec.ofNat 32 (l.val / 64) == BitVec.ofNat 32 (m.val / 64)) from rfl]
    refine congrArg BitVec.ofBool ?_
    rw [Bool.eq_iff_iff, beq_iff_eq, decide_eq_true_iff, ← BitVec.toNat_inj, BitVec.toNat_ofNat, BitVec.toNat_ofNat]
    omega
  have h2 : IntOp.cmpi .sle (BitVec.ofNat 32 m.val) (BitVec.ofNat 32 l.val) = BitVec.ofBool (decide (m.val ≤ l.val)) := by
    refine congrArg BitVec.ofBool ?_
    show (BitVec.ofNat 32 m.val).sle (BitVec.ofNat 32 l.val) = _
    rw [BitVec.sle_eq_decide, BitVec.toInt_eq_toNat_of_lt, BitVec.toInt_eq_toNat_of_lt, BitVec.toNat_ofNat, BitVec.toNat_ofNat]
    · rw [decide_eq_decide]; omega
    · rw [BitVec.toNat_ofNat]; omega
    · rw [BitVec.toNat_ofNat]; omega
  rw [h1, h2]
  by_cases ha : m.val / 64 = l.val / 64
  · by_cases hb : m.val ≤ l.val
    · rw [if_pos ⟨ha, hb⟩, decide_eq_true ha.symm, decide_eq_true hb]; rfl
    · rw [if_neg (fun h => hb h.2), decide_eq_true ha.symm, decide_eq_false hb]; rfl
  · rw [if_neg (fun h => ha h.1), decide_eq_false (fun h => ha h.symm)]
    generalize decide (m.val ≤ l.val) = b
    cases b <;> rfl

/-- The matrix of the sums: one where the column's row is of the same chunk and not later, else zero. -/
theorem pay28_apply (l m : Fin 256) : k0_pay28 (F := Ideal) (ix2 l m) = if m.val / 64 = l.val / 64 ∧ m.val ≤ l.val then (1 : EReal) else 0 := by
  have h1 : k0_pay28 (F := Ideal) (ix2 l m) = Scalar.select (k0_pay27 (ix2 l m)) (Ideal.ofBits .f32 0x3F800000#32) (Ideal.ofBits .f32 0x00000000#32) := rfl
  rw [h1, pay27_apply, ofBits_one, Ideal.ofBits_zero_f32]
  split <;> rfl

/-- The chunk's sum up to row `r`. -/
def cumAt (a : ℕ → Fin 512 → EReal) (n : ℕ) (l : Fin 64) (c : Fin 512) : EReal := upTo (fun j => a (64 * n + j.val) c) l

/-- The zero-one matrix times the logarithms, in two parts, sums each chunk up to the row. -/
theorem cum_apply (hi lo : FVec Ideal S256x512 .bf16) (a : ℕ → Fin 512 → EReal) (n0 : ℕ) (ha : ∀ r c, a r c ≠ ⊤)
    (hhi : ∀ (m : Fin 256) c, hi (ix2 m c) = a (64 * n0 + m.val) c) (hlo : ∀ (m : Fin 256) c, lo (ix2 m c) = a (64 * n0 + m.val) c - a (64 * n0 + m.val) c)
    (p : Fin 4) (l : Fin 64) (c : Fin 512) :
    FloatOps.matmul dot_S256x256_S256x512_S256x512_1_0_0_1_n_n none (k0_pay28 (F := Ideal)) hi (constant S256x512 .f32 0x00000000#32) (ix2 ⟨64 * p.val + l.val, by omega⟩ c)
      + FloatOps.matmul dot_S256x256_S256x512_S256x512_1_0_0_1_n_n none (k0_pay28 (F := Ideal)) lo (constant S256x512 .f32 0x00000000#32) (ix2 ⟨64 * p.val + l.val, by omega⟩ c)
      = cumAt a (n0 + p.val) l c := by
  have h28 : ∀ m : Fin 256, k0_pay28 (F := Ideal) (ix2 ⟨64 * p.val + l.val, by omega⟩ m) = if m.val / 64 = p.val ∧ m.val ≤ 64 * p.val + l.val then (1 : EReal) else 0 := by
    intro m
    rw [pay28_apply]
    refine if_congr ?_ rfl rfl
    show m.val / 64 = (64 * p.val + l.val) / 64 ∧ m.val ≤ 64 * p.val + l.val ↔ _
    rw [show (64 * p.val + l.val) / 64 = p.val by omega]
  have key : ∀ (x : FVec Ideal S256x512 .bf16) (f : ℕ → EReal), (∀ m : Fin 256, x (ix2 m c) = f (64 * n0 + m.val)) →
      FloatOps.matmul dot_S256x256_S256x512_S256x512_1_0_0_1_n_n none (k0_pay28 (F := Ideal)) x (constant S256x512 .f32 0x00000000#32) (ix2 ⟨64 * p.val + l.val, by omega⟩ c)
        = upTo (fun j => f (64 * (n0 + p.val) + j.val)) l := by
    intro x f hx
    have hm : FloatOps.matmul dot_S256x256_S256x512_S256x512_1_0_0_1_n_n none (k0_pay28 (F := Ideal)) x (constant S256x512 .f32 0x00000000#32) (ix2 ⟨64 * p.val + l.val, by omega⟩ c)
        = ∑ m : Fin 256, k0_pay28 (F := Ideal) (ix2 ⟨64 * p.val + l.val, by omega⟩ m) * f (64 * n0 + m.val) :=
      mm _ 256 rfl rfl _ _ _ _ _ _
        (fun k q hq => congrArg (k0_pay28 (F := Ideal)) (funext fun b => Fin.ext (match b with | ⟨0, _⟩ => rfl | ⟨1, _⟩ => hq)))
        (fun k q hq => by
          rw [← hx k]
          exact congrArg x (funext fun b => Fin.ext (match b with | ⟨0, _⟩ => hq | ⟨1, _⟩ => rfl)))
    refine hm.trans ?_
    refine (sum_chunk _ p l _ h28).trans ?_
    exact congrArg (upTo · l) (funext fun j => congrArg f (by show 64 * n0 + (64 * p.val + j.val) = _; ring))
  rw [key hi (fun r => a r c) (fun m => hhi m c), key lo (fun r => a r c - a r c) (fun m => hlo m c)]
  unfold cumAt upTo
  have e0 : ∀ j : Fin 64, (if j.val ≤ l.val then a (64 * (n0 + p.val) + j.val) c - a (64 * (n0 + p.val) + j.val) c else 0)
      = if j.val ≤ l.val then (fun j : Fin 64 => a (64 * (n0 + p.val) + j.val) c - a (64 * (n0 + p.val) + j.val) c) j else 0 := fun _ => rfl
  rw [← Finset.sum_filter, Finset.sum_congr rfl fun j _ => e0 j, ← Finset.sum_filter]
  exact sum_add_error _ _ fun j => ha _ _

end Cert.Proof.Pre

end
-- ==== Proof.PreStep.lean ====
/-
  The prompt's state: what it is after a number of chunks, and one tile's eight steps of it for a head.
-/
module

public import proofs.«01_k».proof.Proof.PrePay
public import Idealize.ShloMosaic.Lib.WritesUnit

@[expose] public section

noncomputable section

namespace Cert.Proof.Pre

open Cert.Kernel2Ideal Cert.Kernel2Ideal.Gen
open Idealize.ShloMosaic Idealize.ShloMosaic.ValueIdx Idealize.ShloMosaic.TcCoe
open scoped BigOperators

/-! ## The state -/

section State
variable (a : ℕ → Fin 512 → EReal) (kk : ℕ → Fin 512 → EReal) (vv : ℕ → Fin 1024 → EReal)

/-- A key, scaled by what its chunk forgets after it; -/
def kdAt (n : ℕ) (l : Fin 64) (c : Fin 512) : EReal := kk (64 * n + l.val) c * Ideal.exp (cumAt a n 63 c - cumAt a n l c)
/-- what a chunk keeps of the state; -/
def decAt (n : ℕ) (c : Fin 512) : EReal := Ideal.exp (cumAt a n 63 c)
/-- what a chunk adds to it; -/
def addAt (n : ℕ) (h : Fin 4) (e : Fin 256) (d : Fin 128) : EReal :=
  ∑ l : Fin 64, vv (64 * n + l.val) ⟨256 * h.val + e.val, by omega⟩ * kdAt a kk n l ⟨128 * h.val + d.val, by omega⟩
/-- the state after `n` chunks. -/
def stAt (h : Fin 4) (e : Fin 256) (d : Fin 128) : ℕ → EReal
  | 0 => 0
  | n + 1 => stAt h e d n * decAt a n ⟨128 * h.val + d.val, by omega⟩ + addAt a kk vv n h e d
end State

/-! ## A block of four chunks -/

/-- Each row of a chunk replaced by the chunk's last. -/
def lastRows (b : FVec Ideal S256x512 .f32) : FVec Ideal S256x512 .f32 :=
  concatenate S256x512 0 [⟨S64x512, broadcastTo S64x512 (shapeCast S1x512 (extractStridedSlice S1x512 ![63, 0] b slices_S256x512_o63_0_S1x512) shapeCasts_S1x512_S1x512) broadcasts_S1x512_S64x512⟩,
    ⟨S64x512, broadcastTo S64x512 (shapeCast S1x512 (extractStridedSlice S1x512 ![127, 0] b slices_S256x512_o127_0_S1x512) shapeCasts_S1x512_S1x512) broadcasts_S1x512_S64x512⟩,
    ⟨S64x512, broadcastTo S64x512 (shapeCast S1x512 (extractStridedSlice S1x512 ![191, 0] b slices_S256x512_o191_0_S1x512) shapeCasts_S1x512_S1x512) broadcasts_S1x512_S64x512⟩,
    ⟨S64x512, broadcastTo S64x512 (shapeCast S1x512 (extractStridedSlice S1x512 ![255, 0] b slices_S256x512_o255_0_S1x512) shapeCasts_S1x512_S1x512) broadcasts_S1x512_S64x512⟩]
    concatenates_S64x512_S64x512_S64x512_S64x512_S256x512_d0

/-- One row repeated, at an index. -/
theorem repRow_apply (o : ℕ) (ho : o < 256) (b : FVec Ideal S256x512 .f32) (hs : S256x512.Slices ![o, 0] S1x512) (l : Fin 64) (c : Fin 512) :
    broadcastTo S64x512 (shapeCast S1x512 (extractStridedSlice S1x512 ![o, 0] b hs) shapeCasts_S1x512_S1x512) broadcasts_S1x512_S64x512 (ix2 l c) = b (ix2 ⟨o, ho⟩ c) := by
  rw [broadcastTo_apply _ _ _ (ix2 0 c) (by intro b; match b with | ⟨0, _⟩ => rfl | ⟨1, _⟩ => rfl),
    shapeCast_apply _ _ _ (ix2 0 c) rfl,
    extractStridedSlice_apply _ _ _ _ (ix2 ⟨o, ho⟩ c) (by intro b; match b with | ⟨0, _⟩ => rfl | ⟨1, _⟩ => exact (Nat.zero_add _).symm)]

/-- A chunk's last row, repeated over the chunk. -/
theorem lastRows_apply (b : FVec Ideal S256x512 .f32) (p : Fin 4) (l : Fin 64) (c : Fin 512) :
    lastRows b (ix2 ⟨64 * p.val + l.val, by omega⟩ c) = b (ix2 ⟨64 * p.val + 63, by omega⟩ c) := by
  unfold lastRows
  match p with
  | 0 =>
    exact (concatenate_apply_piece (t := S256x512) 0 _ _ _ 0 (by exact (by decide : 0 < 4)) S64x512 _ rfl rfl 0 rfl (ix2 l c)
      (by intro b hb; match b with | ⟨0, _⟩ => exact absurd rfl hb | ⟨1, _⟩ => rfl) (by show 0 + l.val = 64 * 0 + l.val; omega)).trans (repRow_apply 63 (by decide) b _ l c)
  | 1 =>
    exact (concatenate_apply_piece (t := S256x512) 0 _ _ _ 1 (by exact (by decide : 1 < 4)) S64x512 _ rfl rfl 64 rfl (ix2 l c)
      (by intro b hb; match b with | ⟨0, _⟩ => exact absurd rfl hb | ⟨1, _⟩ => rfl) (by show 64 + l.val = 64 * 1 + l.val; omega)).trans (repRow_apply 127 (by decide) b _ l c)
  | 2 =>
    exact (concatenate_apply_piece (t := S256x512) 0 _ _ _ 2 (by exact (by decide : 2 < 4)) S64x512 _ rfl rfl 128 rfl (ix2 l c)
      (by intro b hb; match b with | ⟨0, _⟩ => exact absurd rfl hb | ⟨1, _⟩ => rfl) (by show 128 + l.val = 64 * 2 + l.val; omega)).trans (repRow_apply 191 (by decide) b _ l c)
  | 3 =>
    exact (concatenate_apply_piece (t := S256x512) 0 _ _ _ 3 (by exact (by decide : 3 < 4)) S64x512 _ rfl rfl 192 rfl (ix2 l c)
      (by intro b hb; match b with | ⟨0, _⟩ => exact absurd rfl hb | ⟨1, _⟩ => rfl) (by show 192 + l.val = 64 * 3 + l.val; omega)).trans (repRow_apply 255 (by decide) b _ l c)

/-- The scaled keys of a block, from its keys and its chunks' sums. -/
def kdBlock (k : FVec Ideal S512x512 .f32) (o : ℕ) (hs : S512x512.Slices ![o, 0] S256x512) (b : FVec Ideal S256x512 .f32) : FVec Ideal S256x512 .bf16 :=
  shapeCast S256x512 (truncf .bf16 (mulf (extractStridedSlice S256x512 ![o, 0] k hs) (exp (subf (lastRows b) b))) bitsLt_bf16_f32) shapeCasts_S256x512_S256x512
/-- The decays of a block. -/
def decBlock (b : FVec Ideal S256x512 .f32) : FVec Ideal S256x512 .f32 := shapeCast S256x512 (exp (lastRows b)) shapeCasts_S256x512_S256x512

section Block
variable (a kk : ℕ → Fin 512 → EReal) (b : FVec Ideal S256x512 .f32) (n0 : ℕ)
  (hb : ∀ (p : Fin 4) (l : Fin 64) (c : Fin 512), b (ix2 ⟨64 * p.val + l.val, by omega⟩ c) = cumAt a (n0 + p.val) l c)
include hb

/-- The stored decays are each chunk's whole decay. -/
theorem decBlock_apply (p : Fin 4) (l : Fin 64) (c : Fin 512) : decBlock b (ix2 ⟨64 * p.val + l.val, by omega⟩ c) = decAt a (n0 + p.val) c := by
  unfold decBlock
  rw [shapeCast_apply _ _ _ (ix2 ⟨64 * p.val + l.val, by omega⟩ c) rfl]
  exact congrArg Ideal.exp ((lastRows_apply b p l c).trans (hb p 63 c))

/-- The stored keys are scaled by the decay from their row to the chunk's end. -/
theorem kdBlock_apply (k : FVec Ideal S512x512 .f32) (o : ℕ) (ho : o ≤ 256) (hs : S512x512.Slices ![o, 0] S256x512)
    (hk : ∀ (m : Fin 256) (c : Fin 512), k (ix2 ⟨o + m.val, by omega⟩ c) = kk (64 * n0 + m.val) c) (p : Fin 4) (l : Fin 64) (c : Fin 512) :
    kdBlock k o hs b (ix2 ⟨64 * p.val + l.val, by omega⟩ c) = kdAt a kk (n0 + p.val) l c := by
  unfold kdBlock
  rw [shapeCast_apply _ _ _ (ix2 ⟨64 * p.val + l.val, by omega⟩ c) rfl]
  refine congrArg₂ (· * ·) ?_ (congrArg Ideal.exp (congrArg₂ (· - ·) ((lastRows_apply b p l c).trans (hb p 63 c)) (hb p l c)))
  refine (extractStridedSlice_apply _ _ _ _ (ix2 ⟨o + (64 * p.val + l.val), by omega⟩ c)
    (by intro b; match b with | ⟨0, _⟩ => rfl | ⟨1, _⟩ => exact (Nat.zero_add _).symm)).trans ?_
  refine (hk ⟨64 * p.val + l.val, by omega⟩ c).trans ?_
  exact congrArg (kk · c) (by show 64 * n0 + (64 * p.val + l.val) = _; ring)
end Block

/-! ## A head's eight steps -/

/-- One chunk's step of a head's state. -/
def chunkStep (st : FVec Ideal S256x128 .f32) (d : FVec Ideal S1x128 .f32) (v : FVec Ideal S64x256 .bf16) (k : FVec Ideal S64x128 .bf16) : FVec Ideal S256x128 .f32 :=
  addf (mulf st (broadcastTo S256x128 d broadcasts_S1x128_S256x128))
    (matmul dot_S64x256_S64x128_S256x128_0_0_1_1_n_n none v k (constant S256x128 .f32 0x00000000#32))

/-- One chunk's step of the state, entry by entry. -/
theorem chunkStep_apply (st : FVec Ideal S256x128 .f32) (d : FVec Ideal S1x128 .f32) (v : FVec Ideal S64x256 .bf16) (k : FVec Ideal S64x128 .bf16) (e : Fin 256) (j : Fin 128) :
    chunkStep st d v k (ix2 e j) = st (ix2 e j) * d (ix2 0 j) + ∑ l : Fin 64, v (ix2 l e) * k (ix2 l j) := by
  refine congrArg₂ (· + ·) (congrArg (st (ix2 e j) * ·) ?_) ?_
  · exact broadcastTo_apply _ _ _ (ix2 0 j) (by intro b; match b with | ⟨0, _⟩ => rfl | ⟨1, _⟩ => rfl)
  · exact mm _ 64 rfl rfl _ _ _ _ _ _
      (fun k q hq => congrArg v (funext fun b => Fin.ext (match b with | ⟨0, _⟩ => hq | ⟨1, _⟩ => rfl)))
      (fun l q hq => congrArg k (funext fun b => Fin.ext (match b with | ⟨0, _⟩ => hq | ⟨1, _⟩ => rfl)))

/-- A chunk's decays of a head lie inside their buffer, -/
theorem inbD (n : Fin 8) (h : Fin 4) : ∀ a, ![64 * n.val, 128 * h.val] a + S1x128.size a ≤ S512x512.size a := fun a =>
  match a with
  | ⟨0, _⟩ => by show 64 * n.val + 1 ≤ 512; omega
  | ⟨1, _⟩ => by show 128 * h.val + 128 ≤ 512; omega
/-- its values, -/
theorem inbV (n : Fin 8) (h : Fin 4) : ∀ a, ![64 * n.val, 256 * h.val] a + S64x256.size a ≤ S512x1024.size a := fun a =>
  match a with
  | ⟨0, _⟩ => by show 64 * n.val + 64 ≤ 512; omega
  | ⟨1, _⟩ => by show 256 * h.val + 256 ≤ 1024; omega
/-- its keys, -/
theorem inbK (n : Fin 8) (h : Fin 4) : ∀ a, ![64 * n.val, 128 * h.val] a + S64x128.size a ≤ S512x512.size a := fun a =>
  match a with
  | ⟨0, _⟩ => by show 64 * n.val + 64 ≤ 512; omega
  | ⟨1, _⟩ => by show 128 * h.val + 128 ≤ 512; omega
/-- and a head's state. -/
theorem inbH (h : Fin 4) : ∀ a, ![h.val, 0, 0] a + S1x256x128.size a ≤ S4x256x128.size a := fun a =>
  match a with
  | ⟨0, _⟩ => by show h.val + 1 ≤ 4; omega
  | ⟨1, _⟩ => by show 0 + 256 ≤ 256; omega
  | ⟨2, _⟩ => by show 0 + 128 ≤ 128; omega

section Head
variable (Mk : Memref sig .tc .vmem S512x512 .bf16) (Mv : Memref sig .tc .vmem S512x1024 .bf16) (Md : Memref sig .tc .vmem S512x512 .f32)
  (Lk : List (View.Piece (Elt Ideal) S512x512 .bf16)) (Lv : List (View.Piece (Elt Ideal) S512x1024 .bf16)) (Ld : List (View.Piece (Elt Ideal) S512x512 .f32))

/-- The loads of chunk `n` and head `h`: the decays' row, the values, the scaled keys. -/
def ldD (n : Fin 8) (h : Fin 4) : FVec Ideal S1x128 .f32 := Md.view.readCov Ld (Rect.unit (s := S512x512) ![64 * n.val, 128 * h.val] S1x128.size (inbD n h)).toLoadRect
def ldV (n : Fin 8) (h : Fin 4) : FVec Ideal S64x256 .bf16 := Mv.view.readCov Lv (Rect.unit (s := S512x1024) ![64 * n.val, 256 * h.val] S64x256.size (inbV n h)).toLoadRect
def ldK (n : Fin 8) (h : Fin 4) : FVec Ideal S64x128 .bf16 := Mk.view.readCov Lk (Rect.unit (s := S512x512) ![64 * n.val, 128 * h.val] S64x128.size (inbK n h)).toLoadRect

/-- One step, with its loads. -/
def ldStep (h : Fin 4) (n : Fin 8) (st : FVec Ideal S256x128 .f32) : FVec Ideal S256x128 .f32 :=
  chunkStep st (ldD Md Ld n h) (ldV Mv Lv n h) (ldK Mk Lk n h)

/-- A head's state after the tile, from the loaded one, as it is stored. -/
def headPiece (h : Fin 4) (s0 : FVec Ideal S1x256x128 .f32) : FVec Ideal S1x256x128 .f32 :=
  shapeCast S1x256x128 (ldStep Mk Mv Md Lk Lv Ld h 7 (ldStep Mk Mv Md Lk Lv Ld h 6 (ldStep Mk Mv Md Lk Lv Ld h 5 (ldStep Mk Mv Md Lk Lv Ld h 4
    (ldStep Mk Mv Md Lk Lv Ld h 3 (ldStep Mk Mv Md Lk Lv Ld h 2 (ldStep Mk Mv Md Lk Lv Ld h 1 (ldStep Mk Mv Md Lk Lv Ld h 0
      (shapeCast S256x128 s0 shapeCasts_S1x256x128_S256x128))))))))) shapeCasts_S256x128_S1x256x128

/-- The tile's scaled keys, values and decays in the lists of writes. -/
structure TileHeld (a kk : ℕ → Fin 512 → EReal) (vv : ℕ → Fin 1024 → EReal) (n0 : ℕ) : Prop where
  k : ∀ (n : Fin 8) (l : Fin 64) (c : Fin 512), Mk.view.read (Elt Ideal) (Mk.view.writes (Elt Ideal) Mk.view.junk Lk) (ix2 ⟨64 * n.val + l.val, by omega⟩ c) = kdAt a kk (n0 + n.val) l c
  v : ∀ (n : Fin 8) (l : Fin 64) (c : Fin 1024), Mv.view.read (Elt Ideal) (Mv.view.writes (Elt Ideal) Mv.view.junk Lv) (ix2 ⟨64 * n.val + l.val, by omega⟩ c) = vv (64 * (n0 + n.val) + l.val) c
  d : ∀ (n : Fin 8) (l : Fin 64) (c : Fin 512), Md.view.read (Elt Ideal) (Md.view.writes (Elt Ideal) Md.view.junk Ld) (ix2 ⟨64 * n.val + l.val, by omega⟩ c) = decAt a (n0 + n.val) c

variable {Mk Mv Md Lk Lv Ld}
variable {a kk : ℕ → Fin 512 → EReal} {vv : ℕ → Fin 1024 → EReal} {n0 : ℕ} (H : TileHeld Mk Mv Md Lk Lv Ld a kk vv n0)
include H

/-- One chunk's step from the stored decays, keys and values is the recurrence's. -/
theorem ldStep_apply (h : Fin 4) (n : Fin 8) (st : FVec Ideal S256x128 .f32) (e : Fin 256) (j : Fin 128) (m m' : ℕ) (hm : m = n0 + n.val) (hm' : m' = m + 1)
    (hst : st (ix2 e j) = stAt a kk vv h e j m) : ldStep Mk Mv Md Lk Lv Ld h n st (ix2 e j) = stAt a kk vv h e j m' := by
  subst hm'
  subst hm
  unfold ldStep
  rw [chunkStep_apply, hst]
  refine congrArg₂ (· + ·) (congrArg (_ * ·) ?_) (Finset.sum_congr rfl fun l _ => congrArg₂ (· * ·) ?_ ?_)
  · refine Eq.trans (congrArg (Md.view.read (Elt Ideal) (Md.view.writes (Elt Ideal) Md.view.junk Ld)) (funext fun b => Fin.ext ?_)) (H.d n 0 ⟨128 * h.val + j.val, by omega⟩)
    match b with
    | ⟨0, _⟩ => show 64 * n.val + 1 * 0 = 64 * n.val + 0; omega
    | ⟨1, _⟩ => show 128 * h.val + 1 * j.val = 128 * h.val + j.val; omega
  · refine Eq.trans (congrArg (Mv.view.read (Elt Ideal) (Mv.view.writes (Elt Ideal) Mv.view.junk Lv)) (funext fun b => Fin.ext ?_)) (H.v n l ⟨256 * h.val + e.val, by omega⟩)
    match b with
    | ⟨0, _⟩ => show 64 * n.val + 1 * l.val = 64 * n.val + l.val; omega
    | ⟨1, _⟩ => show 256 * h.val + 1 * e.val = 256 * h.val + e.val; omega
  · refine Eq.trans (congrArg (Mk.view.read (Elt Ideal) (Mk.view.writes (Elt Ideal) Mk.view.junk Lk)) (funext fun b => Fin.ext ?_)) (H.k n l ⟨128 * h.val + j.val, by omega⟩)
    match b with
    | ⟨0, _⟩ => show 64 * n.val + 1 * l.val = 64 * n.val + l.val; omega
    | ⟨1, _⟩ => show 128 * h.val + 1 * j.val = 128 * h.val + j.val; omega

/-- A head's stored state is the state eight chunks on. -/
theorem headPiece_apply (h : Fin 4) (s0 : FVec Ideal S1x256x128 .f32) (e : Fin 256) (j : Fin 128) (hs : s0 (ix3 0 e j) = stAt a kk vv h e j n0) :
    headPiece Mk Mv Md Lk Lv Ld h s0 (ix3 0 e j) = stAt a kk vv h e j (n0 + 8) := by
  unfold headPiece
  rw [shapeCast_apply _ _ _ (ix2 e j) (by
    rw [Shape.rowMajor_val_three, Shape.rowMajor_val_two]; show e.val * 128 + j.val = (0 * 256 + e.val) * 128 + j.val; omega)]
  iterate 8 refine ldStep_apply H h _ _ e j _ _ rfl rfl ?_
  rw [shapeCast_apply _ _ _ (ix3 0 e j) (by
    rw [Shape.rowMajor_val_three, Shape.rowMajor_val_two]; show (0 * 256 + e.val) * 128 + j.val = e.val * 128 + j.val; omega)]
  exact hs

end Head

/-! ## The four heads' writes -/

section Heads
variable (Ms : Memref sig .tc .vmem S4x256x128 .f32) (P : Fin 4 → FVec Ideal S1x256x128 .f32 → FVec Ideal S1x256x128 .f32)
  (S : Fin 4 → List (View.Piece (Elt Ideal) S4x256x128 .f32) → FVec Ideal S1x256x128 .f32)

/-- The writes of the first `n` heads, after the writes `L`. -/
def heads (L : List (View.Piece (Elt Ideal) S4x256x128 .f32)) : (n : ℕ) → List (View.Piece (Elt Ideal) S4x256x128 .f32)
  | 0 => L
  | n + 1 => ⟨Rect.unit (s := S4x256x128) ![(⟨n % 4, Nat.mod_lt _ (by decide)⟩ : Fin 4).val, 0, 0] S1x256x128.size (inbH ⟨n % 4, Nat.mod_lt _ (by decide)⟩),
      P ⟨n % 4, Nat.mod_lt _ (by decide)⟩ (S ⟨n % 4, Nat.mod_lt _ (by decide)⟩ (heads L n))⟩ :: heads L n

variable (L : List (View.Piece (Elt Ideal) S4x256x128 .f32)) (v : View sig .tc .vmem S4x256x128 .f32) (f : v.ty.Contents (Elt Ideal))

/-- A head not yet written reads what was there. -/
theorem heads_old (n : ℕ) (hn : n ≤ 4) (h : Fin 4) (hh : n ≤ h.val) (e : Fin 256) (j : Fin 128) :
    v.read (Elt Ideal) (v.writes (Elt Ideal) f (heads P S L n)) (ix3 h e j) = v.read (Elt Ideal) (v.writes (Elt Ideal) f L) (ix3 h e j) := by
  induction n with
  | zero => rfl
  | succ n ih =>
    refine (View.read_writes_cons_unit_of_not_mem v f _ _ _ _ rfl (0 : Fin 3) (Or.inr ?_)).trans (ih (by omega) (by omega))
    show n % 4 + 1 ≤ h.val
    omega

/-- A head that was written reads its piece. -/
theorem heads_new (n : ℕ) (hn : n ≤ 4) (h : Fin 4) (hh : h.val < n) (e : Fin 256) (j : Fin 128) :
    v.read (Elt Ideal) (v.writes (Elt Ideal) f (heads P S L n)) (ix3 h e j) = P h (S h (heads P S L h.val)) (ix3 0 e j) := by
  induction n with
  | zero => exact absurd hh (Nat.not_lt_zero _)
  | succ n ih =>
    by_cases hc : h.val = n
    · obtain ⟨n', hn'⟩ := h
      obtain rfl : n' = n := hc
      have hm : (⟨n' % 4, Nat.mod_lt _ (by decide)⟩ : Fin 4) = ⟨n', hn'⟩ := Fin.ext (Nat.mod_eq_of_lt hn')
      refine (View.read_writes_cons_unit_of_mem v f _ _ _ (ix3 ⟨n', hn'⟩ e j) (ix3 0 e j) rfl ?_).trans ?_
      · intro b
        match b with
        | ⟨0, _⟩ => show n' = n' % 4 + 0; omega
        | ⟨1, _⟩ => show e.val = 0 + e.val; omega
        | ⟨2, _⟩ => show j.val = 0 + j.val; omega
      · rw [hm]
    · refine (View.read_writes_cons_unit_of_not_mem v f _ _ _ _ rfl (0 : Fin 3) (Or.inl ?_)).trans (ih (by omega) (by omega))
      show h.val < n % 4
      omega

end Heads

end Cert.Proof.Pre

end
-- ==== Proof.PreTile.lean ====
/-
  One tile of the prompt: what its buffers hold, in terms of the rows of the sequence and of the weights.
-/
module

public import proofs.«01_k».proof.Proof.PreStep

@[expose] public section

noncomputable section

namespace Cert.Proof.Pre

open Cert.Kernel2Ideal Cert.Kernel2Ideal.Gen
open Idealize.ShloMosaic Idealize.ShloMosaic.ValueIdx Idealize.ShloMosaic.TcCoe
open scoped BigOperators

/-! ## A sequence's rows -/

/-- The weights, row by row: the norm's, the projections', the gate's and its bias. -/
structure Wts where
  g : Fin 1024 → EReal
  w : Fin 7184 → Fin 1024 → EReal
  up : Fin 128 → Fin 512 → EReal
  b : Fin 512 → EReal

section Seq
variable (W : Wts) (X : ℕ → Fin 1024 → EReal)

/-- A normalised row; -/
def hSeq (r : ℕ) : Fin 1024 → EReal := normRow (X r) W.g
/-- its gate's logarithm, -/
def aSeq (r : ℕ) (c : Fin 512) : EReal := gateLog (gatePre (fun k => dotRow (hSeq W X r) (W.w ⟨3072 + k.val, by omega⟩)) W.up W.b c)
/-- its key, -/
def kSeq (r : ℕ) (c : Fin 512) : EReal := dotRow (hSeq W X r) (W.w ⟨512 + c.val, by omega⟩)
/-- its value -/
def vSeq (r : ℕ) (c : Fin 1024) : EReal := dotRow (hSeq W X r) (W.w ⟨1024 + c.val, by omega⟩)
/-- and what the convolution reads of it. -/
def uSeq (r : ℕ) (c : Fin 1024) : EReal := dotRow (hSeq W X r) (W.w ⟨5136 + c.val, by omega⟩) * dotRow (hSeq W X r) (W.w ⟨3088 + c.val, by omega⟩)

/-- The gate's logarithm is never plus infinity. -/
theorem aSeq_ne_top (r : ℕ) (c : Fin 512) : aSeq W X r c ≠ ⊤ := gateLog_ne_top _
end Seq

/-! ## A tile's buffers -/

section Lists
variable (rx : FVec Ideal S1x512x1024 .f32) (rg : FVec Ideal S1x1024 .f32) (wk : FVec Ideal S512x1024 .bf16) (wv : FVec Ideal S1024x1024 .bf16)
  (wa : FVec Ideal S128x1024 .bf16) (wu : FVec Ideal S128x512 .bf16) (rb : FVec Ideal S1x512 .f32)

/-- The gate's logarithms; -/
def tileLog : FVec Ideal S512x512 .f32 := k0_pay18 (F := Ideal) (k0_pay13 (F := Ideal) (k0_pay9 (F := Ideal) rx rg) wa) wu rb
/-- the chunks' sums of the tile's first half -/
def sums0 : FVec Ideal S256x512 .f32 := k0_pay31 (F := Ideal) (tileLog rx rg wa wu rb)
/-- and of its second. -/
def sums1 : FVec Ideal S256x512 .f32 := k0_pay41 (F := Ideal) (k0_pay28 (F := Ideal)) (k0_pay29 (F := Ideal) (tileLog rx rg wa wu rb)) (k0_pay30 (F := Ideal) (tileLog rx rg wa wu rb))

/-- The writes of the scaled keys, -/
def lstK : List (View.Piece (Elt Ideal) S512x512 .bf16) :=
  [⟨Rect.unit (s := S512x512) ![256, 0] S256x512.size inb_S512x512_S256x512_256_0, kdBlock (k0_pay11 (F := Ideal) rx rg wk) 256 slices_S512x512_o256_0_S256x512 (sums1 rx rg wa wu rb)⟩,
    ⟨Rect.unit (s := S512x512) ![0, 0] S256x512.size inb_S512x512_S256x512_0_0, kdBlock (k0_pay11 (F := Ideal) rx rg wk) 0 slices_S512x512_o0_0_S256x512 (sums0 rx rg wa wu rb)⟩]
/-- of the values -/
def lstV : List (View.Piece (Elt Ideal) S512x1024 .bf16) :=
  [⟨Rect.unit (s := S512x1024) ![0, 0] S512x1024.size inb_S512x1024_S512x1024_0_0, k0_pay12 (F := Ideal) rx rg wv⟩]
/-- and of the decays. -/
def lstD : List (View.Piece (Elt Ideal) S512x512 .f32) :=
  [⟨Rect.unit (s := S512x512) ![256, 0] S256x512.size inb_S512x512_S256x512_256_0, decBlock (sums1 rx rg wa wu rb)⟩,
    ⟨Rect.unit (s := S512x512) ![0, 0] S256x512.size inb_S512x512_S256x512_0_0, decBlock (sums0 rx rg wa wu rb)⟩]

/-- The tile's loads are the sequence's rows from chunk `n0` on, and the weights'. -/
structure TileIn (W : Wts) (X : ℕ → Fin 1024 → EReal) (n0 : ℕ) : Prop where
  x : ∀ (r : Fin 512) (k : Fin 1024), rx (ix3 0 r k) = X (64 * n0 + r.val) k
  g : ∀ k : Fin 1024, rg (ix2 0 k) = W.g k
  k : ∀ (j : Fin 512) (k : Fin 1024), wk (ix2 j k) = W.w ⟨512 + j.val, by omega⟩ k
  v : ∀ (j : Fin 1024) (k : Fin 1024), wv (ix2 j k) = W.w ⟨1024 + j.val, by omega⟩ k
  a : ∀ (j : Fin 128) (k : Fin 1024), wa (ix2 j k) = W.w ⟨3072 + j.val, by omega⟩ k
  u : ∀ (j : Fin 128) (c : Fin 512), wu (ix2 j c) = W.up j c
  b : ∀ c : Fin 512, rb (ix2 0 c) = W.b c

variable {rx rg wk wv wa wu rb}
variable {W : Wts} {X : ℕ → Fin 1024 → EReal} {n0 : ℕ}

/-- The tile's normalised rows. -/
theorem tile_h (hx : ∀ (r : Fin 512) (k : Fin 1024), rx (ix3 0 r k) = X (64 * n0 + r.val) k) (hg : ∀ k : Fin 1024, rg (ix2 0 k) = W.g k) (r : Fin 512) :
    (fun k => k0_pay9 (F := Ideal) rx rg (ix2 r k)) = hSeq W X (64 * n0 + r.val) := by
  funext k
  rw [pay9_apply, show (fun k => rx (ix3 0 r k)) = X (64 * n0 + r.val) from funext fun k => hx r k, show (fun k => rg (ix2 0 k)) = W.g from funext hg]
  rfl

variable (H : TileIn rx rg wk wv wa wu rb W X n0)
include H

/-- The tile's keys are the sequence's, -/
theorem tile_k (r c : Fin 512) : k0_pay11 (F := Ideal) rx rg wk (ix2 r c) = kSeq W X (64 * n0 + r.val) c :=
  (mm512_apply (k0_pay9 (F := Ideal) rx rg) r wk c).trans (congrArg₂ dotRow (tile_h H.x H.g r) (funext fun k => H.k c k))

/-- so are its values, -/
theorem tile_v (r : Fin 512) (c : Fin 1024) : k0_pay12 (F := Ideal) rx rg wv (ix2 r c) = vSeq W X (64 * n0 + r.val) c :=
  (shapeCast_apply _ _ (ix2 r c) (ix2 r c) rfl).trans ((mm1024_apply (k0_pay9 (F := Ideal) rx rg) r wv c).trans (congrArg₂ dotRow (tile_h H.x H.g r) (funext fun k => H.v c k)))

/-- and the gates' logarithms. -/
theorem tile_log (r c : Fin 512) : tileLog rx rg wa wu rb (ix2 r c) = aSeq W X (64 * n0 + r.val) c := by
  refine (pay18_apply _ _ _ r c).trans (congrArg gateLog ?_)
  have e1 : (fun k : Fin 128 => k0_pay13 (F := Ideal) (k0_pay9 (F := Ideal) rx rg) wa (ix2 r k)) = fun k : Fin 128 => dotRow (hSeq W X (64 * n0 + r.val)) (W.w ⟨3072 + k.val, by omega⟩) :=
    funext fun j => (mm128_apply (k0_pay9 (F := Ideal) rx rg) r wa j).trans (congrArg₂ dotRow (tile_h H.x H.g r) (funext fun k => H.a j k))
  rw [e1, show (fun (k : Fin 128) (c : Fin 512) => wu (ix2 k c)) = W.up from funext fun k => funext fun c => H.u k c, show (fun c => rb (ix2 0 c)) = W.b from funext H.b]

/-- Half of a tile's rows, in terms of the sequence's. -/
theorem slice_log {φ : FTy} (o q : ℕ) (ho : o = 64 * q) (ho' : o ≤ 256) (hs : S512x512.Slices ![o, 0] S256x512) (z : FVec Ideal S512x512 φ) (f : EReal → EReal)
    (hz : ∀ r c, z (ix2 r c) = f (tileLog rx rg wa wu rb (ix2 r c))) (m : Fin 256) (c : Fin 512) :
    extractStridedSlice S256x512 ![o, 0] z hs (ix2 m c) = f (aSeq W X (64 * (n0 + q) + m.val) c) := by
  rw [extractStridedSlice_apply _ _ _ _ (ix2 ⟨o + m.val, by omega⟩ c)
    (by intro b; match b with | ⟨0, _⟩ => rfl | ⟨1, _⟩ => exact (Nat.zero_add _).symm), hz, tile_log H]
  exact congrArg (fun r => f (aSeq W X r c)) (by show 64 * n0 + (o + m.val) = _; omega)

/-- The sums within the first four chunks, -/
theorem sums0_apply (p : Fin 4) (l : Fin 64) (c : Fin 512) : sums0 rx rg wa wu rb (ix2 ⟨64 * p.val + l.val, by omega⟩ c) = cumAt (aSeq W X) (n0 + p.val) l c :=
  cum_apply _ _ (aSeq W X) n0 (aSeq_ne_top W X)
    (slice_log H 0 0 rfl (by decide) slices_S512x512_o0_0_S256x512 (k0_pay29 (F := Ideal) (tileLog rx rg wa wu rb)) id (fun _ _ => rfl))
    (slice_log H 0 0 rfl (by decide) slices_S512x512_o0_0_S256x512 (k0_pay30 (F := Ideal) (tileLog rx rg wa wu rb)) (fun z => z - z) (fun _ _ => rfl)) p l c

/-- and within the last four. -/
theorem sums1_apply (p : Fin 4) (l : Fin 64) (c : Fin 512) : sums1 rx rg wa wu rb (ix2 ⟨64 * p.val + l.val, by omega⟩ c) = cumAt (aSeq W X) (n0 + 4 + p.val) l c :=
  cum_apply _ _ (aSeq W X) (n0 + 4) (aSeq_ne_top W X)
    (slice_log H 256 4 rfl (by decide) slices_S512x512_o256_0_S256x512 (k0_pay29 (F := Ideal) (tileLog rx rg wa wu rb)) id (fun _ _ => rfl))
    (slice_log H 256 4 rfl (by decide) slices_S512x512_o256_0_S256x512 (k0_pay30 (F := Ideal) (tileLog rx rg wa wu rb)) (fun z => z - z) (fun _ _ => rfl)) p l c

end Lists

/-- Two writes that halve a buffer, read back. -/
theorem halves_read {e : EltTy} (v : View sig .tc .vmem S512x512 e) (f : v.ty.Contents (Elt Ideal)) (w1 w0 : S256x512.Idx → Elt Ideal e)
    (G : ℕ → Fin 64 → Fin 512 → Elt Ideal e) (n0 : ℕ)
    (h0 : ∀ (p : Fin 4) (l : Fin 64) (c : Fin 512), w0 (ix2 ⟨64 * p.val + l.val, by omega⟩ c) = G (n0 + p.val) l c)
    (h1 : ∀ (p : Fin 4) (l : Fin 64) (c : Fin 512), w1 (ix2 ⟨64 * p.val + l.val, by omega⟩ c) = G (n0 + 4 + p.val) l c) (n : Fin 8) (l : Fin 64) (c : Fin 512) :
    v.read (Elt Ideal) (v.writes (Elt Ideal) f [⟨Rect.unit (s := S512x512) ![256, 0] S256x512.size inb_S512x512_S256x512_256_0, w1⟩,
      ⟨Rect.unit (s := S512x512) ![0, 0] S256x512.size inb_S512x512_S256x512_0_0, w0⟩]) (ix2 ⟨64 * n.val + l.val, by omega⟩ c) = G (n0 + n.val) l c := by
  by_cases hn : n.val < 4
  · refine (View.read_writes_cons_unit_of_not_mem v f _ _ _ _ rfl (0 : Fin 2) (Or.inl (by show 64 * n.val + l.val < 256; omega))).trans ?_
    refine (View.read_writes_cons_unit_of_mem v f _ _ _ _ (ix2 ⟨64 * n.val + l.val, by omega⟩ c) rfl ?_).trans (h0 ⟨n.val, hn⟩ l c)
    intro b
    match b with
    | ⟨0, _⟩ => show 64 * n.val + l.val = 0 + (64 * n.val + l.val); omega
    | ⟨1, _⟩ => show c.val = 0 + c.val; omega
  · refine (View.read_writes_cons_unit_of_mem v f _ _ _ _ (ix2 ⟨64 * (n.val - 4) + l.val, by omega⟩ c) rfl ?_).trans ((h1 ⟨n.val - 4, by omega⟩ l c).trans ?_)
    · intro b
      match b with
      | ⟨0, _⟩ => show 64 * n.val + l.val = 256 + (64 * (n.val - 4) + l.val); omega
      | ⟨1, _⟩ => show c.val = 0 + c.val; omega
    · exact congrArg (fun i => G i l c) (by show n0 + 4 + (n.val - 4) = _; omega)

/-- The tile's buffers hold the sequence's scaled keys, values and decays. -/
theorem TileIn.held {rx : FVec Ideal S1x512x1024 .f32} {rg : FVec Ideal S1x1024 .f32} {wk : FVec Ideal S512x1024 .bf16} {wv : FVec Ideal S1024x1024 .bf16}
    {wa : FVec Ideal S128x1024 .bf16} {wu : FVec Ideal S128x512 .bf16} {rb : FVec Ideal S1x512 .f32} {W : Wts} {X : ℕ → Fin 1024 → EReal} {n0 : ℕ}
    (H : TileIn rx rg wk wv wa wu rb W X n0)
    (Mk : Memref sig .tc .vmem S512x512 .bf16) (Mv : Memref sig .tc .vmem S512x1024 .bf16) (Md : Memref sig .tc .vmem S512x512 .f32) :
    TileHeld Mk Mv Md (lstK rx rg wk wa wu rb) (lstV rx rg wv) (lstD rx rg wa wu rb) (aSeq W X) (kSeq W X) (vSeq W X) n0 where
  k n l c := halves_read Mk.view Mk.view.junk _ _ (fun n l c => kdAt (aSeq W X) (kSeq W X) n l c) n0
    (kdBlock_apply (aSeq W X) (kSeq W X) _ n0 (sums0_apply H) _ 0 (by decide) _ (fun m c => by
      rw [tile_k H]; exact congrArg (kSeq W X · c) (by show 64 * n0 + (0 + m.val) = _; omega)))
    (kdBlock_apply (aSeq W X) (kSeq W X) _ (n0 + 4) (sums1_apply H) _ 256 (by decide) _ (fun m c => by
      rw [tile_k H]; exact congrArg (kSeq W X · c) (by show 64 * n0 + (256 + m.val) = _; omega))) n l c
  v n l c := by
    refine (View.read_writes_cons_unit_of_mem Mv.view Mv.view.junk _ _ _ _ (ix2 ⟨64 * n.val + l.val, by omega⟩ c) rfl ?_).trans ((tile_v H _ c).trans ?_)
    · intro b
      match b with
      | ⟨0, _⟩ => show 64 * n.val + l.val = 0 + (64 * n.val + l.val); omega
      | ⟨1, _⟩ => show c.val = 0 + c.val; omega
    · exact congrArg (vSeq W X · c) (by show 64 * n0 + (64 * n.val + l.val) = _; ring)
  d n l c := halves_read Md.view Md.view.junk _ _ (fun n _ c => decAt (aSeq W X) n c) n0
    (decBlock_apply (aSeq W X) _ n0 (sums0_apply H)) (decBlock_apply (aSeq W X) _ (n0 + 4) (sums1_apply H)) n l c

end Cert.Proof.Pre

end
-- ==== Proof.PreRun.lean ====
/-
  The tile's run: its writes to the state and to the results, matched with the steps.
-/
module

public import proofs.«01_k».proof.Proof.PreTile
public import proofs.«01_k».proof.Proof.Gen.Kernel2Ideal.Frame

@[expose] public section

noncomputable section

namespace Cert.Proof.Pre

open Cert.Kernel2Ideal Cert.Kernel2Ideal.Gen
open Idealize.ShloMosaic Idealize.ShloMosaic.ValueIdx Idealize.ShloMosaic.TcCoe
open scoped BigOperators

/-- The products of two projections of the rows that the convolution reads. -/
def uBlock (h : FVec Ideal S512x1024 .bf16) (wa wb : FVec Ideal S256x1024 .bf16) : FVec Ideal S512x256 .f32 :=
  shapeCast S512x256 (mulf
    (matmul dot_S512x1024_S256x1024_S512x256_1_1_0_0_n_n none h (shapeCast S256x1024 wa shapeCasts_S256x1024_S256x1024) (constant S512x256 .f32 0x00000000#32))
    (matmul dot_S512x1024_S256x1024_S512x256_1_1_0_0_n_n none h (shapeCast S256x1024 wb shapeCasts_S256x1024_S256x1024) (constant S512x256 .f32 0x00000000#32))) shapeCasts_S512x256_S512x256

/-- The transposed state of a head, as it is stored in the result. -/
def outBlock (s : FVec Ideal S1x256x128 .f32) : FVec Ideal S1x1x1x128x256 .f32 :=
  shapeCast S1x1x1x128x256 (transpose S128x256 [1, 0] (shapeCast S256x128 s shapeCasts_S1x256x128_S256x128) transposes_S256x128_p1_0_S128x256) shapeCasts_S128x256_S1x1x1x128x256

/-- A head's place lies inside the first result. -/
theorem inbO (h : Fin 4) : ∀ a, ![0, 0, h.val, 0, 0] a + S1x1x1x128x256.size a ≤ S1x1x4x128x256.size a := fun a =>
  match a with
  | ⟨0, _⟩ => Nat.le_refl 1
  | ⟨1, _⟩ => Nat.le_refl 1
  | ⟨2, _⟩ => by show h.val + 1 ≤ 4; omega
  | ⟨3, _⟩ => Nat.le_refl 128
  | ⟨4, _⟩ => Nat.le_refl 256

/-- The writes of the first `n` heads to the result, when the state's writes are `L`. -/
def outPieces (S : Fin 4 → List (View.Piece (Elt Ideal) S4x256x128 .f32) → FVec Ideal S1x256x128 .f32) (L : List (View.Piece (Elt Ideal) S4x256x128 .f32)) :
    (n : ℕ) → List (View.Piece (Elt Ideal) S1x1x4x128x256 .f32)
  | 0 => []
  | n + 1 => ⟨Rect.unit (s := S1x1x4x128x256) ![0, 0, (⟨n % 4, Nat.mod_lt _ (by decide)⟩ : Fin 4).val, 0, 0] S1x1x1x128x256.size (inbO ⟨n % 4, Nat.mod_lt _ (by decide)⟩),
      outBlock (S ⟨n % 4, Nat.mod_lt _ (by decide)⟩ L)⟩ :: outPieces S L n

section Run
variable (c : Dev nD) (i : grid0.Coords) (arg2 : Memref sig .tc .vmem S1x512x1024 .f32) (harg2 : arg2.IsWhole)
  (arg3 : Memref sig .tc .vmem S1x1024 .f32) (harg3 : arg3.IsWhole) (arg4 : Memref sig .tc .vmem S7184x1024 .bf16) (harg4 : arg4.IsWhole)
  (arg5 : Memref sig .tc .vmem S128x512 .bf16) (harg5 : arg5.IsWhole) (arg6 : Memref sig .tc .vmem S1x512 .f32) (harg6 : arg6.IsWhole)
  (arg7 : Memref sig .tc .vmem S1x256 .f32) (harg7 : arg7.IsWhole) (arg8 : Memref sig .tc .vmem S3x1024 .f32) (harg8 : arg8.IsWhole)
  (arg9 : Memref sig .tc .vmem S2048x1024 .bf16) (harg9 : arg9.IsWhole) (arg10 : Memref sig .tc .vmem S1x512x1024 .f32) (harg10 : arg10.IsWhole)
  (arg11 : Memref sig .tc .vmem S1x1x4x128x256 .f32) (harg11 : arg11.IsWhole) (arg12 : Memref sig .tc .vmem S1x1x2x1024 .f32) (harg12 : arg12.IsWhole)
  (arg13 : Memref sig .tc .vmem S4x256x128 .f32) (harg13 : arg13.IsWhole) (arg14 : Memref sig .tc .vmem S520x1024 .f32) (harg14 : arg14.IsWhole)
  (arg15 : Memref sig .tc .vmem S512x512 .bf16) (harg15 : arg15.IsWhole) (arg16 : Memref sig .tc .vmem S512x512 .bf16) (harg16 : arg16.IsWhole)
  (arg17 : Memref sig .tc .vmem S512x512 .bf16) (harg17 : arg17.IsWhole) (arg18 : Memref sig .tc .vmem S512x1024 .bf16) (harg18 : arg18.IsWhole)
  (arg19 : Memref sig .tc .vmem S512x512 .f32) (harg19 : arg19.IsWhole) (arg20 : Memref sig .tc .vmem S512x1024 .f32) (harg20 : arg20.IsWhole)
  (arg21 : Memref sig .tc .vmem S512x1024 .bf16) (harg21 : arg21.IsWhole)
  (x0 : Vec Ideal S1x512x1024 .f32) (x1 : Vec Ideal S1x1024 .f32) (x2 : Vec Ideal S7184x1024 .bf16) (x3 : Vec Ideal S128x512 .bf16)
  (x4 : Vec Ideal S1x512 .f32) (x5 : Vec Ideal S1x256 .f32) (x6 : Vec Ideal S3x1024 .f32) (x7 : Vec Ideal S2048x1024 .bf16)
  (xs0 : Vec Ideal S4x256x128 .f32) (xs1 : Vec Ideal S520x1024 .f32)

/-- The tile's loads of the rows, the norm's weight, the gate's and its bias, -/
abbrev rdX : FVec Ideal S1x512x1024 .f32 := View.readAt (Elt Ideal) arg2.view (Rect.unit ![0, 0, 0] S1x512x1024.size inb_S1x512x1024_S1x512x1024_0_0_0).toLoadRect (harg2.unread x0)
abbrev rdG : FVec Ideal S1x1024 .f32 := View.readAt (Elt Ideal) arg3.view (Rect.unit ![0, 0] S1x1024.size inb_S1x1024_S1x1024_0_0).toLoadRect (harg3.unread x1)
abbrev rdU : FVec Ideal S128x512 .bf16 := View.readAt (Elt Ideal) arg5.view (Rect.unit ![0, 0] S128x512.size inb_S128x512_S128x512_0_0).toLoadRect (harg5.unread x3)
abbrev rdB : FVec Ideal S1x512 .f32 := View.readAt (Elt Ideal) arg6.view (Rect.unit ![0, 0] S1x512.size inb_S1x512_S1x512_0_0).toLoadRect (harg6.unread x4)

/-- A block of rows lies inside the projections' weights. -/
theorem inbW (o n : ℕ) (ho : o + n ≤ 7184) : ∀ a, ![o, 0] a + (⟨2, ![n, 1024]⟩ : Shape).size a ≤ S7184x1024.size a := fun a =>
  match a with
  | ⟨0, _⟩ => ho
  | ⟨1, _⟩ => by show 0 + 1024 ≤ 1024; omega

/-- and of the projections' weights from row `o` on. -/
abbrev rdW (o n : ℕ) (ho : o + n ≤ 7184) : FVec Ideal ⟨2, ![n, 1024]⟩ .bf16 :=
  View.readAt (Elt Ideal) arg4.view (Rect.unit (s := S7184x1024) ![o, 0] (⟨2, ![n, 1024]⟩ : Shape).size (inbW o n ho)).toLoadRect (harg4.unread x2)

/-- A head's state after the tile. -/
abbrev tileHead (h : Fin 4) (s : FVec Ideal S1x256x128 .f32) : FVec Ideal S1x256x128 .f32 :=
  headPiece arg17 arg18 arg19
    (lstK (rdX arg2 harg2 x0) (rdG arg3 harg3 x1) (rdW arg4 harg4 x2 512 512 (by decide)) (rdW arg4 harg4 x2 3072 128 (by decide)) (rdU arg5 harg5 x3) (rdB arg6 harg6 x4))
    (lstV (rdX arg2 harg2 x0) (rdG arg3 harg3 x1) (rdW arg4 harg4 x2 1024 1024 (by decide)))
    (lstD (rdX arg2 harg2 x0) (rdG arg3 harg3 x1) (rdW arg4 harg4 x2 3072 128 (by decide)) (rdU arg5 harg5 x3) (rdB arg6 harg6 x4)) h s

/-- The state's load after the writes, -/
abbrev ldNew (h : Fin 4) (L : List (View.Piece (Elt Ideal) S4x256x128 .f32)) : FVec Ideal S1x256x128 .f32 :=
  arg13.view.readCov L (Rect.unit (s := S4x256x128) ![h.val, 0, 0] S1x256x128.size (inbH h)).toLoadRect
/-- and before the tile's first. -/
abbrev ldOld (h : Fin 4) : FVec Ideal S1x256x128 .f32 :=
  View.readAt (Elt Ideal) arg13.view (Rect.unit (s := S4x256x128) ![h.val, 0, 0] S1x256x128.size (inbH h)).toLoadRect (harg13.unread xs0)

/-- The writes to the state when the tile continues a sequence. -/
abbrev lstS : List (View.Piece (Elt Ideal) S4x256x128 .f32) :=
  heads (tileHead arg2 harg2 arg3 harg3 arg4 harg4 arg5 harg5 arg6 harg6 arg17 arg18 arg19 x0 x1 x2 x3 x4) (fun h _ => ldOld arg13 harg13 xs0 h) [] 4

/-- The writes to the convolution's rows. -/
abbrev lstU : List (View.Piece (Elt Ideal) S520x1024 .f32) :=
  [⟨Rect.unit (s := S520x1024) ![8, 768] S512x256.size inb_S520x1024_S512x256_8_768, uBlock (k0_pay9 (rdX arg2 harg2 x0) (rdG arg3 harg3 x1)) (rdW arg4 harg4 x2 5904 256 (by decide)) (rdW arg4 harg4 x2 3856 256 (by decide))⟩,
    ⟨Rect.unit (s := S520x1024) ![8, 512] S512x256.size inb_S520x1024_S512x256_8_512, uBlock (k0_pay9 (rdX arg2 harg2 x0) (rdG arg3 harg3 x1)) (rdW arg4 harg4 x2 5648 256 (by decide)) (rdW arg4 harg4 x2 3600 256 (by decide))⟩,
    ⟨Rect.unit (s := S520x1024) ![8, 256] S512x256.size inb_S520x1024_S512x256_8_256, uBlock (k0_pay9 (rdX arg2 harg2 x0) (rdG arg3 harg3 x1)) (rdW arg4 harg4 x2 5392 256 (by decide)) (rdW arg4 harg4 x2 3344 256 (by decide))⟩,
    ⟨Rect.unit (s := S520x1024) ![8, 0] S512x256.size inb_S520x1024_S512x256_8_0, uBlock (k0_pay9 (rdX arg2 harg2 x0) (rdG arg3 harg3 x1)) (rdW arg4 harg4 x2 5136 256 (by decide)) (rdW arg4 harg4 x2 3088 256 (by decide))⟩]

/-- The halo's rows after the tile. -/
abbrev haloNew : FVec Ideal S8x1024 .f32 :=
  k0_pay162 (F := Ideal) (arg14.view.readCov (lstU arg2 harg2 arg3 harg3 arg4 harg4 x0 x1 x2) (Rect.unit (s := S520x1024) ![512, 0] S8x1024.size inb_S520x1024_S8x1024_512_0).toLoadRect)

set_option maxHeartbeats 4000000 in
/-- The first tile of a sequence writes the state from zeros; -/
theorem runA_state (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.1
      = heads (tileHead arg2 harg2 arg3 harg3 arg4 harg4 arg5 harg5 arg6 harg6 arg17 arg18 arg19 x0 x1 x2 x3 x4) (ldNew arg13)
        [⟨Rect.unit (s := S4x256x128) ![0, 0, 0] S4x256x128.size inb_S4x256x128_S4x256x128_0_0_0, k0_pay6 (F := Ideal)⟩] 4 := rfl

set_option maxHeartbeats 4000000 in
/-- the next ones from what was there, -/
theorem runB_state (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1).2.2.2.1
      = lstS arg2 harg2 arg3 harg3 arg4 harg4 arg5 harg5 arg6 harg6 arg13 harg13 arg17 arg18 arg19 x0 x1 x2 x3 x4 xs0 := rfl

set_option maxHeartbeats 4000000 in
/-- and the last one writes its state, transposed, to the first result -/
theorem runC_out (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1).2.1
      = outPieces (ldNew arg13) (lstS arg2 harg2 arg3 harg3 arg4 harg4 arg5 harg5 arg6 harg6 arg13 harg13 arg17 arg18 arg19 x0 x1 x2 x3 x4 xs0) 4 := rfl

set_option maxHeartbeats 4000000 in
/-- and its last two rows of products to the second. -/
theorem runC_conv (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1).2.2.1
      = [⟨Rect.unit (s := S1x1x2x1024) ![0, 0, 0, 0] S1x1x2x1024.size inb_S1x1x2x1024_S1x1x2x1024_0_0_0_0,
          k0_pay1 (F := Ideal) (arg14.view.readCov (⟨Rect.unit (s := S520x1024) ![0, 0] S8x1024.size inb_S520x1024_S8x1024_0_0, haloNew arg2 harg2 arg3 harg3 arg4 harg4 arg14 x0 x1 x2⟩
              :: lstU arg2 harg2 arg3 harg3 arg4 harg4 x0 x1 x2) (Rect.unit (s := S520x1024) ![518, 0] ![2, 1024] inb_S520x1024_S2x1024_518_0).toLoadRect)⟩] := rfl

end Run

end Cert.Proof.Pre

end
-- ==== Proof.PrePoint.lean ====
/-
  What a tile leaves, from the rows of its sequence: the state eight chunks on, and the last two rows of products.
-/
module

public import proofs.«01_k».proof.Proof.PreRun

@[expose] public section

noncomputable section

namespace Cert.Proof.Pre

open Cert.Kernel2Ideal Cert.Kernel2Ideal.Gen
open Idealize.ShloMosaic Idealize.ShloMosaic.ValueIdx Idealize.ShloMosaic.TcCoe
open scoped BigOperators

/-- An entry of the convolution's products is the product of two projections. -/
theorem uBlock_apply (h : FVec Ideal S512x1024 .bf16) (wa wb : FVec Ideal S256x1024 .bf16) (r : Fin 512) (j : Fin 256) :
    uBlock h wa wb (ix2 r j) = dotRow (fun k => h (ix2 r k)) (fun k => wa (ix2 j k)) * dotRow (fun k => h (ix2 r k)) (fun k => wb (ix2 j k)) := by
  unfold uBlock
  rw [shapeCast_apply _ _ (ix2 r j) (ix2 r j) rfl]
  exact congrArg₂ (· * ·) (mm256_apply h r wa j) (mm256_apply h r wb j)

/-- A head's stored state is its state transposed. -/
theorem outBlock_apply (s : FVec Ideal S1x256x128 .f32) (d : Fin 128) (e : Fin 256) : outBlock s (ix5 0 0 0 d e) = s (ix3 0 e d) := by
  unfold outBlock
  rw [shapeCast_apply _ _ (ix5 0 0 0 d e) (ix2 d e) (by
      rw [Shape.rowMajor_val_five, Shape.rowMajor_val_two]; show d.val * 256 + e.val = (((0 * 1 + 0) * 1 + 0) * 128 + d.val) * 256 + e.val; omega),
    transpose_apply _ _ _ (ix2 d e) (ix2 e d) (by intro b; match b with | ⟨0, _⟩ => rfl | ⟨1, _⟩ => rfl),
    shapeCast_apply _ _ (ix2 e d) (ix3 0 e d) (by
      rw [Shape.rowMajor_val_three, Shape.rowMajor_val_two]; show (0 * 256 + e.val) * 128 + d.val = e.val * 128 + d.val; omega)]

/-- The second result's store changes the shape only. -/
theorem pay1_apply (w : FVec Ideal S2x1024 .f32) (q : Fin 2) (ch : Fin 1024) : k0_pay1 (F := Ideal) w (ix4 0 0 q ch) = w (ix2 q ch) :=
  shapeCast_apply w _ (ix4 0 0 q ch) (ix2 q ch) (by
    rw [Shape.rowMajor_val_four, Shape.rowMajor_val_two]; show q.val * 1024 + ch.val = ((0 * 1 + 0) * 2 + q.val) * 1024 + ch.val; omega)

/-- The state's start is zero. -/
theorem pay6_apply (h : Fin 4) (e : Fin 256) (j : Fin 128) : k0_pay6 (F := Ideal) (ix3 h e j) = 0 :=
  (shapeCast_apply (broadcast S4x256x128 (Ideal.ofBits .f32 0x00000000#32 : Ideal .f32)) _ (ix3 h e j) (ix3 h e j) rfl).trans Ideal.ofBits_zero_f32

/-- A head's block of the result reads its piece. -/
theorem outPieces_read (S : Fin 4 → List (View.Piece (Elt Ideal) S4x256x128 .f32) → FVec Ideal S1x256x128 .f32) (L : List (View.Piece (Elt Ideal) S4x256x128 .f32))
    (v : View sig .tc .vmem S1x1x4x128x256 .f32) (f : v.ty.Contents (Elt Ideal)) (n : ℕ) (hn : n ≤ 4) (h : Fin 4) (hh : h.val < n) (d : Fin 128) (e : Fin 256) :
    v.read (Elt Ideal) (v.writes (Elt Ideal) f (outPieces S L n)) (ix5 0 0 h d e) = S h L (ix3 0 e d) := by
  induction n with
  | zero => exact absurd hh (Nat.not_lt_zero _)
  | succ n ih =>
    by_cases hc : h.val = n
    · obtain ⟨n', hn'⟩ := h
      obtain rfl : n' = n := hc
      have hm : (⟨n' % 4, Nat.mod_lt _ (by decide)⟩ : Fin 4) = ⟨n', hn'⟩ := Fin.ext (Nat.mod_eq_of_lt hn')
      refine (View.read_writes_cons_unit_of_mem v f _ _ _ (ix5 0 0 ⟨n', hn'⟩ d e) (ix5 0 0 0 d e) rfl ?_).trans ((outBlock_apply _ d e).trans ?_)
      · intro b
        match b with
        | ⟨0, _⟩ => rfl
        | ⟨1, _⟩ => rfl
        | ⟨2, _⟩ => show n' = n' % 4 + 0; omega
        | ⟨3, _⟩ => show d.val = 0 + d.val; omega
        | ⟨4, _⟩ => show e.val = 0 + e.val; omega
      · rw [hm]
    · refine (View.read_writes_cons_unit_of_not_mem v f _ _ _ _ rfl (2 : Fin 5) (Or.inl ?_)).trans (ih (by omega) (by omega))
      show h.val < n % 4
      omega

section Run
variable (c : Dev nD) (i : grid0.Coords) (arg2 : Memref sig .tc .vmem S1x512x1024 .f32) (harg2 : arg2.IsWhole)
  (arg3 : Memref sig .tc .vmem S1x1024 .f32) (harg3 : arg3.IsWhole) (arg4 : Memref sig .tc .vmem S7184x1024 .bf16) (harg4 : arg4.IsWhole)
  (arg5 : Memref sig .tc .vmem S128x512 .bf16) (harg5 : arg5.IsWhole) (arg6 : Memref sig .tc .vmem S1x512 .f32) (harg6 : arg6.IsWhole)
  (arg7 : Memref sig .tc .vmem S1x256 .f32) (harg7 : arg7.IsWhole) (arg8 : Memref sig .tc .vmem S3x1024 .f32) (harg8 : arg8.IsWhole)
  (arg9 : Memref sig .tc .vmem S2048x1024 .bf16) (harg9 : arg9.IsWhole) (arg10 : Memref sig .tc .vmem S1x512x1024 .f32) (harg10 : arg10.IsWhole)
  (arg11 : Memref sig .tc .vmem S1x1x4x128x256 .f32) (harg11 : arg11.IsWhole) (arg12 : Memref sig .tc .vmem S1x1x2x1024 .f32) (harg12 : arg12.IsWhole)
  (arg13 : Memref sig .tc .vmem S4x256x128 .f32) (harg13 : arg13.IsWhole) (arg14 : Memref sig .tc .vmem S520x1024 .f32) (harg14 : arg14.IsWhole)
  (arg15 : Memref sig .tc .vmem S512x512 .bf16) (harg15 : arg15.IsWhole) (arg16 : Memref sig .tc .vmem S512x512 .bf16) (harg16 : arg16.IsWhole)
  (arg17 : Memref sig .tc .vmem S512x512 .bf16) (harg17 : arg17.IsWhole) (arg18 : Memref sig .tc .vmem S512x1024 .bf16) (harg18 : arg18.IsWhole)
  (arg19 : Memref sig .tc .vmem S512x512 .f32) (harg19 : arg19.IsWhole) (arg20 : Memref sig .tc .vmem S512x1024 .f32) (harg20 : arg20.IsWhole)
  (arg21 : Memref sig .tc .vmem S512x1024 .bf16) (harg21 : arg21.IsWhole)
  (x0 : Vec Ideal S1x512x1024 .f32) (x1 : Vec Ideal S1x1024 .f32) (x2 : Vec Ideal S7184x1024 .bf16) (x3 : Vec Ideal S128x512 .bf16)
  (x4 : Vec Ideal S1x512 .f32) (x5 : Vec Ideal S1x256 .f32) (x6 : Vec Ideal S3x1024 .f32) (x7 : Vec Ideal S2048x1024 .bf16)
  (xs0 : Vec Ideal S4x256x128 .f32) (xs1 : Vec Ideal S520x1024 .f32)

/-- The tile's blocks are the sequence's rows from chunk `n0` on, and the weights. -/
structure TileBlk (W : Wts) (X : ℕ → Fin 1024 → EReal) (n0 : ℕ) : Prop where
  x : ∀ (r : Fin 512) (k : Fin 1024), x0 (ix3 0 r k) = X (64 * n0 + r.val) k
  g : ∀ k : Fin 1024, x1 (ix2 0 k) = W.g k
  w : ∀ (j : Fin 7184) (k : Fin 1024), x2 (ix2 j k) = W.w j k
  u : ∀ (j : Fin 128) (c : Fin 512), x3 (ix2 j c) = W.up j c
  b : ∀ c : Fin 512, x4 (ix2 0 c) = W.b c

/-- A load of the projections' weights reads their rows. -/
theorem rdW_apply (o n : ℕ) (ho : o + n ≤ 7184) (j : Fin n) (k : Fin 1024) : rdW arg4 harg4 x2 o n ho (ix2 j k) = x2 (ix2 ⟨o + j.val, by omega⟩ k) := by
  refine (congrFun (harg4.read_unread x2) _).trans (congrArg x2 (funext fun a => Fin.ext ?_))
  match a with
  | ⟨0, _⟩ => show o + 1 * j.val = o + j.val; omega
  | ⟨1, _⟩ => show 0 + 1 * k.val = k.val; omega

variable {x0 x1 x2 x3 x4} {W : Wts} {X : ℕ → Fin 1024 → EReal} {n0 : ℕ} (B : TileBlk x0 x1 x2 x3 x4 W X n0)
include B

/-- The tile's loads are its rows of the sequence, -/
theorem TileBlk.rdx (r : Fin 512) (k : Fin 1024) : rdX arg2 harg2 x0 (ix3 0 r k) = X (64 * n0 + r.val) k :=
  ((congrFun (harg2.read_unread x0) _).trans (congrArg x0 (funext fun a => Fin.ext (by
    match a with
    | ⟨0, _⟩ => rfl
    | ⟨1, _⟩ => show 0 + 1 * r.val = r.val; omega
    | ⟨2, _⟩ => show 0 + 1 * k.val = k.val; omega)))).trans (B.x r k)

/-- the norm's weight, -/
theorem TileBlk.rdg (k : Fin 1024) : rdG arg3 harg3 x1 (ix2 0 k) = W.g k :=
  ((congrFun (harg3.read_unread x1) _).trans (congrArg x1 (funext fun a => Fin.ext (by
    match a with
    | ⟨0, _⟩ => rfl
    | ⟨1, _⟩ => show 0 + 1 * k.val = k.val; omega)))).trans (B.g k)

/-- and the other weights. -/
theorem TileBlk.rd : TileIn (rdX arg2 harg2 x0) (rdG arg3 harg3 x1) (rdW arg4 harg4 x2 512 512 (by decide)) (rdW arg4 harg4 x2 1024 1024 (by decide))
    (rdW arg4 harg4 x2 3072 128 (by decide)) (rdU arg5 harg5 x3) (rdB arg6 harg6 x4) W X n0 where
  x := TileBlk.rdx arg2 harg2 B
  g := TileBlk.rdg arg3 harg3 B
  k j k := (rdW_apply arg4 harg4 x2 512 512 (by decide) j k).trans (B.w _ k)
  v j k := (rdW_apply arg4 harg4 x2 1024 1024 (by decide) j k).trans (B.w _ k)
  a j k := (rdW_apply arg4 harg4 x2 3072 128 (by decide) j k).trans (B.w _ k)
  u j k := ((congrFun (harg5.read_unread x3) _).trans (congrArg x3 (funext fun a => Fin.ext (by
    match a with
    | ⟨0, _⟩ => show 0 + 1 * j.val = j.val; omega
    | ⟨1, _⟩ => show 0 + 1 * k.val = k.val; omega)))).trans (B.u j k)
  b k := ((congrFun (harg6.read_unread x4) _).trans (congrArg x4 (funext fun a => Fin.ext (by
    match a with
    | ⟨0, _⟩ => rfl
    | ⟨1, _⟩ => show 0 + 1 * k.val = k.val; omega)))).trans (B.b k)

/-- A head's new state is the state eight chunks on. -/
theorem tileHead_apply (h : Fin 4) (s : FVec Ideal S1x256x128 .f32) (e : Fin 256) (j : Fin 128)
    (hs : s (ix3 0 e j) = stAt (aSeq W X) (kSeq W X) (vSeq W X) h e j n0) :
    tileHead arg2 harg2 arg3 harg3 arg4 harg4 arg5 harg5 arg6 harg6 arg17 arg18 arg19 x0 x1 x2 x3 x4 h s (ix3 0 e j)
      = stAt (aSeq W X) (kSeq W X) (vSeq W X) h e j (n0 + 8) :=
  headPiece_apply ((TileBlk.rd arg2 harg2 arg3 harg3 arg4 harg4 arg5 harg5 arg6 harg6 B).held arg17 arg18 arg19) h s e j hs

/-- The state's writes, read back, when the tile continues a sequence. -/
theorem lstS_read (hs : ∀ (h : Fin 4) (e : Fin 256) (j : Fin 128), xs0 (ix3 h e j) = stAt (aSeq W X) (kSeq W X) (vSeq W X) h e j n0)
    (v : View sig .tc .vmem S4x256x128 .f32) (f : v.ty.Contents (Elt Ideal)) (h : Fin 4) (e : Fin 256) (j : Fin 128) :
    v.read (Elt Ideal) (v.writes (Elt Ideal) f (lstS arg2 harg2 arg3 harg3 arg4 harg4 arg5 harg5 arg6 harg6 arg13 harg13 arg17 arg18 arg19 x0 x1 x2 x3 x4 xs0)) (ix3 h e j)
      = stAt (aSeq W X) (kSeq W X) (vSeq W X) h e j (n0 + 8) := by
  refine (heads_new _ _ _ v f 4 (Nat.le_refl 4) h h.isLt e j).trans (tileHead_apply arg2 harg2 arg3 harg3 arg4 harg4 arg5 harg5 arg6 harg6 arg17 arg18 arg19 B h _ e j ?_)
  refine (congrFun (harg13.read_unread xs0) _).trans ((congrArg xs0 (funext fun a => Fin.ext ?_)).trans (hs h e j))
  match a with
  | ⟨0, _⟩ => show h.val + 1 * 0 = h.val; omega
  | ⟨1, _⟩ => show 0 + 1 * e.val = e.val; omega
  | ⟨2, _⟩ => show 0 + 1 * j.val = j.val; omega

/-- After the first tile of a sequence the state is that after eight chunks; -/
theorem soutA (hn : n0 = 0) (hc0 : cond0_0 i) (hc1 : ¬cond0_1 i) (h : Fin 4) (e : Fin 256) (j : Fin 128) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 (ix3 h e j) = stAt (aSeq W X) (kSeq W X) (vSeq W X) h e j (n0 + 8) := by
  unfold sout0_A_0
  rw [runA_state]
  refine (heads_new _ _ _ _ _ 4 (Nat.le_refl 4) h h.isLt e j).trans (tileHead_apply arg2 harg2 arg3 harg3 arg4 harg4 arg5 harg5 arg6 harg6 arg17 arg18 arg19 B h _ e j ?_)
  refine (congrArg (arg13.view.read (Elt Ideal) (arg13.view.writes (Elt Ideal) arg13.view.junk _)) (a₂ := ix3 h e j) (funext fun a => Fin.ext ?_)).trans ?_
  · match a with
    | ⟨0, _⟩ => show h.val + 1 * 0 = h.val; omega
    | ⟨1, _⟩ => show 0 + 1 * e.val = e.val; omega
    | ⟨2, _⟩ => show 0 + 1 * j.val = j.val; omega
  · refine (heads_old _ _ _ _ _ h.val (by omega) h (Nat.le_refl _) e j).trans ?_
    refine (View.read_writes_cons_unit_of_mem _ _ _ _ _ _ (ix3 h e j) rfl ?_).trans ?_
    · intro b
      match b with
      | ⟨0, _⟩ => show h.val = 0 + h.val; omega
      | ⟨1, _⟩ => show e.val = 0 + e.val; omega
      | ⟨2, _⟩ => show j.val = 0 + j.val; omega
    · subst hn
      exact pay6_apply h e j

/-- after the next ones it is the state eight chunks on. -/
theorem soutB (hs : ∀ (h : Fin 4) (e : Fin 256) (j : Fin 128), xs0 (ix3 h e j) = stAt (aSeq W X) (kSeq W X) (vSeq W X) h e j n0)
    (hc0 : ¬cond0_0 i) (hc1 : ¬cond0_1 i) (h : Fin 4) (e : Fin 256) (j : Fin 128) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 (ix3 h e j) = stAt (aSeq W X) (kSeq W X) (vSeq W X) h e j (n0 + 8) := by
  unfold sout0_B_0
  rw [runB_state]
  exact lstS_read arg2 harg2 arg3 harg3 arg4 harg4 arg5 harg5 arg6 harg6 arg13 harg13 arg17 arg18 arg19 xs0 B hs _ _ h e j

/-- The last tile of a sequence leaves its state, transposed, in the first result, -/
theorem outC (hs : ∀ (h : Fin 4) (e : Fin 256) (j : Fin 128), xs0 (ix3 h e j) = stAt (aSeq W X) (kSeq W X) (vSeq W X) h e j n0)
    (hc0 : ¬cond0_0 i) (hc1 : cond0_1 i) (h : Fin 4) (d : Fin 128) (e : Fin 256) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 (ix5 0 0 h d e) = stAt (aSeq W X) (kSeq W X) (vSeq W X) h e d (n0 + 8) := by
  unfold out0_C_9
  rw [runC_out]
  refine (outPieces_read _ _ _ _ 4 (Nat.le_refl 4) h h.isLt d e).trans ?_
  refine (congrArg (arg13.view.read (Elt Ideal) (arg13.view.writes (Elt Ideal) arg13.view.junk _)) (a₂ := ix3 h e d) (funext fun a => Fin.ext ?_)).trans
    (lstS_read arg2 harg2 arg3 harg3 arg4 harg4 arg5 harg5 arg6 harg6 arg13 harg13 arg17 arg18 arg19 xs0 B hs _ _ h e d)
  match a with
  | ⟨0, _⟩ => show h.val + 1 * 0 = h.val; omega
  | ⟨1, _⟩ => show 0 + 1 * e.val = e.val; omega
  | ⟨2, _⟩ => show 0 + 1 * d.val = d.val; omega

/-- A block of the convolution's rows holds the sequence's products. -/
theorem uBlock_rd (o : ℕ) (ho : o + 256 ≤ 1024) (r : Fin 512) (j : Fin 256) (oa ob : ℕ) (ha : oa + 256 ≤ 7184) (hb : ob + 256 ≤ 7184) (ea : oa = 5136 + o) (eb : ob = 3088 + o) :
    uBlock (k0_pay9 (rdX arg2 harg2 x0) (rdG arg3 harg3 x1)) (rdW arg4 harg4 x2 oa 256 ha) (rdW arg4 harg4 x2 ob 256 hb) (ix2 r j)
      = uSeq W X (64 * n0 + r.val) ⟨o + j.val, by omega⟩ := by
  subst ea
  subst eb
  refine (uBlock_apply _ _ _ r j).trans (congrArg₂ (· * ·) (congrArg₂ dotRow (tile_h (TileBlk.rdx arg2 harg2 B) (TileBlk.rdg arg3 harg3 B) r) (funext fun k => ?_)) (congrArg₂ dotRow (tile_h (TileBlk.rdx arg2 harg2 B) (TileBlk.rdg arg3 harg3 B) r) (funext fun k => ?_)))
  · exact (rdW_apply arg4 harg4 x2 (5136 + o) 256 ha j k).trans ((B.w _ k).trans (congrArg (W.w · k) (Fin.ext (by show 5136 + o + j.val = 5136 + (o + j.val); omega))))
  · exact (rdW_apply arg4 harg4 x2 (3088 + o) 256 hb j k).trans ((B.w _ k).trans (congrArg (W.w · k) (Fin.ext (by show 3088 + o + j.val = 3088 + (o + j.val); omega))))

/-- The convolution's rows, read back after one more block of columns. -/
theorem lstU_next (o : ℕ) (ho : o + 256 ≤ 1024) (inb : ∀ a, ![8, o] a + S512x256.size a ≤ S520x1024.size a) (w : FVec Ideal S512x256 .f32) (L : List (View.Piece (Elt Ideal) S520x1024 .f32))
    (v : View sig .tc .vmem S520x1024 .f32) (f : v.ty.Contents (Elt Ideal)) (r : Fin 512) (ch : Fin 1024) (hch : ch.val < o + 256)
    (hw : ∀ (r : Fin 512) (j : Fin 256), w (ix2 r j) = uSeq W X (64 * n0 + r.val) ⟨o + j.val, by omega⟩)
    (hL : ch.val < o → v.read (Elt Ideal) (v.writes (Elt Ideal) f L) (ix2 ⟨8 + r.val, by omega⟩ ch) = uSeq W X (64 * n0 + r.val) ch) :
    v.read (Elt Ideal) (v.writes (Elt Ideal) f (⟨Rect.unit (s := S520x1024) ![8, o] S512x256.size inb, w⟩ :: L)) (ix2 ⟨8 + r.val, by omega⟩ ch) = uSeq W X (64 * n0 + r.val) ch := by
  by_cases hc : ch.val < o
  · exact (View.read_writes_cons_unit_of_not_mem v f _ _ _ _ rfl (1 : Fin 2) (Or.inl hc)).trans (hL hc)
  · refine (View.read_writes_cons_unit_of_mem v f _ _ _ _ (ix2 r ⟨ch.val - o, by omega⟩) rfl ?_).trans ((hw r _).trans ?_)
    · intro b
      match b with
      | ⟨0, _⟩ => rfl
      | ⟨1, _⟩ => show ch.val = o + (ch.val - o); omega
    · exact congrArg (uSeq W X _) (Fin.ext (by show o + (ch.val - o) = ch.val; omega))

/-- The convolution's rows, read back. -/
theorem lstU_read (v : View sig .tc .vmem S520x1024 .f32) (f : v.ty.Contents (Elt Ideal)) (r : Fin 512) (ch : Fin 1024) :
    v.read (Elt Ideal) (v.writes (Elt Ideal) f (lstU arg2 harg2 arg3 harg3 arg4 harg4 x0 x1 x2)) (ix2 ⟨8 + r.val, by omega⟩ ch) = uSeq W X (64 * n0 + r.val) ch := by
  refine lstU_next B 768 (by decide) _ _ _ v f r ch (by omega) (fun r j => uBlock_rd arg2 harg2 arg3 harg3 arg4 harg4 B 768 (by decide) r j _ _ _ _ rfl rfl) fun h1 => ?_
  refine lstU_next B 512 (by decide) _ _ _ v f r ch h1 (fun r j => uBlock_rd arg2 harg2 arg3 harg3 arg4 harg4 B 512 (by decide) r j _ _ _ _ rfl rfl) fun h2 => ?_
  refine lstU_next B 256 (by decide) _ _ _ v f r ch h2 (fun r j => uBlock_rd arg2 harg2 arg3 harg3 arg4 harg4 B 256 (by decide) r j _ _ _ _ rfl rfl) fun h3 => ?_
  exact lstU_next B 0 (by decide) _ _ _ v f r ch h3 (fun r j => uBlock_rd arg2 harg2 arg3 harg3 arg4 harg4 B 0 (by decide) r j _ _ _ _ rfl rfl) fun h4 => absurd h4 (Nat.not_lt_zero _)

/-- and the last two rows of products in the second. -/
theorem convC (hc0 : ¬cond0_0 i) (hc1 : cond0_1 i) (q : Fin 2) (ch : Fin 1024) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 (ix4 0 0 q ch) = uSeq W X (64 * n0 + (510 + q.val)) ch := by
  unfold out0_C_10
  rw [runC_conv]
  refine (View.read_writes_cons_unit_of_mem _ _ _ _ _ _ (ix4 0 0 q ch) rfl ?_).trans ?_
  · intro b
    match b with
    | ⟨0, _⟩ => rfl
    | ⟨1, _⟩ => rfl
    | ⟨2, _⟩ => show q.val = 0 + q.val; omega
    | ⟨3, _⟩ => show ch.val = 0 + ch.val; omega
  refine (pay1_apply _ q ch).trans ?_
  refine (congrArg (arg14.view.read (Elt Ideal) (arg14.view.writes (Elt Ideal) arg14.view.junk _)) (a₂ := ix2 ⟨8 + (510 + q.val), by omega⟩ ch) (funext fun a => Fin.ext ?_)).trans ?_
  · match a with
    | ⟨0, _⟩ => show 518 + 1 * q.val = 8 + (510 + q.val); omega
    | ⟨1, _⟩ => show 0 + 1 * ch.val = ch.val; omega
  · refine (View.read_writes_cons_unit_of_not_mem _ _ _ _ _ _ rfl (0 : Fin 2) (Or.inr (by show 0 + 8 ≤ 8 + (510 + q.val); omega))).trans ?_
    exact lstU_read arg2 harg2 arg3 harg3 arg4 harg4 B _ _ ⟨510 + q.val, by omega⟩ ch

end Run

end Cert.Proof.Pre

end
-- ==== Proof.PreHost.lean ====
/-
  What the prompt's kernel reads: its blocks are the rows of a sequence and the weights.
-/
module

public import proofs.«01_k».proof.Proof.PrePoint
public import proofs.«01_k».proof.Proof.Gen.Kernel2Ideal.Value
public import Idealize.ShloMosaic.Lib.StableHlo.RunRead
public import Idealize.ShloMosaic.Lib.KernelVsHost

@[expose] public section

noncomputable section

namespace Cert.Proof.Pre

open Cert.Kernel2Ideal Cert.Kernel2Ideal.Gen
open Idealize.ShloMosaic Idealize.ShloMosaic.ValueIdx Idealize.ShloMosaic.TcCoe
open scoped BigOperators

variable (m : (ℓ : Loc nD τ sig) → Buf (Elt Ideal) ℓ) (c : Dev nD)

/-- The arguments of the call. -/
abbrev xP : FVec Ideal S8x2048x1024 .f32 := m ((c : Thread nD τ).loc main_arg0)
abbrev gP : FVec Ideal S2x1024 .f32 := m ((c : Thread nD τ).loc main_arg1)
abbrev wP : FVec Ideal S1x1024x7184 .f32 := m ((c : Thread nD τ).loc main_arg2)
abbrev uP : FVec Ideal S1x16x512 .f32 := m ((c : Thread nD τ).loc main_arg3)
abbrev bP : FVec Ideal S1x512 .f32 := m ((c : Thread nD τ).loc main_arg4)

/-- The projections' weights, transposed, when the kernel is entered; -/
theorem V_w : V m c main_v2 = transpose S7184x1024 [1, 0] (shapeCast S1024x7184 (wP m c) shapeCasts_S1x1024x7184_S1024x7184) transposes_S1024x7184_S7184x1024_1_0 := by
  show StableHlo.after (List.flatten [hostOps0, hostOps0_1, hostOps0_2]) _ (Proc.devRef .tc main_v2) = _
  after_reads_simp
  rfl

/-- the gate's, with rows of zeros; -/
theorem V_u : V m c main_v5 = pad S128x512 ![0, 0] ![112, 0] ![0, 0] (shapeCast S16x512 (uP m c) shapeCasts_S1x16x512_S16x512)
    (sitofp .f32 (constantI S_ 32 0#32)) pads_S16x512_S128x512_01120_000 h_S_ := by
  show StableHlo.after (List.flatten [hostOps0, hostOps0_1, hostOps0_2]) _ (Proc.devRef .tc main_v5) = _
  after_reads_simp
  rfl

/-- the gate's bias; -/
theorem V_b : V m c main_v7 = shapeCast S1x512 (shapeCast S512 (bP m c) shapeCasts_S1x512_S512) shapeCasts_S512_S1x512 := by
  show StableHlo.after (List.flatten [hostOps0, hostOps0_1, hostOps0_2]) _ (Proc.devRef .tc main_v7) = _
  after_reads_simp
  rfl

/-- and the norm's weight. -/
theorem V_g : V m c main_v15 = shapeCast S1x1024 (shapeCast S1024 (extractStridedSlice S1x1024 ![0, 0] (gP m c) slices_S2x1024_S1x1024_0_0) shapeCasts_S1x1024_S1024) shapeCasts_S1024_S1x1024 := by
  show StableHlo.after (List.flatten [hostOps0, hostOps0_1, hostOps0_2]) _ (Proc.devRef .tc main_v15) = _
  after_reads_simp
  rfl

/-- The weights, entry by entry. -/
def wts : Wts where
  g k := gP m c (ix2 0 k)
  w j k := wP m c (ix3 0 k j)
  up k j := if h : k.val < 16 then uP m c (ix3 0 ⟨k.val, h⟩ j) else 0
  b j := bP m c (ix2 0 j)
/-- The rows of a sequence. -/
def rows (s : Fin 8) (r : ℕ) (k : Fin 1024) : EReal := if h : r < 2048 then xP m c (ix3 s ⟨r, h⟩ k) else 0

/-- The projections' weights as the kernel finds them. -/
theorem V_w_apply (j : Fin 7184) (k : Fin 1024) : (V m c main_v2 : FVec Ideal S7184x1024 .bf16) (ix2 j k) = (wts m c).w j k := by
  rw [V_w]
  refine (transpose_apply _ _ _ _ (ix2 k j) (fun b => ?_)).trans (shapeCast_apply _ _ _ (ix3 0 k j) ?_)
  · match b with
    | ⟨0, _⟩ => rfl
    | ⟨1, _⟩ => rfl
  · rw [Shape.rowMajor_val_three, Shape.rowMajor_val_two]
    show (0 * 1024 + k.val) * 7184 + j.val = k.val * 7184 + j.val
    omega

/-- The gate's up-projection as the kernel finds it, zero in its padding rows. -/
theorem V_u_apply (j : Fin 128) (k : Fin 512) : (V m c main_v5 : FVec Ideal S128x512 .bf16) (ix2 j k) = (wts m c).up j k := by
  rw [V_u]
  unfold wts
  dsimp only
  by_cases hj : j.val < 16
  · rw [dif_pos hj]
    refine (pad_apply_of_inside _ _ _ _ _ _ _ _ (ix2 ⟨j.val, hj⟩ k) (fun a => ?_)).trans (shapeCast_apply _ _ _ (ix3 0 ⟨j.val, hj⟩ k) ?_)
    · match a with
      | ⟨0, _⟩ => show j.val = 0 + j.val * (0 + 1); omega
      | ⟨1, _⟩ => show k.val = 0 + k.val * (0 + 1); omega
    · rw [Shape.rowMajor_val_three, Shape.rowMajor_val_two]
      show (0 * 16 + j.val) * 512 + k.val = j.val * 512 + k.val
      omega
  · rw [dif_neg hj]
    refine (pad_apply_of_not_inside _ _ _ _ _ _ _ _ 0 ?_).trans ?_
    · rintro ⟨_, _, h⟩
      have h' : (j.val - 0) / (0 + 1) < 16 := h
      omega
    · show ((((0#32 : BitVec 32).toInt : ℝ)) : EReal) = 0
      simp

/-- The gate's bias as the kernel finds it. -/
theorem V_b_apply (k : Fin 512) : (V m c main_v7 : FVec Ideal S1x512 .f32) (ix2 0 k) = (wts m c).b k := by
  rw [V_b]
  refine (shapeCast_apply _ _ _ (ix1 k) ?_).trans (shapeCast_apply _ _ _ (ix2 0 k) ?_)
  · rw [Shape.rowMajor_val_one, Shape.rowMajor_val_two]
    show k.val = 0 * 512 + k.val
    omega
  · rw [Shape.rowMajor_val_one, Shape.rowMajor_val_two]
    show 0 * 512 + k.val = k.val
    omega

/-- The norm's weight as the kernel finds it. -/
theorem V_g_apply (k : Fin 1024) : (V m c main_v15 : FVec Ideal S1x1024 .f32) (ix2 0 k) = (wts m c).g k := by
  rw [V_g]
  refine (shapeCast_apply _ _ _ (ix1 k) ?_).trans ((shapeCast_apply _ _ _ (ix2 0 k) ?_).trans (extractStridedSlice_apply _ _ _ _ (ix2 0 k) (fun a => ?_)))
  · rw [Shape.rowMajor_val_one, Shape.rowMajor_val_two]
    show k.val = 0 * 1024 + k.val
    omega
  · rw [Shape.rowMajor_val_one, Shape.rowMajor_val_two]
    show 0 * 1024 + k.val = k.val
    omega
  · match a with
    | ⟨0, _⟩ => rfl
    | ⟨1, _⟩ => show k.val = 0 + k.val; omega

/-- Which block each window stages at a grid point: the weights' windows their whole array, the inputs' the point's tile. -/
theorem block_at : ∀ t : Fin cfg0.N, win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0 :=
  (by decide +kernel : ∀ t : Fin grid0.N, _)

/-- What a grid point is given: its tile of the sequence, and the weights. -/
theorem tileBlk (s : Fin 8) (q : ℕ) (hq : q < 4) (t : Fin cfg0.N) (ht : t.val = 4 * s.val + q) :
    TileBlk (iblk m c 0 t) (iblk m c 1 t) (iblk m c 2 t) (iblk m c 3 t) (iblk m c 4 t) (wts m c) (rows m c s) (8 * q) := by
  obtain ⟨e0, e1, e2, f0, f1, g0, g1, h0, h1, i0, i1⟩ := block_at t
  refine ⟨fun r k => ?_, fun k => ?_, fun j k => ?_, fun j k => ?_, fun k => ?_⟩
  · have hr : 64 * (8 * q) + r.val < 2048 := by omega
    unfold rows
    rw [dif_pos hr]
    show V m c main_arg0 (((cfg0.win 0).blk t).view.emb (ix3 0 r k)) = _
    rw [V_main_arg0]
    refine congrArg (xP m c) (funext fun a => Fin.ext ?_)
    match a with
    | ⟨0, _⟩ => show win0_0.index t (0 : Fin 3) * 1 + 1 * 0 = s.val; omega
    | ⟨1, _⟩ => show win0_0.index t (1 : Fin 3) * 512 + 1 * r.val = 64 * (8 * q) + r.val; omega
    | ⟨2, _⟩ => show win0_0.index t (2 : Fin 3) * 1024 + 1 * k.val = k.val; omega
  · refine Eq.trans (congrArg (V m c main_v15 : FVec Ideal S1x1024 .f32) (a₂ := ix2 0 k) (funext fun a => Fin.ext ?_)) (V_g_apply m c k)
    match a with
    | ⟨0, _⟩ => show win0_1.index t (0 : Fin 2) * 1 + 1 * 0 = 0; omega
    | ⟨1, _⟩ => show win0_1.index t (1 : Fin 2) * 1024 + 1 * k.val = k.val; omega
  · refine Eq.trans (congrArg (V m c main_v2 : FVec Ideal S7184x1024 .bf16) (a₂ := ix2 j k) (funext fun a => Fin.ext ?_)) (V_w_apply m c j k)
    match a with
    | ⟨0, _⟩ => show win0_2.index t (0 : Fin 2) * 7184 + 1 * j.val = j.val; omega
    | ⟨1, _⟩ => show win0_2.index t (1 : Fin 2) * 1024 + 1 * k.val = k.val; omega
  · refine Eq.trans (congrArg (V m c main_v5 : FVec Ideal S128x512 .bf16) (a₂ := ix2 j k) (funext fun a => Fin.ext ?_)) (V_u_apply m c j k)
    match a with
    | ⟨0, _⟩ => show win0_3.index t (0 : Fin 2) * 128 + 1 * j.val = j.val; omega
    | ⟨1, _⟩ => show win0_3.index t (1 : Fin 2) * 512 + 1 * k.val = k.val; omega
  · refine Eq.trans (congrArg (V m c main_v7 : FVec Ideal S1x512 .f32) (a₂ := ix2 0 k) (funext fun a => Fin.ext ?_)) (V_b_apply m c k)
    match a with
    | ⟨0, _⟩ => show win0_4.index t (0 : Fin 2) * 1 + 1 * 0 = 0; omega
    | ⟨1, _⟩ => show win0_4.index t (1 : Fin 2) * 512 + 1 * k.val = k.val; omega

end Cert.Proof.Pre

end
-- ==== Proof.PreFold.lean ====
/-
  What the prompt's kernel leaves: the four tiles of a sequence, one after the other, and the two results.
-/
module

public import proofs.«01_k».proof.Proof.PreHost

@[expose] public section

noncomputable section

namespace Cert.Proof.Pre

open Cert.Kernel2Ideal Cert.Kernel2Ideal.Gen Cert.Kernel2Ideal.Value
open Idealize.ShloMosaic Idealize.ShloMosaic.ValueIdx Idealize.ShloMosaic.TcCoe
open scoped BigOperators

variable (m : (ℓ : Loc nD τ sig) → Buf (Elt Ideal) ℓ) (c : Dev nD)

/-- The state of a sequence after some of its chunks. -/
abbrev seqState (s : Fin 8) (h : Fin 4) (e : Fin 256) (d : Fin 128) (n : ℕ) : EReal :=
  stAt (aSeq (wts m c) (rows m c s)) (kSeq (wts m c) (rows m c s)) (vSeq (wts m c) (rows m c s)) h e d n

attribute [local irreducible] outsAt0

/-- The first tile leaves the state after its chunks, -/
theorem state_first (s : Fin 8) (t : Fin cfg0.N) (ht : t.val = 4 * s.val + 0) (h : Fin 4) (e : Fin 256) (d : Fin 128) :
    (outsAt0 m c t.val t.isLt).2.2.2.1 (ix3 h e d) = seqState m c s h e d (8 * 0 + 8) := by
  have h0 : t.val % 4 = 0 := by omega
  have h1 : ¬t.val % 4 = 3 := by omega
  rw [outsAt0_A m c t h0 h1]
  dsimp only
  exact soutA (B := tileBlk m c s 0 (by omega) t ht) (hn := rfl) ..

/-- a later one carries it on, -/
theorem state_next (s : Fin 8) (q : ℕ) (hq : q + 1 < 3) (t : Fin cfg0.N) (ht : t.val = 4 * s.val + (q + 1))
    (hs : ∀ (h : Fin 4) (e : Fin 256) (d : Fin 128),
      (outsAt0 m c (t.val - 1) (Nat.lt_of_le_of_lt (Nat.sub_le _ _) t.isLt)).2.2.2.1 (ix3 h e d) = seqState m c s h e d (8 * (q + 1)))
    (h : Fin 4) (e : Fin 256) (d : Fin 128) :
    (outsAt0 m c t.val t.isLt).2.2.2.1 (ix3 h e d) = seqState m c s h e d (8 * (q + 1) + 8) := by
  have h0 : ¬t.val % 4 = 0 := by omega
  have h1 : ¬t.val % 4 = 3 := by omega
  rw [outsAt0_B m c t h0 h1]
  dsimp only
  exact soutB (B := tileBlk m c s (q + 1) (by omega) t ht) (hs := hs) ..

/-- so that after each tile but the last the scratch holds the sequence's state. -/
theorem state_at (s : Fin 8) : ∀ (q : ℕ) (_ : q < 3) (t : Fin cfg0.N) (_ : t.val = 4 * s.val + q) (h : Fin 4) (e : Fin 256) (d : Fin 128),
    (outsAt0 m c t.val t.isLt).2.2.2.1 (ix3 h e d) = seqState m c s h e d (8 * q + 8)
  | 0, _, t, ht, h, e, d => state_first m c s t ht h e d
  | q + 1, hq, t, ht, h, e, d => state_next m c s q hq t ht
      (fun h e d => state_at s q (by omega) ⟨t.val - 1, Nat.lt_of_le_of_lt (Nat.sub_le _ _) t.isLt⟩ (by show t.val - 1 = 4 * s.val + q; omega) h e d) h e d

/-- The last tile leaves the sequence's final state in the first result -/
theorem out_at (s : Fin 8) (t : Fin cfg0.N) (ht : t.val = 4 * s.val + 3) (h : Fin 4) (d : Fin 128) (e : Fin 256) :
    (outsAt0 m c t.val t.isLt).2.1 (ix5 0 0 h d e) = seqState m c s h e d 32 := by
  have h0 : ¬t.val % 4 = 0 := by omega
  have h1 : t.val % 4 = 3 := by omega
  rw [outsAt0_C m c t h0 h1]
  dsimp only
  exact outC (B := tileBlk m c s 3 (by omega) t ht)
    (hs := fun h e d => state_at m c s 2 (by omega) ⟨t.val - 1, Nat.lt_of_le_of_lt (Nat.sub_le _ _) t.isLt⟩ (by show t.val - 1 = 4 * s.val + 2; omega) h e d) ..

/-- and what the convolution reads of its last two rows in the second. -/
theorem conv_at (s : Fin 8) (t : Fin cfg0.N) (ht : t.val = 4 * s.val + 3) (q : Fin 2) (j : Fin 1024) :
    (outsAt0 m c t.val t.isLt).2.2.1 (ix4 0 0 q j) = uSeq (wts m c) (rows m c s) (2046 + q.val) j := by
  have h0 : ¬t.val % 4 = 0 := by omega
  have h1 : t.val % 4 = 3 := by omega
  rw [outsAt0_C m c t h0 h1]
  dsimp only
  refine (convC (B := tileBlk m c s 3 (by omega) t ht) ..).trans (congrArg (fun r => uSeq (wts m c) (rows m c s) r j) ?_)
  omega

/-- A sequence's state, as the call returns it, -/
theorem G9_apply (s : Fin 8) (h : Fin 4) (d : Fin 128) (e : Fin 256) :
    (G9 m c : FVec Ideal S1x8x4x128x256 .f32) (ix5 0 s h d e) = seqState m c s h e d 32 := by
  have hp : pt9Of (ix5 0 s h d e) = 4 * s.val + 3 := by
    show 4 * (8 * (0 / 1 - 0) + 1 * (s.val / 1 - 0) + 1 * (h.val / 4 - 0) + 1 * (d.val / 128 - 0) + 1 * (e.val / 256 - 0)) + 3 = 4 * s.val + 3
    omega
  have hN : pt9Of (ix5 0 s h d e) < cfg0.N := by rw [hp, show cfg0.N = 32 from N_0]; omega
  unfold G9
  rw [dif_pos hN, ← outsAt0_sweep m c _ hN]
  refine Eq.trans (congrArg (outsAt0 m c (pt9Of (ix5 0 s h d e)) hN).2.1 (funext fun a => Fin.ext ?_)) (out_at m c s ⟨_, hN⟩ hp h d e)
  match a with
  | ⟨0, _⟩ => rfl
  | ⟨1, _⟩ => show s.val % 1 = 0; omega
  | ⟨2, _⟩ => show h.val % 4 = h.val; omega
  | ⟨3, _⟩ => show d.val % 128 = d.val; omega
  | ⟨4, _⟩ => show e.val % 256 = e.val; omega

/-- and its last two rows. -/
theorem G10_apply (s : Fin 8) (q : Fin 2) (j : Fin 1024) :
    (G10 m c : FVec Ideal S1x8x2x1024 .f32) (ix4 0 s q j) = uSeq (wts m c) (rows m c s) (2046 + q.val) j := by
  have hp : pt10Of (ix4 0 s q j) = 4 * s.val + 3 := by
    show 4 * (8 * (0 / 1 - 0) + 1 * (s.val / 1 - 0) + 1 * (q.val / 2 - 0) + 1 * (j.val / 1024 - 0)) + 3 = 4 * s.val + 3
    omega
  have hN : pt10Of (ix4 0 s q j) < cfg0.N := by rw [hp, show cfg0.N = 32 from N_0]; omega
  unfold G10
  rw [dif_pos hN, ← outsAt0_sweep m c _ hN]
  refine Eq.trans (congrArg (outsAt0 m c (pt10Of (ix4 0 s q j)) hN).2.2.1 (funext fun a => Fin.ext ?_)) (conv_at m c s ⟨_, hN⟩ hp q j)
  match a with
  | ⟨0, _⟩ => rfl
  | ⟨1, _⟩ => show s.val % 1 = 0; omega
  | ⟨2, _⟩ => show q.val % 2 = q.val; omega
  | ⟨3, _⟩ => show j.val % 1024 = j.val; omega

end Cert.Proof.Pre

end
-- ==== Proof.PreRow.lean ====
/-
  The layer's rows: what the attention and the convolution give a row of a sequence, and the steps of one tile that compute it.
-/
module

public import proofs.«01_k».proof.Proof.PreTile

@[expose] public section

noncomputable section

namespace Cert.Proof.Pre

open Cert.Kernel2Ideal Cert.Kernel2Ideal.Gen
open Idealize.ShloMosaic Idealize.ShloMosaic.ValueIdx Idealize.ShloMosaic.TcCoe
open scoped BigOperators

/-! ## A row of the result -/

/-- The weights of the output: the heads' norm's, the convolution's and the projection's. -/
structure Outs where
  gn : Fin 256 → EReal
  ws : Fin 3 → Fin 1024 → EReal
  wo : Fin 2048 → Fin 1024 → EReal

/-- A number times its sigmoid. -/
def sil (z : EReal) : EReal := Ideal.div z (1 + Ideal.exp (-z))

/-- It is also the number times the sigmoid by itself. -/
theorem sil_eq (z : EReal) : z * Ideal.div 1 (1 + Ideal.exp (-z)) = sil z := by
  have hne : 1 + Ideal.exp (-z) ≠ 0 := fun h => by
    have h1 : (1 : EReal) ≤ 1 + Ideal.exp (-z) := le_add_of_nonneg_right (exp_nonneg _)
    rw [h] at h1
    exact absurd h1 (not_le.mpr zero_lt_one)
  unfold sil Ideal.div
  rw [if_neg hne, if_neg hne, one_mul]

/-- A head's row scaled by its root mean square and the weight. -/
def headNorm (o g : Fin 256 → EReal) (e : Fin 256) : EReal :=
  o e * Ideal.rsqrt (Ideal.div (∑ j : Fin 256, o j * o j) (Ideal.ofBits .f32 0x43800000#32) + Ideal.ofBits .f32 0x358637BD#32) * g e

section Row
variable (W : Wts) (X : ℕ → Fin 1024 → EReal) (O : Outs)

/-- A row's scaled query, -/
def qSeq (r : ℕ) (c : Fin 512) : EReal := dotRow (hSeq W X r) (W.w ⟨c.val, by omega⟩) * Ideal.ofBits .f32 0x3DB504F3#32
/-- its output gate, -/
def gSeq (r : ℕ) (c : Fin 1024) : EReal := dotRow (hSeq W X r) (W.w ⟨2048 + c.val, by omega⟩)
/-- and the convolution's two gates. -/
def bSeq (r : ℕ) (c : Fin 1024) : EReal := dotRow (hSeq W X r) (W.w ⟨4112 + c.val, by omega⟩)
def zSeq (r : ℕ) (c : Fin 1024) : EReal := dotRow (hSeq W X r) (W.w ⟨6160 + c.val, by omega⟩)

/-- A query scaled by the decay up to its row, -/
def qeAt (n : ℕ) (l : Fin 64) (c : Fin 512) : EReal := qSeq W X (64 * n + l.val) c * Ideal.exp (cumAt (aSeq W X) n l c)
/-- a key by its inverse, -/
def keAt (n : ℕ) (l : Fin 64) (c : Fin 512) : EReal := kSeq W X (64 * n + l.val) c * Ideal.exp (-cumAt (aSeq W X) n l c)
/-- and their product over a head, for the rows not after the query's. -/
def scAt (n : ℕ) (h : Fin 4) (l m : Fin 64) : EReal :=
  if m.val ≤ l.val then ∑ d : Fin 128, qeAt W X n l ⟨128 * h.val + d.val, by omega⟩ * keAt W X n m ⟨128 * h.val + d.val, by omega⟩ else 0
/-- A head's output: over its own chunk, and from the state before it. -/
def oAt (n : ℕ) (h : Fin 4) (l : Fin 64) (e : Fin 256) : EReal :=
  ∑ m : Fin 64, scAt W X n h l m * vSeq W X (64 * n + m.val) ⟨256 * h.val + e.val, by omega⟩
    + ∑ d : Fin 128, qeAt W X n l ⟨128 * h.val + d.val, by omega⟩ * stAt (aSeq W X) (kSeq W X) (vSeq W X) h e d n
/-- The heads' normed outputs in a row. -/
def mixAt (n : ℕ) (l : Fin 64) (h : Fin 4) (e : Fin 256) : EReal := headNorm (fun j => oAt W X n h l j) O.gn e
/-- The products of the row two before, with zeros in front of the sequence, -/
def uPad (k : ℕ) (c : Fin 1024) : EReal := if 2 ≤ k then uSeq W X (k - 2) c else 0
/-- and the convolution's output. -/
def ySeq (r : ℕ) (c : Fin 1024) : EReal :=
  bSeq W X r c * (O.ws 2 c * uSeq W X r c + O.ws 1 c * uPad W X (r + 1) c + O.ws 0 c * uPad W X r c) * sil (zSeq W X r c)
/-- A row of the result. -/
def xOut (n : ℕ) (l : Fin 64) (c : Fin 1024) : EReal :=
  X (64 * n + l.val) c + (∑ k : Fin 1024, mixAt W X O n l ⟨k.val / 256, by omega⟩ ⟨k.val % 256, Nat.mod_lt _ (by decide)⟩ * sil (gSeq W X (64 * n + l.val) k) * O.wo ⟨k.val, by omega⟩ c
    + ∑ k : Fin 1024, ySeq W X O (64 * n + l.val) k * O.wo ⟨1024 + k.val, by omega⟩ c)
end Row

/-! ## The scaled queries and keys of a tile -/

/-- Half of a tile's rows, scaled by the exponential of the sums `b`. -/
def scBlock (z : FVec Ideal S512x512 .f32) (o : ℕ) (hs : S512x512.Slices ![o, 0] S256x512) (b : FVec Ideal S256x512 .f32) : FVec Ideal S256x512 .bf16 :=
  shapeCast S256x512 (truncf .bf16 (mulf (extractStridedSlice S256x512 ![o, 0] z hs) (exp b)) bitsLt_bf16_f32) shapeCasts_S256x512_S256x512

/-- Its entries. -/
theorem scBlock_apply (z : FVec Ideal S512x512 .f32) (o : ℕ) (ho : o ≤ 256) (hs : S512x512.Slices ![o, 0] S256x512) (b : FVec Ideal S256x512 .f32)
    (zz : ℕ → Fin 512 → EReal) (n0 : ℕ) (hz : ∀ (m : Fin 256) (c : Fin 512), z (ix2 ⟨o + m.val, by omega⟩ c) = zz (64 * n0 + m.val) c)
    (B : ℕ → Fin 64 → Fin 512 → EReal) (hb : ∀ (p : Fin 4) (l : Fin 64) (c : Fin 512), b (ix2 ⟨64 * p.val + l.val, by omega⟩ c) = B (n0 + p.val) l c)
    (p : Fin 4) (l : Fin 64) (c : Fin 512) :
    scBlock z o hs b (ix2 ⟨64 * p.val + l.val, by omega⟩ c) = zz (64 * (n0 + p.val) + l.val) c * Ideal.exp (B (n0 + p.val) l c) := by
  unfold scBlock
  rw [shapeCast_apply _ _ _ (ix2 ⟨64 * p.val + l.val, by omega⟩ c) rfl]
  refine congrArg₂ (· * ·) ?_ (congrArg Ideal.exp (hb p l c))
  refine (extractStridedSlice_apply _ _ _ _ (ix2 ⟨o + (64 * p.val + l.val), by omega⟩ c)
    (by intro b; match b with | ⟨0, _⟩ => rfl | ⟨1, _⟩ => exact (Nat.zero_add _).symm)).trans ?_
  refine (hz ⟨64 * p.val + l.val, by omega⟩ c).trans ?_
  exact congrArg (zz · c) (by show 64 * n0 + (64 * p.val + l.val) = _; ring)

/-- Zeros less a block of sums. -/
def negBlock (b : FVec Ideal S256x512 .f32) : FVec Ideal S256x512 .f32 := subf (broadcast S256x512 (Scalar.ofBits .f32 0x00000000#32)) b

/-- Their entries are the negatives. -/
theorem negBlock_apply (b : FVec Ideal S256x512 .f32) (i : S256x512.Idx) : negBlock b i = -b i :=
  (congrArg (fun y : EReal => y - b i) Ideal.ofBits_zero_f32).trans (zero_sub _)

section Lists
variable (rx : FVec Ideal S1x512x1024 .f32) (rg : FVec Ideal S1x1024 .f32) (wq wk : FVec Ideal S512x1024 .bf16)
  (wa : FVec Ideal S128x1024 .bf16) (wu : FVec Ideal S128x512 .bf16) (rb : FVec Ideal S1x512 .f32)

/-- The writes of the scaled queries -/
def lstQ : List (View.Piece (Elt Ideal) S512x512 .bf16) :=
  [⟨Rect.unit (s := S512x512) ![256, 0] S256x512.size inb_S512x512_S256x512_256_0, scBlock (k0_pay10 (F := Ideal) rx rg wq) 256 slices_S512x512_o256_0_S256x512 (sums1 rx rg wa wu rb)⟩,
    ⟨Rect.unit (s := S512x512) ![0, 0] S256x512.size inb_S512x512_S256x512_0_0, scBlock (k0_pay10 (F := Ideal) rx rg wq) 0 slices_S512x512_o0_0_S256x512 (sums0 rx rg wa wu rb)⟩]
/-- and keys. -/
def lstE : List (View.Piece (Elt Ideal) S512x512 .bf16) :=
  [⟨Rect.unit (s := S512x512) ![256, 0] S256x512.size inb_S512x512_S256x512_256_0, scBlock (k0_pay11 (F := Ideal) rx rg wk) 256 slices_S512x512_o256_0_S256x512 (negBlock (sums1 rx rg wa wu rb))⟩,
    ⟨Rect.unit (s := S512x512) ![0, 0] S256x512.size inb_S512x512_S256x512_0_0, scBlock (k0_pay11 (F := Ideal) rx rg wk) 0 slices_S512x512_o0_0_S256x512 (negBlock (sums0 rx rg wa wu rb))⟩]

variable {rx rg wq wk wa wu rb}
variable {wv : FVec Ideal S1024x1024 .bf16} {W : Wts} {X : ℕ → Fin 1024 → EReal} {n0 : ℕ} (H : TileIn rx rg wk wv wa wu rb W X n0)
include H

/-- The tile's queries. -/
theorem tile_q (hq : ∀ (j : Fin 512) (k : Fin 1024), wq (ix2 j k) = W.w ⟨j.val, by omega⟩ k) (r c : Fin 512) : k0_pay10 (F := Ideal) rx rg wq (ix2 r c) = qSeq W X (64 * n0 + r.val) c :=
  congrArg (· * Ideal.ofBits .f32 0x3DB504F3#32) ((mm512_apply (k0_pay9 (F := Ideal) rx rg) r wq c).trans (congrArg₂ dotRow (tile_h H.x H.g r) (funext fun k => hq c k)))

/-- The scaled queries, read back, -/
theorem lstQ_read (hq : ∀ (j : Fin 512) (k : Fin 1024), wq (ix2 j k) = W.w ⟨j.val, by omega⟩ k) (M : Memref sig .tc .vmem S512x512 .bf16) (n : Fin 8) (l : Fin 64) (c : Fin 512) :
    M.view.read (Elt Ideal) (M.view.writes (Elt Ideal) M.view.junk (lstQ rx rg wq wa wu rb)) (ix2 ⟨64 * n.val + l.val, by omega⟩ c) = qeAt W X (n0 + n.val) l c :=
  halves_read M.view M.view.junk _ _ (fun n l c => qeAt W X n l c) n0
    (scBlock_apply _ 0 (by decide) _ _ (qSeq W X) n0 (fun m c => (tile_q H hq _ c).trans (congrArg (qSeq W X · c) (by show 64 * n0 + (0 + m.val) = _; omega)))
      (fun n l c => cumAt (aSeq W X) n l c) (sums0_apply H))
    (scBlock_apply _ 256 (by decide) _ _ (qSeq W X) (n0 + 4) (fun m c => (tile_q H hq _ c).trans (congrArg (qSeq W X · c) (by show 64 * n0 + (256 + m.val) = _; omega)))
      (fun n l c => cumAt (aSeq W X) n l c) (sums1_apply H)) n l c

/-- and the scaled keys. -/
theorem lstE_read (M : Memref sig .tc .vmem S512x512 .bf16) (n : Fin 8) (l : Fin 64) (c : Fin 512) :
    M.view.read (Elt Ideal) (M.view.writes (Elt Ideal) M.view.junk (lstE rx rg wk wa wu rb)) (ix2 ⟨64 * n.val + l.val, by omega⟩ c) = keAt W X (n0 + n.val) l c :=
  halves_read M.view M.view.junk _ _ (fun n l c => keAt W X n l c) n0
    (scBlock_apply _ 0 (by decide) _ _ (kSeq W X) n0 (fun m c => (tile_k H _ c).trans (congrArg (kSeq W X · c) (by show 64 * n0 + (0 + m.val) = _; omega)))
      (fun n l c => -cumAt (aSeq W X) n l c) (fun p l c => (negBlock_apply _ _).trans (congrArg (fun y : EReal => -y) (sums0_apply H p l c))))
    (scBlock_apply _ 256 (by decide) _ _ (kSeq W X) (n0 + 4) (fun m c => (tile_k H _ c).trans (congrArg (kSeq W X · c) (by show 64 * n0 + (256 + m.val) = _; omega)))
      (fun n l c => -cumAt (aSeq W X) n l c) (fun p l c => (negBlock_apply _ _).trans (congrArg (fun y : EReal => -y) (sums1_apply H p l c)))) n l c
end Lists

/-! ## One chunk's output -/

/-- A sum over four chunks of which only one chunk's rows up to `i` count. -/
theorem sum_pick (f S : Fin 256 → EReal) (p : Fin 4) (i : Fin 64) :
    ∑ m : Fin 256, (if m.val / 64 = p.val ∧ m.val ≤ 64 * p.val + i.val then S m else 0) * f m
      = ∑ j : Fin 64, (if j.val ≤ i.val then S ⟨64 * p.val + j.val, by omega⟩ else 0) * f ⟨64 * p.val + j.val, by omega⟩ := by
  have h1 : ∀ m : Fin 256, (if m.val / 64 = p.val ∧ m.val ≤ 64 * p.val + i.val then S m else 0) * f m
      = (if m.val / 64 = p.val ∧ m.val ≤ 64 * p.val + i.val then 1 else 0) * (S m * f m) := fun m => by split <;> simp
  have h2 : ∀ j : Fin 64, (if j.val ≤ i.val then S ⟨64 * p.val + j.val, by omega⟩ else 0) * f ⟨64 * p.val + j.val, by omega⟩
      = if j.val ≤ i.val then S ⟨64 * p.val + j.val, by omega⟩ * f ⟨64 * p.val + j.val, by omega⟩ else 0 := fun j => by split <;> simp
  rw [Finset.sum_congr rfl fun m _ => h1 m, Finset.sum_congr rfl fun j _ => h2 j]
  exact sum_chunk (fun m => S m * f m) p i _ fun _ => rfl

/-- The part of four chunks' outputs that stays within a chunk. -/
theorem pay55_apply (q k : FVec Ideal S256x128 .bf16) (v : FVec Ideal S256x256 .bf16) (p : Fin 4) (l : Fin 64) (e : Fin 256) :
    k0_pay55 (F := Ideal) k0_pay27 q k v (ix2 ⟨64 * p.val + l.val, by omega⟩ e)
      = ∑ m : Fin 64, (if m.val ≤ l.val then ∑ d : Fin 128, q (ix2 ⟨64 * p.val + l.val, by omega⟩ d) * k (ix2 ⟨64 * p.val + m.val, by omega⟩ d) else 0)
          * v (ix2 ⟨64 * p.val + m.val, by omega⟩ e) := by
  rw [← sum_pick (fun m => v (ix2 m e)) (fun m => ∑ d : Fin 128, q (ix2 ⟨64 * p.val + l.val, by omega⟩ d) * k (ix2 m d)) p l]
  refine mm _ 256 rfl rfl _ _ _ _ _ _ (fun m i hi => ?_) (fun m i hi => congrArg v (funext fun b => Fin.ext (match b with | ⟨0, _⟩ => hi | ⟨1, _⟩ => rfl)))
  have hl : DotDims.lhsIdx dot_S256x256_S256x256_S256x256_1_0_0_1_n_n (ix2 ⟨64 * p.val + l.val, by omega⟩ e) i = ix2 ⟨64 * p.val + l.val, by omega⟩ m :=
    funext fun b => Fin.ext (match b with | ⟨0, _⟩ => rfl | ⟨1, _⟩ => hi)
  rw [hl]
  have hs : FloatOps.matmul dot_S256x128_S256x128_S256x256_1_1_0_0_n_n none q k (constant S256x256 .f32 0x00000000#32) (ix2 ⟨64 * p.val + l.val, by omega⟩ m)
      = ∑ d : Fin 128, q (ix2 ⟨64 * p.val + l.val, by omega⟩ d) * k (ix2 m d) :=
    mm _ 128 rfl rfl _ _ _ _ _ _ (fun d i hi => congrArg q (funext fun b => Fin.ext (match b with | ⟨0, _⟩ => rfl | ⟨1, _⟩ => hi)))
      (fun d i hi => congrArg k (funext fun b => Fin.ext (match b with | ⟨0, _⟩ => rfl | ⟨1, _⟩ => hi)))
  rw [← hs]
  refine Eq.trans (b := Scalar.select (k0_pay27 (ix2 ⟨64 * p.val + l.val, by omega⟩ m)) (FloatOps.matmul dot_S256x128_S256x128_S256x256_1_1_0_0_n_n none q k (constant S256x256 .f32 0x00000000#32) (ix2 ⟨64 * p.val + l.val, by omega⟩ m)) (Ideal.ofBits .f32 0x00000000#32)) rfl ?_
  rw [pay27_apply, Ideal.ofBits_zero_f32]
  have hc : (m.val / 64 = (64 * p.val + l.val) / 64 ∧ m.val ≤ 64 * p.val + l.val) ↔ (m.val / 64 = p.val ∧ m.val ≤ 64 * p.val + l.val) := by
    rw [show (64 * p.val + l.val) / 64 = p.val by omega]
  by_cases h : m.val / 64 = p.val ∧ m.val ≤ 64 * p.val + l.val
  · rw [if_pos h, if_pos (hc.mpr h)]; rfl
  · rw [if_neg h, if_neg (fun h' => h (hc.mp h'))]; rfl

/-- A chunk's output: its rows of the part within chunks, and its queries times the state. -/
def headOut (w : FVec Ideal S256x256 .f32) (o : ℕ) (hs : S256x256.Slices ![o, 0] S64x256) (q : FVec Ideal S64x128 .bf16) (st : FVec Ideal S256x128 .f32) : FVec Ideal S64x256 .f32 :=
  addf (extractStridedSlice S64x256 ![o, 0] w hs)
    (matmul dot_S64x128_S256x128_S64x256_1_1_0_0_n_n none q (truncf .bf16 st bitsLt_bf16_f32) (constant S64x256 .f32 0x00000000#32))

theorem headOut_apply (w : FVec Ideal S256x256 .f32) (o : ℕ) (ho : o + 64 ≤ 256) (hs : S256x256.Slices ![o, 0] S64x256) (q : FVec Ideal S64x128 .bf16) (st : FVec Ideal S256x128 .f32)
    (l : Fin 64) (e : Fin 256) : headOut w o hs q st (ix2 l e) = w (ix2 ⟨o + l.val, by omega⟩ e) + ∑ d : Fin 128, q (ix2 l d) * st (ix2 e d) := by
  refine congrArg₂ (· + ·) ?_ ?_
  · exact extractStridedSlice_apply _ _ _ _ (ix2 ⟨o + l.val, by omega⟩ e) (by intro b; match b with | ⟨0, _⟩ => rfl | ⟨1, _⟩ => exact (Nat.zero_add _).symm)
  · exact mm _ 128 rfl rfl _ _ _ _ _ _ (fun d i hi => congrArg q (funext fun b => Fin.ext (match b with | ⟨0, _⟩ => rfl | ⟨1, _⟩ => hi)))
      (fun d i hi => congrArg st (funext fun b => Fin.ext (match b with | ⟨0, _⟩ => rfl | ⟨1, _⟩ => hi)))

/-- The output normed, as it is stored. -/
def normBlock (o : FVec Ideal S64x256 .f32) (g : FVec Ideal S1x256 .f32) : FVec Ideal S64x256 .f32 :=
  shapeCast S64x256 (mulf (mulf o (broadcastTo S64x256 (rsqrt (addf (divf (shapeCast S64x1 (multiReduction .add [1] S64 (mulf o o) 0x00000000#32 reduces_S64x256_S64 (.inl rfl) rfl) shapeCasts_S64_S64x1)
    (broadcast S64x1 (Scalar.ofBits .f32 0x43800000#32))) (broadcast S64x1 (Scalar.ofBits .f32 0x358637BD#32)))) broadcasts_S64x1_S64x256))
    (broadcastTo S64x256 (k0_pay53 (F := Ideal) g) broadcasts_S1x256_S64x256)) shapeCasts_S64x256_S64x256

theorem normBlock_apply (o : FVec Ideal S64x256 .f32) (g : FVec Ideal S1x256 .f32) (l : Fin 64) (e : Fin 256) :
    normBlock o g (ix2 l e) = headNorm (fun j => o (ix2 l j)) (fun j => g (ix2 0 j)) e := by
  have hs : multiReduction .add [1] S64 (mulf o o) 0x00000000#32 reduces_S64x256_S64 (.inl rfl) rfl (ix1 l) = ∑ j : Fin 256, o (ix2 l j) * o (ix2 l j) := by
    refine (Ideal.multiReduction_add_single _ _ _ _ _ _).trans (Finset.sum_congr rfl fun d _ => ?_)
    have e1 : (reduces_S64x256_S64).lift (ix1 l) d = ix2 l d := by
      funext b; apply Fin.ext
      match b with | ⟨0, _⟩ => rfl | ⟨1, _⟩ => rfl
    rw [e1]
    rfl
  unfold normBlock headNorm
  rw [shapeCast_apply _ _ _ (ix2 l e) rfl]
  refine congrArg₂ (· * ·) (congrArg (o (ix2 l e) * ·) ?_) ?_
  · refine (broadcastTo_apply _ _ _ (ix2 l 0) (by intro b; match b with | ⟨0, _⟩ => rfl | ⟨1, _⟩ => rfl)).trans ?_
    refine congrArg Ideal.rsqrt (congrArg (· + Ideal.ofBits .f32 0x358637BD#32) (congrArg (Ideal.div · (Ideal.ofBits .f32 0x43800000#32)) ?_))
    exact (shapeCast_apply _ _ _ (ix1 l) (by
      rw [Shape.rowMajor_val_one, Shape.rowMajor_val_two]; show l.val = l.val * 1 + 0; omega)).trans hs
  · refine (broadcastTo_apply _ _ _ (ix2 0 e) (by intro b; match b with | ⟨0, _⟩ => rfl | ⟨1, _⟩ => rfl)).trans ?_
    exact shapeCast_apply _ _ _ (ix2 0 e) rfl

/-! ## A tile's 32 outputs -/

/-- Four chunks' queries or keys of a head lie inside their buffer, -/
theorem inbK2 (b : Fin 2) (h : Fin 4) : ∀ a, ![256 * b.val, 128 * h.val] a + S256x128.size a ≤ S512x512.size a := fun a =>
  match a with
  | ⟨0, _⟩ => by show 256 * b.val + 256 ≤ 512; omega
  | ⟨1, _⟩ => by show 128 * h.val + 128 ≤ 512; omega
/-- so do their values; -/
theorem inbV2 (b : Fin 2) (h : Fin 4) : ∀ a, ![256 * b.val, 256 * h.val] a + S256x256.size a ≤ S512x1024.size a := fun a =>
  match a with
  | ⟨0, _⟩ => by show 256 * b.val + 256 ≤ 512; omega
  | ⟨1, _⟩ => by show 256 * h.val + 256 ≤ 1024; omega
/-- a chunk's rows lie inside its four chunks'. -/
theorem slices_chunk (p : Fin 4) : S256x256.Slices ![64 * p.val, 0] S64x256 :=
  ⟨rfl, fun a => match a with
    | 0 => by show 64 * p.val + 64 ≤ 256; omega
    | 1 => (by decide : 0 + 256 ≤ 256)⟩

section Mix
variable (Mq Me Mk : Memref sig .tc .vmem S512x512 .bf16) (Mv : Memref sig .tc .vmem S512x1024 .bf16) (Md : Memref sig .tc .vmem S512x512 .f32)
  (Lq Le Lk : List (View.Piece (Elt Ideal) S512x512 .bf16)) (Lv : List (View.Piece (Elt Ideal) S512x1024 .bf16)) (Ld : List (View.Piece (Elt Ideal) S512x512 .f32))

/-- The loads of four chunks' queries or keys, and of their values. -/
def ldK2 (M : Memref sig .tc .vmem S512x512 .bf16) (L : List (View.Piece (Elt Ideal) S512x512 .bf16)) (b : Fin 2) (h : Fin 4) : FVec Ideal S256x128 .bf16 :=
  M.view.readCov L (Rect.unit (s := S512x512) ![256 * b.val, 128 * h.val] S256x128.size (inbK2 b h)).toLoadRect
def ldV2 (b : Fin 2) (h : Fin 4) : FVec Ideal S256x256 .bf16 :=
  Mv.view.readCov Lv (Rect.unit (s := S512x1024) ![256 * b.val, 256 * h.val] S256x256.size (inbV2 b h)).toLoadRect

/-- A head's state after some of the tile's chunks. -/
def stIt (h : Fin 4) (s0 : FVec Ideal S1x256x128 .f32) : ℕ → FVec Ideal S256x128 .f32
  | 0 => shapeCast S256x128 s0 shapeCasts_S1x256x128_S256x128
  | n + 1 => ldStep Mk Mv Md Lk Lv Ld h ⟨n % 8, Nat.mod_lt _ (by decide)⟩ (stIt h s0 n)

/-- A chunk's output of a head. -/
def mixOf (S0 : Fin 4 → FVec Ideal S1x256x128 .f32) (g : FVec Ideal S1x256 .f32) (h : Fin 4) (n : Fin 8) : FVec Ideal S64x256 .f32 :=
  normBlock (headOut (k0_pay55 (F := Ideal) k0_pay27 (ldK2 Mq Lq ⟨n.val / 4, by omega⟩ h) (ldK2 Me Le ⟨n.val / 4, by omega⟩ h) (ldV2 Mv Lv ⟨n.val / 4, by omega⟩ h))
    (64 * (⟨n.val % 4, Nat.mod_lt _ (by decide)⟩ : Fin 4).val) (slices_chunk ⟨n.val % 4, Nat.mod_lt _ (by decide)⟩) (ldK Mq Lq n h) (stIt Mk Mv Md Lk Lv Ld h (S0 h) n.val)) g

variable {Mq Me Mk Mv Md Lq Le Lk Lv Ld}
variable {W : Wts} {X : ℕ → Fin 1024 → EReal} {n0 : ℕ} (H : TileHeld Mk Mv Md Lk Lv Ld (aSeq W X) (kSeq W X) (vSeq W X) n0)

/-- A load of four chunks reads the buffer. -/
theorem ldK2_apply (M : Memref sig .tc .vmem S512x512 .bf16) (L : List (View.Piece (Elt Ideal) S512x512 .bf16)) (G : ℕ → Fin 64 → Fin 512 → EReal)
    (hG : ∀ (n : Fin 8) (l : Fin 64) (c : Fin 512), M.view.read (Elt Ideal) (M.view.writes (Elt Ideal) M.view.junk L) (ix2 ⟨64 * n.val + l.val, by omega⟩ c) = G (n0 + n.val) l c)
    (n : Fin 8) (h : Fin 4) (l : Fin 64) (d : Fin 128) :
    ldK2 M L ⟨n.val / 4, by omega⟩ h (ix2 ⟨64 * (n.val % 4) + l.val, by omega⟩ d) = G (n0 + n.val) l ⟨128 * h.val + d.val, by omega⟩ := by
  refine Eq.trans (congrArg (M.view.read (Elt Ideal) (M.view.writes (Elt Ideal) M.view.junk L)) (funext fun b => Fin.ext ?_)) (hG n l ⟨128 * h.val + d.val, by omega⟩)
  match b with
  | ⟨0, _⟩ => show 256 * (n.val / 4) + 1 * (64 * (n.val % 4) + l.val) = 64 * n.val + l.val; omega
  | ⟨1, _⟩ => show 128 * h.val + 1 * d.val = 128 * h.val + d.val; omega

include H

/-- The iterated state is the recurrence's. -/
theorem stIt_apply (h : Fin 4) (s0 : FVec Ideal S1x256x128 .f32) (e : Fin 256) (j : Fin 128) (hs : s0 (ix3 0 e j) = stAt (aSeq W X) (kSeq W X) (vSeq W X) h e j n0) (n : ℕ) (hn : n ≤ 8) :
    stIt Mk Mv Md Lk Lv Ld h s0 n (ix2 e j) = stAt (aSeq W X) (kSeq W X) (vSeq W X) h e j (n0 + n) := by
  induction n with
  | zero =>
    refine (shapeCast_apply _ _ _ (ix3 0 e j) ?_).trans hs
    rw [Shape.rowMajor_val_three, Shape.rowMajor_val_two]
    show (0 * 256 + e.val) * 128 + j.val = e.val * 128 + j.val
    omega
  | succ n ih => exact ldStep_apply H h _ _ e j (n0 + n) _ (by show n0 + n = n0 + n % 8; omega) rfl (ih (by omega))

/-- A chunk's stored output is the layer's. -/
theorem mixOf_apply (O : Outs) (S0 : Fin 4 → FVec Ideal S1x256x128 .f32) (g : FVec Ideal S1x256 .f32) (hg : ∀ e : Fin 256, g (ix2 0 e) = O.gn e)
    (hs : ∀ (h : Fin 4) (e : Fin 256) (j : Fin 128), S0 h (ix3 0 e j) = stAt (aSeq W X) (kSeq W X) (vSeq W X) h e j n0)
    (hq : ∀ (n : Fin 8) (l : Fin 64) (c : Fin 512), Mq.view.read (Elt Ideal) (Mq.view.writes (Elt Ideal) Mq.view.junk Lq) (ix2 ⟨64 * n.val + l.val, by omega⟩ c) = qeAt W X (n0 + n.val) l c)
    (he : ∀ (n : Fin 8) (l : Fin 64) (c : Fin 512), Me.view.read (Elt Ideal) (Me.view.writes (Elt Ideal) Me.view.junk Le) (ix2 ⟨64 * n.val + l.val, by omega⟩ c) = keAt W X (n0 + n.val) l c)
    (h : Fin 4) (n : Fin 8) (l : Fin 64) (e : Fin 256) :
    mixOf Mq Me Mk Mv Md Lq Le Lk Lv Ld S0 g h n (ix2 l e) = mixAt W X O (n0 + n.val) l h e := by
  have hv : ∀ (m : Fin 64) (e : Fin 256), ldV2 Mv Lv ⟨n.val / 4, by omega⟩ h (ix2 ⟨64 * (n.val % 4) + m.val, by omega⟩ e) = vSeq W X (64 * (n0 + n.val) + m.val) ⟨256 * h.val + e.val, by omega⟩ := by
    intro m e
    refine Eq.trans (congrArg (Mv.view.read (Elt Ideal) (Mv.view.writes (Elt Ideal) Mv.view.junk Lv)) (funext fun b => Fin.ext ?_)) (H.v n m ⟨256 * h.val + e.val, by omega⟩)
    match b with
    | ⟨0, _⟩ => show 256 * (n.val / 4) + 1 * (64 * (n.val % 4) + m.val) = 64 * n.val + m.val; omega
    | ⟨1, _⟩ => show 256 * h.val + 1 * e.val = 256 * h.val + e.val; omega
  have ho : ∀ j : Fin 256, headOut (k0_pay55 (F := Ideal) k0_pay27 (ldK2 Mq Lq ⟨n.val / 4, by omega⟩ h) (ldK2 Me Le ⟨n.val / 4, by omega⟩ h) (ldV2 Mv Lv ⟨n.val / 4, by omega⟩ h))
      (64 * (⟨n.val % 4, Nat.mod_lt _ (by decide)⟩ : Fin 4).val) (slices_chunk ⟨n.val % 4, Nat.mod_lt _ (by decide)⟩) (ldK Mq Lq n h) (stIt Mk Mv Md Lk Lv Ld h (S0 h) n.val) (ix2 l j)
      = oAt W X (n0 + n.val) h l j := by
    intro j
    refine (headOut_apply _ _ (by show 64 * (n.val % 4) + 64 ≤ 256; omega) _ _ _ l j).trans ?_
    refine congrArg₂ (· + ·) ((pay55_apply _ _ _ ⟨n.val % 4, Nat.mod_lt _ (by decide)⟩ l j).trans ?_) (Finset.sum_congr rfl fun d _ => congrArg₂ (· * ·) ?_ ?_)
    · refine Finset.sum_congr rfl fun m _ => congrArg₂ (· * ·) ?_ (hv m j)
      unfold scAt
      by_cases hm : m.val ≤ l.val
      · rw [if_pos hm, if_pos hm]
        exact Finset.sum_congr rfl fun d _ => congrArg₂ (· * ·) (ldK2_apply Mq Lq (fun n l c => qeAt W X n l c) hq n h l d) (ldK2_apply Me Le (fun n l c => keAt W X n l c) he n h m d)
      · rw [if_neg hm, if_neg hm]
    · refine Eq.trans (congrArg (Mq.view.read (Elt Ideal) (Mq.view.writes (Elt Ideal) Mq.view.junk Lq)) (funext fun b => Fin.ext ?_)) (hq n l ⟨128 * h.val + d.val, by omega⟩)
      match b with
      | ⟨0, _⟩ => show 64 * n.val + 1 * l.val = 64 * n.val + l.val; omega
      | ⟨1, _⟩ => show 128 * h.val + 1 * d.val = 128 * h.val + d.val; omega
    · exact stIt_apply H h (S0 h) j d (hs h j d) n.val (by omega)
  unfold mixOf mixAt
  rw [normBlock_apply, show (fun e => g (ix2 0 e)) = O.gn from funext hg]
  exact congrArg (headNorm · O.gn e) (funext ho)
end Mix

/-- The writes of the first `i` outputs, head by head. -/
def mixList (P : Fin 4 → Fin 8 → FVec Ideal S64x256 .f32) : (i : ℕ) → List (View.Piece (Elt Ideal) S512x1024 .f32)
  | 0 => []
  | i + 1 => ⟨Rect.unit (s := S512x1024) ![64 * (⟨i % 8, Nat.mod_lt _ (by decide)⟩ : Fin 8).val, 256 * (⟨i / 8 % 4, Nat.mod_lt _ (by decide)⟩ : Fin 4).val] S64x256.size
      (inbV ⟨i % 8, Nat.mod_lt _ (by decide)⟩ ⟨i / 8 % 4, Nat.mod_lt _ (by decide)⟩), P ⟨i / 8 % 4, Nat.mod_lt _ (by decide)⟩ ⟨i % 8, Nat.mod_lt _ (by decide)⟩⟩ :: mixList P i

/-- They read back. -/
theorem mixList_read (P : Fin 4 → Fin 8 → FVec Ideal S64x256 .f32) (v : View sig .tc .vmem S512x1024 .f32) (f : v.ty.Contents (Elt Ideal)) (i : ℕ) (hi : i ≤ 32)
    (h : Fin 4) (n : Fin 8) (hh : 8 * h.val + n.val < i) (l : Fin 64) (e : Fin 256) :
    v.read (Elt Ideal) (v.writes (Elt Ideal) f (mixList P i)) (ix2 ⟨64 * n.val + l.val, by omega⟩ ⟨256 * h.val + e.val, by omega⟩) = P h n (ix2 l e) := by
  induction i with
  | zero => exact absurd hh (Nat.not_lt_zero _)
  | succ i ih =>
    by_cases hc : 8 * h.val + n.val = i
    · have h1 : (⟨i / 8 % 4, Nat.mod_lt _ (by decide)⟩ : Fin 4) = h := Fin.ext (by show i / 8 % 4 = h.val; omega)
      have h2 : (⟨i % 8, Nat.mod_lt _ (by decide)⟩ : Fin 8) = n := Fin.ext (by show i % 8 = n.val; omega)
      refine (View.read_writes_cons_unit_of_mem v f _ _ _ _ (ix2 l e) rfl ?_).trans ?_
      · intro b
        match b with
        | ⟨0, _⟩ => show 64 * n.val + l.val = 64 * (i % 8) + l.val; omega
        | ⟨1, _⟩ => show 256 * h.val + e.val = 256 * (i / 8 % 4) + e.val; omega
      · rw [h1, h2]
    · by_cases h3 : h.val < i / 8
      · refine (View.read_writes_cons_unit_of_not_mem v f _ _ _ _ rfl (1 : Fin 2) (Or.inl ?_)).trans (ih (by omega) (by omega))
        show 256 * h.val + e.val < 256 * (i / 8 % 4)
        omega
      · refine (View.read_writes_cons_unit_of_not_mem v f _ _ _ _ rfl (0 : Fin 2) (Or.inl ?_)).trans (ih (by omega) (by omega))
        show 64 * n.val + l.val < 64 * (i % 8)
        omega

/-! ## The convolution and the projection -/

/-- The convolution's gated output of a block of columns. -/
def yBlock (h : FVec Ideal S512x1024 .bf16) (u : FVec Ideal S512x256 .f32) (w2 w1 w0 : FVec Ideal S1x256 .f32) (u7 u6 : FVec Ideal S512x256 .f32) (wb wz : FVec Ideal S256x1024 .bf16) :
    FVec Ideal S512x256 .bf16 :=
  shapeCast S512x256 (truncf .bf16 (mulf (mulf
      (matmul dot_S512x1024_S256x1024_S512x256_1_1_0_0_n_n none h (shapeCast S256x1024 wb shapeCasts_S256x1024_S256x1024) (constant S512x256 .f32 0x00000000#32))
      (addf (addf (mulf (broadcastTo S512x256 (shapeCast S1x256 w2 shapeCasts_S1x256_S1x256) broadcasts_S1x256_S512x256) u)
        (mulf (broadcastTo S512x256 (shapeCast S1x256 w1 shapeCasts_S1x256_S1x256) broadcasts_S1x256_S512x256) u7))
        (mulf (broadcastTo S512x256 (shapeCast S1x256 w0 shapeCasts_S1x256_S1x256) broadcasts_S1x256_S512x256) u6)))
    (divf (matmul dot_S512x1024_S256x1024_S512x256_1_1_0_0_n_n none h (shapeCast S256x1024 wz shapeCasts_S256x1024_S256x1024) (constant S512x256 .f32 0x00000000#32))
      (addf (broadcast S512x256 (Scalar.ofBits .f32 0x3F800000#32)) (exp (subf (broadcast S512x256 (Scalar.ofBits .f32 0x00000000#32))
        (matmul dot_S512x1024_S256x1024_S512x256_1_1_0_0_n_n none h (shapeCast S256x1024 wz shapeCasts_S256x1024_S256x1024) (constant S512x256 .f32 0x00000000#32))))))) bitsLt_bf16_f32)
    shapeCasts_S512x256_S512x256

/-- The products of a block of columns. -/
def uProd (h : FVec Ideal S512x1024 .bf16) (wa wb : FVec Ideal S256x1024 .bf16) : FVec Ideal S512x256 .f32 := k0_pay14 (F := Ideal) h wa wb

theorem uProd_apply (h : FVec Ideal S512x1024 .bf16) (wa wb : FVec Ideal S256x1024 .bf16) (r : Fin 512) (j : Fin 256) :
    uProd h wa wb (ix2 r j) = dotRow (fun k => h (ix2 r k)) (fun k => wa (ix2 j k)) * dotRow (fun k => h (ix2 r k)) (fun k => wb (ix2 j k)) :=
  congrArg₂ (· * ·) (mm256_apply h r wa j) (mm256_apply h r wb j)

/-- A sigmoid-weighted number, as the kernel writes it. -/
theorem sil_scalar (z : EReal) : Ideal.div z (Ideal.ofBits .f32 0x3F800000#32 + Ideal.exp (Ideal.ofBits .f32 0x00000000#32 - z)) = sil z := by
  rw [ofBits_one, Ideal.ofBits_zero_f32, zero_sub]
  rfl

/-- A row of weights repeated. -/
theorem wRow_apply (w : FVec Ideal S1x256 .f32) (r : Fin 512) (j : Fin 256) :
    broadcastTo S512x256 (shapeCast S1x256 w shapeCasts_S1x256_S1x256) broadcasts_S1x256_S512x256 (ix2 r j) = w (ix2 0 j) :=
  (broadcastTo_apply _ _ _ (ix2 0 j) (by intro b; match b with | ⟨0, _⟩ => rfl | ⟨1, _⟩ => rfl)).trans (shapeCast_apply _ _ _ (ix2 0 j) rfl)

theorem yBlock_apply (h : FVec Ideal S512x1024 .bf16) (u : FVec Ideal S512x256 .f32) (w2 w1 w0 : FVec Ideal S1x256 .f32) (u7 u6 : FVec Ideal S512x256 .f32) (wb wz : FVec Ideal S256x1024 .bf16)
    (r : Fin 512) (j : Fin 256) : yBlock h u w2 w1 w0 u7 u6 wb wz (ix2 r j)
      = dotRow (fun k => h (ix2 r k)) (fun k => wb (ix2 j k)) * (w2 (ix2 0 j) * u (ix2 r j) + w1 (ix2 0 j) * u7 (ix2 r j) + w0 (ix2 0 j) * u6 (ix2 r j))
        * sil (dotRow (fun k => h (ix2 r k)) (fun k => wz (ix2 j k))) := by
  unfold yBlock
  rw [shapeCast_apply _ _ _ (ix2 r j) rfl, ← mm256_apply h r wb j, ← mm256_apply h r wz j, ← sil_scalar]
  refine congrArg₂ (fun a b : EReal => a * b) (congrArg₂ (fun a b : EReal => a * b) rfl (congrArg₂ (fun a b : EReal => a + b) (congrArg₂ (fun a b : EReal => a + b) ?_ ?_) ?_)) rfl
  · exact congrArg (· * u (ix2 r j)) (wRow_apply w2 r j)
  · exact congrArg (· * u7 (ix2 r j)) (wRow_apply w1 r j)
  · exact congrArg (· * u6 (ix2 r j)) (wRow_apply w0 r j)

/-- The product of the rows with the projection's weight, at an index. -/
theorem mmT_apply (a : FVec Ideal S512x1024 .bf16) (w : FVec Ideal S1024x1024 .bf16) (r : Fin 512) (c : Fin 1024) :
    FloatOps.matmul dot_S512x1024_S1024x1024_S512x1024_1_0_0_1_n_n none a (shapeCast S1024x1024 w shapeCasts_S1024x1024_S1024x1024) (constant S512x1024 .f32 0x00000000#32) (ix2 r c)
      = ∑ k : Fin 1024, a (ix2 r k) * w (ix2 k c) :=
  mm _ 1024 rfl rfl _ _ _ _ _ _
    (fun k q hq => congrArg a (funext fun b => Fin.ext (match b with | ⟨0, _⟩ => rfl | ⟨1, _⟩ => hq)))
    (fun k q hq => (congrArg _ (funext fun b => Fin.ext (match b with | ⟨0, _⟩ => hq | ⟨1, _⟩ => rfl))).trans (shapeCast_apply _ _ (ix2 k c) (ix2 k c) rfl))

/-- The heads' outputs times their gates. -/
def gated (h : FVec Ideal S512x1024 .bf16) (mix : FVec Ideal S512x1024 .f32) (wg : FVec Ideal S1024x1024 .bf16) : FVec Ideal S512x1024 .bf16 :=
  truncf .bf16 (mulf mix (divf (matmul dot_S512x1024_S1024x1024_S512x1024_1_1_0_0_n_n none h (shapeCast S1024x1024 wg shapeCasts_S1024x1024_S1024x1024) (constant S512x1024 .f32 0x00000000#32))
    (addf (broadcast S512x1024 (Scalar.ofBits .f32 0x3F800000#32)) (exp (subf (broadcast S512x1024 (Scalar.ofBits .f32 0x00000000#32))
      (matmul dot_S512x1024_S1024x1024_S512x1024_1_1_0_0_n_n none h (shapeCast S1024x1024 wg shapeCasts_S1024x1024_S1024x1024) (constant S512x1024 .f32 0x00000000#32))))))) bitsLt_bf16_f32

theorem gated_apply (h : FVec Ideal S512x1024 .bf16) (mix : FVec Ideal S512x1024 .f32) (wg : FVec Ideal S1024x1024 .bf16) (r : Fin 512) (k : Fin 1024) :
    gated h mix wg (ix2 r k) = mix (ix2 r k) * sil (dotRow (fun k => h (ix2 r k)) (fun j => wg (ix2 k j))) := by
  rw [← mm1024_apply h r wg k, ← sil_scalar]
  rfl

/-- The projection of the gated heads and of the convolution, added to the row. -/
theorem pay163_apply (x : FVec Ideal S1x512x1024 .f32) (h : FVec Ideal S512x1024 .bf16) (mix : FVec Ideal S512x1024 .f32) (wg w0 : FVec Ideal S1024x1024 .bf16)
    (y : FVec Ideal S512x1024 .bf16) (w1 : FVec Ideal S1024x1024 .bf16) (r : Fin 512) (c : Fin 1024) :
    k0_pay163 (F := Ideal) (k0_pay8 (F := Ideal) x) h mix wg w0 y w1 (ix3 0 r c)
      = x (ix3 0 r c) + (∑ k : Fin 1024, mix (ix2 r k) * sil (dotRow (fun k => h (ix2 r k)) (fun j => wg (ix2 k j))) * w0 (ix2 k c)
        + ∑ k : Fin 1024, y (ix2 r k) * w1 (ix2 k c)) := by
  have e : k0_pay163 (F := Ideal) (k0_pay8 (F := Ideal) x) h mix wg w0 y w1 = shapeCast S1x512x1024 (addf (k0_pay8 (F := Ideal) x)
      (addf (matmul dot_S512x1024_S1024x1024_S512x1024_1_0_0_1_n_n none (gated h mix wg) (shapeCast S1024x1024 w0 shapeCasts_S1024x1024_S1024x1024) (constant S512x1024 .f32 0x00000000#32))
        (matmul dot_S512x1024_S1024x1024_S512x1024_1_0_0_1_n_n none y (shapeCast S1024x1024 w1 shapeCasts_S1024x1024_S1024x1024) (constant S512x1024 .f32 0x00000000#32))))
      shapeCasts_S512x1024_S1x512x1024 := rfl
  rw [e, shapeCast_apply _ _ (ix3 0 r c) (ix2 r c) (by
    rw [Shape.rowMajor_val_three, Shape.rowMajor_val_two]; show r.val * 1024 + c.val = (0 * 512 + r.val) * 1024 + c.val; omega)]
  refine congrArg₂ (fun a b : EReal => a + b) ?_ (congrArg₂ (fun a b : EReal => a + b) ((mmT_apply (gated h mix wg) w0 r c).trans ?_) (mmT_apply y w1 r c))
  · exact shapeCast_apply _ _ _ (ix3 0 r c) (by
      rw [Shape.rowMajor_val_three, Shape.rowMajor_val_two]; show (0 * 512 + r.val) * 1024 + c.val = r.val * 1024 + c.val; omega)
  · exact Finset.sum_congr rfl fun k _ => congrArg (· * w0 (ix2 k c)) (gated_apply h mix wg r k)

end Cert.Proof.Pre

end
-- ==== Proof.PreMix.lean ====
/-
  The tile's run for a row of the result: the writes of its buffers, matched with the steps.
-/
module

public import proofs.«01_k».proof.Proof.PreRow
public import proofs.«01_k».proof.Proof.PrePoint
public import Idealize.ShloMosaic.Lib.Tactic

@[expose] public section

noncomputable section

namespace Cert.Proof.Pre

open Cert.Kernel2Ideal Cert.Kernel2Ideal.Gen
open Idealize.ShloMosaic Idealize.ShloMosaic.ValueIdx Idealize.ShloMosaic.TcCoe
open scoped BigOperators

/-- A row of the convolution's weights lies inside them; -/
theorem inbC (k : Fin 3) (o : ℕ) (ho : o + 256 ≤ 1024) : ∀ a, ![k.val, o] a + S1x256.size a ≤ S3x1024.size a := fun a =>
  match a with
  | ⟨0, _⟩ => by show k.val + 1 ≤ 3; omega
  | ⟨1, _⟩ => ho
/-- a half of the projection's in those; -/
theorem inbP (o : ℕ) (ho : o + 1024 ≤ 2048) : ∀ a, ![o, 0] a + S1024x1024.size a ≤ S2048x1024.size a := fun a =>
  match a with
  | ⟨0, _⟩ => ho
  | ⟨1, _⟩ => by show 0 + 1024 ≤ 1024; omega
/-- a block of the convolution's rows in its buffer; -/
theorem inbU (k o : ℕ) (hk : k ≤ 8) (ho : o + 256 ≤ 1024) : ∀ a, ![k, o] a + S512x256.size a ≤ S520x1024.size a := fun a =>
  match a with
  | ⟨0, _⟩ => by show k + 512 ≤ 520; omega
  | ⟨1, _⟩ => ho
/-- and one of its output in its. -/
theorem inbY (o : ℕ) (ho : o + 256 ≤ 1024) : ∀ a, ![0, o] a + S512x256.size a ≤ S512x1024.size a := fun a =>
  match a with
  | ⟨0, _⟩ => by show 0 + 512 ≤ 512; omega
  | ⟨1, _⟩ => ho

/-- The zeros in front of a sequence. -/
abbrev zeroU : List (View.Piece (Elt Ideal) S520x1024 .f32) :=
  [⟨Rect.unit (s := S520x1024) ![0, 0] S8x1024.size inb_S520x1024_S8x1024_0_0, k0_pay7 (F := Ideal)⟩]

section Run
variable (c : Dev nD) (i : grid0.Coords) (arg2 : Memref sig .tc .vmem S1x512x1024 .f32) (harg2 : arg2.IsWhole)
  (arg3 : Memref sig .tc .vmem S1x1024 .f32) (harg3 : arg3.IsWhole) (arg4 : Memref sig .tc .vmem S7184x1024 .bf16) (harg4 : arg4.IsWhole)
  (arg5 : Memref sig .tc .vmem S128x512 .bf16) (harg5 : arg5.IsWhole) (arg6 : Memref sig .tc .vmem S1x512 .f32) (harg6 : arg6.IsWhole)
  (arg7 : Memref sig .tc .vmem S1x256 .f32) (harg7 : arg7.IsWhole) (arg8 : Memref sig .tc .vmem S3x1024 .f32) (harg8 : arg8.IsWhole)
  (arg9 : Memref sig .tc .vmem S2048x1024 .bf16) (harg9 : arg9.IsWhole) (arg10 : Memref sig .tc .vmem S1x512x1024 .f32) (harg10 : arg10.IsWhole)
  (arg11 : Memref sig .tc .vmem S1x1x4x128x256 .f32) (harg11 : arg11.IsWhole) (arg12 : Memref sig .tc .vmem S1x1x2x1024 .f32) (harg12 : arg12.IsWhole)
  (arg13 : Memref sig .tc .vmem S4x256x128 .f32) (harg13 : arg13.IsWhole) (arg14 : Memref sig .tc .vmem S520x1024 .f32) (harg14 : arg14.IsWhole)
  (arg15 : Memref sig .tc .vmem S512x512 .bf16) (harg15 : arg15.IsWhole) (arg16 : Memref sig .tc .vmem S512x512 .bf16) (harg16 : arg16.IsWhole)
  (arg17 : Memref sig .tc .vmem S512x512 .bf16) (harg17 : arg17.IsWhole) (arg18 : Memref sig .tc .vmem S512x1024 .bf16) (harg18 : arg18.IsWhole)
  (arg19 : Memref sig .tc .vmem S512x512 .f32) (harg19 : arg19.IsWhole) (arg20 : Memref sig .tc .vmem S512x1024 .f32) (harg20 : arg20.IsWhole)
  (arg21 : Memref sig .tc .vmem S512x1024 .bf16) (harg21 : arg21.IsWhole)
  (x0 : Vec Ideal S1x512x1024 .f32) (x1 : Vec Ideal S1x1024 .f32) (x2 : Vec Ideal S7184x1024 .bf16) (x3 : Vec Ideal S128x512 .bf16)
  (x4 : Vec Ideal S1x512 .f32) (x5 : Vec Ideal S1x256 .f32) (x6 : Vec Ideal S3x1024 .f32) (x7 : Vec Ideal S2048x1024 .bf16)
  (xs0 : Vec Ideal S4x256x128 .f32) (xs1 : Vec Ideal S520x1024 .f32)

/-- The tile's loads of the heads' norm's weight, the convolution's weights and the projection's. -/
abbrev rdN : FVec Ideal S1x256 .f32 := View.readAt (Elt Ideal) arg7.view (Rect.unit ![0, 0] S1x256.size inb_S1x256_S1x256_0_0).toLoadRect (harg7.unread x5)
abbrev rdC (k : Fin 3) (o : ℕ) (ho : o + 256 ≤ 1024) : FVec Ideal S1x256 .f32 :=
  View.readAt (Elt Ideal) arg8.view (Rect.unit (s := S3x1024) ![k.val, o] S1x256.size (inbC k o ho)).toLoadRect (harg8.unread x6)
abbrev rdP (o : ℕ) (ho : o + 1024 ≤ 2048) : FVec Ideal S1024x1024 .bf16 :=
  View.readAt (Elt Ideal) arg9.view (Rect.unit (s := S2048x1024) ![o, 0] S1024x1024.size (inbP o ho)).toLoadRect (harg9.unread x7)

/-- The heads' outputs, when a head's state is first `S0`. -/
def mixW (S0 : Fin 4 → FVec Ideal S1x256x128 .f32) : List (View.Piece (Elt Ideal) S512x1024 .f32) :=
  mixList (mixOf arg15 arg16 arg17 arg18 arg19
    (lstQ (rdX arg2 harg2 x0) (rdG arg3 harg3 x1) (rdW arg4 harg4 x2 0 512 (by decide)) (rdW arg4 harg4 x2 3072 128 (by decide)) (rdU arg5 harg5 x3) (rdB arg6 harg6 x4))
    (lstE (rdX arg2 harg2 x0) (rdG arg3 harg3 x1) (rdW arg4 harg4 x2 512 512 (by decide)) (rdW arg4 harg4 x2 3072 128 (by decide)) (rdU arg5 harg5 x3) (rdB arg6 harg6 x4))
    (lstK (rdX arg2 harg2 x0) (rdG arg3 harg3 x1) (rdW arg4 harg4 x2 512 512 (by decide)) (rdW arg4 harg4 x2 3072 128 (by decide)) (rdU arg5 harg5 x3) (rdB arg6 harg6 x4))
    (lstV (rdX arg2 harg2 x0) (rdG arg3 harg3 x1) (rdW arg4 harg4 x2 1024 1024 (by decide)))
    (lstD (rdX arg2 harg2 x0) (rdG arg3 harg3 x1) (rdW arg4 harg4 x2 3072 128 (by decide)) (rdU arg5 harg5 x3) (rdB arg6 harg6 x4)) S0 (rdN arg7 harg7 x5)) 32

/-- A head's first state in the first tile of a sequence. -/
def firstS (h : Fin 4) : FVec Ideal S1x256x128 .f32 :=
  ldNew arg13 h (heads (tileHead arg2 harg2 arg3 harg3 arg4 harg4 arg5 harg5 arg6 harg6 arg17 arg18 arg19 x0 x1 x2 x3 x4) (ldNew arg13)
    [⟨Rect.unit (s := S4x256x128) ![0, 0, 0] S4x256x128.size inb_S4x256x128_S4x256x128_0_0_0, k0_pay6 (F := Ideal)⟩] h.val)

/-- The writes of the convolution's rows for some blocks of columns, after the writes `z`. -/
def uPart (z : List (View.Piece (Elt Ideal) S520x1024 .f32)) : (g : ℕ) → List (View.Piece (Elt Ideal) S520x1024 .f32)
  | 0 => z
  | g + 1 => ⟨Rect.unit (s := S520x1024) ![8, 256 * (g % 4)] S512x256.size (inbU 8 (256 * (g % 4)) (by decide) (by omega)),
      uBlock (k0_pay9 (rdX arg2 harg2 x0) (rdG arg3 harg3 x1)) (rdW arg4 harg4 x2 (5136 + 256 * (g % 4)) 256 (by omega)) (rdW arg4 harg4 x2 (3088 + 256 * (g % 4)) 256 (by omega))⟩ :: uPart z g

/-- A load of the convolution's rows. -/
abbrev ldU (f : arg14.view.ty.Contents (Elt Ideal)) (L : List (View.Piece (Elt Ideal) S520x1024 .f32)) (k o : ℕ) (hk : k ≤ 8) (ho : o + 256 ≤ 1024) : FVec Ideal S512x256 .f32 :=
  View.readAt (Elt Ideal) arg14.view (Rect.unit (s := S520x1024) ![k, o] S512x256.size (inbU k o hk ho)).toLoadRect (arg14.view.writes (Elt Ideal) f L)

/-- The convolution's output of a block of columns, -/
def yPiece (f : arg14.view.ty.Contents (Elt Ideal)) (L : List (View.Piece (Elt Ideal) S520x1024 .f32)) (o : ℕ) (ho : o + 256 ≤ 1024) : FVec Ideal S512x256 .bf16 :=
  yBlock (k0_pay9 (rdX arg2 harg2 x0) (rdG arg3 harg3 x1))
    (uProd (k0_pay9 (rdX arg2 harg2 x0) (rdG arg3 harg3 x1)) (rdW arg4 harg4 x2 (5136 + o) 256 (by omega)) (rdW arg4 harg4 x2 (3088 + o) 256 (by omega)))
    (rdC arg8 harg8 x6 2 o ho) (rdC arg8 harg8 x6 1 o ho) (rdC arg8 harg8 x6 0 o ho) (ldU arg14 f L 7 o (by decide) ho) (ldU arg14 f L 6 o (by decide) ho)
    (rdW arg4 harg4 x2 (4112 + o) 256 (by omega)) (rdW arg4 harg4 x2 (6160 + o) 256 (by omega))

/-- and its writes for some blocks. -/
def yList (f : arg14.view.ty.Contents (Elt Ideal)) (z : List (View.Piece (Elt Ideal) S520x1024 .f32)) : (g : ℕ) → List (View.Piece (Elt Ideal) S512x1024 .bf16)
  | 0 => []
  | g + 1 => ⟨Rect.unit (s := S512x1024) ![0, 256 * (g % 4)] S512x256.size (inbY (256 * (g % 4)) (by omega)),
      yPiece arg2 harg2 arg3 harg3 arg4 harg4 arg8 harg8 arg14 x0 x1 x2 x6 f (uPart arg2 harg2 arg3 harg3 arg4 harg4 x0 x1 x2 z (g + 1)) (256 * (g % 4)) (by omega)⟩ :: yList f z g

/-- The writes to the convolution's rows, with the last eight copied to the front. -/
def uAll (z : List (View.Piece (Elt Ideal) S520x1024 .f32)) : List (View.Piece (Elt Ideal) S520x1024 .f32) :=
  ⟨Rect.unit (s := S520x1024) ![0, 0] S8x1024.size inb_S520x1024_S8x1024_0_0,
    k0_pay162 (F := Ideal) (arg14.view.readCov (uPart arg2 harg2 arg3 harg3 arg4 harg4 x0 x1 x2 z 4) (Rect.unit (s := S520x1024) ![512, 0] S8x1024.size inb_S520x1024_S8x1024_512_0).toLoadRect)⟩
    :: uPart arg2 harg2 arg3 harg3 arg4 harg4 x0 x1 x2 z 4

/-- The rows of the result, from the heads' outputs and the convolution's. -/
def xVal (Lm : List (View.Piece (Elt Ideal) S512x1024 .f32)) (Ly : List (View.Piece (Elt Ideal) S512x1024 .bf16)) : FVec Ideal S1x512x1024 .f32 :=
  k0_pay163 (F := Ideal) (k0_pay8 (F := Ideal) (rdX arg2 harg2 x0)) (k0_pay9 (rdX arg2 harg2 x0) (rdG arg3 harg3 x1))
    (arg20.view.readCov Lm (Rect.unit (s := S512x1024) ![0, 0] S512x1024.size inb_S512x1024_S512x1024_0_0).toLoadRect)
    (rdW arg4 harg4 x2 2048 1024 (by decide)) (rdP arg9 harg9 x7 0 (by decide))
    (arg21.view.readCov Ly (Rect.unit (s := S512x1024) ![0, 0] S512x1024.size inb_S512x1024_S512x1024_0_0).toLoadRect)
    (rdP arg9 harg9 x7 1024 (by decide))

set_option maxHeartbeats 4000000 in
/-- The first tile's writes of the heads' outputs, -/
theorem runA_mix (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.2.2.2.2.2.2.1
      = mixW arg2 harg2 arg3 harg3 arg4 harg4 arg5 harg5 arg6 harg6 arg7 harg7 arg15 arg16 arg17 arg18 arg19 x0 x1 x2 x3 x4 x5 (firstS arg2 harg2 arg3 harg3 arg4 harg4 arg5 harg5 arg6 harg6 arg13 arg17 arg18 arg19 x0 x1 x2 x3 x4) := by
  sl_kernel_rfl

set_option maxHeartbeats 4000000 in
/-- of the convolution's output, -/
theorem runA_y (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.2.2.2.2.2.2.2
      = yList arg2 harg2 arg3 harg3 arg4 harg4 arg8 harg8 arg14 x0 x1 x2 x6 arg14.view.junk zeroU 4 := by
  sl_kernel_rfl

set_option maxHeartbeats 4000000 in
/-- and of the result. -/
theorem runA_x (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).1
      = [⟨Rect.unit (s := S1x512x1024) ![0, 0, 0] S1x512x1024.size inb_S1x512x1024_S1x512x1024_0_0_0,
          xVal arg2 harg2 arg3 harg3 arg4 harg4 arg9 harg9 arg20 arg21 x0 x1 x2 x7
            (mixW arg2 harg2 arg3 harg3 arg4 harg4 arg5 harg5 arg6 harg6 arg7 harg7 arg15 arg16 arg17 arg18 arg19 x0 x1 x2 x3 x4 x5 (firstS arg2 harg2 arg3 harg3 arg4 harg4 arg5 harg5 arg6 harg6 arg13 arg17 arg18 arg19 x0 x1 x2 x3 x4))
            (yList arg2 harg2 arg3 harg3 arg4 harg4 arg8 harg8 arg14 x0 x1 x2 x6 arg14.view.junk zeroU 4)⟩] := by
  sl_kernel_rfl

set_option maxHeartbeats 4000000 in
/-- Its writes of the convolution's rows. -/
theorem runA_u (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.1 = uAll arg2 harg2 arg3 harg3 arg4 harg4 arg14 x0 x1 x2 zeroU := by
  sl_kernel_rfl

set_option maxHeartbeats 4000000 in
/-- The middle tile's writes of the heads' outputs, -/
theorem runB_mix (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1).2.2.2.2.2.2.2.2.2.2.1
      = mixW arg2 harg2 arg3 harg3 arg4 harg4 arg5 harg5 arg6 harg6 arg7 harg7 arg15 arg16 arg17 arg18 arg19 x0 x1 x2 x3 x4 x5 (ldOld arg13 harg13 xs0) := by
  sl_kernel_rfl

set_option maxHeartbeats 4000000 in
/-- of the convolution's output, -/
theorem runB_y (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1).2.2.2.2.2.2.2.2.2.2.2
      = yList arg2 harg2 arg3 harg3 arg4 harg4 arg8 harg8 arg14 x0 x1 x2 x6 (harg14.unread xs1) [] 4 := by
  sl_kernel_rfl

set_option maxHeartbeats 4000000 in
/-- and of the result. -/
theorem runB_x (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1).1
      = [⟨Rect.unit (s := S1x512x1024) ![0, 0, 0] S1x512x1024.size inb_S1x512x1024_S1x512x1024_0_0_0,
          xVal arg2 harg2 arg3 harg3 arg4 harg4 arg9 harg9 arg20 arg21 x0 x1 x2 x7
            (mixW arg2 harg2 arg3 harg3 arg4 harg4 arg5 harg5 arg6 harg6 arg7 harg7 arg15 arg16 arg17 arg18 arg19 x0 x1 x2 x3 x4 x5 (ldOld arg13 harg13 xs0))
            (yList arg2 harg2 arg3 harg3 arg4 harg4 arg8 harg8 arg14 x0 x1 x2 x6 (harg14.unread xs1) [] 4)⟩] := by
  sl_kernel_rfl

set_option maxHeartbeats 4000000 in
/-- Its writes of the convolution's rows. -/
theorem runB_u (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1).2.2.2.2.1 = uAll arg2 harg2 arg3 harg3 arg4 harg4 arg14 x0 x1 x2 [] := by
  sl_kernel_rfl

set_option maxHeartbeats 4000000 in
/-- The last tile's writes of the heads' outputs, -/
theorem runC_mix (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1).2.2.2.2.2.2.2.2.2.2.1
      = mixW arg2 harg2 arg3 harg3 arg4 harg4 arg5 harg5 arg6 harg6 arg7 harg7 arg15 arg16 arg17 arg18 arg19 x0 x1 x2 x3 x4 x5 (ldOld arg13 harg13 xs0) := by
  sl_kernel_rfl

set_option maxHeartbeats 4000000 in
/-- of the convolution's output, -/
theorem runC_y (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1).2.2.2.2.2.2.2.2.2.2.2
      = yList arg2 harg2 arg3 harg3 arg4 harg4 arg8 harg8 arg14 x0 x1 x2 x6 (harg14.unread xs1) [] 4 := by
  sl_kernel_rfl

set_option maxHeartbeats 4000000 in
/-- and of the result. -/
theorem runC_x (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1).1
      = [⟨Rect.unit (s := S1x512x1024) ![0, 0, 0] S1x512x1024.size inb_S1x512x1024_S1x512x1024_0_0_0,
          xVal arg2 harg2 arg3 harg3 arg4 harg4 arg9 harg9 arg20 arg21 x0 x1 x2 x7
            (mixW arg2 harg2 arg3 harg3 arg4 harg4 arg5 harg5 arg6 harg6 arg7 harg7 arg15 arg16 arg17 arg18 arg19 x0 x1 x2 x3 x4 x5 (ldOld arg13 harg13 xs0))
            (yList arg2 harg2 arg3 harg3 arg4 harg4 arg8 harg8 arg14 x0 x1 x2 x6 (harg14.unread xs1) [] 4)⟩] := by
  sl_kernel_rfl

end Run

end Cert.Proof.Pre

end
-- ==== Proof.PreLine.lean ====
/-
  A row of the result, as a tile leaves it, from the rows of its sequence.
-/
module

public import proofs.«01_k».proof.Proof.PreMix

@[expose] public section

noncomputable section

namespace Cert.Proof.Pre

open Cert.Kernel2Ideal Cert.Kernel2Ideal.Gen
open Idealize.ShloMosaic Idealize.ShloMosaic.ValueIdx Idealize.ShloMosaic.TcCoe
open scoped BigOperators

/-- The tile's blocks of the output's weights. -/
structure TileOut (x5 : Vec Ideal S1x256 .f32) (x6 : Vec Ideal S3x1024 .f32) (x7 : Vec Ideal S2048x1024 .bf16) (O : Outs) : Prop where
  gn : ∀ e : Fin 256, x5 (ix2 0 e) = O.gn e
  ws : ∀ (k : Fin 3) (c : Fin 1024), x6 (ix2 k c) = O.ws k c
  wo : ∀ (k : Fin 2048) (c : Fin 1024), x7 (ix2 k c) = O.wo k c

section Run
variable (c : Dev nD) (i : grid0.Coords) (arg2 : Memref sig .tc .vmem S1x512x1024 .f32) (harg2 : arg2.IsWhole)
  (arg3 : Memref sig .tc .vmem S1x1024 .f32) (harg3 : arg3.IsWhole) (arg4 : Memref sig .tc .vmem S7184x1024 .bf16) (harg4 : arg4.IsWhole)
  (arg5 : Memref sig .tc .vmem S128x512 .bf16) (harg5 : arg5.IsWhole) (arg6 : Memref sig .tc .vmem S1x512 .f32) (harg6 : arg6.IsWhole)
  (arg7 : Memref sig .tc .vmem S1x256 .f32) (harg7 : arg7.IsWhole) (arg8 : Memref sig .tc .vmem S3x1024 .f32) (harg8 : arg8.IsWhole)
  (arg9 : Memref sig .tc .vmem S2048x1024 .bf16) (harg9 : arg9.IsWhole) (arg10 : Memref sig .tc .vmem S1x512x1024 .f32) (harg10 : arg10.IsWhole)
  (arg11 : Memref sig .tc .vmem S1x1x4x128x256 .f32) (harg11 : arg11.IsWhole) (arg12 : Memref sig .tc .vmem S1x1x2x1024 .f32) (harg12 : arg12.IsWhole)
  (arg13 : Memref sig .tc .vmem S4x256x128 .f32) (harg13 : arg13.IsWhole) (arg14 : Memref sig .tc .vmem S520x1024 .f32) (harg14 : arg14.IsWhole)
  (arg15 : Memref sig .tc .vmem S512x512 .bf16) (harg15 : arg15.IsWhole) (arg16 : Memref sig .tc .vmem S512x512 .bf16) (harg16 : arg16.IsWhole)
  (arg17 : Memref sig .tc .vmem S512x512 .bf16) (harg17 : arg17.IsWhole) (arg18 : Memref sig .tc .vmem S512x1024 .bf16) (harg18 : arg18.IsWhole)
  (arg19 : Memref sig .tc .vmem S512x512 .f32) (harg19 : arg19.IsWhole) (arg20 : Memref sig .tc .vmem S512x1024 .f32) (harg20 : arg20.IsWhole)
  (arg21 : Memref sig .tc .vmem S512x1024 .bf16) (harg21 : arg21.IsWhole)
  (x0 : Vec Ideal S1x512x1024 .f32) (x1 : Vec Ideal S1x1024 .f32) (x2 : Vec Ideal S7184x1024 .bf16) (x3 : Vec Ideal S128x512 .bf16)
  (x4 : Vec Ideal S1x512 .f32) (x5 : Vec Ideal S1x256 .f32) (x6 : Vec Ideal S3x1024 .f32) (x7 : Vec Ideal S2048x1024 .bf16)
  (xs0 : Vec Ideal S4x256x128 .f32) (xs1 : Vec Ideal S520x1024 .f32)

/-- A load of the heads' norm's weight reads it; -/
theorem rdN_apply (e : Fin 256) : rdN arg7 harg7 x5 (ix2 0 e) = x5 (ix2 0 e) := by
  refine (congrFun (harg7.read_unread x5) _).trans (congrArg x5 (funext fun a => Fin.ext ?_))
  match a with
  | ⟨0, _⟩ => rfl
  | ⟨1, _⟩ => show 0 + 1 * e.val = e.val; omega

/-- of the convolution's; -/
theorem rdC_apply (k : Fin 3) (o : ℕ) (ho : o + 256 ≤ 1024) (j : Fin 256) : rdC arg8 harg8 x6 k o ho (ix2 0 j) = x6 (ix2 k ⟨o + j.val, by omega⟩) := by
  refine (congrFun (harg8.read_unread x6) _).trans (congrArg x6 (funext fun a => Fin.ext ?_))
  match a with
  | ⟨0, _⟩ => show k.val + 1 * 0 = k.val; omega
  | ⟨1, _⟩ => show o + 1 * j.val = o + j.val; omega

/-- of the projection's. -/
theorem rdP_apply (o : ℕ) (ho : o + 1024 ≤ 2048) (k c : Fin 1024) : rdP arg9 harg9 x7 o ho (ix2 k c) = x7 (ix2 ⟨o + k.val, by omega⟩ c) := by
  refine (congrFun (harg9.read_unread x7) _).trans (congrArg x7 (funext fun a => Fin.ext ?_))
  match a with
  | ⟨0, _⟩ => show o + 1 * k.val = o + k.val; omega
  | ⟨1, _⟩ => show 0 + 1 * c.val = c.val; omega

/-- The rows in front are not those the tile writes. -/
theorem uPart_old (z : List (View.Piece (Elt Ideal) S520x1024 .f32)) (v : View sig .tc .vmem S520x1024 .f32) (f : v.ty.Contents (Elt Ideal)) (g : ℕ) (R : Fin 520) (hR : R.val < 8) (ch : Fin 1024) :
    v.read (Elt Ideal) (v.writes (Elt Ideal) f (uPart arg2 harg2 arg3 harg3 arg4 harg4 x0 x1 x2 z g)) (ix2 R ch) = v.read (Elt Ideal) (v.writes (Elt Ideal) f z) (ix2 R ch) := by
  induction g with
  | zero => rfl
  | succ g ih => exact (View.read_writes_cons_unit_of_not_mem v f _ _ _ _ rfl (0 : Fin 2) (Or.inl hR)).trans ih

variable {x0 x1 x2 x3 x4 x5 x6 x7} {W : Wts} {X : ℕ → Fin 1024 → EReal} {n0 : ℕ} {O : Outs} (B : TileBlk x0 x1 x2 x3 x4 W X n0)
include B

/-- The rows the tile writes are the sequence's products. -/
theorem uPart_read (z : List (View.Piece (Elt Ideal) S520x1024 .f32)) (v : View sig .tc .vmem S520x1024 .f32) (f : v.ty.Contents (Elt Ideal)) (g : ℕ) (hg : g ≤ 4) (r : Fin 512) (ch : Fin 1024)
    (hch : ch.val < 256 * g) :
    v.read (Elt Ideal) (v.writes (Elt Ideal) f (uPart arg2 harg2 arg3 harg3 arg4 harg4 x0 x1 x2 z g)) (ix2 ⟨8 + r.val, by omega⟩ ch) = uSeq W X (64 * n0 + r.val) ch := by
  induction g with
  | zero => exact absurd hch (by omega)
  | succ g ih =>
    exact lstU_next B (256 * (g % 4)) (by omega) _ _ _ v f r ch (by omega)
      (fun r j => uBlock_rd arg2 harg2 arg3 harg3 arg4 harg4 B (256 * (g % 4)) (by omega) r j _ _ _ _ rfl rfl) fun h => ih (by omega) (by omega)

/-- All of them from the sixth on are the sequence's, two rows back. -/
theorem uRow (z : List (View.Piece (Elt Ideal) S520x1024 .f32)) (f : arg14.view.ty.Contents (Elt Ideal)) (hb : ∀ (q : Fin 2) (ch : Fin 1024), arg14.view.read (Elt Ideal) (arg14.view.writes (Elt Ideal) f z) (ix2 ⟨6 + q.val, by omega⟩ ch) = uPad W X (64 * n0 + q.val) ch)
    (g : ℕ) (hg : g ≤ 4) (R : Fin 520) (h6 : 6 ≤ R.val) (ch : Fin 1024) (hch : ch.val < 256 * g) :
    arg14.view.read (Elt Ideal) (arg14.view.writes (Elt Ideal) f (uPart arg2 harg2 arg3 harg3 arg4 harg4 x0 x1 x2 z g)) (ix2 R ch) = uPad W X (64 * n0 + (R.val - 6)) ch := by
  by_cases h8 : R.val < 8
  · refine (uPart_old arg2 harg2 arg3 harg3 arg4 harg4 x0 x1 x2 z arg14.view f g R h8 ch).trans
      ((congrArg (arg14.view.read (Elt Ideal) (arg14.view.writes (Elt Ideal) f z)) (a₂ := ix2 ⟨6 + (R.val - 6), by omega⟩ ch) (funext fun a => Fin.ext ?_)).trans (hb ⟨R.val - 6, by omega⟩ ch))
    match a with
    | ⟨0, _⟩ => show R.val = 6 + (R.val - 6); omega
    | ⟨1, _⟩ => rfl
  · refine (congrArg (arg14.view.read (Elt Ideal) (arg14.view.writes (Elt Ideal) f _)) (a₂ := ix2 ⟨8 + (R.val - 8), by omega⟩ ch) (funext fun a => Fin.ext ?_)).trans
      ((uPart_read arg2 harg2 arg3 harg3 arg4 harg4 B z arg14.view f g hg ⟨R.val - 8, by omega⟩ ch hch).trans ?_)
    · match a with
      | ⟨0, _⟩ => show R.val = 8 + (R.val - 8); omega
      | ⟨1, _⟩ => rfl
    · unfold uPad
      rw [if_pos (by omega)]
      exact congrArg (uSeq W X · ch) (by show 64 * n0 + (R.val - 8) = 64 * n0 + (R.val - 6) - 2; omega)

/-- A load of the convolution's rows. -/
theorem ldU_apply (z : List (View.Piece (Elt Ideal) S520x1024 .f32)) (f : arg14.view.ty.Contents (Elt Ideal)) (hb : ∀ (q : Fin 2) (ch : Fin 1024), arg14.view.read (Elt Ideal) (arg14.view.writes (Elt Ideal) f z) (ix2 ⟨6 + q.val, by omega⟩ ch) = uPad W X (64 * n0 + q.val) ch)
    (g : ℕ) (hg : g ≤ 4) (k o : ℕ) (hk : k ≤ 8) (h6 : 6 ≤ k) (ho : o + 256 ≤ 1024) (hog : o + 256 ≤ 256 * g) (r : Fin 512) (j : Fin 256) :
    ldU arg14 f (uPart arg2 harg2 arg3 harg3 arg4 harg4 x0 x1 x2 z g) k o hk ho (ix2 r j) = uPad W X (64 * n0 + (k + r.val - 6)) ⟨o + j.val, by omega⟩ := by
  refine (congrArg (arg14.view.read (Elt Ideal) (arg14.view.writes (Elt Ideal) f _)) (a₂ := ix2 ⟨k + r.val, by omega⟩ ⟨o + j.val, by omega⟩) (funext fun a => Fin.ext ?_)).trans
    (uRow arg2 harg2 arg3 harg3 arg4 harg4 arg14 B z f hb g hg ⟨k + r.val, by omega⟩ (by show 6 ≤ k + r.val; omega) ⟨o + j.val, by omega⟩ (by show o + j.val < 256 * g; omega))
  match a with
  | ⟨0, _⟩ => show k + 1 * r.val = k + r.val; omega
  | ⟨1, _⟩ => show o + 1 * j.val = o + j.val; omega

/-- The convolution's output of a block of columns. -/
theorem yPiece_apply (T : TileOut x5 x6 x7 O) (z : List (View.Piece (Elt Ideal) S520x1024 .f32)) (f : arg14.view.ty.Contents (Elt Ideal)) (hb : ∀ (q : Fin 2) (ch : Fin 1024), arg14.view.read (Elt Ideal) (arg14.view.writes (Elt Ideal) f z) (ix2 ⟨6 + q.val, by omega⟩ ch) = uPad W X (64 * n0 + q.val) ch)
    (g : ℕ) (hg : g ≤ 4) (o : ℕ) (ho : o + 256 ≤ 1024) (hog : o + 256 ≤ 256 * g) (r : Fin 512) (j : Fin 256) :
    yPiece arg2 harg2 arg3 harg3 arg4 harg4 arg8 harg8 arg14 x0 x1 x2 x6 f (uPart arg2 harg2 arg3 harg3 arg4 harg4 x0 x1 x2 z g) o ho (ix2 r j) = ySeq W X O (64 * n0 + r.val) ⟨o + j.val, by omega⟩ := by
  have hd : ∀ (b : ℕ) (hb : b + 1024 ≤ 7184), dotRow (fun k => k0_pay9 (F := Ideal) (rdX arg2 harg2 x0) (rdG arg3 harg3 x1) (ix2 r k)) (fun k => rdW arg4 harg4 x2 (b + o) 256 (by omega) (ix2 j k))
      = dotRow (hSeq W X (64 * n0 + r.val)) (W.w ⟨b + (o + j.val), by omega⟩) := fun b hb =>
    congrArg₂ dotRow (tile_h (TileBlk.rdx arg2 harg2 B) (TileBlk.rdg arg3 harg3 B) r) (funext fun k => (rdW_apply arg4 harg4 x2 (b + o) 256 (by omega) j k).trans
      ((B.w _ k).trans (congrArg (W.w · k) (Fin.ext (Nat.add_assoc b o j.val)))))
  have hw : ∀ k : Fin 3, rdC arg8 harg8 x6 k o ho (ix2 0 j) = O.ws k ⟨o + j.val, by omega⟩ := fun k => (rdC_apply arg8 harg8 x6 k o ho j).trans (T.ws k _)
  unfold yPiece ySeq
  refine (yBlock_apply _ _ _ _ _ _ _ _ _ r j).trans ?_
  refine congrArg₂ (fun a b : EReal => a * b) (congrArg₂ (fun a b : EReal => a * b) (hd 4112 (by decide)) (congrArg₂ (fun a b : EReal => a + b) (congrArg₂ (fun a b : EReal => a + b)
    (congrArg₂ (fun a b : EReal => a * b) (hw 2) ?_) (congrArg₂ (fun a b : EReal => a * b) (hw 1) ?_)) (congrArg₂ (fun a b : EReal => a * b) (hw 0) ?_))) (congrArg sil (hd 6160 (by decide)))
  · exact (uProd_apply _ _ _ r j).trans (congrArg₂ (fun a b : EReal => a * b) (hd 5136 (by decide)) (hd 3088 (by decide)))
  · exact (ldU_apply arg2 harg2 arg3 harg3 arg4 harg4 arg14 B z f hb g hg 7 o (by decide) (by decide) ho hog r j).trans (congrArg (uPad W X · _) (by omega))
  · exact (ldU_apply arg2 harg2 arg3 harg3 arg4 harg4 arg14 B z f hb g hg 6 o (by decide) (by decide) ho hog r j).trans (congrArg (uPad W X · _) (by omega))

/-- The convolution's output, read back. -/
theorem yList_read (T : TileOut x5 x6 x7 O) (z : List (View.Piece (Elt Ideal) S520x1024 .f32)) (f : arg14.view.ty.Contents (Elt Ideal)) (hb : ∀ (q : Fin 2) (ch : Fin 1024), arg14.view.read (Elt Ideal) (arg14.view.writes (Elt Ideal) f z) (ix2 ⟨6 + q.val, by omega⟩ ch) = uPad W X (64 * n0 + q.val) ch)
    (v : View sig .tc .vmem S512x1024 .bf16) (f' : v.ty.Contents (Elt Ideal)) (g : ℕ) (hg : g ≤ 4) (r : Fin 512) (ch : Fin 1024) (hch : ch.val < 256 * g) :
    v.read (Elt Ideal) (v.writes (Elt Ideal) f' (yList arg2 harg2 arg3 harg3 arg4 harg4 arg8 harg8 arg14 x0 x1 x2 x6 f z g)) (ix2 r ch) = ySeq W X O (64 * n0 + r.val) ch := by
  induction g with
  | zero => exact absurd hch (by omega)
  | succ g ih =>
    by_cases hc : ch.val < 256 * (g % 4)
    · exact (View.read_writes_cons_unit_of_not_mem v f' _ _ _ _ rfl (1 : Fin 2) (Or.inl hc)).trans (ih (by omega) (by omega))
    · refine (View.read_writes_cons_unit_of_mem v f' _ _ _ _ (ix2 r ⟨ch.val - 256 * (g % 4), by omega⟩) rfl ?_).trans
        ((yPiece_apply arg2 harg2 arg3 harg3 arg4 harg4 arg8 harg8 arg14 B T z f hb (g + 1) hg (256 * (g % 4)) (by omega) (by omega) r _).trans ?_)
      · intro b
        match b with
        | ⟨0, _⟩ => show r.val = 0 + r.val; omega
        | ⟨1, _⟩ => show ch.val = 256 * (g % 4) + (ch.val - 256 * (g % 4)); omega
      · exact congrArg (ySeq W X O _) (Fin.ext (by show 256 * (g % 4) + (ch.val - 256 * (g % 4)) = ch.val; omega))

/-- The heads' outputs, read back. -/
theorem mixW_read (T : TileOut x5 x6 x7 O) (S0 : Fin 4 → FVec Ideal S1x256x128 .f32) (hs : ∀ (h : Fin 4) (e : Fin 256) (j : Fin 128), S0 h (ix3 0 e j) = stAt (aSeq W X) (kSeq W X) (vSeq W X) h e j n0)
    (v : View sig .tc .vmem S512x1024 .f32) (f : v.ty.Contents (Elt Ideal)) (h : Fin 4) (n : Fin 8) (l : Fin 64) (e : Fin 256) :
    v.read (Elt Ideal) (v.writes (Elt Ideal) f (mixW arg2 harg2 arg3 harg3 arg4 harg4 arg5 harg5 arg6 harg6 arg7 harg7 arg15 arg16 arg17 arg18 arg19 x0 x1 x2 x3 x4 x5 S0)) (ix2 ⟨64 * n.val + l.val, by omega⟩ ⟨256 * h.val + e.val, by omega⟩) = mixAt W X O (n0 + n.val) l h e := by
  have H := TileBlk.rd arg2 harg2 arg3 harg3 arg4 harg4 arg5 harg5 arg6 harg6 B
  unfold mixW
  refine (mixList_read _ v f 32 (Nat.le_refl 32) h n (by omega) l e).trans ?_
  exact mixOf_apply (H.held arg17 arg18 arg19) O S0 _ (fun e => (rdN_apply arg7 harg7 x5 e).trans (T.gn e)) hs
    (lstQ_read H (fun j k => (rdW_apply arg4 harg4 x2 0 512 (by decide) j k).trans ((B.w _ k).trans (congrArg (W.w · k) (Fin.ext (Nat.zero_add _))))) arg15)
    (lstE_read H arg16) h n l e

/-- A row of the result. -/
theorem xVal_apply (T : TileOut x5 x6 x7 O) (S0 : Fin 4 → FVec Ideal S1x256x128 .f32) (hs : ∀ (h : Fin 4) (e : Fin 256) (j : Fin 128), S0 h (ix3 0 e j) = stAt (aSeq W X) (kSeq W X) (vSeq W X) h e j n0)
    (z : List (View.Piece (Elt Ideal) S520x1024 .f32)) (f : arg14.view.ty.Contents (Elt Ideal)) (hb : ∀ (q : Fin 2) (ch : Fin 1024), arg14.view.read (Elt Ideal) (arg14.view.writes (Elt Ideal) f z) (ix2 ⟨6 + q.val, by omega⟩ ch) = uPad W X (64 * n0 + q.val) ch) (r : Fin 512) (c : Fin 1024) :
    xVal arg2 harg2 arg3 harg3 arg4 harg4 arg9 harg9 arg20 arg21 x0 x1 x2 x7 (mixW arg2 harg2 arg3 harg3 arg4 harg4 arg5 harg5 arg6 harg6 arg7 harg7 arg15 arg16 arg17 arg18 arg19 x0 x1 x2 x3 x4 x5 S0) (yList arg2 harg2 arg3 harg3 arg4 harg4 arg8 harg8 arg14 x0 x1 x2 x6 f z 4) (ix3 0 r c)
      = xOut W X O (n0 + r.val / 64) ⟨r.val % 64, Nat.mod_lt _ (by decide)⟩ c := by
  have e : 64 * (n0 + r.val / 64) + r.val % 64 = 64 * n0 + r.val := by omega
  unfold xVal xOut
  dsimp only
  rw [e]
  refine (pay163_apply _ _ _ _ _ _ _ r c).trans ?_
  refine congrArg₂ (fun a b : EReal => a + b) (TileBlk.rdx arg2 harg2 B r c) (congrArg₂ (fun a b : EReal => a + b) (Finset.sum_congr rfl fun k _ => ?_) (Finset.sum_congr rfl fun k _ => ?_))
  · refine congrArg₂ (fun a b : EReal => a * b) (congrArg₂ (fun a b : EReal => a * b) ?_ (congrArg sil ?_)) ?_
    · refine (congrArg (arg20.view.read (Elt Ideal) (arg20.view.writes (Elt Ideal) arg20.view.junk _))
        (a₂ := ix2 ⟨64 * (⟨r.val / 64, by omega⟩ : Fin 8).val + (⟨r.val % 64, Nat.mod_lt _ (by decide)⟩ : Fin 64).val, by dsimp only; omega⟩
          ⟨256 * (⟨k.val / 256, by omega⟩ : Fin 4).val + (⟨k.val % 256, Nat.mod_lt _ (by decide)⟩ : Fin 256).val, by dsimp only; omega⟩) (funext fun a => Fin.ext ?_)).trans
        (mixW_read arg2 harg2 arg3 harg3 arg4 harg4 arg5 harg5 arg6 harg6 arg7 harg7 arg15 arg16 arg17 arg18 arg19 B T S0 hs _ _ _ _ _ _)
      match a with
      | ⟨0, _⟩ => show 0 + 1 * r.val = 64 * (r.val / 64) + r.val % 64; omega
      | ⟨1, _⟩ => show 0 + 1 * k.val = 256 * (k.val / 256) + k.val % 256; omega
    · exact congrArg₂ dotRow (tile_h (TileBlk.rdx arg2 harg2 B) (TileBlk.rdg arg3 harg3 B) r) (funext fun j => (rdW_apply arg4 harg4 x2 2048 1024 (by decide) k j).trans (B.w _ j))
    · exact (rdP_apply arg9 harg9 x7 0 (by decide) k c).trans ((T.wo _ c).trans (congrArg (O.wo · c) (Fin.ext (Nat.zero_add _))))
  · refine congrArg₂ (fun a b : EReal => a * b) ?_ ((rdP_apply arg9 harg9 x7 1024 (by decide) k c).trans (T.wo _ c))
    refine (congrArg (arg21.view.read (Elt Ideal) (arg21.view.writes (Elt Ideal) arg21.view.junk _)) (a₂ := ix2 r k) (funext fun a => Fin.ext ?_)).trans
      (yList_read arg2 harg2 arg3 harg3 arg4 harg4 arg8 harg8 arg14 B T z f hb arg21.view arg21.view.junk 4 (Nat.le_refl 4) r k (by omega))
    match a with
    | ⟨0, _⟩ => show 0 + 1 * r.val = r.val; omega
    | ⟨1, _⟩ => show 0 + 1 * k.val = k.val; omega

/-- The first tile of a sequence leaves its rows of the result, -/
theorem xoutA (T : TileOut x5 x6 x7 O) (hn : n0 = 0) (hc0 : cond0_0 i) (hc1 : ¬cond0_1 i) (r : Fin 512) (k : Fin 1024) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 (ix3 0 r k) = xOut W X O (n0 + r.val / 64) ⟨r.val % 64, Nat.mod_lt _ (by decide)⟩ k := by
  unfold out0_A_8
  rw [runA_x]
  refine (View.read_writes_cons_unit_of_mem _ _ _ _ _ _ (ix3 0 r k) rfl ?_).trans ?_
  · intro b
    match b with
    | ⟨0, _⟩ => rfl
    | ⟨1, _⟩ => show r.val = 0 + r.val; omega
    | ⟨2, _⟩ => show k.val = 0 + k.val; omega
  refine xVal_apply arg2 harg2 arg3 harg3 arg4 harg4 arg5 harg5 arg6 harg6 arg7 harg7 arg8 harg8 arg9 harg9 arg14 arg15 arg16 arg17 arg18 arg19 arg20 arg21 B T (firstS arg2 harg2 arg3 harg3 arg4 harg4 arg5 harg5 arg6 harg6 arg13 arg17 arg18 arg19 x0 x1 x2 x3 x4) (fun h e j => ?_) zeroU arg14.view.junk (fun q ch => ?_) r k
  · unfold firstS
    refine (congrArg (arg13.view.read (Elt Ideal) (arg13.view.writes (Elt Ideal) arg13.view.junk _)) (a₂ := ix3 h e j) (funext fun a => Fin.ext ?_)).trans ?_
    · match a with
      | ⟨0, _⟩ => show h.val + 1 * 0 = h.val; omega
      | ⟨1, _⟩ => show 0 + 1 * e.val = e.val; omega
      | ⟨2, _⟩ => show 0 + 1 * j.val = j.val; omega
    · refine (heads_old _ _ _ _ _ h.val (by omega) h (Nat.le_refl _) e j).trans ?_
      refine (View.read_writes_cons_unit_of_mem _ _ _ _ _ _ (ix3 h e j) rfl ?_).trans ?_
      · intro b
        match b with
        | ⟨0, _⟩ => show h.val = 0 + h.val; omega
        | ⟨1, _⟩ => show e.val = 0 + e.val; omega
        | ⟨2, _⟩ => show j.val = 0 + j.val; omega
      · subst hn
        exact pay6_apply h e j
  · refine (View.read_writes_cons_unit_of_mem _ _ _ _ _ _ (ix2 ⟨6 + q.val, by omega⟩ ch) rfl ?_).trans ?_
    · intro b
      match b with
      | ⟨0, _⟩ => show 6 + q.val = 0 + (6 + q.val); omega
      | ⟨1, _⟩ => show ch.val = 0 + ch.val; omega
    · unfold uPad
      rw [if_neg (by omega)]
      exact (shapeCast_apply (broadcast S8x1024 (Ideal.ofBits .f32 0x00000000#32 : Ideal .f32)) _ (ix2 ⟨6 + q.val, by omega⟩ ch) (ix2 ⟨6 + q.val, by omega⟩ ch) rfl).trans Ideal.ofBits_zero_f32

/-- the next ones theirs, -/
theorem xoutB (T : TileOut x5 x6 x7 O) (hs : ∀ (h : Fin 4) (e : Fin 256) (j : Fin 128), xs0 (ix3 h e j) = stAt (aSeq W X) (kSeq W X) (vSeq W X) h e j n0)
    (hu : ∀ (q : Fin 2) (ch : Fin 1024), xs1 (ix2 ⟨6 + q.val, by omega⟩ ch) = uPad W X (64 * n0 + q.val) ch) (hc0 : ¬cond0_0 i) (hc1 : ¬cond0_1 i) (r : Fin 512) (k : Fin 1024) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 (ix3 0 r k) = xOut W X O (n0 + r.val / 64) ⟨r.val % 64, Nat.mod_lt _ (by decide)⟩ k := by
  unfold out0_B_8
  rw [runB_x]
  refine (View.read_writes_cons_unit_of_mem _ _ _ _ _ _ (ix3 0 r k) rfl ?_).trans ?_
  · intro b
    match b with
    | ⟨0, _⟩ => rfl
    | ⟨1, _⟩ => show r.val = 0 + r.val; omega
    | ⟨2, _⟩ => show k.val = 0 + k.val; omega
  refine xVal_apply arg2 harg2 arg3 harg3 arg4 harg4 arg5 harg5 arg6 harg6 arg7 harg7 arg8 harg8 arg9 harg9 arg14 arg15 arg16 arg17 arg18 arg19 arg20 arg21 B T (ldOld arg13 harg13 xs0) (fun h e j => ?_) [] (harg14.unread xs1) (fun q ch => ?_) r k
  · refine (congrFun (harg13.read_unread xs0) _).trans ((congrArg xs0 (funext fun a => Fin.ext ?_)).trans (hs h e j))
    match a with
    | ⟨0, _⟩ => show h.val + 1 * 0 = h.val; omega
    | ⟨1, _⟩ => show 0 + 1 * e.val = e.val; omega
    | ⟨2, _⟩ => show 0 + 1 * j.val = j.val; omega
  · exact (congrFun (harg14.read_unread xs1) _).trans (hu q ch)

/-- and the last one its. -/
theorem xoutC (T : TileOut x5 x6 x7 O) (hs : ∀ (h : Fin 4) (e : Fin 256) (j : Fin 128), xs0 (ix3 h e j) = stAt (aSeq W X) (kSeq W X) (vSeq W X) h e j n0)
    (hu : ∀ (q : Fin 2) (ch : Fin 1024), xs1 (ix2 ⟨6 + q.val, by omega⟩ ch) = uPad W X (64 * n0 + q.val) ch) (hc0 : ¬cond0_0 i) (hc1 : cond0_1 i) (r : Fin 512) (k : Fin 1024) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 (ix3 0 r k) = xOut W X O (n0 + r.val / 64) ⟨r.val % 64, Nat.mod_lt _ (by decide)⟩ k := by
  unfold out0_C_8
  rw [runC_x]
  refine (View.read_writes_cons_unit_of_mem _ _ _ _ _ _ (ix3 0 r k) rfl ?_).trans ?_
  · intro b
    match b with
    | ⟨0, _⟩ => rfl
    | ⟨1, _⟩ => show r.val = 0 + r.val; omega
    | ⟨2, _⟩ => show k.val = 0 + k.val; omega
  refine xVal_apply arg2 harg2 arg3 harg3 arg4 harg4 arg5 harg5 arg6 harg6 arg7 harg7 arg8 harg8 arg9 harg9 arg14 arg15 arg16 arg17 arg18 arg19 arg20 arg21 B T (ldOld arg13 harg13 xs0) (fun h e j => ?_) [] (harg14.unread xs1) (fun q ch => ?_) r k
  · refine (congrFun (harg13.read_unread xs0) _).trans ((congrArg xs0 (funext fun a => Fin.ext ?_)).trans (hs h e j))
    match a with
    | ⟨0, _⟩ => show h.val + 1 * 0 = h.val; omega
    | ⟨1, _⟩ => show 0 + 1 * e.val = e.val; omega
    | ⟨2, _⟩ => show 0 + 1 * j.val = j.val; omega
  · exact (congrFun (harg14.read_unread xs1) _).trans (hu q ch)

/-- The rows copied to the front are the tile's last. -/
theorem uAll_read (z : List (View.Piece (Elt Ideal) S520x1024 .f32)) (v : View sig .tc .vmem S520x1024 .f32) (f : v.ty.Contents (Elt Ideal)) (q : Fin 2) (ch : Fin 1024) :
    v.read (Elt Ideal) (v.writes (Elt Ideal) f (uAll arg2 harg2 arg3 harg3 arg4 harg4 arg14 x0 x1 x2 z)) (ix2 ⟨6 + q.val, by omega⟩ ch) = uPad W X (64 * (n0 + 8) + q.val) ch := by
  unfold uAll
  refine (View.read_writes_cons_unit_of_mem _ _ _ _ _ _ (ix2 ⟨6 + q.val, by omega⟩ ch) rfl ?_).trans ?_
  · intro b
    match b with
    | ⟨0, _⟩ => show 6 + q.val = 0 + (6 + q.val); omega
    | ⟨1, _⟩ => show ch.val = 0 + ch.val; omega
  unfold k0_pay162
  refine (shapeCast_apply _ _ (ix2 (⟨6 + q.val, by omega⟩ : Fin 8) ch) (ix2 (⟨6 + q.val, by omega⟩ : Fin 8) ch) rfl).trans ?_
  refine (congrArg (arg14.view.read (Elt Ideal) (arg14.view.writes (Elt Ideal) arg14.view.junk _)) (a₂ := ix2 ⟨8 + (510 + q.val), by omega⟩ ch) (funext fun a => Fin.ext ?_)).trans
    ((uPart_read arg2 harg2 arg3 harg3 arg4 harg4 B z arg14.view arg14.view.junk 4 (Nat.le_refl 4) ⟨510 + q.val, by omega⟩ ch (by omega)).trans ?_)
  · match a with
    | ⟨0, _⟩ => show 512 + 1 * (6 + q.val) = 8 + (510 + q.val); omega
    | ⟨1, _⟩ => show 0 + 1 * ch.val = ch.val; omega
  · unfold uPad
    rw [if_pos (by omega)]
    exact congrArg (uSeq W X · ch) (by show 64 * n0 + (510 + q.val) = 64 * (n0 + 8) + q.val - 2; omega)

/-- A tile hands its last rows of products to the next, the first one -/
theorem haloA (hc0 : cond0_0 i) (hc1 : ¬cond0_1 i) (q : Fin 2) (ch : Fin 1024) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 (ix2 ⟨6 + q.val, by omega⟩ ch) = uPad W X (64 * (n0 + 8) + q.val) ch := by
  unfold sout0_A_1
  rw [runA_u]
  exact uAll_read arg2 harg2 arg3 harg3 arg4 harg4 arg14 B _ _ _ q ch

/-- and the next ones. -/
theorem haloB (hc0 : ¬cond0_0 i) (hc1 : ¬cond0_1 i) (q : Fin 2) (ch : Fin 1024) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 (ix2 ⟨6 + q.val, by omega⟩ ch) = uPad W X (64 * (n0 + 8) + q.val) ch := by
  unfold sout0_B_1
  rw [runB_u]
  exact uAll_read arg2 harg2 arg3 harg3 arg4 harg4 arg14 B _ _ _ q ch

end Run

end Cert.Proof.Pre

end
-- ==== Proof.PreTail.lean ====
/-
  The rows of the result, as the call returns them: what the kernel reads for them, and its tiles one after the other.
-/
module

public import proofs.«01_k».proof.Proof.PreFold
public import proofs.«01_k».proof.Proof.PreLine

@[expose] public section

noncomputable section

namespace Cert.Proof.Pre

open Cert.Kernel2Ideal Cert.Kernel2Ideal.Gen Cert.Kernel2Ideal.Value
open Idealize.ShloMosaic Idealize.ShloMosaic.ValueIdx Idealize.ShloMosaic.TcCoe
open scoped BigOperators

variable (m : (ℓ : Loc nD τ sig) → Buf (Elt Ideal) ℓ) (c : Dev nD)

/-- The arguments of the call for the output. -/
abbrev nP : FVec Ideal S1x256 .f32 := m ((c : Thread nD τ).loc main_arg5)
abbrev cP : FVec Ideal S1x3x1024 .f32 := m ((c : Thread nD τ).loc main_arg6)
abbrev oP : FVec Ideal S1x2048x1024 .f32 := m ((c : Thread nD τ).loc main_arg7)

/-- The output's weights, entry by entry. -/
def outs : Outs where
  gn e := nP m c (ix2 0 e)
  ws k j := cP m c (ix3 0 k j)
  wo k j := oP m c (ix3 0 k j)

/-- The heads' norm's weight when the kernel is entered; -/
theorem V_n : V m c main_v9 = shapeCast S1x256 (shapeCast S256 (nP m c) shapeCasts_S1x256_S256) shapeCasts_S256_S1x256 := by
  show StableHlo.after (List.flatten [hostOps0, hostOps0_1, hostOps0_2]) _ (Proc.devRef .tc main_v9) = _
  after_reads_simp
  rfl

/-- the convolution's; -/
theorem V_c : V m c main_v10 = shapeCast S3x1024 (cP m c) shapeCasts_S1x3x1024_S3x1024 := by
  show StableHlo.after (List.flatten [hostOps0, hostOps0_1, hostOps0_2]) _ (Proc.devRef .tc main_v10) = _
  after_reads_simp
  rfl

/-- and the projection's. -/
theorem V_o : V m c main_v12 = shapeCast S2048x1024 (oP m c) shapeCasts_S1x2048x1024_S2048x1024 := by
  show StableHlo.after (List.flatten [hostOps0, hostOps0_1, hostOps0_2]) _ (Proc.devRef .tc main_v12) = _
  after_reads_simp
  rfl

/-- The heads' norm's weight as the kernel finds it; -/
theorem V_n_apply (k : Fin 256) : (V m c main_v9 : FVec Ideal S1x256 .f32) (ix2 0 k) = (outs m c).gn k := by
  rw [V_n]
  refine (shapeCast_apply _ _ _ (ix1 k) ?_).trans (shapeCast_apply _ _ _ (ix2 0 k) ?_)
  · rw [Shape.rowMajor_val_one, Shape.rowMajor_val_two]
    show k.val = 0 * 256 + k.val
    omega
  · rw [Shape.rowMajor_val_one, Shape.rowMajor_val_two]
    show 0 * 256 + k.val = k.val
    omega

/-- the convolution's; -/
theorem V_c_apply (j : Fin 3) (k : Fin 1024) : (V m c main_v10 : FVec Ideal S3x1024 .f32) (ix2 j k) = (outs m c).ws j k := by
  rw [V_c]
  refine shapeCast_apply _ _ _ (ix3 0 j k) ?_
  rw [Shape.rowMajor_val_three, Shape.rowMajor_val_two]
  show (0 * 3 + j.val) * 1024 + k.val = j.val * 1024 + k.val
  omega

/-- and the projection's. -/
theorem V_o_apply (j : Fin 2048) (k : Fin 1024) : (V m c main_v12 : FVec Ideal S2048x1024 .bf16) (ix2 j k) = (outs m c).wo j k := by
  rw [V_o]
  refine shapeCast_apply _ _ _ (ix3 0 j k) ?_
  rw [Shape.rowMajor_val_three, Shape.rowMajor_val_two]
  show (0 * 2048 + j.val) * 1024 + k.val = j.val * 1024 + k.val
  omega

/-- Their windows stage their whole arrays. -/
theorem block_out : ∀ t : Fin cfg0.N, win0_5.index t (0 : Fin 2) = 0 ∧ win0_5.index t (1 : Fin 2) = 0 ∧ win0_6.index t (0 : Fin 2) = 0
    ∧ win0_6.index t (1 : Fin 2) = 0 ∧ win0_7.index t (0 : Fin 2) = 0 ∧ win0_7.index t (1 : Fin 2) = 0 :=
  (by decide +kernel : ∀ t : Fin grid0.N, _)

/-- So each grid point is given the output's weights. -/
theorem tileOut (t : Fin cfg0.N) : TileOut (iblk m c 5 t) (iblk m c 6 t) (iblk m c 7 t) (outs m c) := by
  obtain ⟨a0, a1, b0, b1, d0, d1⟩ := block_out t
  refine ⟨fun k => ?_, fun j k => ?_, fun j k => ?_⟩
  · refine Eq.trans (congrArg (V m c main_v9 : FVec Ideal S1x256 .f32) (a₂ := ix2 0 k) (funext fun a => Fin.ext ?_)) (V_n_apply m c k)
    match a with
    | ⟨0, _⟩ => show win0_5.index t (0 : Fin 2) * 1 + 1 * 0 = 0; omega
    | ⟨1, _⟩ => show win0_5.index t (1 : Fin 2) * 256 + 1 * k.val = k.val; omega
  · refine Eq.trans (congrArg (V m c main_v10 : FVec Ideal S3x1024 .f32) (a₂ := ix2 j k) (funext fun a => Fin.ext ?_)) (V_c_apply m c j k)
    match a with
    | ⟨0, _⟩ => show win0_6.index t (0 : Fin 2) * 3 + 1 * j.val = j.val; omega
    | ⟨1, _⟩ => show win0_6.index t (1 : Fin 2) * 1024 + 1 * k.val = k.val; omega
  · refine Eq.trans (congrArg (V m c main_v12 : FVec Ideal S2048x1024 .bf16) (a₂ := ix2 j k) (funext fun a => Fin.ext ?_)) (V_o_apply m c j k)
    match a with
    | ⟨0, _⟩ => show win0_7.index t (0 : Fin 2) * 2048 + 1 * j.val = j.val; omega
    | ⟨1, _⟩ => show win0_7.index t (1 : Fin 2) * 1024 + 1 * k.val = k.val; omega

attribute [local irreducible] outsAt0

/-- After each tile but the last the scratch holds the next one's two rows in front. -/
theorem halo_at (s : Fin 8) (q : ℕ) (hq : q < 3) (t : Fin cfg0.N) (ht : t.val = 4 * s.val + q) (j : Fin 2) (ch : Fin 1024) :
    (outsAt0 m c t.val t.isLt).2.2.2.2 (ix2 ⟨6 + j.val, by omega⟩ ch) = uPad (wts m c) (rows m c s) (64 * (8 * q + 8) + j.val) ch := by
  by_cases hq0 : q = 0
  · have h0 : t.val % 4 = 0 := by omega
    have h1 : ¬t.val % 4 = 3 := by omega
    rw [outsAt0_A m c t h0 h1]
    dsimp only
    exact haloA (B := tileBlk m c s q (by omega) t ht) ..
  · have h0 : ¬t.val % 4 = 0 := by omega
    have h1 : ¬t.val % 4 = 3 := by omega
    rw [outsAt0_B m c t h0 h1]
    dsimp only
    exact haloB (B := tileBlk m c s q (by omega) t ht) ..

/-- A tile leaves its rows of the result. -/
theorem x_at (s : Fin 8) : ∀ (q : ℕ) (_ : q < 4) (t : Fin cfg0.N) (_ : t.val = 4 * s.val + q) (r : Fin 512) (k : Fin 1024),
    (outsAt0 m c t.val t.isLt).1 (ix3 0 r k)
      = xOut (wts m c) (rows m c s) (outs m c) (8 * q + r.val / 64) ⟨r.val % 64, Nat.mod_lt _ (by decide)⟩ k
  | 0, _, t, ht, r, k => by
    have h0 : t.val % 4 = 0 := by omega
    have h1 : ¬t.val % 4 = 3 := by omega
    rw [outsAt0_A m c t h0 h1]
    dsimp only
    exact xoutA (B := tileBlk m c s 0 (by omega) t ht) (T := tileOut m c t) (hn := rfl) ..
  | q + 1, hq, t, ht, r, k => by
    have h0 : ¬t.val % 4 = 0 := by omega
    have hp : (⟨t.val - 1, Nat.lt_of_le_of_lt (Nat.sub_le _ _) t.isLt⟩ : Fin cfg0.N).val = 4 * s.val + q := by show t.val - 1 = 4 * s.val + q; omega
    by_cases h1 : t.val % 4 = 3
    · rw [outsAt0_C m c t h0 h1]
      dsimp only
      exact xoutC (B := tileBlk m c s (q + 1) (by omega) t ht) (T := tileOut m c t)
        (hs := fun h e d => state_at m c s q (by omega) ⟨t.val - 1, Nat.lt_of_le_of_lt (Nat.sub_le _ _) t.isLt⟩ hp h e d)
        (hu := fun j ch => halo_at m c s q (by omega) ⟨t.val - 1, Nat.lt_of_le_of_lt (Nat.sub_le _ _) t.isLt⟩ hp j ch) ..
    · rw [outsAt0_B m c t h0 h1]
      dsimp only
      exact xoutB (B := tileBlk m c s (q + 1) (by omega) t ht) (T := tileOut m c t)
        (hs := fun h e d => state_at m c s q (by omega) ⟨t.val - 1, Nat.lt_of_le_of_lt (Nat.sub_le _ _) t.isLt⟩ hp h e d)
        (hu := fun j ch => halo_at m c s q (by omega) ⟨t.val - 1, Nat.lt_of_le_of_lt (Nat.sub_le _ _) t.isLt⟩ hp j ch) ..

/-- The result's rows, as the call returns them. -/
theorem G8_apply (s : Fin 8) (r : Fin 2048) (k : Fin 1024) :
    (G8 m c : FVec Ideal S8x2048x1024 .f32) (ix3 s r k) = xOut (wts m c) (rows m c s) (outs m c) (r.val / 64) ⟨r.val % 64, Nat.mod_lt _ (by decide)⟩ k := by
  have hp : pt8Of (ix3 s r k) = 4 * s.val + r.val / 512 := by
    show 4 * (s.val / 1 - 0) + 1 * (r.val / 512 - 0) + 1 * (k.val / 1024 - 0) = 4 * s.val + r.val / 512
    omega
  have hN : pt8Of (ix3 s r k) < cfg0.N := by rw [hp, show cfg0.N = 32 from N_0]; omega
  unfold G8
  rw [dif_pos hN, ← outsAt0_sweep m c _ hN]
  refine Eq.trans (congrArg (outsAt0 m c (pt8Of (ix3 s r k)) hN).1 (a₂ := ix3 0 ⟨r.val % 512, Nat.mod_lt _ (by decide)⟩ k) (funext fun a => Fin.ext ?_))
    ((x_at m c s (r.val / 512) (by omega) ⟨_, hN⟩ hp ⟨r.val % 512, Nat.mod_lt _ (by decide)⟩ k).trans
      (congrArg₂ (fun n l => xOut (wts m c) (rows m c s) (outs m c) n l k) ?_ (Fin.ext ?_)))
  · match a with
    | ⟨0, _⟩ => show s.val % 1 = 0; omega
    | ⟨1, _⟩ => rfl
    | ⟨2, _⟩ => show k.val % 1024 = k.val; omega
  · show 8 * (r.val / 512) + r.val % 512 / 64 = r.val / 64; omega
  · show r.val % 512 % 64 = r.val % 64; omega

end Cert.Proof.Pre

end
-- ==== Proof.PreFrame.lean ====
/-
  The frames of the prompt's kernel and of its reference.
-/
module

public import proofs.«01_k».proof.Defs
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run

@[expose] public section

noncomputable section

namespace Cert.Proof

open Idealize.ShloMosaic Idealize.SL.Sem

attribute [local instance] Cert.Kernel2.Gen.facts Cert.Kernel2Ideal.Gen.facts Cert.Reference2Ideal.Gen.facts

/-- The prompt's kernel read at the ideal values ends, with its arguments as they were and every semaphore at zero. -/
theorem frame_kernel2Ideal : Cert.quiescent_Kernel2Ideal := fun m ρ _ => Cert.Kernel2Ideal.Gen.frame (F := Ideal) m ρ

/-- The prompt's reference ends, with its arguments as they were and every semaphore at zero. -/
theorem frame_reference2 : Cert.quiescent_Reference2Ideal := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)

/-- The prompt's kernel at the machine's own numbers ends the same way: it is the same text, run at another reading of the numbers. -/
theorem frame_kernel2 : Cert.quiescent_Kernel2 := fun m ρ _ =>
  Eq.mp (by sl_kernel_rfl) (Cert.Kernel2Ideal.Gen.frame (F := Bits) m ρ)

end Cert.Proof

end
-- ==== Proof.PreRef.lean ====
/-
  The reference of the prompt, entry by entry: the normed rows, their projections and the gate.
-/
module

public import proofs.«01_k».proof.Proof.PreTile
public import proofs.«01_k».proof.Proof.Gen.Reference2Ideal.Read

@[expose] public section

noncomputable section

namespace Cert.Proof.Pre

open Cert.Reference2Ideal Cert.Reference2Ideal.Gen Cert.Reference2Ideal.Read
open Idealize.ShloMosaic Idealize.ShloMosaic.ValueIdx Idealize.ShloMosaic.TcCoe
open scoped BigOperators

variable (x0 : FVec Ideal S8x2048x1024 .f32) (x1 : FVec Ideal S2x1024 .f32) (x2 : FVec Ideal S1x1024x7184 .f32)
  (x3 : FVec Ideal S1x16x512 .f32) (x4 : FVec Ideal S1x512 .f32)

/-- The weights, entry by entry. -/
def rWts : Wts where
  g k := x1 (ix2 0 k)
  w j k := x2 (ix3 0 k j)
  up k j := if h : k.val < 16 then x3 (ix3 0 ⟨k.val, h⟩ j) else 0
  b j := x4 (ix2 0 j)
/-- The rows of a sequence. -/
def rRows (s : Fin 8) (r : ℕ) (k : Fin 1024) : EReal := if h : r < 2048 then x0 (ix3 s ⟨r, h⟩ k) else 0

/-- A normed row; -/
theorem v14_row (s : Fin 8) (r : Fin 2048) (k : Fin 1024) :
    val_main_v14 (F := Ideal) x0 x1 (ix3 s r k) = hSeq (rWts x1 x2 x3 x4) (rRows x0 s) r.val k := by
  have hx : ∀ j : Fin 1024, rRows x0 s r.val j = x0 (ix3 s r j) := fun j => dif_pos r.isLt
  unfold hSeq normRow
  simp only [hx]
  rw [val_main_v14_apply, val_main_v9_apply, val_main_v8_apply, val_main_v7_apply, val_main_v6_apply, val_main_v4_apply, val_main_v2_apply, val_main_v1_apply,
    val_main_v13_apply, val_main_v12_apply, val_main_v11_apply, val_main_v10_apply]
  refine congrArg₂ (· * ·) (congrArg (x0 (ix3 s r k) * ·) (congrArg Ideal.rsqrt (congrArg₂ (· + ·) (congrArg₂ Ideal.div ?_ ?_) ?_))) ?_
  · refine (congrArg₂ (· + ·) Ideal.ofBits_zero_f32 (Finset.sum_congr rfl fun j _ => ?_)).trans (zero_add _)
    exact congrArg (fun y : EReal => y * y) (congrArg x0 (funext fun a => Fin.ext (match a with
      | ⟨0, _⟩ => rfl
      | ⟨1, _⟩ => rfl
      | ⟨2, _⟩ => rfl)))
  · rfl
  · rfl
  · exact congrArg x1 (funext fun a => Fin.ext (match a with
      | ⟨0, _⟩ => rfl
      | ⟨1, _⟩ => Nat.mod_eq_of_lt k.isLt))

/-- a projected one. -/
theorem v16_row (s : Fin 8) (r : Fin 2048) (j : Fin 7184) :
    val_main_v16 (F := Ideal) x0 x1 x2 (ix3 s r j) = dotRow (hSeq (rWts x1 x2 x3 x4) (rRows x0 s) r.val) ((rWts x1 x2 x3 x4).w j) := by
  rw [val_main_v16_apply]
  refine Finset.sum_congr rfl fun k _ => congrArg₂ (· * ·) (Eq.trans (congrArg (val_main_v14 (F := Ideal) x0 x1) (a₂ := ix3 s r k) (funext fun a => Fin.ext (match a with
      | ⟨0, _⟩ => rfl
      | ⟨1, _⟩ => rfl
      | ⟨2, _⟩ => rfl))) (v14_row x0 x1 x2 x3 x4 s r k)) ?_
  rw [val_main_v15_apply]
  exact congrArg x2 (funext fun a => Fin.ext (match a with
      | ⟨0, _⟩ => rfl
      | ⟨1, _⟩ => by show (k.val * 7184 + j.val) / 7184 % 1024 = k.val; omega
      | ⟨2, _⟩ => by show (k.val * 7184 + j.val) % 7184 = j.val; omega))

/-- An index of three axes is known by its three coordinates. -/
theorem coords3 {n0 n1 n2 : ℕ} (f : Shape.Idx ⟨3, ![n0, n1, n2]⟩) (a : Fin n0) (b : Fin n1) (c : Fin n2) (h0 : (f 0).val = a.val) (h1 : (f 1).val = b.val)
    (h2 : (f 2).val = c.val) : f = ix3 a b c :=
  funext fun k => Fin.ext (match k with
    | ⟨0, _⟩ => h0
    | ⟨1, _⟩ => h1
    | ⟨2, _⟩ => h2)

/-- One of five axes by its five. -/
theorem coords5 {n0 n1 n2 n3 n4 : ℕ} (f : Shape.Idx ⟨5, ![n0, n1, n2, n3, n4]⟩) (a : Fin n0) (b : Fin n1) (c : Fin n2) (d : Fin n3) (e : Fin n4)
    (h0 : (f 0).val = a.val) (h1 : (f 1).val = b.val) (h2 : (f 2).val = c.val) (h3 : (f 3).val = d.val) (h4 : (f 4).val = e.val) : f = ix5 a b c d e :=
  funext fun k => Fin.ext (match k with
    | ⟨0, _⟩ => h0
    | ⟨1, _⟩ => h1
    | ⟨2, _⟩ => h2
    | ⟨3, _⟩ => h3
    | ⟨4, _⟩ => h4)

/-- The keys, -/
theorem v18_row (s : Fin 8) (r : Fin 2048) (j : Fin 512) : val_main_v18 (F := Ideal) x0 x1 x2 (ix3 s r j) = kSeq (rWts x1 x2 x3 x4) (rRows x0 s) r.val j :=
  (val_main_v18_apply (F := Ideal) x0 x1 x2 (ix3 s r j)).trans ((congrArg (val_main_v16 (F := Ideal) x0 x1 x2) (coords3 _ s r ⟨512 + j.val, by omega⟩ rfl rfl rfl)).trans (v16_row x0 x1 x2 x3 x4 s r _))

/-- the values, -/
theorem v19_row (s : Fin 8) (r : Fin 2048) (j : Fin 1024) : val_main_v19 (F := Ideal) x0 x1 x2 (ix3 s r j) = vSeq (rWts x1 x2 x3 x4) (rRows x0 s) r.val j :=
  (val_main_v19_apply (F := Ideal) x0 x1 x2 (ix3 s r j)).trans ((congrArg (val_main_v16 (F := Ideal) x0 x1 x2) (coords3 _ s r ⟨1024 + j.val, by omega⟩ rfl rfl rfl)).trans (v16_row x0 x1 x2 x3 x4 s r _))

/-- the gate's inputs, -/
theorem v21_row (s : Fin 8) (r : Fin 2048) (j : Fin 16) :
    val_main_v21 (F := Ideal) x0 x1 x2 (ix3 s r j) = dotRow (hSeq (rWts x1 x2 x3 x4) (rRows x0 s) r.val) ((rWts x1 x2 x3 x4).w ⟨3072 + j.val, by omega⟩) :=
  (val_main_v21_apply (F := Ideal) x0 x1 x2 (ix3 s r j)).trans ((congrArg (val_main_v16 (F := Ideal) x0 x1 x2) (coords3 _ s r ⟨3072 + j.val, by omega⟩ rfl rfl rfl)).trans (v16_row x0 x1 x2 x3 x4 s r _))

/-- and what the convolution reads. -/
theorem v307_row (s : Fin 8) (r : Fin 2048) (j : Fin 1024) : val_main_v307 (F := Ideal) x0 x1 x2 (ix3 s r j) = uSeq (rWts x1 x2 x3 x4) (rRows x0 s) r.val j :=
  congrArg₂ (fun y z : EReal => y * z)
    ((val_main_v24_apply (F := Ideal) x0 x1 x2 (ix3 s r j)).trans ((congrArg (val_main_v16 (F := Ideal) x0 x1 x2) (coords3 _ s r ⟨5136 + j.val, by omega⟩ rfl rfl rfl)).trans (v16_row x0 x1 x2 x3 x4 s r _)))
    ((val_main_v22_apply (F := Ideal) x0 x1 x2 (ix3 s r j)).trans ((congrArg (val_main_v16 (F := Ideal) x0 x1 x2) (coords3 _ s r ⟨3088 + j.val, by omega⟩ rfl rfl rfl)).trans (v16_row x0 x1 x2 x3 x4 s r _)))

/-- The gate before its sigmoid: the sixteen inputs it has are those the kernel pads with zeros. -/
theorem v31_row (s : Fin 8) (r : Fin 2048) (j : Fin 512) : val_main_v31 (F := Ideal) x0 x1 x2 x3 x4 (ix3 s r j) =
    gatePre (fun k => dotRow (hSeq (rWts x1 x2 x3 x4) (rRows x0 s) r.val) ((rWts x1 x2 x3 x4).w ⟨3072 + k.val, by omega⟩)) (rWts x1 x2 x3 x4).up (rWts x1 x2 x3 x4).b j := by
  rw [val_main_v31_apply, val_main_v30_apply, val_main_v29_apply, val_main_v28_apply]
  unfold gatePre
  refine congrArg₂ (fun y z : EReal => y + z) (Eq.trans ?_ (sum_pad _ (fun k => (rWts x1 x2 x3 x4).up k j) (fun k hk => dif_neg (by omega))).symm) ?_
  · rw [val_main_v27_apply]
    refine Finset.sum_congr rfl fun k _ => congrArg₂ (fun y z : EReal => y * z)
      ((congrArg (val_main_v21 (F := Ideal) x0 x1 x2) (coords3 _ s r k rfl rfl rfl)).trans (v21_row x0 x1 x2 x3 x4 s r k)) ?_
    have hu : x3 (ix3 0 k j) = (rWts x1 x2 x3 x4).up ⟨k.val, by omega⟩ j := by
      show _ = if h : k.val < 16 then x3 (ix3 0 ⟨k.val, h⟩ j) else 0
      rw [dif_pos k.isLt]
    rw [val_main_v26_apply]
    refine Eq.trans (congrArg x3 (coords3 _ 0 k j rfl ?_ ?_)) hu
    · show (k.val * 512 + j.val) / 512 % 16 = k.val; omega
    · show (k.val * 512 + j.val) % 512 = j.val; omega
  · exact congrArg x4 (funext fun a => Fin.ext (match a with
      | ⟨0, _⟩ => rfl
      | ⟨1, _⟩ => Nat.mod_eq_of_lt j.isLt))

/-- The constant the logarithm is divided by is sixteen. -/
theorem ofBits_sixteen : Ideal.ofBits .f32 0x41800000#32 = ((16 : ℝ) : EReal) := by
  simp [Ideal.ofBits, Ideal.ieee, -EReal.coe_mul]; norm_num

/-- The logarithm of the sigmoid over sixteen, as the reference writes it: no number differs from itself. -/
theorem gate_scalar (z e : EReal) : Ideal.div (-(Scalar.select (Ideal.cmp .une (-z - Ideal.ofBits .f32 0x00000000#32) (-z - Ideal.ofBits .f32 0x00000000#32)) e
    (max (-z) (Ideal.ofBits .f32 0x00000000#32) + Ideal.log1p (Ideal.exp (-(max (-z - Ideal.ofBits .f32 0x00000000#32) (-(-z - Ideal.ofBits .f32 0x00000000#32))))))))
    (Ideal.ofBits .f32 0x41800000#32) = gateLog z := by
  rw [ofBits_sixteen, Ideal.ofBits_zero_f32, sub_zero, neg_neg]
  have h16 : ((16 : ℝ) : EReal)⁻¹ = ((1 / 16 : ℝ) : EReal) := by rw [← EReal.coe_inv]; norm_num
  have hne : ((16 : ℝ) : EReal) ≠ 0 := by exact_mod_cast (by norm_num : (16 : ℝ) ≠ 0)
  have hc : Ideal.cmp .une (-z) (-z) = 0#1 := by simp [Ideal.cmp]
  unfold gateLog Ideal.div Ideal.log1p
  rw [if_neg hne, h16, hc, zero_sub, zero_sub, zero_sub, max_comm (-z) z]
  rfl

/-- The gate's logarithm. -/
theorem v34_row (s : Fin 8) (r : Fin 2048) (j : Fin 512) : val_main_v34 (F := Ideal) x0 x1 x2 x3 x4 (ix3 s r j) = aSeq (rWts x1 x2 x3 x4) (rRows x0 s) r.val j := by
  unfold aSeq
  rw [← v31_row, ← gate_scalar _ (val_main_call0_call0_v6 (F := Ideal) x0 x1 x2 x3 x4 (ix3 s r j))]
  rfl

end Cert.Proof.Pre

end
-- ==== Proof.PreScan.lean ====
/-
  The reference of the prompt, entry by entry: its chunks, their sums, and the state over the chunks.
-/
module

public import proofs.«01_k».proof.Proof.PreRef
public import Idealize.ShloMosaic.Lib.Tactic

@[expose] public section

noncomputable section

namespace Cert.Proof.Pre

open Cert.Reference2Ideal Cert.Reference2Ideal.Gen Cert.Reference2Ideal.Read
open Idealize.ShloMosaic Idealize.ShloMosaic.ValueIdx Idealize.ShloMosaic.TcCoe
open scoped BigOperators

variable (x0 : FVec Ideal S8x2048x1024 .f32) (x1 : FVec Ideal S2x1024 .f32) (x2 : FVec Ideal S1x1024x7184 .f32)
  (x3 : FVec Ideal S1x16x512 .f32) (x4 : FVec Ideal S1x512 .f32)

/-- The sequences' gates, keys and values. -/
abbrev rA (s : Fin 8) : ℕ → Fin 512 → EReal := aSeq (rWts x1 x2 x3 x4) (rRows x0 s)
abbrev rK (s : Fin 8) : ℕ → Fin 512 → EReal := kSeq (rWts x1 x2 x3 x4) (rRows x0 s)
abbrev rV (s : Fin 8) : ℕ → Fin 1024 → EReal := vSeq (rWts x1 x2 x3 x4) (rRows x0 s)

/-- The keys of a chunk, by head; -/
theorem v36_block (s : Fin 8) (h : Fin 4) (n : Fin 32) (l : Fin 64) (d : Fin 128) :
    val_main_v36 (F := Ideal) x0 x1 x2 (ix5 s h n l d) = rK x0 x1 x2 x3 x4 s (64 * n.val + l.val) ⟨128 * h.val + d.val, by omega⟩ := by
  rw [val_main_v36_apply, val_main_v35_apply]
  refine Eq.trans (congrArg (val_main_v18 (F := Ideal) x0 x1 x2) (coords3 _ s ⟨64 * n.val + l.val, by omega⟩ ⟨128 * h.val + d.val, by omega⟩ ?_ ?_ ?_)) (v18_row x0 x1 x2 x3 x4 s _ _)
  · show ((((s.val * 32 + n.val) * 64 + l.val) * 4 + h.val) * 128 + d.val) / 1048576 = s.val; omega
  · show ((((s.val * 32 + n.val) * 64 + l.val) * 4 + h.val) * 128 + d.val) / 512 % 2048 = 64 * n.val + l.val; omega
  · show ((((s.val * 32 + n.val) * 64 + l.val) * 4 + h.val) * 128 + d.val) % 512 = 128 * h.val + d.val; omega

/-- the gates' logarithms; -/
theorem v40_block (s : Fin 8) (h : Fin 4) (n : Fin 32) (l : Fin 64) (d : Fin 128) :
    val_main_v40 (F := Ideal) x0 x1 x2 x3 x4 (ix5 s h n l d) = rA x0 x1 x2 x3 x4 s (64 * n.val + l.val) ⟨128 * h.val + d.val, by omega⟩ := by
  rw [val_main_v40_apply, val_main_v39_apply]
  refine Eq.trans (congrArg (val_main_v34 (F := Ideal) x0 x1 x2 x3 x4) (coords3 _ s ⟨64 * n.val + l.val, by omega⟩ ⟨128 * h.val + d.val, by omega⟩ ?_ ?_ ?_)) (v34_row x0 x1 x2 x3 x4 s _ _)
  · show ((((s.val * 32 + n.val) * 64 + l.val) * 4 + h.val) * 128 + d.val) / 1048576 = s.val; omega
  · show ((((s.val * 32 + n.val) * 64 + l.val) * 4 + h.val) * 128 + d.val) / 512 % 2048 = 64 * n.val + l.val; omega
  · show ((((s.val * 32 + n.val) * 64 + l.val) * 4 + h.val) * 128 + d.val) % 512 = 128 * h.val + d.val; omega

/-- the values. -/
theorem v38_block (s : Fin 8) (h : Fin 4) (n : Fin 32) (l : Fin 64) (e : Fin 256) :
    val_main_v38 (F := Ideal) x0 x1 x2 (ix5 s h n l e) = rV x0 x1 x2 x3 x4 s (64 * n.val + l.val) ⟨256 * h.val + e.val, by omega⟩ := by
  rw [val_main_v38_apply, val_main_v37_apply]
  refine Eq.trans (congrArg (val_main_v19 (F := Ideal) x0 x1 x2) (coords3 _ s ⟨64 * n.val + l.val, by omega⟩ ⟨256 * h.val + e.val, by omega⟩ ?_ ?_ ?_)) (v19_row x0 x1 x2 x3 x4 s _ _)
  · show ((((s.val * 32 + n.val) * 64 + l.val) * 4 + h.val) * 256 + e.val) / 2097152 = s.val; omega
  · show ((((s.val * 32 + n.val) * 64 + l.val) * 4 + h.val) * 256 + e.val) / 1024 % 2048 = 64 * n.val + l.val; omega
  · show ((((s.val * 32 + n.val) * 64 + l.val) * 4 + h.val) * 256 + e.val) % 1024 = 256 * h.val + e.val; omega

/-- Adding up a list from a start is the start and the list's sum. -/
theorem foldl_sum {ι : Type} (g : ι → EReal) (l : List ι) (v : EReal) : l.foldl (fun r n => r + g n) v = v + (l.map g).sum := by
  induction l generalizing v with
  | nil => exact (add_zero v).symm
  | cons a l ih => rw [List.foldl_cons, ih, List.map_cons, List.sum_cons, add_assoc]

/-- The window of the running sum. -/
abbrev Wd : Shape := ⟨5, ![1, 1, 1, 64, 1]⟩

/-- A place in it is a row. -/
def wdEquiv : Wd.Idx ≃ Fin 64 where
  toFun p := p 3
  invFun n := ix5 0 0 0 n 0
  left_inv p := (coords5 p 0 0 0 (p 3) 0 (Nat.lt_one_iff.mp (p 0).isLt) (Nat.lt_one_iff.mp (p 1).isLt) (Nat.lt_one_iff.mp (p 2).isLt) rfl (Nat.lt_one_iff.mp (p 4).isLt)).symm
  right_inv _ := rfl

/-- The running sums of the gates within a chunk. -/
theorem v41_block (s : Fin 8) (h : Fin 4) (n : Fin 32) (l : Fin 64) (d : Fin 128) :
    val_main_v41 (F := Ideal) x0 x1 x2 x3 x4 (ix5 s h n l d) = cumAt (rA x0 x1 x2 x3 x4 s) n.val l ⟨128 * h.val + d.val, by omega⟩ := by
  unfold cumAt val_main_v41
  rw [← sum_window]
  have hv : ∀ i : S_.Idx, val_main_call1_call0_v0 (F := Ideal) i = (0 : EReal) := fun i => (val_main_call1_call0_v0_apply (F := Ideal) i).trans Ideal.ofBits_zero_f32
  have hz : ∀ (l : Fin 64), val_main_v40 (F := Ideal) x0 x1 x2 x3 x4 (ix5 s h n l d) = rA x0 x1 x2 x3 x4 s (64 * n.val + l.val) ⟨128 * h.val + d.val, by omega⟩ :=
    fun l => v40_block x0 x1 x2 x3 x4 s h n l d
  generalize val_main_v40 (F := Ideal) x0 x1 x2 x3 x4 = y at hz
  refine (foldl_sum _ _ _).trans ?_
  rw [← Fin.sum_univ_def, hv, zero_add]
  refine ((Equiv.sum_comp (Wd.rowMajor.symm.trans wdEquiv) _).symm.trans ?_).symm
  refine Finset.sum_congr rfl fun p _ => ?_
  have q0 : (Wd.rowMajor.symm p 0).val = 0 := Nat.lt_one_iff.mp (Wd.rowMajor.symm p 0).isLt
  have q1 : (Wd.rowMajor.symm p 1).val = 0 := Nat.lt_one_iff.mp (Wd.rowMajor.symm p 1).isLt
  have q2 : (Wd.rowMajor.symm p 2).val = 0 := Nat.lt_one_iff.mp (Wd.rowMajor.symm p 2).isLt
  have q3 : (Wd.rowMajor.symm p 3).val < 64 := (Wd.rowMajor.symm p 3).isLt
  have q4 : (Wd.rowMajor.symm p 4).val = 0 := Nat.lt_one_iff.mp (Wd.rowMajor.symm p 4).isLt
  have hl := l.isLt
  by_cases hc : 63 ≤ l.val + (Wd.rowMajor.symm p 3).val
  · refine (dif_pos hc).trans ((hz _).symm.trans (Eq.trans ?_ (dif_pos ?_).symm))
    · refine congrArg y (coords5 _ _ _ _ _ _ ?_ ?_ ?_ ?_ ?_).symm
      · show s.val * 1 + (Wd.rowMajor.symm p 0).val - 0 = s.val; omega
      · show h.val * 1 + (Wd.rowMajor.symm p 1).val - 0 = h.val; omega
      · show n.val * 1 + (Wd.rowMajor.symm p 2).val - 0 = n.val; omega
      · show l.val * 1 + (Wd.rowMajor.symm p 3).val - 63 = l.val + (Wd.rowMajor.symm p 3).val - 63; omega
      · show d.val * 1 + (Wd.rowMajor.symm p 4).val - 0 = d.val; omega
    · intro a
      match a with
      | 0 => show 0 ≤ s.val * 1 + (Wd.rowMajor.symm p 0).val ∧ s.val * 1 + (Wd.rowMajor.symm p 0).val - 0 < 8; omega
      | 1 => show 0 ≤ h.val * 1 + (Wd.rowMajor.symm p 1).val ∧ h.val * 1 + (Wd.rowMajor.symm p 1).val - 0 < 4; omega
      | 2 => show 0 ≤ n.val * 1 + (Wd.rowMajor.symm p 2).val ∧ n.val * 1 + (Wd.rowMajor.symm p 2).val - 0 < 32; omega
      | 3 => show 63 ≤ l.val * 1 + (Wd.rowMajor.symm p 3).val ∧ l.val * 1 + (Wd.rowMajor.symm p 3).val - 63 < 64; omega
      | 4 => show 0 ≤ d.val * 1 + (Wd.rowMajor.symm p 4).val ∧ d.val * 1 + (Wd.rowMajor.symm p 4).val - 0 < 128; omega
  · refine (dif_neg hc).trans (Eq.trans ?_ (dif_neg fun hin => hc ?_).symm)
    · rfl
    have h3 : 63 ≤ l.val * 1 + (Wd.rowMajor.symm p 3).val := (hin 3).1
    omega

/-- A chunk's decays from its rows to its end, times its keys. -/
theorem v46_block (s : Fin 8) (h : Fin 4) (n : Fin 32) (l : Fin 64) (d : Fin 128) :
    val_main_v46 (F := Ideal) x0 x1 x2 x3 x4 (ix5 s h n l d) = kdAt (rA x0 x1 x2 x3 x4 s) (rK x0 x1 x2 x3 x4 s) n.val l ⟨128 * h.val + d.val, by omega⟩ := by
  have h42 : val_main_v43 (F := Ideal) x0 x1 x2 x3 x4 (ix5 s h n l d) = cumAt (rA x0 x1 x2 x3 x4 s) n.val 63 ⟨128 * h.val + d.val, by omega⟩ := by
    rw [val_main_v43_apply, val_main_v42_apply]
    exact Eq.trans (congrArg (val_main_v41 (F := Ideal) x0 x1 x2 x3 x4) (coords5 _ s h n 63 d rfl rfl rfl rfl rfl)) (v41_block x0 x1 x2 x3 x4 s h n 63 d)
  rw [val_main_v46_apply, val_main_v45_apply, val_main_v44_apply, h42, v36_block x0 x1 x2 x3 x4, v41_block x0 x1 x2 x3 x4]
  rfl

/-- What a chunk adds to the state. -/
theorem v47_block (s : Fin 8) (h : Fin 4) (n : Fin 32) (d : Fin 128) (e : Fin 256) :
    val_main_v47 (F := Ideal) x0 x1 x2 x3 x4 (ix5 s h n d e)
      = addAt (rA x0 x1 x2 x3 x4 s) (rK x0 x1 x2 x3 x4 s) (rV x0 x1 x2 x3 x4 s) n.val h e d := by
  rw [val_main_v47_apply]
  refine Finset.sum_congr rfl fun l _ => ?_
  refine Eq.trans (congrArg₂ (· * ·) ?_ ?_) (mul_comm _ _)
  · exact Eq.trans (congrArg (val_main_v46 (F := Ideal) x0 x1 x2 x3 x4) (coords5 _ s h n l d rfl rfl rfl rfl rfl)) (v46_block x0 x1 x2 x3 x4 s h n l d)
  · exact Eq.trans (congrArg (val_main_v38 (F := Ideal) x0 x1 x2) (coords5 _ s h n l e rfl rfl rfl rfl rfl)) (v38_block x0 x1 x2 x3 x4 s h n l e)

/-- The decay over a chunk. -/
theorem v49_block (s : Fin 8) (h : Fin 4) (n : Fin 32) (d : Fin 128) :
    val_main_v49 (F := Ideal) x0 x1 x2 x3 x4 (ix4 s h n d) = decAt (rA x0 x1 x2 x3 x4 s) n.val ⟨128 * h.val + d.val, by omega⟩ := by
  rw [val_main_v49_apply, val_main_v48_apply, val_main_v42_apply]
  refine congrArg Ideal.exp (Eq.trans (congrArg (val_main_v41 (F := Ideal) x0 x1 x2 x3 x4) (coords5 _ s h n 63 d ?_ ?_ ?_ ?_ ?_)) (v41_block x0 x1 x2 x3 x4 s h n 63 d))
  · show (((s.val * 4 + h.val) * 32 + n.val) * 128 + d.val) / 16384 = s.val; omega
  · show (((s.val * 4 + h.val) * 32 + n.val) * 128 + d.val) / 4096 % 4 = h.val; omega
  · show (((s.val * 4 + h.val) * 32 + n.val) * 128 + d.val) / 128 % 32 = n.val; omega
  · rfl
  · show (((s.val * 4 + h.val) * 32 + n.val) * 128 + d.val) % 128 = d.val; omega

/-- The slice of one chunk's decay; -/
theorem slices_dec (n : Fin 32) : S8x4x32x128.Slices ![0, 0, n.val, 0] S8x4x1x128 :=
  ⟨rfl, fun a => match a with
    | 0 => (by decide : 0 + 8 ≤ 8)
    | 1 => (by decide : 0 + 4 ≤ 4)
    | 2 => n.isLt
    | 3 => (by decide : 0 + 128 ≤ 128)⟩

/-- of what it adds. -/
theorem slices_add (n : Fin 32) : S8x4x32x128x256.Slices ![0, 0, n.val, 0, 0] S8x4x1x128x256 :=
  ⟨rfl, fun a => match a with
    | 0 => (by decide : 0 + 8 ≤ 8)
    | 1 => (by decide : 0 + 4 ≤ 4)
    | 2 => n.isLt
    | 3 => (by decide : 0 + 128 ≤ 128)
    | 4 => (by decide : 0 + 256 ≤ 256)⟩

/-- One chunk's update of the state. -/
def stepOf (dec : FVec Ideal S8x4x32x128 .f32) (add : FVec Ideal S8x4x32x128x256 .f32) (n : Fin 32)
    (st : FVec Ideal S8x4x128x256 .f32) : FVec Ideal S8x4x128x256 .f32 :=
  addf (mulf (broadcastInDim S8x4x128x256 ![0, 1, 2, 3] bcast_S8x4x128x1_S8x4x128x256_0_1_2_3
      (broadcastInDim S8x4x128x1 ![0, 1, 2] bcast_S8x4x128_S8x4x128x1_0_1_2
        (shapeCast _ (extractStridedSlice S8x4x1x128 ![0, 0, n.val, 0] dec (slices_dec n)) shapeCasts_S8x4x1x128_S8x4x128))) st)
    (shapeCast _ (extractStridedSlice S8x4x1x128x256 ![0, 0, n.val, 0, 0] add (slices_add n)) shapeCasts_S8x4x1x128x256_S8x4x128x256)

/-- The state after some chunks. -/
def stepN (dec : FVec Ideal S8x4x32x128 .f32) (add : FVec Ideal S8x4x32x128x256 .f32) (st : FVec Ideal S8x4x128x256 .f32) :
    (n : ℕ) → n ≤ 32 → FVec Ideal S8x4x128x256 .f32
  | 0, _ => st
  | n + 1, h => stepOf dec add ⟨n, h⟩ (stepN dec add st n (Nat.le_of_succ_le h))

/-- One update, entry by entry. -/
theorem stepOf_apply (dec : FVec Ideal S8x4x32x128 .f32) (add : FVec Ideal S8x4x32x128x256 .f32) (n : Fin 32)
    (st : FVec Ideal S8x4x128x256 .f32) (s : Fin 8) (h : Fin 4) (d : Fin 128) (e : Fin 256) :
    (stepOf dec add n st (ix4 s h d e) : EReal) = st (ix4 s h d e) * dec (ix4 s h n d) + add (ix5 s h n d e) := by
  refine congrArg₂ (fun a b : EReal => a + b) ((congrArg (fun a : EReal => a * st (ix4 s h d e)) ?_).trans (mul_comm _ _)) ?_
  · refine (broadcastInDim_apply _ _ _ (ix4 s h d e) (ix4 s h d 0) ?_).trans ?_
    · intro a
      match a with
      | 0 => rfl
      | 1 => rfl
      | 2 => rfl
      | 3 => rfl
    refine (broadcastInDim_apply _ _ _ (ix4 s h d 0) (ix3 s h d) ?_).trans ?_
    · intro a
      match a with
      | 0 => rfl
      | 1 => rfl
      | 2 => rfl
    refine (shapeCast_apply _ _ (ix3 s h d) (ix4 s h 0 d) ?_).trans ?_
    · rw [Shape.rowMajor_val_three, Shape.rowMajor_val_four]
      show ((s.val * 4 + h.val) * 1 + 0) * 128 + d.val = (s.val * 4 + h.val) * 128 + d.val
      omega
    refine extractStridedSlice_apply _ _ _ (ix4 s h 0 d) (ix4 s h n d) ?_
    intro a
    match a with
    | 0 => exact (Nat.zero_add _).symm
    | 1 => exact (Nat.zero_add _).symm
    | 2 => rfl
    | 3 => exact (Nat.zero_add _).symm
  · refine (shapeCast_apply _ _ (ix4 s h d e) (ix5 s h 0 d e) ?_).trans ?_
    · rw [Shape.rowMajor_val_five, Shape.rowMajor_val_four]
      show (((s.val * 4 + h.val) * 1 + 0) * 128 + d.val) * 256 + e.val = ((s.val * 4 + h.val) * 128 + d.val) * 256 + e.val
      omega
    refine extractStridedSlice_apply _ _ _ (ix5 s h 0 d e) (ix5 s h n d e) ?_
    intro a
    match a with
    | 0 => exact (Nat.zero_add _).symm
    | 1 => exact (Nat.zero_add _).symm
    | 2 => rfl
    | 3 => exact (Nat.zero_add _).symm
    | 4 => exact (Nat.zero_add _).symm

/-- The updates from an empty state, entry by entry, are the recurrence. -/
theorem stepN_apply (s : Fin 8) (h : Fin 4) (d : Fin 128) (e : Fin 256) (n : ℕ) (hn : n ≤ 32) :
    (stepN (val_main_v49 (F := Ideal) x0 x1 x2 x3 x4) (val_main_v47 (F := Ideal) x0 x1 x2 x3 x4) (val_main_v50 (F := Ideal)) n hn (ix4 s h d e) : EReal)
      = stAt (rA x0 x1 x2 x3 x4 s) (rK x0 x1 x2 x3 x4 s) (rV x0 x1 x2 x3 x4 s) h e d n := by
  induction n with
  | zero => exact (val_main_v50_apply (F := Ideal) _).trans Ideal.ofBits_zero_f32
  | succ n ih =>
    refine (stepOf_apply _ _ ⟨n, hn⟩ _ s h d e).trans ?_
    rw [ih, v49_block, v47_block]
    rfl

/-- The reference's state is the last update's. -/
theorem v306_steps : val_main_v306 (F := Ideal) x0 x1 x2 x3 x4
    = stepN (val_main_v49 (F := Ideal) x0 x1 x2 x3 x4) (val_main_v47 (F := Ideal) x0 x1 x2 x3 x4) (val_main_v50 (F := Ideal)) 32 (le_refl 32) := by
  sl_kernel_rfl

/-- The reference's first result, entry by entry, -/
theorem v308_at (s : Fin 8) (h : Fin 4) (d : Fin 128) (e : Fin 256) :
    val_main_v308 (F := Ideal) x0 x1 x2 x3 x4 (ix5 0 s h d e)
      = stAt (rA x0 x1 x2 x3 x4 s) (rK x0 x1 x2 x3 x4 s) (rV x0 x1 x2 x3 x4 s) h e d 32 := by
  rw [val_main_v308_apply, v306_steps]
  refine Eq.trans (congrArg _ ?_) (stepN_apply x0 x1 x2 x3 x4 s h d e 32 (le_refl 32))
  exact funext fun a => match a with
    | 0 => rfl
    | 1 => rfl
    | 2 => rfl
    | 3 => rfl

/-- its second. -/
theorem v310_at (s : Fin 8) (q : Fin 2) (j : Fin 1024) :
    val_main_v310 (F := Ideal) x0 x1 x2 (ix4 0 s q j) = uSeq (rWts x1 x2 x3 x4) (rRows x0 s) (2046 + q.val) j := by
  rw [val_main_v310_apply, val_main_v309_apply]
  refine Eq.trans (congrArg (val_main_v307 (F := Ideal) x0 x1 x2) (coords3 _ s ⟨2046 + q.val, by omega⟩ j ?_ ?_ ?_)) (v307_row x0 x1 x2 x3 x4 s _ _)
  · rfl
  · rfl
  · rfl

end Cert.Proof.Pre

end
-- ==== Proof.PreOut.lean ====
/-
  The reference of the prompt, entry by entry: the heads' outputs, the convolution's and the result's rows.
-/
module

public import proofs.«01_k».proof.Proof.PreRow
public import proofs.«01_k».proof.Proof.PreScan

@[expose] public section

noncomputable section

namespace Cert.Proof.Pre

open Cert.Reference2Ideal Cert.Reference2Ideal.Gen Cert.Reference2Ideal.Read
open Idealize.ShloMosaic Idealize.ShloMosaic.ValueIdx Idealize.ShloMosaic.TcCoe
open scoped BigOperators

variable (x0 : FVec Ideal S8x2048x1024 .f32) (x1 : FVec Ideal S2x1024 .f32) (x2 : FVec Ideal S1x1024x7184 .f32)
  (x3 : FVec Ideal S1x16x512 .f32) (x4 : FVec Ideal S1x512 .f32) (x5 : FVec Ideal S1x256 .f32) (x6 : FVec Ideal S1x3x1024 .f32) (x7 : FVec Ideal S1x2048x1024 .f32)

/-- The output's weights, entry by entry. -/
def rOuts : Outs where
  gn e := x5 (ix2 0 e)
  ws k c := x6 (ix3 0 k c)
  wo k c := x7 (ix3 0 k c)

/-- An index of four axes is known by its four coordinates. -/
theorem coords4 {n0 n1 n2 n3 : ℕ} (f : Shape.Idx ⟨4, ![n0, n1, n2, n3]⟩) (a : Fin n0) (b : Fin n1) (c : Fin n2) (d : Fin n3)
    (h0 : (f 0).val = a.val) (h1 : (f 1).val = b.val) (h2 : (f 2).val = c.val) (h3 : (f 3).val = d.val) : f = ix4 a b c d :=
  funext fun k => Fin.ext (match k with
    | ⟨0, _⟩ => h0
    | ⟨1, _⟩ => h1
    | ⟨2, _⟩ => h2
    | ⟨3, _⟩ => h3)

/-! ## The projections -/

/-- The queries, before their scale, -/
theorem v17_row (s : Fin 8) (r : Fin 2048) (j : Fin 512) : val_main_v17 (F := Ideal) x0 x1 x2 (ix3 s r j) = dotRow (hSeq (rWts x1 x2 x3 x4) (rRows x0 s) r.val) ((rWts x1 x2 x3 x4).w ⟨j.val, by omega⟩) :=
  (val_main_v17_apply (F := Ideal) x0 x1 x2 (ix3 s r j)).trans ((congrArg (val_main_v16 (F := Ideal) x0 x1 x2) (coords3 _ s r ⟨j.val, by omega⟩ rfl rfl rfl)).trans (v16_row x0 x1 x2 x3 x4 s r _))

/-- the output's gate, -/
theorem v20_row (s : Fin 8) (r : Fin 2048) (j : Fin 1024) : val_main_v20 (F := Ideal) x0 x1 x2 (ix3 s r j) = gSeq (rWts x1 x2 x3 x4) (rRows x0 s) r.val j :=
  (val_main_v20_apply (F := Ideal) x0 x1 x2 (ix3 s r j)).trans ((congrArg (val_main_v16 (F := Ideal) x0 x1 x2) (coords3 _ s r ⟨2048 + j.val, by omega⟩ rfl rfl rfl)).trans (v16_row x0 x1 x2 x3 x4 s r _))

/-- the convolution's gate -/
theorem v23_row (s : Fin 8) (r : Fin 2048) (j : Fin 1024) : val_main_v23 (F := Ideal) x0 x1 x2 (ix3 s r j) = bSeq (rWts x1 x2 x3 x4) (rRows x0 s) r.val j :=
  (val_main_v23_apply (F := Ideal) x0 x1 x2 (ix3 s r j)).trans ((congrArg (val_main_v16 (F := Ideal) x0 x1 x2) (coords3 _ s r ⟨4112 + j.val, by omega⟩ rfl rfl rfl)).trans (v16_row x0 x1 x2 x3 x4 s r _))

/-- and its output's. -/
theorem v25_row (s : Fin 8) (r : Fin 2048) (j : Fin 1024) : val_main_v25 (F := Ideal) x0 x1 x2 (ix3 s r j) = zSeq (rWts x1 x2 x3 x4) (rRows x0 s) r.val j :=
  (val_main_v25_apply (F := Ideal) x0 x1 x2 (ix3 s r j)).trans ((congrArg (val_main_v16 (F := Ideal) x0 x1 x2) (coords3 _ s r ⟨6160 + j.val, by omega⟩ rfl rfl rfl)).trans (v16_row x0 x1 x2 x3 x4 s r _))

/-- The product of a number and its sigmoid, as the reference writes it. -/
theorem silu (z y : EReal) (hz : z = y) : z * Ideal.div (Ideal.ofBits .f32 0x3F800000#32) (Ideal.ofBits .f32 0x3F800000#32 + Ideal.exp (-z)) = sil y := by
  rw [ofBits_one, hz]
  exact sil_eq y

/-! ## A head's output -/

/-- The scaled queries of a chunk, by head; -/
theorem v314_block (s : Fin 8) (h : Fin 4) (n : Fin 32) (l : Fin 64) (d : Fin 128) :
    val_main_v314 (F := Ideal) x0 x1 x2 (ix5 s h n l d) = qSeq (rWts x1 x2 x3 x4) (rRows x0 s) (64 * n.val + l.val) ⟨128 * h.val + d.val, by omega⟩ := by
  rw [val_main_v314_apply, val_main_v313_apply]
  refine Eq.trans (congrArg (val_main_v312 (F := Ideal) x0 x1 x2) (coords3 _ s ⟨64 * n.val + l.val, by omega⟩ ⟨128 * h.val + d.val, by omega⟩ ?_ ?_ ?_))
    (congrArg (fun a : EReal => a * Ideal.ofBits .f32 0x3DB504F3#32) (v17_row x0 x1 x2 x3 x4 s ⟨64 * n.val + l.val, by omega⟩ ⟨128 * h.val + d.val, by omega⟩))
  · show ((((s.val * 32 + n.val) * 64 + l.val) * 4 + h.val) * 128 + d.val) / 1048576 = s.val; omega
  · show ((((s.val * 32 + n.val) * 64 + l.val) * 4 + h.val) * 128 + d.val) / 512 % 2048 = 64 * n.val + l.val; omega
  · show ((((s.val * 32 + n.val) * 64 + l.val) * 4 + h.val) * 128 + d.val) % 512 = 128 * h.val + d.val; omega

/-- by their decay; -/
theorem v316_block (s : Fin 8) (h : Fin 4) (n : Fin 32) (l : Fin 64) (d : Fin 128) :
    val_main_v316 (F := Ideal) x0 x1 x2 x3 x4 (ix5 s h n l d) = qeAt (rWts x1 x2 x3 x4) (rRows x0 s) n.val l ⟨128 * h.val + d.val, by omega⟩ := by
  rw [val_main_v316_apply, val_main_v315_apply, v314_block x0 x1 x2 x3 x4, v41_block x0 x1 x2 x3 x4]
  rfl

/-- and the keys by its inverse. -/
theorem v319_block (s : Fin 8) (h : Fin 4) (n : Fin 32) (l : Fin 64) (d : Fin 128) :
    val_main_v319 (F := Ideal) x0 x1 x2 x3 x4 (ix5 s h n l d) = keAt (rWts x1 x2 x3 x4) (rRows x0 s) n.val l ⟨128 * h.val + d.val, by omega⟩ := by
  rw [val_main_v319_apply, val_main_v318_apply, val_main_v317_apply, v36_block x0 x1 x2 x3 x4, v41_block x0 x1 x2 x3 x4]
  rfl

/-- The comparison of two rows of a chunk. -/
theorem mask_le : ∀ l m : Fin 64, IntOp.cmpi .sge (BitVec.ofNat 32 l.val) (BitVec.ofNat 32 m.val) = if m.val ≤ l.val then 1#1 else 0#1 := by
  decide +kernel

/-- A chunk's scores. -/
theorem v328_block (s : Fin 8) (h : Fin 4) (n : Fin 32) (l m : Fin 64) :
    val_main_v328 (F := Ideal) x0 x1 x2 x3 x4 (ix5 s h n l m) = scAt (rWts x1 x2 x3 x4) (rRows x0 s) n.val h l m := by
  have hm : val_main_call2_v1 (F := Ideal) (ix5 s h n l m) = if m.val ≤ l.val then 1#1 else 0#1 := by
    rw [val_main_call2_v1_apply, val_main_v326_apply, val_main_v324_apply, val_main_v325_apply, val_main_v321_apply, val_main_v323_apply]
    exact mask_le l m
  rw [val_main_v328_apply, hm]
  unfold scAt
  by_cases hc : m.val ≤ l.val
  · rw [if_pos hc, if_pos hc]
    refine Eq.trans (val_main_v327_apply x0 x1 x2 x3 x4 (ix5 s h n l m)) (Finset.sum_congr rfl fun k _ => congrArg₂ (fun a b : EReal => a * b) ?_ ?_)
    · exact (congrArg (val_main_v316 (F := Ideal) x0 x1 x2 x3 x4) (coords5 _ s h n l k rfl rfl rfl rfl rfl)).trans (v316_block x0 x1 x2 x3 x4 s h n l k)
    · exact (congrArg (val_main_v319 (F := Ideal) x0 x1 x2 x3 x4) (coords5 _ s h n m k rfl rfl rfl rfl rfl)).trans (v319_block x0 x1 x2 x3 x4 s h n m k)
  · rw [if_neg hc, if_neg hc]
    exact (val_main_call2_v2_apply (F := Ideal) (ix5 s h n l m)).trans Ideal.ofBits_zero_f32

/-- The entries of a sequence from one place on. -/
def listN {α : Type} (g : ℕ → α) : ℕ → ℕ → List α
  | 0, _ => []
  | n + 1, o => g o :: listN g n (o + 1)

/-- As many as asked for, -/
theorem listN_length {α : Type} (g : ℕ → α) (n o : ℕ) : (listN g n o).length = n := by
  induction n generalizing o with
  | zero => rfl
  | succ n ih => exact congrArg (· + 1) (ih (o + 1))

/-- each the sequence's, -/
theorem listN_get {α : Type} (g : ℕ → α) (n o k : ℕ) (hk : k < (listN g n o).length) : (listN g n o)[k] = g (o + k) := by
  induction n generalizing o k with
  | zero => exact absurd hk (Nat.not_lt_zero k)
  | succ n ih =>
    cases k with
    | zero => rfl
    | succ k => exact (ih (o + 1) k (Nat.lt_of_succ_lt_succ hk)).trans (congrArg g (by omega))

/-- and where each counts for one, those before a place count for the place. -/
theorem listN_pre {α β : Type} (g : ℕ → α) (p : α → β) (w : β → ℕ) (hw : ∀ n, w (p (g n)) = 1) (n o k : ℕ) (hk : k ≤ n) : ((((listN g n o).take k).map p).map w).sum = k := by
  induction n generalizing o k with
  | zero =>
    have h0 : k = 0 := by omega
    subst h0
    rfl
  | succ n ih =>
    cases k with
    | zero => rfl
    | succ k =>
      show w (p (g o)) + ((((listN g n (o + 1)).take k).map p).map w).sum = k + 1
      rw [hw, ih (o + 1) k (by omega)]
      omega

/-- The state before a chunk, with an axis for the chunk. -/
def stM (n : ℕ) : (s : Shape) × (s.Idx → Ideal .f32) :=
  ⟨S8x4x1x128x256, broadcastInDim S8x4x1x128x256 ![0, 1, 3, 4] bcast_S8x4x128x256_S8x4x1x128x256_0_1_3_4
    (if h : n ≤ 32 then stepN (val_main_v49 (F := Ideal) x0 x1 x2 x3 x4) (val_main_v47 (F := Ideal) x0 x1 x2 x3 x4) (val_main_v50 (F := Ideal)) n h else val_main_v50 (F := Ideal))⟩

/-- Sixteen of them make half the array. -/
theorem stM_half (o : ℕ) : Shape.Concatenates ((listN (stM x0 x1 x2 x3 x4) 16 o).map (·.1)) S8x4x16x128x256 2 := by
  show Shape.Concatenates (List.replicate 16 S8x4x1x128x256) S8x4x16x128x256 2
  decide

/-- The first half's list, -/
theorem v362_list : val_main_v362 (F := Ideal) x0 x1 x2 x3 x4 = concatenate S8x4x16x128x256 2 (listN (stM x0 x1 x2 x3 x4) 16 0) (stM_half x0 x1 x2 x3 x4 0) := by
  sl_kernel_rfl

/-- the second's. -/
theorem v363_list : val_main_v363 (F := Ideal) x0 x1 x2 x3 x4 = concatenate S8x4x16x128x256 2 (listN (stM x0 x1 x2 x3 x4) 16 16) (stM_half x0 x1 x2 x3 x4 16) := by
  sl_kernel_rfl

/-- An entry of a half. -/
theorem half_at (o : ℕ) (ho : o + 16 ≤ 32) (s : Fin 8) (h : Fin 4) (k : Fin 16) (d : Fin 128) (e : Fin 256) :
    (concatenate S8x4x16x128x256 2 (listN (stM x0 x1 x2 x3 x4) 16 o) (stM_half x0 x1 x2 x3 x4 o) (ix5 s h k d e) : EReal)
      = stAt (rA x0 x1 x2 x3 x4 s) (rK x0 x1 x2 x3 x4 s) (rV x0 x1 x2 x3 x4 s) h e d (o + k.val) := by
  refine (concatenate_apply_piece (t := S8x4x16x128x256) 2 _ _ _ k.val (by rw [listN_length]; exact k.isLt) S8x4x1x128x256 _
    (listN_get (stM x0 x1 x2 x3 x4) 16 o k.val _) rfl k.val
    (listN_pre (stM x0 x1 x2 x3 x4) _ _ (fun n => rfl) 16 o k.val (by omega)) (ix5 s h 0 d e) ?_ ?_).trans ?_
  · intro b hb
    match b with
    | ⟨0, _⟩ => rfl
    | ⟨1, _⟩ => rfl
    | ⟨2, _⟩ => exact absurd rfl hb
    | ⟨3, _⟩ => rfl
    | ⟨4, _⟩ => rfl
  · show k.val + 0 = k.val
    omega
  · refine (broadcastInDim_apply _ _ _ (ix5 s h 0 d e) (ix4 s h d e) ?_).trans ?_
    · intro a
      match a with
      | 0 => rfl
      | 1 => rfl
      | 2 => rfl
      | 3 => rfl
    · rw [dif_pos (by omega : o + k.val ≤ 32)]
      exact stepN_apply x0 x1 x2 x3 x4 s h d e (o + k.val) _

/-- The states before the chunks. -/
theorem v364_block (s : Fin 8) (h : Fin 4) (n : Fin 32) (d : Fin 128) (e : Fin 256) :
    (val_main_v364 (F := Ideal) x0 x1 x2 x3 x4 (ix5 s h n d e) : EReal) = stAt (rA x0 x1 x2 x3 x4 s) (rK x0 x1 x2 x3 x4 s) (rV x0 x1 x2 x3 x4 s) h e d n.val := by
  unfold val_main_v364
  rw [v362_list, v363_list]
  by_cases hc : n.val < 16
  · refine (concatenate_apply_piece (t := S8x4x32x128x256) 2 _ _ _ 0 (by exact (by decide : 0 < 2)) S8x4x16x128x256 _ rfl rfl 0 rfl (ix5 s h ⟨n.val, hc⟩ d e) ?_ ?_).trans
      ((half_at x0 x1 x2 x3 x4 0 (by decide) s h ⟨n.val, hc⟩ d e).trans (congrArg (stAt _ _ _ h e d) (Nat.zero_add _)))
    · intro b hb
      match b with
      | ⟨0, _⟩ => rfl
      | ⟨1, _⟩ => rfl
      | ⟨2, _⟩ => exact absurd rfl hb
      | ⟨3, _⟩ => rfl
      | ⟨4, _⟩ => rfl
    · show 0 + n.val = n.val
      omega
  · refine (concatenate_apply_piece (t := S8x4x32x128x256) 2 _ _ _ 1 (by exact (by decide : 1 < 2)) S8x4x16x128x256 _ rfl rfl 16 rfl (ix5 s h ⟨n.val - 16, by omega⟩ d e) ?_ ?_).trans
      ((half_at x0 x1 x2 x3 x4 16 (by decide) s h ⟨n.val - 16, by omega⟩ d e).trans (congrArg (stAt _ _ _ h e d) (by show 16 + (n.val - 16) = n.val; omega)))
    · intro b hb
      match b with
      | ⟨0, _⟩ => rfl
      | ⟨1, _⟩ => rfl
      | ⟨2, _⟩ => exact absurd rfl hb
      | ⟨3, _⟩ => rfl
      | ⟨4, _⟩ => rfl
    · show 16 + (n.val - 16) = n.val
      omega

/-- A head's output in a chunk's row. -/
theorem v366_block (s : Fin 8) (h : Fin 4) (n : Fin 32) (l : Fin 64) (e : Fin 256) :
    val_main_v366 (F := Ideal) x0 x1 x2 x3 x4 (ix5 s h n l e) = oAt (rWts x1 x2 x3 x4) (rRows x0 s) n.val h l e := by
  rw [val_main_v366_apply, val_main_v329_apply, val_main_v365_apply]
  refine congrArg₂ (fun a b : EReal => a + b) (Finset.sum_congr rfl fun m _ => congrArg₂ (fun a b : EReal => a * b) ?_ ?_) (Finset.sum_congr rfl fun d _ => congrArg₂ (fun a b : EReal => a * b) ?_ ?_)
  · exact (congrArg (val_main_v328 (F := Ideal) x0 x1 x2 x3 x4) (coords5 _ s h n l m rfl rfl rfl rfl rfl)).trans (v328_block x0 x1 x2 x3 x4 s h n l m)
  · exact (congrArg (val_main_v38 (F := Ideal) x0 x1 x2) (coords5 _ s h n m e rfl rfl rfl rfl rfl)).trans (v38_block x0 x1 x2 x3 x4 s h n m e)
  · exact (congrArg (val_main_v316 (F := Ideal) x0 x1 x2 x3 x4) (coords5 _ s h n l d rfl rfl rfl rfl rfl)).trans (v316_block x0 x1 x2 x3 x4 s h n l d)
  · exact (congrArg (val_main_v364 (F := Ideal) x0 x1 x2 x3 x4) (coords5 _ s h n d e rfl rfl rfl rfl rfl)).trans (v364_block x0 x1 x2 x3 x4 s h n d e)

/-- The chunk a row is in, and its place there. -/
abbrev rowCh (r : Fin 2048) : Fin 32 := ⟨r.val / 64, by omega⟩
abbrev rowPl (r : Fin 2048) : Fin 64 := ⟨r.val % 64, Nat.mod_lt _ (by decide)⟩

/-- A head's output in a row, -/
theorem v368_at (s : Fin 8) (r : Fin 2048) (h : Fin 4) (e : Fin 256) :
    val_main_v368 (F := Ideal) x0 x1 x2 x3 x4 (ix4 s r h e) = oAt (rWts x1 x2 x3 x4) (rRows x0 s) (rowCh r).val h (rowPl r) e := by
  rw [val_main_v368_apply, val_main_v367_apply]
  refine (congrArg (val_main_v366 (F := Ideal) x0 x1 x2 x3 x4) (coords5 _ s h (rowCh r) (rowPl r) e ?_ ?_ ?_ ?_ ?_)).trans (v366_block x0 x1 x2 x3 x4 s h (rowCh r) (rowPl r) e)
  · show (((s.val * 2048 + r.val) * 4 + h.val) * 256 + e.val) / 2097152 = s.val; omega
  · show (((s.val * 2048 + r.val) * 4 + h.val) * 256 + e.val) / 256 % 4 = h.val; omega
  · show (((s.val * 2048 + r.val) * 4 + h.val) * 256 + e.val) / 65536 % 32 = r.val / 64; omega
  · show (((s.val * 2048 + r.val) * 4 + h.val) * 256 + e.val) / 1024 % 64 = r.val % 64; omega
  · show (((s.val * 2048 + r.val) * 4 + h.val) * 256 + e.val) % 256 = e.val; omega

/-- normed. -/
theorem v382_at (s : Fin 8) (r : Fin 2048) (h : Fin 4) (e : Fin 256) :
    val_main_v382 (F := Ideal) x0 x1 x2 x3 x4 x5 (ix4 s r h e) = mixAt (rWts x1 x2 x3 x4) (rRows x0 s) (rOuts x5 x6 x7) (rowCh r).val (rowPl r) h e := by
  unfold mixAt headNorm
  rw [val_main_v382_apply, val_main_v378_apply, val_main_v377_apply, val_main_v376_apply, val_main_v375_apply, val_main_v373_apply, val_main_v371_apply, val_main_v370_apply]
  refine congrArg₂ (fun a b : EReal => a * b) (congrArg₂ (fun a b : EReal => a * b) (v368_at x0 x1 x2 x3 x4 s r h e)
    (congrArg Ideal.rsqrt (congrArg₂ (fun a b : EReal => a + b) (congrArg₂ Ideal.div ?_ ?_) ?_))) ?_
  · refine (congrArg₂ (fun a b : EReal => a + b) Ideal.ofBits_zero_f32 (Finset.sum_congr rfl fun j _ => ?_)).trans (zero_add _)
    exact (val_main_v369_apply (F := Ideal) x0 x1 x2 x3 x4 _).trans (congrArg (fun y : EReal => y * y)
      ((congrArg (val_main_v368 (F := Ideal) x0 x1 x2 x3 x4) (coords4 _ s r h j rfl rfl rfl rfl)).trans (v368_at x0 x1 x2 x3 x4 s r h j)))
  · rfl
  · rfl
  · rw [val_main_v381_apply, val_main_v380_apply, val_main_v379_apply]
    exact congrArg x5 (funext fun a => Fin.ext (match a with
      | ⟨0, _⟩ => rfl
      | ⟨1, _⟩ => Nat.mod_eq_of_lt e.isLt))

/-- The heads' gated outputs in a row. -/
theorem v385_at (s : Fin 8) (r : Fin 2048) (k : Fin 1024) :
    val_main_v385 (F := Ideal) x0 x1 x2 x3 x4 x5 (ix3 s r k)
      = mixAt (rWts x1 x2 x3 x4) (rRows x0 s) (rOuts x5 x6 x7) (rowCh r).val (rowPl r) ⟨k.val / 256, by omega⟩ ⟨k.val % 256, Nat.mod_lt _ (by decide)⟩ * sil (gSeq (rWts x1 x2 x3 x4) (rRows x0 s) r.val k) := by
  rw [val_main_v385_apply, val_main_v383_apply]
  refine congrArg₂ (fun a b : EReal => a * b) ((congrArg (val_main_v382 (F := Ideal) x0 x1 x2 x3 x4 x5)
    (coords4 _ s r ⟨k.val / 256, by omega⟩ ⟨k.val % 256, Nat.mod_lt _ (by decide)⟩ ?_ ?_ ?_ ?_)).trans (v382_at x0 x1 x2 x3 x4 x5 x6 x7 s r _ _)) ?_
  · show ((s.val * 2048 + r.val) * 1024 + k.val) / 2097152 = s.val; omega
  · show ((s.val * 2048 + r.val) * 1024 + k.val) / 1024 % 2048 = r.val; omega
  · show ((s.val * 2048 + r.val) * 1024 + k.val) / 256 % 4 = k.val / 256; omega
  · show ((s.val * 2048 + r.val) * 1024 + k.val) % 256 = k.val % 256; omega
  · exact silu _ _ (v20_row x0 x1 x2 x3 x4 s r k)

/-! ## The convolution's output -/

/-- The convolved rows, with two of zeros in front. -/
theorem v387_at (s : Fin 8) (r : Fin 2050) (c : Fin 1024) : (val_main_v387 (F := Ideal) x0 x1 x2 (ix3 s r c) : EReal) = uPad (rWts x1 x2 x3 x4) (rRows x0 s) r.val c := by
  unfold val_main_v387 uPad
  by_cases hc : 2 ≤ r.val
  · rw [if_pos hc]
    refine (concatenate_apply_piece (t := S8x2050x1024) 1 _ _ _ 1 (by exact (by decide : 1 < 2)) S8x2048x1024 _ rfl rfl 2 rfl (ix3 s ⟨r.val - 2, by omega⟩ c) ?_ ?_).trans
      (v307_row x0 x1 x2 x3 x4 s ⟨r.val - 2, by omega⟩ c)
    · intro b hb
      match b with
      | ⟨0, _⟩ => rfl
      | ⟨1, _⟩ => exact absurd rfl hb
      | ⟨2, _⟩ => rfl
    · show 2 + (r.val - 2) = r.val
      omega
  · rw [if_neg hc]
    refine (concatenate_apply_piece (t := S8x2050x1024) 1 _ _ _ 0 (by exact (by decide : 0 < 2)) S8x2x1024 _ rfl rfl 0 rfl (ix3 s ⟨r.val, by omega⟩ c) ?_ ?_).trans
      ((val_main_v386_apply (F := Ideal) _).trans Ideal.ofBits_zero_f32)
    · intro b hb
      match b with
      | ⟨0, _⟩ => rfl
      | ⟨1, _⟩ => exact absurd rfl hb
      | ⟨2, _⟩ => rfl
    · show 0 + r.val = r.val
      omega

/-- Three numbers added up the other way. -/
theorem add_rev (a b c : EReal) : a + b + c = c + b + a := by
  rw [add_comm a b, add_comm (b + a) c, ← add_assoc]

/-- The convolution's gated output in a row. -/
theorem v409_at (s : Fin 8) (r : Fin 2048) (c : Fin 1024) : val_main_v409 (F := Ideal) x0 x1 x2 x6 (ix3 s r c) = ySeq (rWts x1 x2 x3 x4) (rRows x0 s) (rOuts x5 x6 x7) r.val c := by
  have w0 : val_main_v392 (F := Ideal) x6 (ix3 s r c) = x6 (ix3 0 0 c) := by
    rw [val_main_v392_apply, val_main_v391_apply, val_main_v389_apply, val_main_v388_apply]
    exact congrArg x6 (coords3 _ 0 0 c rfl rfl (Nat.mod_eq_of_lt c.isLt))
  have w1 : val_main_v398 (F := Ideal) x6 (ix3 s r c) = x6 (ix3 0 1 c) := by
    rw [val_main_v398_apply, val_main_v397_apply, val_main_v395_apply, val_main_v394_apply]
    exact congrArg x6 (coords3 _ 0 1 c rfl rfl (Nat.mod_eq_of_lt c.isLt))
  have w2 : val_main_v404 (F := Ideal) x6 (ix3 s r c) = x6 (ix3 0 2 c) := by
    rw [val_main_v404_apply, val_main_v403_apply, val_main_v402_apply, val_main_v401_apply]
    exact congrArg x6 (coords3 _ 0 2 c rfl rfl (Nat.mod_eq_of_lt c.isLt))
  have u0 : val_main_v390 (F := Ideal) x0 x1 x2 (ix3 s r c) = uPad (rWts x1 x2 x3 x4) (rRows x0 s) r.val c :=
    (val_main_v390_apply (F := Ideal) x0 x1 x2 _).trans ((congrArg (val_main_v387 (F := Ideal) x0 x1 x2) (coords3 _ s ⟨r.val, by omega⟩ c rfl rfl rfl)).trans (v387_at x0 x1 x2 x3 x4 s _ c))
  have u1 : val_main_v396 (F := Ideal) x0 x1 x2 (ix3 s r c) = uPad (rWts x1 x2 x3 x4) (rRows x0 s) (r.val + 1) c :=
    (val_main_v396_apply (F := Ideal) x0 x1 x2 _).trans ((congrArg (val_main_v387 (F := Ideal) x0 x1 x2) (coords3 _ s ⟨r.val + 1, by omega⟩ c rfl (Nat.add_comm 1 r.val) rfl)).trans
      (v387_at x0 x1 x2 x3 x4 s _ c))
  unfold ySeq
  rw [val_main_v409_apply, val_main_v407_apply, val_main_v406_apply, val_main_v400_apply, val_main_v393_apply, val_main_v399_apply, val_main_v405_apply, w0, w1, w2, u0, u1,
    v307_row x0 x1 x2 x3 x4, v23_row x0 x1 x2 x3 x4]
  refine congrArg₂ (fun a b : EReal => a * b) (congrArg (fun a : EReal => bSeq (rWts x1 x2 x3 x4) (rRows x0 s) r.val c * a) (add_rev _ _ _)) ?_
  exact silu _ _ (v25_row x0 x1 x2 x3 x4 s r c)

/-! ## The result -/

/-- What is projected: the heads' outputs -/
theorem v410_l (s : Fin 8) (r : Fin 2048) (k : Fin 1024) : val_main_v410 (F := Ideal) x0 x1 x2 x3 x4 x5 x6 (ix3 s r ⟨k.val, by omega⟩) = val_main_v385 (F := Ideal) x0 x1 x2 x3 x4 x5 (ix3 s r k) := by
  unfold val_main_v410
  refine concatenate_apply_piece (t := S8x2048x2048) 2 _ _ _ 0 (by exact (by decide : 0 < 2)) S8x2048x1024 _ rfl rfl 0 rfl (ix3 s r k) ?_ ?_
  · intro b hb
    match b with
    | ⟨0, _⟩ => rfl
    | ⟨1, _⟩ => rfl
    | ⟨2, _⟩ => exact absurd rfl hb
  · show 0 + k.val = k.val
    omega

/-- and the convolution's. -/
theorem v410_r (s : Fin 8) (r : Fin 2048) (k : Fin 1024) : val_main_v410 (F := Ideal) x0 x1 x2 x3 x4 x5 x6 (ix3 s r ⟨1024 + k.val, by omega⟩) = val_main_v409 (F := Ideal) x0 x1 x2 x6 (ix3 s r k) := by
  unfold val_main_v410
  refine concatenate_apply_piece (t := S8x2048x2048) 2 _ _ _ 1 (by exact (by decide : 1 < 2)) S8x2048x1024 _ rfl rfl 1024 rfl (ix3 s r k) ?_ ?_
  · intro b hb
    match b with
    | ⟨0, _⟩ => rfl
    | ⟨1, _⟩ => rfl
    | ⟨2, _⟩ => exact absurd rfl hb
  · rfl

/-- The projection's weight. -/
theorem v411_at (k : Fin 2048) (c : Fin 1024) : val_main_v411 (F := Ideal) x7 (ix2 k c) = x7 (ix3 0 k c) := by
  rw [val_main_v411_apply]
  refine congrArg x7 (coords3 _ 0 k c rfl ?_ ?_)
  · show (k.val * 1024 + c.val) / 1024 % 2048 = k.val; omega
  · show (k.val * 1024 + c.val) % 1024 = c.val; omega

/-- A row of the reference's result. -/
theorem v413_at (s : Fin 8) (r : Fin 2048) (c : Fin 1024) :
    val_main_v413 (F := Ideal) x0 x1 x2 x3 x4 x5 x6 x7 (ix3 s r c) = xOut (rWts x1 x2 x3 x4) (rRows x0 s) (rOuts x5 x6 x7) (r.val / 64) (rowPl r) c := by
  have e : 64 * (r.val / 64) + r.val % 64 = r.val := by omega
  unfold xOut
  dsimp only
  rw [e]
  rw [val_main_v413_apply, val_main_v412_apply]
  refine congrArg₂ (fun a b : EReal => a + b) (show rRows x0 s r.val c = x0 (ix3 s r c) from dif_pos r.isLt).symm ((Fin.sum_univ_add (a := 1024) (b := 1024) _).trans
    (congrArg₂ (fun a b : EReal => a + b) (Finset.sum_congr rfl fun k _ => ?_) (Finset.sum_congr rfl fun k _ => ?_)))
  · refine congrArg₂ (fun a b : EReal => a * b) ?_ ?_
    · exact (congrArg (val_main_v410 (F := Ideal) x0 x1 x2 x3 x4 x5 x6) (coords3 _ s r ⟨k.val, by omega⟩ rfl rfl rfl)).trans
        ((v410_l x0 x1 x2 x3 x4 x5 x6 s r k).trans (v385_at x0 x1 x2 x3 x4 x5 x6 x7 s r k))
    · exact (congrArg (val_main_v411 (F := Ideal) x7) (a₂ := ix2 ⟨k.val, by omega⟩ c) (funext fun a => Fin.ext (match a with
        | ⟨0, _⟩ => rfl
        | ⟨1, _⟩ => rfl))).trans (v411_at x7 _ c)
  · refine congrArg₂ (fun a b : EReal => a * b) ?_ ?_
    · exact (congrArg (val_main_v410 (F := Ideal) x0 x1 x2 x3 x4 x5 x6) (coords3 _ s r ⟨1024 + k.val, by omega⟩ rfl rfl rfl)).trans
        ((v410_r x0 x1 x2 x3 x4 x5 x6 s r k).trans (v409_at x0 x1 x2 x3 x4 x5 x6 x7 s r k))
    · exact (congrArg (val_main_v411 (F := Ideal) x7) (a₂ := ix2 ⟨1024 + k.val, by omega⟩ c) (funext fun a => Fin.ext (match a with
        | ⟨0, _⟩ => rfl
        | ⟨1, _⟩ => rfl))).trans (v411_at x7 _ c)

end Cert.Proof.Pre

end
-- ==== Proof.PreEnd.lean ====
/-
  The prompt's three results: the kernel's are the reference's at the ideal values.
-/
module

public import proofs.«01_k».proof.Proof.PreTail
public import proofs.«01_k».proof.Proof.PreFrame
public import proofs.«01_k».proof.Proof.PreOut

@[expose] public section

noncomputable section

namespace Cert.Proof

open Idealize.ShloMosaic Idealize.ShloMosaic.ValueIdx Idealize.ShloMosaic.TcCoe Idealize.SL.Sem

attribute [local instance] Cert.Kernel2Ideal.Gen.facts Cert.Reference2Ideal.Gen.facts

namespace Pre

variable (m : (ℓ : Loc Cert.Kernel2Ideal.nD Cert.Kernel2Ideal.τ Cert.Kernel2Ideal.sig) → Buf (Elt Ideal) ℓ) (c : Dev Cert.Kernel2Ideal.nD)

/-- The reference's states at the kernel's arguments are what the kernel leaves, -/
theorem state_eq : Cert.Reference2Ideal.Read.val_main_v308 (F := Ideal) (xP m c) (gP m c) (wP m c) (uP m c) (bP m c)
    = (Cert.Kernel2Ideal.Value.G9 m c : FVec Ideal Cert.Kernel2Ideal.S1x8x4x128x256 .f32) := by
  funext i
  rw [coords5 i 0 (i 1) (i 2) (i 3) (i 4) (Nat.lt_one_iff.mp (i 0).isLt) rfl rfl rfl rfl]
  exact (v308_at _ _ _ _ _ _ _ _ _).trans (G9_apply m c (i 1) (i 2) (i 3) (i 4)).symm

/-- so are its last convolved rows, -/
theorem rows_eq : Cert.Reference2Ideal.Read.val_main_v310 (F := Ideal) (xP m c) (gP m c) (wP m c)
    = (Cert.Kernel2Ideal.Value.G10 m c : FVec Ideal Cert.Kernel2Ideal.S1x8x2x1024 .f32) := by
  funext i
  have hi : i = ix4 0 (i 1) (i 2) (i 3) := funext fun a => match a with
    | 0 => Fin.ext (Nat.lt_one_iff.mp (i 0).isLt)
    | 1 => rfl
    | 2 => rfl
    | 3 => rfl
  rw [hi]
  exact (v310_at _ _ _ (uP m c) (bP m c) _ _ _).trans (G10_apply m c (i 1) (i 2) (i 3)).symm

/-- and so are the result's rows. -/
theorem x_eq : Cert.Reference2Ideal.Read.val_main_v413 (F := Ideal) (xP m c) (gP m c) (wP m c) (uP m c) (bP m c) (nP m c) (cP m c) (oP m c)
    = (Cert.Kernel2Ideal.Value.G8 m c : FVec Ideal Cert.Kernel2Ideal.S8x2048x1024 .f32) := by
  funext i
  rw [coords3 i (i 0) (i 1) (i 2) rfl rfl rfl]
  exact (v413_at _ _ _ _ _ _ _ _ (i 0) (i 1) (i 2)).trans (G8_apply m c (i 0) (i 1) (i 2)).symm

end Pre

/-- At the ideal values, from the same arguments, the prompt's states, its last convolved rows and its result are the reference's. -/
theorem algebraic2 : Cert.algebraic_Kernel2Ideal_Reference2Ideal := fun m g m' g' _ hm => by
  refine ⟨fun c => Cert.Kernel2Ideal.Value.G9 m c, fun c => Cert.Kernel2Ideal.Value.G10 m c, fun c => Cert.Kernel2Ideal.Value.G8 m c,
    (θ_run Cert.Kernel2Ideal.defs _ _).mono (fun r h c => ⟨(h c).2.1, (h c).2.2.1, (h c).1, (h c).2.2.2⟩) (Cert.Kernel2Ideal.Value.run m g),
    (θ_run Cert.Reference2Ideal.defs _ _).mono (fun r h c => ⟨?_, ?_, ?_, (h c).2.2.2⟩) (Cert.Reference2Ideal.Value.run (F := Ideal) m' g')⟩
  · refine (h c).1.trans ((Cert.Reference2Ideal.Read.val_main_v308_eq _).trans (Eq.trans ?_ (Pre.state_eq m c)))
    show Cert.Reference2Ideal.Read.val_main_v308 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4)) = _
    rw [(hm c).1, (hm c).2.1, (hm c).2.2.1, (hm c).2.2.2.1, (hm c).2.2.2.2.1]
  · refine (h c).2.1.trans ((Cert.Reference2Ideal.Read.val_main_v310_eq _).trans (Eq.trans ?_ (Pre.rows_eq m c)))
    show Cert.Reference2Ideal.Read.val_main_v310 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) = _
    rw [(hm c).1, (hm c).2.1, (hm c).2.2.1]
  · refine (h c).2.2.1.trans ((Cert.Reference2Ideal.Read.val_main_v413_eq _).trans (Eq.trans ?_ (Pre.x_eq m c)))
    show Cert.Reference2Ideal.Read.val_main_v413 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg7)) = _
    rw [(hm c).1, (hm c).2.1, (hm c).2.2.1, (hm c).2.2.2.1, (hm c).2.2.2.2.1, (hm c).2.2.2.2.2.1, (hm c).2.2.2.2.2.2.1, (hm c).2.2.2.2.2.2.2]

end Cert.Proof

end
-- ==== Proof.lean ====
/-
  The claims: the frame of the decode step's kernel, of its reading at the ideal values and of the reference, and the equality of
  the kernel's two results with the reference's at the ideal values; and, from `PreFrame.lean` and `PreEnd.lean`, the same of the
  prompt's kernel.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Value
public import proofs.«01_k».proof.Proof.PreEnd

@[expose] public section

noncomputable section

namespace Cert.Proof

open Idealize.ShloMosaic Idealize.SL.Sem

attribute [local instance] Cert.Kernel.Gen.facts Cert.KernelIdeal.Gen.facts Cert.ReferenceIdeal.Gen.facts

/-- The kernel read at the ideal values ends, with its arguments as they were and every semaphore at zero. -/
theorem frame_kernelIdeal : Cert.quiescent_KernelIdeal := fun m ρ _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Dec.run_main (F := Ideal) m ρ (fun _ _ _ => True) (fun _ _ _ => True) (fun _ _ _ => trivial) (fun _ _ _ => trivial))

set_option maxHeartbeats 20000000 in
/-- The kernel at the machine's own numbers ends the same way: it is the same text, run at another reading of the numbers. -/
theorem frame_kernel : Cert.quiescent_Kernel := fun m ρ _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Dec.run_main (F := Bits) m ρ (fun _ _ _ => True) (fun _ _ _ => True) (fun _ _ _ => trivial) (fun _ _ _ => trivial))

/-- The reference ends, with its arguments as they were and every semaphore at zero. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- At the ideal values, from the same arguments, the kernel's new state and mixed rows are the reference's. -/
theorem algebraic : Cert.algebraic_KernelIdeal_ReferenceIdeal := fun m g m' g' _ hm => by
  refine ⟨fun c => Dec.stateOf (n := 128) (F := Ideal) (Dec.Xa m c) (Dec.Xk m c) (Dec.Xv m c) (Dec.Xs m c),
    fun c => Dec.mixOf (n := 128) (Dec.Xq m c) (Dec.Xa m c) (Dec.Xk m c) (Dec.Xv m c) (Dec.Xs m c),
    Dec.run_value m g, (θ_run Cert.ReferenceIdeal.defs _ _).mono (fun r h c => ⟨?_, ?_, (h c).2.2⟩)
      (Cert.ReferenceIdeal.Value.run (F := Ideal) m' g')⟩
  · refine (h c).1.trans ((Cert.ReferenceIdeal.Read.val_main_v13_eq _ _ _ _).trans ((Dec.ref_state _ _ _ _).trans ?_))
    rw [(hm c).2.1, (hm c).2.2.1, (hm c).2.2.2.1, (hm c).2.2.2.2]
    rfl
  · refine (h c).2.1.trans ((Cert.ReferenceIdeal.Read.val_main_v15_eq _ _ _ _ _).trans ((Dec.ref_mix _ _ _ _ _).trans ?_))
    rw [(hm c).1, (hm c).2.1, (hm c).2.2.1, (hm c).2.2.2.1, (hm c).2.2.2.2]
    rfl

/-- All the claims, of the decode step and of the prompt. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  frame_kernel, frame_kernelIdeal, frame_reference, frame_kernel2, frame_kernel2Ideal, frame_reference2,
  trivial, algebraic, trivial, algebraic2⟩

end Cert.Proof

end
